-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_loss [hPre_finite_loss : Cert.Pre_finite_loss.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.1 = (fun _ => 1#1)
    ∧ (Cert.Pre_finite_loss.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_loss [hPre_finite_loss : Cert.Pre_finite_loss.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.1 = (fun _ => 1#1)
    ∧ (Cert.Pre_finite_loss.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite_loss [hKernel6Ideal : Cert.Kernel6Ideal.Facts] [hPre_finite_loss : Cert.Pre_finite_loss.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_loss m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite_loss [hReference6Ideal : Cert.Reference6Ideal.Facts] [hPre_finite_loss : Cert.Pre_finite_loss.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_loss m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)) (v3 : (c : Dev Cert.Kernel3Ideal.nD) → Buf (Elt Ideal) ((c.tc : Thread Cert.Kernel3Ideal.nD Cert.Kernel3Ideal.τ).loc Cert.Kernel3Ideal.main_v58_3)) (v4 : (c : Dev Cert.Kernel3Ideal.nD) → Buf (Elt Ideal) ((c.tc : Thread Cert.Kernel3Ideal.nD Cert.Kernel3Ideal.τ).loc Cert.Kernel3Ideal.main_v58_4)) (v5 : (c : Dev Cert.Kernel3Ideal.nD) → Buf (Elt Ideal) ((c.tc : Thread Cert.Kernel3Ideal.nD Cert.Kernel3Ideal.τ).loc Cert.Kernel3Ideal.main_v58_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_v58_3) = v3 c
          ∧ r.2.mem ((c.tc : Thread Cert.Kernel3Ideal.nD Cert.Kernel3Ideal.τ).loc Cert.Kernel3Ideal.main_v58_4) = v4 c
          ∧ r.2.mem ((c.tc : Thread Cert.Kernel3Ideal.nD Cert.Kernel3Ideal.τ).loc Cert.Kernel3Ideal.main_v58_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v140) = v0 c
          ∧ r.2.mem ((c.tc : Thread Cert.Reference3Ideal.nD Cert.Reference3Ideal.τ).loc Cert.Reference3Ideal.main_v141) = v1 c
          ∧ r.2.mem ((c.tc : Thread Cert.Reference3Ideal.nD Cert.Reference3Ideal.τ).loc Cert.Reference3Ideal.main_v142) = v2 c
          ∧ r.2.mem ((c.tc : Thread Cert.Reference3Ideal.nD Cert.Reference3Ideal.τ).loc Cert.Reference3Ideal.main_v96) = v3 c
          ∧ r.2.mem ((c.tc : Thread Cert.Reference3Ideal.nD Cert.Reference3Ideal.τ).loc Cert.Reference3Ideal.main_v145) = v4 c
          ∧ r.2.mem ((c.tc : Thread Cert.Reference3Ideal.nD Cert.Reference3Ideal.τ).loc Cert.Reference3Ideal.main_v149) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)) (v3 : (c : Dev Cert.Kernel4Ideal.nD) → Buf (Elt Ideal) ((c.tc : Thread Cert.Kernel4Ideal.nD Cert.Kernel4Ideal.τ).loc Cert.Kernel4Ideal.main_v10_3)) (v4 : (c : Dev Cert.Kernel4Ideal.nD) → Buf (Elt Ideal) ((c.tc : Thread Cert.Kernel4Ideal.nD Cert.Kernel4Ideal.τ).loc Cert.Kernel4Ideal.main_v10_4)) (v5 : (c : Dev Cert.Kernel4Ideal.nD) → Buf (Elt Ideal) ((c.tc : Thread Cert.Kernel4Ideal.nD Cert.Kernel4Ideal.τ).loc Cert.Kernel4Ideal.main_v10_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_v10_3) = v3 c
          ∧ r.2.mem ((c.tc : Thread Cert.Kernel4Ideal.nD Cert.Kernel4Ideal.τ).loc Cert.Kernel4Ideal.main_v10_4) = v4 c
          ∧ r.2.mem ((c.tc : Thread Cert.Kernel4Ideal.nD Cert.Kernel4Ideal.τ).loc Cert.Kernel4Ideal.main_v10_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_v36) = v4 c
          ∧ r.2.mem ((c.tc : Thread Cert.Reference4Ideal.nD Cert.Reference4Ideal.τ).loc Cert.Reference4Ideal.main_v64) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_v40) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_loss [hKernel6Ideal : Cert.Kernel6Ideal.Facts] [hReference6Ideal : Cert.Reference6Ideal.Facts] [hPre_finite_loss : Cert.Pre_finite_loss.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_loss m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v58_0)) (v1 : (c : Dev Cert.Kernel6Ideal.nD) → Buf (Elt Ideal) ((c.tc : Thread Cert.Kernel6Ideal.nD Cert.Kernel6Ideal.τ).loc Cert.Kernel6Ideal.main_v58_1)) (v2 : (c : Dev Cert.Kernel6Ideal.nD) → Buf (Elt Ideal) ((c.tc : Thread Cert.Kernel6Ideal.nD Cert.Kernel6Ideal.τ).loc Cert.Kernel6Ideal.main_v58_2)) (v3 : (c : Dev Cert.Kernel6Ideal.nD) → Buf (Elt Ideal) ((c.tc : Thread Cert.Kernel6Ideal.nD Cert.Kernel6Ideal.τ).loc Cert.Kernel6Ideal.main_v58_3)) (v4 : (c : Dev Cert.Kernel6Ideal.nD) → Buf (Elt Ideal) ((c.tc : Thread Cert.Kernel6Ideal.nD Cert.Kernel6Ideal.τ).loc Cert.Kernel6Ideal.main_v58_4)) (v5 : (c : Dev Cert.Kernel6Ideal.nD) → Buf (Elt Ideal) ((c.tc : Thread Cert.Kernel6Ideal.nD Cert.Kernel6Ideal.τ).loc Cert.Kernel6Ideal.main_v58_5)) (v6 : (c : Dev Cert.Kernel6Ideal.nD) → Buf (Elt Ideal) ((c.tc : Thread Cert.Kernel6Ideal.nD Cert.Kernel6Ideal.τ).loc Cert.Kernel6Ideal.main_v58_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v58_0) = v0 c
          ∧ r.2.mem ((c.tc : Thread Cert.Kernel6Ideal.nD Cert.Kernel6Ideal.τ).loc Cert.Kernel6Ideal.main_v58_1) = v1 c
          ∧ r.2.mem ((c.tc : Thread Cert.Kernel6Ideal.nD Cert.Kernel6Ideal.τ).loc Cert.Kernel6Ideal.main_v58_2) = v2 c
          ∧ r.2.mem ((c.tc : Thread Cert.Kernel6Ideal.nD Cert.Kernel6Ideal.τ).loc Cert.Kernel6Ideal.main_v58_3) = v3 c
          ∧ r.2.mem ((c.tc : Thread Cert.Kernel6Ideal.nD Cert.Kernel6Ideal.τ).loc Cert.Kernel6Ideal.main_v58_4) = v4 c
          ∧ r.2.mem ((c.tc : Thread Cert.Kernel6Ideal.nD Cert.Kernel6Ideal.τ).loc Cert.Kernel6Ideal.main_v58_5) = v5 c
          ∧ r.2.mem ((c.tc : Thread Cert.Kernel6Ideal.nD Cert.Kernel6Ideal.τ).loc Cert.Kernel6Ideal.main_v58_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v154) = v0 c
          ∧ r.2.mem ((c.tc : Thread Cert.Reference6Ideal.nD Cert.Reference6Ideal.τ).loc Cert.Reference6Ideal.main_v155) = v1 c
          ∧ r.2.mem ((c.tc : Thread Cert.Reference6Ideal.nD Cert.Reference6Ideal.τ).loc Cert.Reference6Ideal.main_v156) = v2 c
          ∧ r.2.mem ((c.tc : Thread Cert.Reference6Ideal.nD Cert.Reference6Ideal.τ).loc Cert.Reference6Ideal.main_v110) = v3 c
          ∧ r.2.mem ((c.tc : Thread Cert.Reference6Ideal.nD Cert.Reference6Ideal.τ).loc Cert.Reference6Ideal.main_v159) = v4 c
          ∧ r.2.mem ((c.tc : Thread Cert.Reference6Ideal.nD Cert.Reference6Ideal.τ).loc Cert.Reference6Ideal.main_v163) = v5 c
          ∧ r.2.mem ((c.tc : Thread Cert.Reference6Ideal.nD Cert.Reference6Ideal.τ).loc Cert.Reference6Ideal.main_v164) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v1) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v28) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_v71) = v6 c
          ∧ r.2.mem ((c.tc : Thread Cert.Reference8Ideal.nD Cert.Reference8Ideal.τ).loc Cert.Reference8Ideal.main_v52) = v7 c
          ∧ r.2.mem ((c.tc : Thread Cert.Reference8Ideal.nD Cert.Reference8Ideal.τ).loc Cert.Reference8Ideal.main_v58) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_loss : Cert.Pre_finite_loss.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_loss (hKernel6Ideal := hKernel6Ideal) (hPre_finite_loss := hPre_finite_loss)
    ∧ quiescent_Reference6Ideal (hReference6Ideal := hReference6Ideal)
    ∧ quiescent_Reference6Ideal_pre_finite_loss (hReference6Ideal := hReference6Ideal) (hPre_finite_loss := hPre_finite_loss)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_loss (hKernel6Ideal := hKernel6Ideal) (hReference6Ideal := hReference6Ideal) (hPre_finite_loss := hPre_finite_loss)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x1472x1024 : Shape := ⟨3, ![8, 1472, 1024]⟩
abbrev S16384x1024 : Shape := ⟨2, ![16384, 1024]⟩
abbrev S16384x2816 : Shape := ⟨2, ![16384, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S16384x2816 : S_.BroadcastsInDim S16384x2816 (![] : Fin 0 → Fin S16384x2816.rank)
  bcast_S_S3x2816 : S_.BroadcastsInDim S3x2816 (![] : Fin 0 → Fin S3x2816.rank)
  bcast_S_S2816 : S_.BroadcastsInDim S2816 (![] : Fin 0 → Fin S2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg7 : FVec F S2816x1024 .f32) (main_arg8 : FVec F S1024 .f32) (main_v2 : IVec S16384x1024 1) (main_v5 : IVec S16384x1024 1) (main_v8 : IVec S16384x2816 1) (main_v11 : IVec S16384x2816 1) (main_v14 : IVec S3x2816 1) (main_v17 : IVec S2816 1) : IVec S16384x1024 1 × IVec S16384x1024 1 × IVec S16384x2816 1 × IVec S16384x2816 1 × IVec S3x2816 1 × IVec S2816 1 × IVec S2816x1024 1 × IVec S1024 1 :=
  let main_v18 : FVec F S2816x1024 .f32 := Host.absf main_arg7
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S1024 .f32 := Host.absf main_arg8
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S8x1472x1024 .f32) (main_arg1 : FVec F S16384x1024 .f32) (main_arg2 : FVec F S16384x1024 .f32) (main_arg3 : FVec F S16384x2816 .f32) (main_arg4 : FVec F S16384x2816 .f32) (main_arg5 : FVec F S3x2816 .f32) (main_arg6 : FVec F S2816 .f32) (main_arg7 : FVec F S2816x1024 .f32) (main_arg8 : FVec F S1024 .f32) (main_arg9 : FVec F S1024 .f32) : IVec S16384x1024 1 × IVec S16384x1024 1 × IVec S16384x2816 1 × IVec S16384x2816 1 × IVec S3x2816 1 × IVec S2816 1 × IVec S2816x1024 1 × IVec S1024 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg2
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x2816 .f32 := Host.absf main_arg3
  let main_cst_1 : FVec F S_ .f32 := constant S_ .f32 0x7F800000#32
  let main_v7 : FVec F S16384x2816 .f32 := broadcastInDim S16384x2816 ![] bcast_S_S16384x2816 main_cst_1
  let main_v8 : IVec S16384x2816 1 := cmpf .olt main_v6 main_v7
  let main_v9 : FVec F S16384x2816 .f32 := Host.absf main_arg4
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  let main_v12 : FVec F S3x2816 .f32 := Host.absf main_arg5
  let main_cst_3 : FVec F S_ .f32 := constant S_ .f32 0x7F800000#32
  let main_v13 : FVec F S3x2816 .f32 := broadcastInDim S3x2816 ![] bcast_S_S3x2816 main_cst_3
  let main_v14 : IVec S3x2816 1 := cmpf .olt main_v12 main_v13
  let main_v15 : FVec F S2816 .f32 := Host.absf main_arg6
  let main_cst_4 : FVec F S_ .f32 := constant S_ .f32 0x7F800000#32
  let main_v16 : FVec F S2816 .f32 := broadcastInDim S2816 ![] bcast_S_S2816 main_cst_4
  let main_v17 : IVec S2816 1 := cmpf .olt main_v15 main_v16
  fn_part1 (F := F) main_arg7 main_arg8 main_v2 main_v5 main_v8 main_v11 main_v14 main_v17
-- ==== Pre_finite_loss.lean ====
abbrev S8x1472x1024 : Shape := ⟨3, ![8, 1472, 1024]⟩
abbrev S16384x1024 : Shape := ⟨2, ![16384, 1024]⟩
abbrev S16384x2816 : Shape := ⟨2, ![16384, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S16384x2816 : S_.BroadcastsInDim S16384x2816 (![] : Fin 0 → Fin S16384x2816.rank)
  bcast_S_S3x2816 : S_.BroadcastsInDim S3x2816 (![] : Fin 0 → Fin S3x2816.rank)
  bcast_S_S2816 : S_.BroadcastsInDim S2816 (![] : Fin 0 → Fin S2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg7 : FVec F S2816x1024 .f32) (main_arg8 : FVec F S1024 .f32) (main_arg9 : FVec F S1024 .f32) (main_v2 : IVec S16384x1024 1) (main_v5 : IVec S16384x1024 1) (main_v8 : IVec S16384x2816 1) (main_v11 : IVec S16384x2816 1) (main_v14 : IVec S3x2816 1) (main_v17 : IVec S2816 1) : IVec S16384x1024 1 × IVec S16384x1024 1 × IVec S16384x2816 1 × IVec S16384x2816 1 × IVec S3x2816 1 × IVec S2816 1 × IVec S2816x1024 1 × IVec S1024 1 × IVec S1024 1 :=
  let main_v18 : FVec F S2816x1024 .f32 := Host.absf main_arg7
  let main_cst_5 : FVec F S_ .f32 := constant S_ .f32 0x7F800000#32
  let main_v19 : FVec F S2816x1024 .f32 := broadcastInDim S2816x1024 ![] bcast_S_S2816x1024 main_cst_5
  let main_v20 : IVec S2816x1024 1 := cmpf .olt main_v18 main_v19
  let main_v21 : FVec F S1024 .f32 := Host.absf main_arg8
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_v24 : FVec F S1024 .f32 := Host.absf main_arg9
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  (main_v2, main_v5, main_v8, main_v11, main_v14, main_v17, main_v20, main_v23, main_v26)

def fn {F : FTy → Type} [FloatOps F] (main_arg0 : FVec F S8x1472x1024 .f32) (main_arg1 : FVec F S16384x1024 .f32) (main_arg2 : FVec F S16384x1024 .f32) (main_arg3 : FVec F S16384x2816 .f32) (main_arg4 : FVec F S16384x2816 .f32) (main_arg5 : FVec F S3x2816 .f32) (main_arg6 : FVec F S2816 .f32) (main_arg7 : FVec F S2816x1024 .f32) (main_arg8 : FVec F S1024 .f32) (main_arg9 : FVec F S1024 .f32) : IVec S16384x1024 1 × IVec S16384x1024 1 × IVec S16384x2816 1 × IVec S16384x2816 1 × IVec S3x2816 1 × IVec S2816 1 × IVec S2816x1024 1 × IVec S1024 1 × IVec S1024 1 :=
  let main_v0 : FVec F S16384x1024 .f32 := Host.absf main_arg1
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg2
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S16384x2816 .f32 := Host.absf main_arg3
  let main_cst_1 : FVec F S_ .f32 := constant S_ .f32 0x7F800000#32
  let main_v7 : FVec F S16384x2816 .f32 := broadcastInDim S16384x2816 ![] bcast_S_S16384x2816 main_cst_1
  let main_v8 : IVec S16384x2816 1 := cmpf .olt main_v6 main_v7
  let main_v9 : FVec F S16384x2816 .f32 := Host.absf main_arg4
  let main_cst_2 : FVec F S_ .f32 := constant S_ .f32 0x7F800000#32
  let main_v10 : FVec F S16384x2816 .f32 := broadcastInDim S16384x2816 ![] bcast_S_S16384x2816 main_cst_2
  let main_v11 : IVec S16384x2816 1 := cmpf .olt main_v9 main_v10
  let main_v12 : FVec F S3x2816 .f32 := Host.absf main_arg5
  let main_cst_3 : FVec F S_ .f32 := constant S_ .f32 0x7F800000#32
  let main_v13 : FVec F S3x2816 .f32 := broadcastInDim S3x2816 ![] bcast_S_S3x2816 main_cst_3
  let main_v14 : IVec S3x2816 1 := cmpf .olt main_v12 main_v13
  let main_v15 : FVec F S2816 .f32 := Host.absf main_arg6
  let main_cst_4 : FVec F S_ .f32 := constant S_ .f32 0x7F800000#32
  let main_v16 : FVec F S2816 .f32 := broadcastInDim S2816 ![] bcast_S_S2816 main_cst_4
  let main_v17 : IVec S2816 1 := cmpf .olt main_v15 main_v16
  fn_part1 (F := F) main_arg7 main_arg8 main_arg9 main_v2 main_v5 main_v8 main_v11 main_v14 main_v17
-- ==== Kernel.lean ====
abbrev S8x1472x1024 : Shape := ⟨3, ![8, 1472, 1024]⟩
abbrev S16384x2816 : Shape := ⟨2, ![16384, 2816]⟩
abbrev S1024x2816 : Shape := ⟨2, ![1024, 2816]⟩
abbrev S16384x1024 : Shape := ⟨2, ![16384, 1024]⟩
abbrev S2816x1024 : Shape := ⟨2, ![2816, 1024]⟩
abbrev S512x2816 : Shape := ⟨2, ![512, 2816]⟩
abbrev S512x1024 : Shape := ⟨2, ![512, 1024]⟩
abbrev S4 : Shape := ⟨1, ![4]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x1472x1024, .f32⟩
  | .hbm, ⟨1, _⟩ => ⟨S16384x2816, .bf16⟩
  | .hbm, ⟨2, _⟩ => ⟨S1024x2816, .f32⟩
  | .hbm, ⟨3, _⟩ => ⟨S16384x1024, .f32⟩
  | .hbm, ⟨4, _⟩ => ⟨S16384x1024, .f32⟩
  | .hbm, ⟨5, _⟩ => ⟨S2816x1024, .f32⟩
  | .hbm, ⟨6, _⟩ => ⟨S2816x1024, .bf16⟩
  | .hbm, ⟨7, _⟩ => ⟨S8x1472x1024, .f32⟩
  | .hbm, ⟨8, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S2816x1024, .f32⟩
  | _, _ => ⟨S8x1472x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1472x1024 : Shape := ⟨3, ![8, 1472, 1024]⟩
abbrev S16384x2816 : Shape := ⟨2, ![16384, 2816]⟩
abbrev S1024x2816 : Shape := ⟨2, ![1024, 2816]⟩
abbrev S16384x1024 : Shape := ⟨2, ![16384, 1024]⟩
abbrev S_ : Shape := ⟨0, ![]⟩
abbrev S2816x1024 : Shape := ⟨2, ![2816, 1024]⟩
abbrev S4x704x1024 : Shape := ⟨3, ![4, 704, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x1472x1024, .f32⟩
  | .hbm, ⟨1, _⟩ => ⟨S16384x2816, .bf16⟩
  | .hbm, ⟨2, _⟩ => ⟨S1024x2816, .f32⟩
  | .hbm, ⟨3, _⟩ => ⟨S16384x1024, .f32⟩
  | .hbm, ⟨4, _⟩ => ⟨S16384x1024, .f32⟩
  | .hbm, ⟨5, _⟩ => ⟨S16384x2816, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S2816x1024, .f32⟩
  | .hbm, ⟨14, _⟩ => ⟨S1024x2816, .f32⟩
  | .hbm, ⟨15, _⟩ => ⟨S16384x1024, .f32⟩
  | .hbm, ⟨16, _⟩ => ⟨S16384x1024, .f32⟩
  | .hbm, ⟨17, _⟩ => ⟨S2816x1024, .f32⟩
  | .hbm, ⟨18, _⟩ => ⟨S4x704x1024, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8x1472x1024, .f32⟩
  | _, _ => ⟨S8x1472x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_c_1 : Ref sig .tc := ⟨.hbm, 20, rfl⟩
abbrev main_c_2 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel2.lean ====
abbrev S8x1472x1024 : Shape := ⟨3, ![8, 1472, 1024]⟩
abbrev S16384x2816 : Shape := ⟨2, ![16384, 2816]⟩
abbrev S1024x2816 : Shape := ⟨2, ![1024, 2816]⟩
abbrev S16384x1024 : Shape := ⟨2, ![16384, 1024]⟩
abbrev S2816x1024 : Shape := ⟨2, ![2816, 1024]⟩
abbrev S512x2816 : Shape := ⟨2, ![512, 2816]⟩
abbrev S512x1024 : Shape := ⟨2, ![512, 1024]⟩
abbrev S4 : Shape := ⟨1, ![4]⟩
abbrev S1 : Shape := ⟨1, ![1]⟩
abbrev S_ : Shape := ⟨0, ![]⟩
abbrev S1x704x1024 : Shape := ⟨3, ![1, 704, 1024]⟩
abbrev S704x1024 : Shape := ⟨2, ![704, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x1472x1024, .f32⟩
  | .hbm, ⟨1, _⟩ => ⟨S16384x2816, .bf16⟩
  | .hbm, ⟨2, _⟩ => ⟨S1024x2816, .f32⟩
  | .hbm, ⟨3, _⟩ => ⟨S16384x1024, .f32⟩
  | .hbm, ⟨4, _⟩ => ⟨S16384x1024, .f32⟩
  | .hbm, ⟨5, _⟩ => ⟨S2816x1024, .f32⟩
  | .hbm, ⟨6, _⟩ => ⟨S2816x1024, .bf16⟩
  | .hbm, ⟨7, _⟩ => ⟨S8x1472x1024, .f32⟩
  | .hbm, ⟨8, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S2816x1024, .f32⟩
  | _, _ => ⟨S8x1472x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x1472x1024 : Shape := ⟨3, ![8, 1472, 1024]⟩
abbrev S16384x2816 : Shape := ⟨2, ![16384, 2816]⟩
abbrev S1024x2816 : Shape := ⟨2, ![1024, 2816]⟩
abbrev S16384x1024 : Shape := ⟨2, ![16384, 1024]⟩
abbrev S2816x1024 : Shape := ⟨2, ![2816, 1024]⟩
abbrev S4x704x1024 : Shape := ⟨3, ![4, 704, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1472x1024, .f32⟩
  | .hbm, ⟨1, _⟩ => ⟨S16384x2816, .bf16⟩
  | .hbm, ⟨2, _⟩ => ⟨S1024x2816, .f32⟩
  | .hbm, ⟨3, _⟩ => ⟨S16384x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S16384x1024, .f32⟩
  | .hbm, ⟨10, _⟩ => ⟨S16384x1024, .f32⟩
  | .hbm, ⟨11, _⟩ => ⟨S2816x1024, .f32⟩
  | .hbm, ⟨12, _⟩ => ⟨S4x704x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8x1472x1024, .f32⟩
  | _, _ => ⟨S8x1472x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel3.lean ====
abbrev S8x1472x1024 : Shape := ⟨3, ![8, 1472, 1024]⟩
abbrev S16384x1024 : Shape := ⟨2, ![16384, 1024]⟩
abbrev S16384x2816 : Shape := ⟨2, ![16384, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S2x2816 : Shape := ⟨2, ![2, 2816]⟩
abbrev S16386x2816 : Shape := ⟨2, ![16386, 2816]⟩
abbrev S1x2816 : Shape := ⟨2, ![1, 2816]⟩
abbrev S4x2816 : Shape := ⟨2, ![4, 2816]⟩
abbrev S8x2816 : Shape := ⟨2, ![8, 2816]⟩
abbrev S1024x2816 : Shape := ⟨2, ![1024, 2816]⟩
abbrev S1x1024 : Shape := ⟨2, ![1, 1024]⟩
abbrev S6x1024 : Shape := ⟨2, ![6, 1024]⟩
abbrev S8x1024 : Shape := ⟨2, ![8, 1024]⟩
abbrev S8x128 : Shape := ⟨2, ![8, 128]⟩
abbrev S256x1024 : Shape := ⟨2, ![256, 1024]⟩
abbrev S256x2816 : Shape := ⟨2, ![256, 2816]⟩
abbrev S16x2816 : Shape := ⟨2, ![16, 2816]⟩
abbrev S264x2816 : Shape := ⟨2, ![264, 2816]⟩
abbrev S8 : Shape := ⟨1, ![8]⟩
abbrev S256 : Shape := ⟨1, ![256]⟩
abbrev S256x1 : Shape := ⟨2, ![256, 1]⟩
abbrev S256x256 : Shape := ⟨2, ![256, 256]⟩
abbrev S1024x256 : Shape := ⟨2, ![1024, 256]⟩
abbrev S1x256 : Shape := ⟨2, ![1, 256]⟩
abbrev S1 : Shape := ⟨1, ![1]⟩
abbrev S1x352x1024 : Shape := ⟨3, ![1, 352, 1024]⟩
abbrev S352x1024 : Shape := ⟨2, ![352, 1024]⟩

abbrev nBuf : Space → Nat
  | .hbm => 84
  | .vmem => 29
  | .smem => 0
  | _ => 0

abbrev bufTy : (tb : Table) → Fin (tcTables nBuf tb) → BufTy
  | .hbm, ⟨0, _⟩ => ⟨S8x1472x1024, .f32⟩
  | .hbm, ⟨1, _⟩ => ⟨S16384x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S2x2816, .f32⟩
  | .hbm, ⟨12, _⟩ => ⟨S16386x2816, .f32⟩
  | .hbm, ⟨13, _⟩ => ⟨S1x2816, .f32⟩
  | .hbm, ⟨14, _⟩ => ⟨S2816, .f32⟩
  | .hbm, ⟨15, _⟩ => ⟨S16384x2816, .f32⟩
  | .hbm, ⟨16, _⟩ => ⟨S1x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S1x2816, .f32⟩
  | .hbm, ⟨23, _⟩ => ⟨S2816, .f32⟩
  | .hbm, ⟨24, _⟩ => ⟨S16384x2816, .f32⟩
  | .hbm, ⟨25, _⟩ => ⟨S1x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S1x2816, .f32⟩
  | .hbm, ⟨30, _⟩ => ⟨S2816, .f32⟩
  | .hbm, ⟨31, _⟩ => ⟨S16384x2816, .f32⟩
  | .hbm, ⟨32, _⟩ => ⟨S1x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x2816, .f32⟩
  | .hbm, ⟨60, _⟩ => ⟨S16384x1024, .f32⟩
  | .hbm, ⟨61, _⟩ => ⟨S16384x1024, .f32⟩
  | .hbm, ⟨62, _⟩ => ⟨S1x2816, .f32⟩
  | .hbm, ⟨63, _⟩ => ⟨S_, .f32⟩
  | .hbm, ⟨64, _⟩ => ⟨S4x2816, .f32⟩
  | .hbm, ⟨65, _⟩ => ⟨S8x2816, .f32⟩
  | .hbm, ⟨66, _⟩ => ⟨S1024x2816, .f32⟩
  | .hbm, ⟨67, _⟩ => ⟨S1024x2816, .bf16⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S6x1024, .f32⟩
  | .hbm, ⟨72, _⟩ => ⟨S8x1024, .f32⟩
  | .hbm, ⟨73, _⟩ => ⟨S16384x2816, .bf16⟩
  | .hbm, ⟨74, _⟩ => ⟨S16384x2816, .bf16⟩
  | .hbm, ⟨75, _⟩ => ⟨S16384x2816, .bf16⟩
  | .hbm, ⟨76, _⟩ => ⟨S16384x2816, .bf16⟩
  | .hbm, ⟨77, _⟩ => ⟨S8x1472x1024, .f32⟩
  | .hbm, ⟨78, _⟩ => ⟨S16384x2816, .bf16⟩
  | .hbm, ⟨79, _⟩ => ⟨S16384x2816, .bf16⟩
  | .hbm, ⟨80, _⟩ => ⟨S16384x1024, .f32⟩
  | .hbm, ⟨81, _⟩ => ⟨S8x2816, .f32⟩
  | .hbm, ⟨82, _⟩ => ⟨S8x1024, .f32⟩
  | .hbm, ⟨83, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S16x2816, .bf16⟩
  | .local _ .vmem, ⟨13, _⟩ => ⟨S16x2816, .bf16⟩
  | .local _ .vmem, ⟨14, _⟩ => ⟨S8x2816, .f32⟩
  | .local _ .vmem, ⟨15, _⟩ => ⟨S1024x2816, .bf16⟩
  | .local _ .vmem, ⟨16, _⟩ => ⟨S8x1024, .f32⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S8x2816, .f32⟩
  | .local _ .vmem, ⟨24, _⟩ => ⟨S8x1024, .f32⟩
  | .local _ .vmem, ⟨25, _⟩ => ⟨S8x128, .f32⟩
  | .local _ .vmem, ⟨26, _⟩ => ⟨S264x2816, .f32⟩
  | .local _ .vmem, ⟨27, _⟩ => ⟨S264x2816, .f32⟩
  | .local _ .vmem, ⟨28, _⟩ => ⟨S2816x1024, .f32⟩
  | _, _ => ⟨S8x1472x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v58_3 : Ref sig .tc := ⟨.hbm, 80, rfl⟩
abbrev main_v58_4 : Ref sig .tc := ⟨.hbm, 81, rfl⟩
abbrev main_v58_5 : Ref sig .tc := ⟨.hbm, 82, rfl⟩
abbrev main_v58_6 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S8x1472x1024 : Shape := ⟨3, ![8, 1472, 1024]⟩
abbrev S16384x1024 : Shape := ⟨2, ![16384, 1024]⟩
abbrev S16384x2816 : Shape := ⟨2, ![16384, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S2x2816 : Shape := ⟨2, ![2, 2816]⟩
abbrev S16386x2816 : Shape := ⟨2, ![16386, 2816]⟩
abbrev S1x2816 : Shape := ⟨2, ![1, 2816]⟩
abbrev S16384 : Shape := ⟨1, ![16384]⟩
abbrev S16384x1 : Shape := ⟨2, ![16384, 1]⟩
abbrev S1x1024 : Shape := ⟨2, ![1, 1024]⟩
abbrev S1024x2816 : Shape := ⟨2, ![1024, 2816]⟩
abbrev S8x352x1024 : Shape := ⟨3, ![8, 352, 1024]⟩
abbrev S4x2816 : Shape := ⟨2, ![4, 2816]⟩
abbrev S8x2816 : Shape := ⟨2, ![8, 2816]⟩
abbrev S6x1024 : Shape := ⟨2, ![6, 1024]⟩
abbrev S8x1024 : Shape := ⟨2, ![8, 1024]⟩

abbrev nBuf : Space → Nat
  | .hbm => 216
  | .vmem => 0
  | .smem => 0
  | _ => 0

abbrev hbmTy0_0 (i : Nat) : BufTy := match i % 128 with
  | 0 => ⟨S8x1472x1024, .f32⟩
  | 1 => ⟨S16384x1024, .f32⟩
  | 2 => ⟨S16384x1024, .f32⟩
  | 3 => ⟨S16384x2816, .f32⟩
  | 4 => ⟨S16384x2816, .f32⟩
  | 5 => ⟨S3x2816, .f32⟩
  | 6 => ⟨S2816, .f32⟩
  | 7 => ⟨S2816x1024, .f32⟩
  | 8 => ⟨S1024, .f32⟩
  | 9 => ⟨S1024, .f32⟩
  | 10 => ⟨S_, .f32⟩
  | 11 => ⟨S16384x1024, .f32⟩
  | 12 => ⟨S16384x1024, .f32⟩
  | 13 => ⟨S_, .f32⟩
  | 14 => ⟨S2x2816, .f32⟩
  | 15 => ⟨S16386x2816, .f32⟩
  | 16 => ⟨S_, .f32⟩
  | 17 => ⟨S2x2816, .f32⟩
  | 18 => ⟨S1x2816, .f32⟩
  | 19 => ⟨S2816, .f32⟩
  | 20 => ⟨S16384x2816, .f32⟩
  | 21 => ⟨S1x2816, .f32⟩
  | 22 => ⟨S16384x2816, .f32⟩
  | 23 => ⟨S16384x2816, .f32⟩
  | 24 => ⟨S_, .f32⟩
  | 25 => ⟨S16384x2816, .f32⟩
  | 26 => ⟨S16384x2816, .f32⟩
  | 27 => ⟨S1x2816, .f32⟩
  | 28 => ⟨S2816, .f32⟩
  | 29 => ⟨S16384x2816, .f32⟩
  | 30 => ⟨S1x2816, .f32⟩
  | 31 => ⟨S16384x2816, .f32⟩
  | 32 => ⟨S16384x2816, .f32⟩
  | 33 => ⟨S16384x2816, .f32⟩
  | 34 => ⟨S1x2816, .f32⟩
  | 35 => ⟨S2816, .f32⟩
  | 36 => ⟨S16384x2816, .f32⟩
  | 37 => ⟨S1x2816, .f32⟩
  | 38 => ⟨S16384x2816, .f32⟩
  | 39 => ⟨S16384x2816, .f32⟩
  | 40 => ⟨S16384x2816, .f32⟩
  | 41 => ⟨S1x2816, .f32⟩
  | 42 => ⟨S16384x2816, .f32⟩
  | 43 => ⟨S16384x2816, .f32⟩
  | 44 => ⟨S16384x2816, .f32⟩
  | 45 => ⟨S16384x2816, .f32⟩
  | 46 => ⟨S_, .f32⟩
  | 47 => ⟨S16384x2816, .f32⟩
  | 48 => ⟨S16384x2816, .f32⟩
  | 49 => ⟨S_, .f32⟩
  | 50 => ⟨S16384x2816, .f32⟩
  | 51 => ⟨S16384x2816, .f32⟩
  | 52 => ⟨S_, .f32⟩
  | 53 => ⟨S16384x2816, .f32⟩
  | 54 => ⟨S16384x2816, .f32⟩
  | 55 => ⟨S16384x2816, .f32⟩
  | 56 => ⟨S16384x2816, .f32⟩
  | 57 => ⟨S16384x2816, .f32⟩
  | 58 => ⟨S16384x1024, .f32⟩
  | 59 => ⟨S16384x1024, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S16384x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S16384x1024, .f32⟩
  | 79 => ⟨S16384x1024, .f32⟩
  | 80 => ⟨S_, .f32⟩
  | 81 => ⟨S16384x1, .f32⟩
  | 82 => ⟨S16384x1, .f32⟩
  | 83 => ⟨S16384x1, .f32⟩
  | 84 => ⟨S16384x1, .f32⟩
  | 85 => ⟨S_, .f32⟩
  | 86 => ⟨S16384x1, .f32⟩
  | 87 => ⟨S16384x1, .f32⟩
  | 88 => ⟨S16384x1024, .f32⟩
  | 89 => ⟨S16384x1024, .f32⟩
  | 90 => ⟨S1x1024, .f32⟩
  | 91 => ⟨S16384x1024, .f32⟩
  | 92 => ⟨S16384x1024, .f32⟩
  | 93 => ⟨S1x1024, .f32⟩
  | 94 => ⟨S16384x1024, .f32⟩
  | 95 => ⟨S16384x1024, .f32⟩
  | 96 => ⟨S16384x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S16384x1024, .f32⟩
  | 103 => ⟨S_, .f32⟩
  | 104 => ⟨S1024, .f32⟩
  | 105 => ⟨S1x1024, .f32⟩
  | 106 => ⟨S16384x1024, .f32⟩
  | 107 => ⟨S16384x1024, .f32⟩
  | 108 => ⟨S_, .f32⟩
  | 109 => ⟨S1024, .f32⟩
  | 110 => ⟨S16384x1024, .f32⟩
  | 111 => ⟨S_, .f32⟩
  | 112 => ⟨S16384, .f32⟩
  | 113 => ⟨S16384x1, .f32⟩
  | 114 => ⟨S16384x1024, .f32⟩
  | 115 => ⟨S16384x1024, .f32⟩
  | 116 => ⟨S16384x1, .f32⟩
  | 117 => ⟨S16384x1024, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384, .f32⟩
  | 126 => ⟨S16384x1024, .f32⟩
  | 127 => ⟨S16384x1024, .f32⟩
  | _ => ⟨S8x1472x1024, .f32⟩

abbrev hbmTy0_1 (i : Nat) : BufTy := match i % 128 with
  | 0 => ⟨S16384x1024, .f32⟩
  | 1 => ⟨S_, .f32⟩
  | 2 => ⟨S16384, .f32⟩
  | 3 => ⟨S16384x1, .f32⟩
  | 4 => ⟨S16384x1024, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384, .f32⟩
  | 11 => ⟨S16384x1024, .f32⟩
  | 12 => ⟨S16384x1024, .f32⟩
  | 13 => ⟨S1024x2816, .f32⟩
  | 14 => ⟨S2816x1024, .f32⟩
  | 15 => ⟨S16384x2816, .f32⟩
  | 16 => ⟨S16384x2816, .f32⟩
  | 17 => ⟨S16384x2816, .f32⟩
  | 18 => ⟨S16384x2816, .f32⟩
  | 19 => ⟨S16384x2816, .f32⟩
  | 20 => ⟨S16384x2816, .f32⟩
  | 21 => ⟨S16384x2816, .f32⟩
  | 22 => ⟨S_, .f32⟩
  | 23 => ⟨S2816, .f32⟩
  | 24 => ⟨S1x2816, .f32⟩
  | 25 => ⟨S_, .f32⟩
  | 26 => ⟨S2816, .f32⟩
  | 27 => ⟨S16384x2816, .f32⟩
  | 28 => ⟨S16384x2816, .f32⟩
  | 29 => ⟨S16384x2816, .f32⟩
  | 30 => ⟨S_, .f32⟩
  | 31 => ⟨S2816, .f32⟩
  | 32 => ⟨S1x2816, .f32⟩
  | 33 => ⟨S_, .f32⟩
  | 34 => ⟨S2816, .f32⟩
  | 35 => ⟨S_, .f32⟩
  | 36 => ⟨S16386x2816, .f32⟩
  | 37 => ⟨S1x2816, .f32⟩
  | 38 => ⟨S_, .f32⟩
  | 39 => ⟨S3x2816, .f32⟩
  | 40 => ⟨S16384x2816, .f32⟩
  | 41 => ⟨S16384x2816, .f32⟩
  | 42 => ⟨S16384x2816, .f32⟩
  | 43 => ⟨S_, .f32⟩
  | 44 => ⟨S2816, .f32⟩
  | 45 => ⟨S1x2816, .f32⟩
  | 46 => ⟨S_, .f32⟩
  | 47 => ⟨S2816, .f32⟩
  | 48 => ⟨S_, .f32⟩
  | 49 => ⟨S16386x2816, .f32⟩
  | 50 => ⟨S16386x2816, .f32⟩
  | 51 => ⟨S1x2816, .f32⟩
  | 52 => ⟨S_, .f32⟩
  | 53 => ⟨S3x2816, .f32⟩
  | 54 => ⟨S3x2816, .f32⟩
  | 55 => ⟨S16384x2816, .f32⟩
  | 56 => ⟨S16384x2816, .f32⟩
  | 57 => ⟨S16384x2816, .f32⟩
  | 58 => ⟨S_, .f32⟩
  | 59 => ⟨S2816, .f32⟩
  | 60 => ⟨S1x2816, .f32⟩
  | 61 => ⟨S_, .f32⟩
  | 62 => ⟨S2816, .f32⟩
  | 63 => ⟨S_, .f32⟩
  | 64 => ⟨S16386x2816, .f32⟩
  | 65 => ⟨S16386x2816, .f32⟩
  | 66 => ⟨S1x2816, .f32⟩
  | 67 => ⟨S_, .f32⟩
  | 68 => ⟨S3x2816, .f32⟩
  | 69 => ⟨S3x2816, .f32⟩
  | 70 => ⟨S2x2816, .f32⟩
  | 71 => ⟨S16384x2816, .f32⟩
  | 72 => ⟨S8x352x1024, .f32⟩
  | 73 => ⟨S_, .i32⟩
  | 74 => ⟨S_, .i32⟩
  | 75 => ⟨S_, .i32⟩
  | 76 => ⟨S8x1472x1024, .f32⟩
  | 77 => ⟨S16384x2816, .bf16⟩
  | 78 => ⟨S16384x2816, .bf16⟩
  | 79 => ⟨S1x2816, .f32⟩
  | 80 => ⟨S_, .f32⟩
  | 81 => ⟨S4x2816, .f32⟩
  | 82 => ⟨S8x2816, .f32⟩
  | 83 => ⟨S1x1024, .f32⟩
  | 84 => ⟨S1x1024, .f32⟩
  | 85 => ⟨S_, .f32⟩
  | 86 => ⟨S6x1024, .f32⟩
  | 87 => ⟨S8x1024, .f32⟩
  | _ => ⟨S8x1472x1024, .f32⟩

abbrev hbmTy (i : Nat) : BufTy := match i / 128 with
  | 0 => hbmTy0_0 i
  | 1 => hbmTy0_1 i
  | _ => ⟨S8x1472x1024, .f32⟩

abbrev bufTy : (tb : Table) → Fin (tcTables nBuf tb) → BufTy
  | .hbm, ⟨i, _⟩ => hbmTy i
  | _, _ => ⟨S8x1472x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v30_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v30_1 : Ref sig .tc := ⟨.hbm, 55, rfl⟩
abbrev main_v30_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_18 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_cst_20 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_v102 : Ref sig .tc := ⟨.hbm, 149, rfl⟩
abbrev main_cst_21 : Ref sig .tc := ⟨.hbm, 150, rfl⟩
abbrev main_v103 : Ref sig .tc := ⟨.hbm, 151, rfl⟩
abbrev main_v104 : Ref sig .tc := ⟨.hbm, 152, rfl⟩
abbrev main_cst_22 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_23 : Ref sig .tc := ⟨.hbm, 158, rfl⟩
abbrev main_v109 : Ref sig .tc := ⟨.hbm, 159, rfl⟩
abbrev main_v110 : Ref sig .tc := ⟨.hbm, 160, rfl⟩
abbrev main_cst_24 : Ref sig .tc := ⟨.hbm, 161, rfl⟩
abbrev main_v111 : Ref sig .tc := ⟨.hbm, 162, rfl⟩
abbrev main_cst_25 : Ref sig .tc := ⟨.hbm, 163, rfl⟩
abbrev main_v112 : Ref sig .tc := ⟨.hbm, 164, rfl⟩
abbrev main_v113 : Ref sig .tc := ⟨.hbm, 165, rfl⟩
abbrev main_cst_26 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_27 : Ref sig .tc := ⟨.hbm, 171, rfl⟩
abbrev main_v118 : Ref sig .tc := ⟨.hbm, 172, rfl⟩
abbrev main_v119 : Ref sig .tc := ⟨.hbm, 173, rfl⟩
abbrev main_cst_28 : Ref sig .tc := ⟨.hbm, 174, rfl⟩
abbrev main_v120 : Ref sig .tc := ⟨.hbm, 175, rfl⟩
abbrev main_cst_29 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_30 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_31 : Ref sig .tc := ⟨.hbm, 186, rfl⟩
abbrev main_v129 : Ref sig .tc := ⟨.hbm, 187, rfl⟩
abbrev main_v130 : Ref sig .tc := ⟨.hbm, 188, rfl⟩
abbrev main_cst_32 : Ref sig .tc := ⟨.hbm, 189, rfl⟩
abbrev main_v131 : Ref sig .tc := ⟨.hbm, 190, rfl⟩
abbrev main_cst_33 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_34 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c : Ref sig .tc := ⟨.hbm, 201, rfl⟩
abbrev main_c_35 : Ref sig .tc := ⟨.hbm, 202, rfl⟩
abbrev main_c_36 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_37 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_cst_38 : Ref sig .tc := ⟨.hbm, 213, rfl⟩
abbrev main_v148 : Ref sig .tc := ⟨.hbm, 214, rfl⟩
abbrev main_v149 : Ref sig .tc := ⟨.hbm, 215, rfl⟩

abbrev nD : Nat := 1
abbrev τ : Topo := Topo.v7x

variable {F : FTy → Type} [FloatOps F]
-- ==== Kernel4.lean ====
abbrev S16384x1024 : Shape := ⟨2, ![16384, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S_ : Shape := ⟨0, ![]⟩
abbrev S4x2816 : Shape := ⟨2, ![4, 2816]⟩
abbrev S8x2816 : Shape := ⟨2, ![8, 2816]⟩
abbrev S1x1024 : Shape := ⟨2, ![1, 1024]⟩
abbrev S6x1024 : Shape := ⟨2, ![6, 1024]⟩
abbrev S8x1024 : Shape := ⟨2, ![8, 1024]⟩
abbrev S16384x2816 : Shape := ⟨2, ![16384, 2816]⟩
abbrev S256x1024 : Shape := ⟨2, ![256, 1024]⟩
abbrev S256x2816 : Shape := ⟨2, ![256, 2816]⟩
abbrev S264x2816 : Shape := ⟨2, ![264, 2816]⟩
abbrev S1024x256 : Shape := ⟨2, ![1024, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩

abbrev nBuf : Space → Nat
  | .hbm => 26
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x2816, .bf16⟩
  | .hbm, ⟨9, _⟩ => ⟨S1024x2816, .bf16⟩
  | .hbm, ⟨10, _⟩ => ⟨S1x2816, .f32⟩
  | .hbm, ⟨11, _⟩ => ⟨S_, .f32⟩
  | .hbm, ⟨12, _⟩ => ⟨S4x2816, .f32⟩
  | .hbm, ⟨13, _⟩ => ⟨S8x2816, .f32⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S6x1024, .f32⟩
  | .hbm, ⟨19, _⟩ => ⟨S8x1024, .f32⟩
  | .hbm, ⟨20, _⟩ => ⟨S16384x2816, .bf16⟩
  | .hbm, ⟨21, _⟩ => ⟨S16384x2816, .bf16⟩
  | .hbm, ⟨22, _⟩ => ⟨S16384x2816, .bf16⟩
  | .hbm, ⟨23, _⟩ => ⟨S16384x2816, .bf16⟩
  | .hbm, ⟨24, _⟩ => ⟨S16384x1024, .f32⟩
  | .hbm, ⟨25, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S8x2816, .f32⟩
  | .local _ .vmem, ⟨5, _⟩ => ⟨S2816x1024, .bf16⟩
  | .local _ .vmem, ⟨6, _⟩ => ⟨S8x1024, .f32⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S264x2816, .f32⟩
  | .local _ .vmem, ⟨20, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S2x2816 : Shape := ⟨2, ![2, 2816]⟩
abbrev S16386x2816 : Shape := ⟨2, ![16386, 2816]⟩
abbrev S1x2816 : Shape := ⟨2, ![1, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S2x2816, .f32⟩
  | .hbm, ⟨12, _⟩ => ⟨S16386x2816, .f32⟩
  | .hbm, ⟨13, _⟩ => ⟨S1x2816, .f32⟩
  | .hbm, ⟨14, _⟩ => ⟨S2816, .f32⟩
  | .hbm, ⟨15, _⟩ => ⟨S16384x2816, .f32⟩
  | .hbm, ⟨16, _⟩ => ⟨S1x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S1x2816, .f32⟩
  | .hbm, ⟨23, _⟩ => ⟨S2816, .f32⟩
  | .hbm, ⟨24, _⟩ => ⟨S16384x2816, .f32⟩
  | .hbm, ⟨25, _⟩ => ⟨S1x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S1x2816, .f32⟩
  | .hbm, ⟨30, _⟩ => ⟨S2816, .f32⟩
  | .hbm, ⟨31, _⟩ => ⟨S16384x2816, .f32⟩
  | .hbm, ⟨32, _⟩ => ⟨S1x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S_, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x2816, .f32⟩
  | .hbm, ⟨62, _⟩ => ⟨S16384x1024, .f32⟩
  | .hbm, ⟨63, _⟩ => ⟨S16384x1024, .f32⟩
  | .hbm, ⟨64, _⟩ => ⟨S16384x2816, .bf16⟩
  | .hbm, ⟨65, _⟩ => ⟨S16384x2816, .bf16⟩
  | .hbm, ⟨66, _⟩ => ⟨S16384x2816, .bf16⟩
  | .hbm, ⟨67, _⟩ => ⟨S16384x2816, .bf16⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S1x1024, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v29_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v29_1 : Ref sig .tc := ⟨.hbm, 50, rfl⟩
abbrev main_v29_0 : Ref sig .tc := ⟨.hbm, 51, rfl⟩
abbrev main_cst_1 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_7 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel5.lean ====
abbrev S16384x1024 : Shape := ⟨2, ![16384, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S_ : Shape := ⟨0, ![]⟩
abbrev S4x2816 : Shape := ⟨2, ![4, 2816]⟩
abbrev S8x2816 : Shape := ⟨2, ![8, 2816]⟩
abbrev S8x1024 : Shape := ⟨2, ![8, 1024]⟩
abbrev S16384x2816 : Shape := ⟨2, ![16384, 2816]⟩
abbrev S256x1024 : Shape := ⟨2, ![256, 1024]⟩
abbrev S256x2816 : Shape := ⟨2, ![256, 2816]⟩
abbrev S264x2816 : Shape := ⟨2, ![264, 2816]⟩
abbrev S1024x256 : Shape := ⟨2, ![1024, 256]⟩
abbrev S256x256 : Shape := ⟨2, ![256, 256]⟩
abbrev S1x256 : Shape := ⟨2, ![1, 256]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S1x2816, .f32⟩
  | .hbm, ⟨9, _⟩ => ⟨S_, .f32⟩
  | .hbm, ⟨10, _⟩ => ⟨S4x2816, .f32⟩
  | .hbm, ⟨11, _⟩ => ⟨S8x2816, .f32⟩
  | .hbm, ⟨12, _⟩ => ⟨S2816x1024, .bf16⟩
  | .hbm, ⟨13, _⟩ => ⟨S_, .f32⟩
  | .hbm, ⟨14, _⟩ => ⟨S8x1024, .f32⟩
  | .hbm, ⟨15, _⟩ => ⟨S16384x2816, .bf16⟩
  | .hbm, ⟨16, _⟩ => ⟨S16384x2816, .bf16⟩
  | .hbm, ⟨17, _⟩ => ⟨S16384x2816, .bf16⟩
  | .hbm, ⟨18, _⟩ => ⟨S16384x2816, .bf16⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S8x2816, .f32⟩
  | .local _ .vmem, ⟨5, _⟩ => ⟨S2816x1024, .bf16⟩
  | .local _ .vmem, ⟨6, _⟩ => ⟨S8x1024, .f32⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .f32⟩
  | .local _ .vmem, ⟨16, _⟩ => ⟨S256x1024, .f32⟩
  | .local _ .vmem, ⟨17, _⟩ => ⟨S264x2816, .f32⟩
  | .local _ .vmem, ⟨18, _⟩ => ⟨S256x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1024 : Shape := ⟨2, ![16384, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S16384x2816 : Shape := ⟨2, ![16384, 2816]⟩
abbrev S_ : Shape := ⟨0, ![]⟩
abbrev S2x2816 : Shape := ⟨2, ![2, 2816]⟩
abbrev S16386x2816 : Shape := ⟨2, ![16386, 2816]⟩
abbrev S1x2816 : Shape := ⟨2, ![1, 2816]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S2x2816, .f32⟩
  | .hbm, ⟨10, _⟩ => ⟨S16386x2816, .f32⟩
  | .hbm, ⟨11, _⟩ => ⟨S1x2816, .f32⟩
  | .hbm, ⟨12, _⟩ => ⟨S2816, .f32⟩
  | .hbm, ⟨13, _⟩ => ⟨S16384x2816, .f32⟩
  | .hbm, ⟨14, _⟩ => ⟨S1x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S1x2816, .f32⟩
  | .hbm, ⟨21, _⟩ => ⟨S2816, .f32⟩
  | .hbm, ⟨22, _⟩ => ⟨S16384x2816, .f32⟩
  | .hbm, ⟨23, _⟩ => ⟨S1x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S1x2816, .f32⟩
  | .hbm, ⟨28, _⟩ => ⟨S2816, .f32⟩
  | .hbm, ⟨29, _⟩ => ⟨S16384x2816, .f32⟩
  | .hbm, ⟨30, _⟩ => ⟨S1x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S_, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .bf16⟩
  | .hbm, ⟨57, _⟩ => ⟨S16384x2816, .bf16⟩
  | .hbm, ⟨58, _⟩ => ⟨S16384x2816, .bf16⟩
  | .hbm, ⟨59, _⟩ => ⟨S16384x2816, .bf16⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x2816, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_cst_1 : Ref sig .tc := ⟨.hbm, 50, rfl⟩
abbrev main_v30 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel6.lean ====
abbrev S8x1472x1024 : Shape := ⟨3, ![8, 1472, 1024]⟩
abbrev S16384x1024 : Shape := ⟨2, ![16384, 1024]⟩
abbrev S16384x2816 : Shape := ⟨2, ![16384, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S2x2816 : Shape := ⟨2, ![2, 2816]⟩
abbrev S16386x2816 : Shape := ⟨2, ![16386, 2816]⟩
abbrev S1x2816 : Shape := ⟨2, ![1, 2816]⟩
abbrev S4x2816 : Shape := ⟨2, ![4, 2816]⟩
abbrev S8x2816 : Shape := ⟨2, ![8, 2816]⟩
abbrev S1024x2816 : Shape := ⟨2, ![1024, 2816]⟩
abbrev S1x1024 : Shape := ⟨2, ![1, 1024]⟩
abbrev S6x1024 : Shape := ⟨2, ![6, 1024]⟩
abbrev S8x1024 : Shape := ⟨2, ![8, 1024]⟩
abbrev S8x128 : Shape := ⟨2, ![8, 128]⟩
abbrev S256x1024 : Shape := ⟨2, ![256, 1024]⟩
abbrev S256x2816 : Shape := ⟨2, ![256, 2816]⟩
abbrev S16x2816 : Shape := ⟨2, ![16, 2816]⟩
abbrev S264x2816 : Shape := ⟨2, ![264, 2816]⟩
abbrev S8 : Shape := ⟨1, ![8]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S256x256 : Shape := ⟨2, ![256, 256]⟩
abbrev S1024x256 : Shape := ⟨2, ![1024, 256]⟩
abbrev S1x256 : Shape := ⟨2, ![1, 256]⟩
abbrev S1x352x1024 : Shape := ⟨3, ![1, 352, 1024]⟩
abbrev S352x1024 : Shape := ⟨2, ![352, 1024]⟩

abbrev nBuf : Space → Nat
  | .hbm => 84
  | .vmem => 29
  | .smem => 0
  | _ => 0

abbrev bufTy : (tb : Table) → Fin (tcTables nBuf tb) → BufTy
  | .hbm, ⟨0, _⟩ => ⟨S8x1472x1024, .f32⟩
  | .hbm, ⟨1, _⟩ => ⟨S16384x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S3x2816, .f32⟩
  | .hbm, ⟨6, _⟩ => ⟨S2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S2x2816, .f32⟩
  | .hbm, ⟨12, _⟩ => ⟨S16386x2816, .f32⟩
  | .hbm, ⟨13, _⟩ => ⟨S1x2816, .f32⟩
  | .hbm, ⟨14, _⟩ => ⟨S2816, .f32⟩
  | .hbm, ⟨15, _⟩ => ⟨S16384x2816, .f32⟩
  | .hbm, ⟨16, _⟩ => ⟨S1x2816, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S1x2816, .f32⟩
  | .hbm, ⟨23, _⟩ => ⟨S2816, .f32⟩
  | .hbm, ⟨24, _⟩ => ⟨S16384x2816, .f32⟩
  | .hbm, ⟨25, _⟩ => ⟨S1x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S1x2816, .f32⟩
  | .hbm, ⟨30, _⟩ => ⟨S2816, .f32⟩
  | .hbm, ⟨31, _⟩ => ⟨S16384x2816, .f32⟩
  | .hbm, ⟨32, _⟩ => ⟨S1x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x2816, .f32⟩
  | .hbm, ⟨60, _⟩ => ⟨S16384x1024, .f32⟩
  | .hbm, ⟨61, _⟩ => ⟨S16384x1024, .f32⟩
  | .hbm, ⟨62, _⟩ => ⟨S1x2816, .f32⟩
  | .hbm, ⟨63, _⟩ => ⟨S_, .f32⟩
  | .hbm, ⟨64, _⟩ => ⟨S4x2816, .f32⟩
  | .hbm, ⟨65, _⟩ => ⟨S8x2816, .f32⟩
  | .hbm, ⟨66, _⟩ => ⟨S1024x2816, .f32⟩
  | .hbm, ⟨67, _⟩ => ⟨S1024x2816, .bf16⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S6x1024, .f32⟩
  | .hbm, ⟨72, _⟩ => ⟨S8x1024, .f32⟩
  | .hbm, ⟨73, _⟩ => ⟨S16384x2816, .bf16⟩
  | .hbm, ⟨74, _⟩ => ⟨S16384x2816, .bf16⟩
  | .hbm, ⟨75, _⟩ => ⟨S16384x2816, .bf16⟩
  | .hbm, ⟨76, _⟩ => ⟨S16384x2816, .bf16⟩
  | .hbm, ⟨77, _⟩ => ⟨S8x1472x1024, .f32⟩
  | .hbm, ⟨78, _⟩ => ⟨S16384x2816, .bf16⟩
  | .hbm, ⟨79, _⟩ => ⟨S16384x2816, .bf16⟩
  | .hbm, ⟨80, _⟩ => ⟨S16384x1024, .f32⟩
  | .hbm, ⟨81, _⟩ => ⟨S8x2816, .f32⟩
  | .hbm, ⟨82, _⟩ => ⟨S8x1024, .f32⟩
  | .hbm, ⟨83, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S16x2816, .bf16⟩
  | .local _ .vmem, ⟨13, _⟩ => ⟨S16x2816, .bf16⟩
  | .local _ .vmem, ⟨14, _⟩ => ⟨S8x2816, .f32⟩
  | .local _ .vmem, ⟨15, _⟩ => ⟨S1024x2816, .bf16⟩
  | .local _ .vmem, ⟨16, _⟩ => ⟨S8x1024, .f32⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S8x2816, .f32⟩
  | .local _ .vmem, ⟨24, _⟩ => ⟨S8x1024, .f32⟩
  | .local _ .vmem, ⟨25, _⟩ => ⟨S8x128, .f32⟩
  | .local _ .vmem, ⟨26, _⟩ => ⟨S264x2816, .f32⟩
  | .local _ .vmem, ⟨27, _⟩ => ⟨S264x2816, .f32⟩
  | .local _ .vmem, ⟨28, _⟩ => ⟨S2816x1024, .f32⟩
  | _, _ => ⟨S8x1472x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v58_2 : Ref sig .tc := ⟨.hbm, 79, rfl⟩
abbrev main_v58_3 : Ref sig .tc := ⟨.hbm, 80, rfl⟩
abbrev main_v58_4 : Ref sig .tc := ⟨.hbm, 81, rfl⟩
abbrev main_v58_5 : Ref sig .tc := ⟨.hbm, 82, rfl⟩
abbrev main_v58_6 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2816 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference6Ideal.lean ====
abbrev S8x1472x1024 : Shape := ⟨3, ![8, 1472, 1024]⟩
abbrev S16384x1024 : Shape := ⟨2, ![16384, 1024]⟩
abbrev S16384x2816 : Shape := ⟨2, ![16384, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S2x2816 : Shape := ⟨2, ![2, 2816]⟩
abbrev S16386x2816 : Shape := ⟨2, ![16386, 2816]⟩
abbrev S1x2816 : Shape := ⟨2, ![1, 2816]⟩
abbrev S16384 : Shape := ⟨1, ![16384]⟩
abbrev S16384x1 : Shape := ⟨2, ![16384, 1]⟩
abbrev S1x1024 : Shape := ⟨2, ![1, 1024]⟩
abbrev S1024x2816 : Shape := ⟨2, ![1024, 2816]⟩
abbrev S8x352x1024 : Shape := ⟨3, ![8, 352, 1024]⟩
abbrev S4x2816 : Shape := ⟨2, ![4, 2816]⟩
abbrev S8x2816 : Shape := ⟨2, ![8, 2816]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 239
  | .vmem => 0
  | .smem => 0
  | _ => 0

abbrev hbmTy0_0 (i : Nat) : BufTy := match i % 128 with
  | 0 => ⟨S8x1472x1024, .f32⟩
  | 1 => ⟨S16384x1024, .f32⟩
  | 2 => ⟨S16384x1024, .f32⟩
  | 3 => ⟨S16384x2816, .f32⟩
  | 4 => ⟨S16384x2816, .f32⟩
  | 5 => ⟨S3x2816, .f32⟩
  | 6 => ⟨S2816, .f32⟩
  | 7 => ⟨S2816x1024, .f32⟩
  | 8 => ⟨S1024, .f32⟩
  | 9 => ⟨S1024, .f32⟩
  | 10 => ⟨S_, .f32⟩
  | 11 => ⟨S16384x1024, .f32⟩
  | 12 => ⟨S16384x1024, .f32⟩
  | 13 => ⟨S_, .f32⟩
  | 14 => ⟨S2x2816, .f32⟩
  | 15 => ⟨S16386x2816, .f32⟩
  | 16 => ⟨S_, .f32⟩
  | 17 => ⟨S2x2816, .f32⟩
  | 18 => ⟨S1x2816, .f32⟩
  | 19 => ⟨S2816, .f32⟩
  | 20 => ⟨S16384x2816, .f32⟩
  | 21 => ⟨S1x2816, .f32⟩
  | 22 => ⟨S16384x2816, .f32⟩
  | 23 => ⟨S16384x2816, .f32⟩
  | 24 => ⟨S_, .f32⟩
  | 25 => ⟨S16384x2816, .f32⟩
  | 26 => ⟨S16384x2816, .f32⟩
  | 27 => ⟨S1x2816, .f32⟩
  | 28 => ⟨S2816, .f32⟩
  | 29 => ⟨S16384x2816, .f32⟩
  | 30 => ⟨S1x2816, .f32⟩
  | 31 => ⟨S16384x2816, .f32⟩
  | 32 => ⟨S16384x2816, .f32⟩
  | 33 => ⟨S16384x2816, .f32⟩
  | 34 => ⟨S1x2816, .f32⟩
  | 35 => ⟨S2816, .f32⟩
  | 36 => ⟨S16384x2816, .f32⟩
  | 37 => ⟨S1x2816, .f32⟩
  | 38 => ⟨S16384x2816, .f32⟩
  | 39 => ⟨S16384x2816, .f32⟩
  | 40 => ⟨S16384x2816, .f32⟩
  | 41 => ⟨S1x2816, .f32⟩
  | 42 => ⟨S16384x2816, .f32⟩
  | 43 => ⟨S16384x2816, .f32⟩
  | 44 => ⟨S16384x2816, .f32⟩
  | 45 => ⟨S16384x2816, .f32⟩
  | 46 => ⟨S_, .f32⟩
  | 47 => ⟨S16384x2816, .f32⟩
  | 48 => ⟨S16384x2816, .f32⟩
  | 49 => ⟨S_, .f32⟩
  | 50 => ⟨S16384x2816, .f32⟩
  | 51 => ⟨S16384x2816, .f32⟩
  | 52 => ⟨S_, .f32⟩
  | 53 => ⟨S16384x2816, .f32⟩
  | 54 => ⟨S16384x2816, .f32⟩
  | 55 => ⟨S16384x2816, .f32⟩
  | 56 => ⟨S16384x2816, .f32⟩
  | 57 => ⟨S16384x2816, .f32⟩
  | 58 => ⟨S16384x1024, .f32⟩
  | 59 => ⟨S16384x1024, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S16384x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S16384x1024, .f32⟩
  | 79 => ⟨S16384x1024, .f32⟩
  | 80 => ⟨S_, .f32⟩
  | 81 => ⟨S16384x1, .f32⟩
  | 82 => ⟨S16384x1, .f32⟩
  | 83 => ⟨S16384x1, .f32⟩
  | 84 => ⟨S16384x1, .f32⟩
  | 85 => ⟨S_, .f32⟩
  | 86 => ⟨S16384x1, .f32⟩
  | 87 => ⟨S16384x1, .f32⟩
  | 88 => ⟨S16384x1024, .f32⟩
  | 89 => ⟨S16384x1024, .f32⟩
  | 90 => ⟨S1x1024, .f32⟩
  | 91 => ⟨S16384x1024, .f32⟩
  | 92 => ⟨S16384x1024, .f32⟩
  | 93 => ⟨S1x1024, .f32⟩
  | 94 => ⟨S16384x1024, .f32⟩
  | 95 => ⟨S16384x1024, .f32⟩
  | 96 => ⟨S16384x1024, .f32⟩
  | 97 => ⟨S16384x1024, .f32⟩
  | 98 => ⟨S_, .f32⟩
  | 99 => ⟨S16384x1024, .f32⟩
  | 100 => ⟨S16384x1024, .f32⟩
  | 101 => ⟨S_, .f32⟩
  | 102 => ⟨S16384, .f32⟩
  | 103 => ⟨S_, .f32⟩
  | 104 => ⟨S16384, .f32⟩
  | 105 => ⟨S16384, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S16384, .f32⟩
  | 114 => ⟨S_, .f32⟩
  | 115 => ⟨S16384, .f32⟩
  | 116 => ⟨S16384, .f32⟩
  | 117 => ⟨S16384x1024, .f32⟩
  | 118 => ⟨S16384x1024, .f32⟩
  | 119 => ⟨S_, .f32⟩
  | 120 => ⟨S1024, .f32⟩
  | 121 => ⟨S1x1024, .f32⟩
  | 122 => ⟨S_, .f32⟩
  | 123 => ⟨S1024, .f32⟩
  | 124 => ⟨S16384x1024, .f32⟩
  | 125 => ⟨S_, .f32⟩
  | 126 => ⟨S1024, .f32⟩
  | 127 => ⟨S1x1024, .f32⟩
  | _ => ⟨S8x1472x1024, .f32⟩

abbrev hbmTy0_1 (i : Nat) : BufTy := match i % 128 with
  | 0 => ⟨S16384x1024, .f32⟩
  | 1 => ⟨S16384x1024, .f32⟩
  | 2 => ⟨S_, .f32⟩
  | 3 => ⟨S1024, .f32⟩
  | 4 => ⟨S16384x1024, .f32⟩
  | 5 => ⟨S_, .f32⟩
  | 6 => ⟨S16384, .f32⟩
  | 7 => ⟨S16384x1, .f32⟩
  | 8 => ⟨S16384x1024, .f32⟩
  | 9 => ⟨S16384x1024, .f32⟩
  | 10 => ⟨S16384x1, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384, .f32⟩
  | 20 => ⟨S16384x1024, .f32⟩
  | 21 => ⟨S16384x1024, .f32⟩
  | 22 => ⟨S16384x1024, .f32⟩
  | 23 => ⟨S_, .f32⟩
  | 24 => ⟨S16384, .f32⟩
  | 25 => ⟨S16384x1, .f32⟩
  | 26 => ⟨S16384x1024, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384, .f32⟩
  | 33 => ⟨S16384x1024, .f32⟩
  | 34 => ⟨S16384x1024, .f32⟩
  | 35 => ⟨S1024x2816, .f32⟩
  | 36 => ⟨S2816x1024, .f32⟩
  | 37 => ⟨S16384x2816, .f32⟩
  | 38 => ⟨S16384x2816, .f32⟩
  | 39 => ⟨S16384x2816, .f32⟩
  | 40 => ⟨S16384x2816, .f32⟩
  | 41 => ⟨S16384x2816, .f32⟩
  | 42 => ⟨S16384x2816, .f32⟩
  | 43 => ⟨S16384x2816, .f32⟩
  | 44 => ⟨S_, .f32⟩
  | 45 => ⟨S2816, .f32⟩
  | 46 => ⟨S1x2816, .f32⟩
  | 47 => ⟨S_, .f32⟩
  | 48 => ⟨S2816, .f32⟩
  | 49 => ⟨S16384x2816, .f32⟩
  | 50 => ⟨S16384x2816, .f32⟩
  | 51 => ⟨S16384x2816, .f32⟩
  | 52 => ⟨S_, .f32⟩
  | 53 => ⟨S2816, .f32⟩
  | 54 => ⟨S1x2816, .f32⟩
  | 55 => ⟨S_, .f32⟩
  | 56 => ⟨S2816, .f32⟩
  | 57 => ⟨S_, .f32⟩
  | 58 => ⟨S16386x2816, .f32⟩
  | 59 => ⟨S1x2816, .f32⟩
  | 60 => ⟨S_, .f32⟩
  | 61 => ⟨S3x2816, .f32⟩
  | 62 => ⟨S16384x2816, .f32⟩
  | 63 => ⟨S16384x2816, .f32⟩
  | 64 => ⟨S16384x2816, .f32⟩
  | 65 => ⟨S_, .f32⟩
  | 66 => ⟨S2816, .f32⟩
  | 67 => ⟨S1x2816, .f32⟩
  | 68 => ⟨S_, .f32⟩
  | 69 => ⟨S2816, .f32⟩
  | 70 => ⟨S_, .f32⟩
  | 71 => ⟨S16386x2816, .f32⟩
  | 72 => ⟨S16386x2816, .f32⟩
  | 73 => ⟨S1x2816, .f32⟩
  | 74 => ⟨S_, .f32⟩
  | 75 => ⟨S3x2816, .f32⟩
  | 76 => ⟨S3x2816, .f32⟩
  | 77 => ⟨S16384x2816, .f32⟩
  | 78 => ⟨S16384x2816, .f32⟩
  | 79 => ⟨S16384x2816, .f32⟩
  | 80 => ⟨S_, .f32⟩
  | 81 => ⟨S2816, .f32⟩
  | 82 => ⟨S1x2816, .f32⟩
  | 83 => ⟨S_, .f32⟩
  | 84 => ⟨S2816, .f32⟩
  | 85 => ⟨S_, .f32⟩
  | 86 => ⟨S16386x2816, .f32⟩
  | 87 => ⟨S16386x2816, .f32⟩
  | 88 => ⟨S1x2816, .f32⟩
  | 89 => ⟨S_, .f32⟩
  | 90 => ⟨S3x2816, .f32⟩
  | 91 => ⟨S3x2816, .f32⟩
  | 92 => ⟨S2x2816, .f32⟩
  | 93 => ⟨S16384x2816, .f32⟩
  | 94 => ⟨S8x352x1024, .f32⟩
  | 95 => ⟨S_, .i32⟩
  | 96 => ⟨S_, .i32⟩
  | 97 => ⟨S_, .i32⟩
  | 98 => ⟨S8x1472x1024, .f32⟩
  | 99 => ⟨S16384x2816, .bf16⟩
  | 100 => ⟨S16384x2816, .bf16⟩
  | 101 => ⟨S1x2816, .f32⟩
  | 102 => ⟨S_, .f32⟩
  | 103 => ⟨S4x2816, .f32⟩
  | 104 => ⟨S8x2816, .f32⟩
  | 105 => ⟨S1x1024, .f32⟩
  | 106 => ⟨S1x1024, .f32⟩
  | 107 => ⟨S_, .f32⟩
  | 108 => ⟨S6x1024, .f32⟩
  | 109 => ⟨S8x1024, .f32⟩
  | 110 => ⟨S8x128, .f32⟩
  | _ => ⟨S8x1472x1024, .f32⟩

abbrev hbmTy (i : Nat) : BufTy := match i / 128 with
  | 0 => hbmTy0_0 i
  | 1 => hbmTy0_1 i
  | _ => ⟨S8x1472x1024, .f32⟩

abbrev bufTy : (tb : Table) → Fin (tcTables nBuf tb) → BufTy
  | .hbm, ⟨i, _⟩ => hbmTy i
  | _, _ => ⟨S8x1472x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v30_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v30_1 : Ref sig .tc := ⟨.hbm, 55, rfl⟩
abbrev main_v30_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_cst_14 : Ref sig .tc := ⟨.hbm, 108, rfl⟩
abbrev main_v71 : Ref sig .tc := ⟨.hbm, 109, rfl⟩
abbrev main_cst_15 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_cst_17 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_18 : Ref sig .tc := ⟨.hbm, 119, rfl⟩
abbrev main_v78 : Ref sig .tc := ⟨.hbm, 120, rfl⟩
abbrev main_v79 : Ref sig .tc := ⟨.hbm, 121, rfl⟩
abbrev main_cst_19 : Ref sig .tc := ⟨.hbm, 122, rfl⟩
abbrev main_v80 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_21 : Ref sig .tc := ⟨.hbm, 130, rfl⟩
abbrev main_v86 : Ref sig .tc := ⟨.hbm, 131, rfl⟩
abbrev main_v87 : Ref sig .tc := ⟨.hbm, 132, rfl⟩
abbrev main_cst_22 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_23 : Ref sig .tc := ⟨.hbm, 140, rfl⟩
abbrev main_v94 : Ref sig .tc := ⟨.hbm, 141, rfl⟩
abbrev main_v95 : Ref sig .tc := ⟨.hbm, 142, rfl⟩
abbrev main_cst_24 : Ref sig .tc := ⟨.hbm, 143, rfl⟩
abbrev main_v96 : Ref sig .tc := ⟨.hbm, 144, rfl⟩
abbrev main_v97 : Ref sig .tc := ⟨.hbm, 145, rfl⟩
abbrev main_cst_25 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_26 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_27 : Ref sig .tc := ⟨.hbm, 156, rfl⟩
abbrev main_v106 : Ref sig .tc := ⟨.hbm, 157, rfl⟩
abbrev main_v107 : Ref sig .tc := ⟨.hbm, 158, rfl⟩
abbrev main_cst_28 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_call1_v0 : Ref sig .tc := ⟨.hbm, 168, rfl⟩
abbrev main_call1_v1 : Ref sig .tc := ⟨.hbm, 169, rfl⟩
abbrev main_call1_v2 : Ref sig .tc := ⟨.hbm, 170, rfl⟩
abbrev main_v116 : Ref sig .tc := ⟨.hbm, 171, rfl⟩
abbrev main_cst_29 : Ref sig .tc := ⟨.hbm, 172, rfl⟩
abbrev main_v117 : Ref sig .tc := ⟨.hbm, 173, rfl⟩
abbrev main_v118 : Ref sig .tc := ⟨.hbm, 174, rfl⟩
abbrev main_cst_30 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_31 : Ref sig .tc := ⟨.hbm, 180, rfl⟩
abbrev main_v123 : Ref sig .tc := ⟨.hbm, 181, rfl⟩
abbrev main_v124 : Ref sig .tc := ⟨.hbm, 182, rfl⟩
abbrev main_cst_32 : Ref sig .tc := ⟨.hbm, 183, rfl⟩
abbrev main_v125 : Ref sig .tc := ⟨.hbm, 184, rfl⟩
abbrev main_cst_33 : Ref sig .tc := ⟨.hbm, 185, rfl⟩
abbrev main_v126 : Ref sig .tc := ⟨.hbm, 186, rfl⟩
abbrev main_v127 : Ref sig .tc := ⟨.hbm, 187, rfl⟩
abbrev main_cst_34 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_35 : Ref sig .tc := ⟨.hbm, 193, rfl⟩
abbrev main_v132 : Ref sig .tc := ⟨.hbm, 194, rfl⟩
abbrev main_v133 : Ref sig .tc := ⟨.hbm, 195, rfl⟩
abbrev main_cst_36 : Ref sig .tc := ⟨.hbm, 196, rfl⟩
abbrev main_v134 : Ref sig .tc := ⟨.hbm, 197, rfl⟩
abbrev main_cst_37 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_cst_38 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_39 : Ref sig .tc := ⟨.hbm, 208, rfl⟩
abbrev main_v143 : Ref sig .tc := ⟨.hbm, 209, rfl⟩
abbrev main_v144 : Ref sig .tc := ⟨.hbm, 210, rfl⟩
abbrev main_cst_40 : Ref sig .tc := ⟨.hbm, 211, rfl⟩
abbrev main_v145 : Ref sig .tc := ⟨.hbm, 212, rfl⟩
abbrev main_cst_41 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_42 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_c : Ref sig .tc := ⟨.hbm, 223, rfl⟩
abbrev main_c_43 : Ref sig .tc := ⟨.hbm, 224, rfl⟩
abbrev main_c_44 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_cst_45 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_46 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩

abbrev nD : Nat := 1
abbrev τ : Topo := Topo.v7x

variable {F : FTy → Type} [FloatOps F]
-- ==== Kernel7.lean ====
abbrev S256x1024 : Shape := ⟨2, ![256, 1024]⟩
abbrev S1024x256 : Shape := ⟨2, ![1024, 256]⟩
abbrev S256x256x4 : Shape := ⟨3, ![256, 256, 4]⟩
abbrev S4x256x256 : Shape := ⟨3, ![4, 256, 256]⟩
abbrev S256x256 : Shape := ⟨2, ![256, 256]⟩
abbrev S1x256x256 : Shape := ⟨3, ![1, 256, 256]⟩

abbrev nBuf : Space → Nat
  | .hbm => 12
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .hbm, ⟨2, _⟩ => ⟨S1024x256, .f32⟩
  | .hbm, ⟨3, _⟩ => ⟨S256x256x4, .f32⟩
  | .hbm, ⟨4, _⟩ => ⟨S4x256x256, .f32⟩
  | .hbm, ⟨5, _⟩ => ⟨S4x256x256, .bf16⟩
  | .hbm, ⟨6, _⟩ => ⟨S256x1024, .f32⟩
  | .hbm, ⟨7, _⟩ => ⟨S256x1024, .bf16⟩
  | .hbm, ⟨8, _⟩ => ⟨S256x1024, .f32⟩
  | .hbm, ⟨9, _⟩ => ⟨S256x1024, .bf16⟩
  | .hbm, ⟨10, _⟩ => ⟨S256x256, .f32⟩
  | .hbm, ⟨11, _⟩ => ⟨S256x256, .f32⟩
  | .local _ .vmem, ⟨0, _⟩ => ⟨S4x256x256, .bf16⟩
  | .local _ .vmem, ⟨1, _⟩ => ⟨S256x1024, .bf16⟩
  | .local _ .vmem, ⟨2, _⟩ => ⟨S256x1024, .bf16⟩
  | .local _ .vmem, ⟨3, _⟩ => ⟨S256x256, .f32⟩
  | .local _ .vmem, ⟨4, _⟩ => ⟨S256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference7Ideal.lean ====
abbrev S256x1024 : Shape := ⟨2, ![256, 1024]⟩
abbrev S1024x256 : Shape := ⟨2, ![1024, 256]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x256, .f32⟩
  | .hbm, ⟨2, _⟩ => ⟨S1024x256, .f32⟩
  | .hbm, ⟨3, _⟩ => ⟨S256x256, .f32⟩
  | .hbm, ⟨4, _⟩ => ⟨S256x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S2x31x48 : Shape := ⟨3, ![2, 31, 48]⟩
abbrev S2x3x344 : Shape := ⟨3, ![2, 3, 344]⟩
abbrev S2x2752 : Shape := ⟨2, ![2, 2752]⟩

abbrev nBuf : Space → Nat
  | .hbm => 21
  | .vmem => 21
  | .smem => 0
  | _ => 0

abbrev bufTy : (tb : Table) → Fin (tcTables nBuf tb) → BufTy
  | .hbm, ⟨0, _⟩ => ⟨S2x31x48, .f32⟩
  | .hbm, ⟨1, _⟩ => ⟨S2x31x48, .f32⟩
  | .hbm, ⟨2, _⟩ => ⟨S2x31x48, .f32⟩
  | .hbm, ⟨3, _⟩ => ⟨S2x31x48, .f32⟩
  | .hbm, ⟨4, _⟩ => ⟨S2x3x344, .f32⟩
  | .hbm, ⟨5, _⟩ => ⟨S2x3x344, .f32⟩
  | .hbm, ⟨6, _⟩ => ⟨S2x3x344, .f32⟩
  | .hbm, ⟨7, _⟩ => ⟨S2x3x344, .f32⟩
  | .hbm, ⟨8, _⟩ => ⟨S2x2752, .f32⟩
  | .hbm, ⟨9, _⟩ => ⟨S2x2752, .f32⟩
  | .hbm, ⟨10, _⟩ => ⟨S2x2752, .f32⟩
  | .hbm, ⟨11, _⟩ => ⟨S2x2752, .f32⟩
  | .hbm, ⟨12, _⟩ => ⟨S2x31x48, .f32⟩
  | .hbm, ⟨13, _⟩ => ⟨S2x31x48, .f32⟩
  | .hbm, ⟨14, _⟩ => ⟨S2x31x48, .f32⟩
  | .hbm, ⟨15, _⟩ => ⟨S2x3x344, .f32⟩
  | .hbm, ⟨16, _⟩ => ⟨S2x3x344, .f32⟩
  | .hbm, ⟨17, _⟩ => ⟨S2x3x344, .f32⟩
  | .hbm, ⟨18, _⟩ => ⟨S2x2752, .f32⟩
  | .hbm, ⟨19, _⟩ => ⟨S2x2752, .f32⟩
  | .hbm, ⟨20, _⟩ => ⟨S2x2752, .f32⟩
  | .local _ .vmem, ⟨0, _⟩ => ⟨S2x31x48, .f32⟩
  | .local _ .vmem, ⟨1, _⟩ => ⟨S2x31x48, .f32⟩
  | .local _ .vmem, ⟨2, _⟩ => ⟨S2x31x48, .f32⟩
  | .local _ .vmem, ⟨3, _⟩ => ⟨S2x31x48, .f32⟩
  | .local _ .vmem, ⟨4, _⟩ => ⟨S2x3x344, .f32⟩
  | .local _ .vmem, ⟨5, _⟩ => ⟨S2x3x344, .f32⟩
  | .local _ .vmem, ⟨6, _⟩ => ⟨S2x3x344, .f32⟩
  | .local _ .vmem, ⟨7, _⟩ => ⟨S2x3x344, .f32⟩
  | .local _ .vmem, ⟨8, _⟩ => ⟨S2x2752, .f32⟩
  | .local _ .vmem, ⟨9, _⟩ => ⟨S2x2752, .f32⟩
  | .local _ .vmem, ⟨10, _⟩ => ⟨S2x2752, .f32⟩
  | .local _ .vmem, ⟨11, _⟩ => ⟨S2x2752, .f32⟩
  | .local _ .vmem, ⟨12, _⟩ => ⟨S2x31x48, .f32⟩
  | .local _ .vmem, ⟨13, _⟩ => ⟨S2x31x48, .f32⟩
  | .local _ .vmem, ⟨14, _⟩ => ⟨S2x31x48, .f32⟩
  | .local _ .vmem, ⟨15, _⟩ => ⟨S2x3x344, .f32⟩
  | .local _ .vmem, ⟨16, _⟩ => ⟨S2x3x344, .f32⟩
  | .local _ .vmem, ⟨17, _⟩ => ⟨S2x3x344, .f32⟩
  | .local _ .vmem, ⟨18, _⟩ => ⟨S2x2752, .f32⟩
  | .local _ .vmem, ⟨19, _⟩ => ⟨S2x2752, .f32⟩
  | .local _ .vmem, ⟨20, _⟩ => ⟨S2x2752, .f32⟩
  | _, _ => ⟨S2x31x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x31x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x31x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x31x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x31x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x344 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x344 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x344 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3x344 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2752 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x2752 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2752 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2752 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x31x48 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x31x48 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x31x48 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x3x344 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x3x344 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x344 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x2752 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x2752 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2752 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference8Ideal.lean ====
abbrev S2x31x48 : Shape := ⟨3, ![2, 31, 48]⟩
abbrev S2x3x344 : Shape := ⟨3, ![2, 3, 344]⟩
abbrev S2x2752 : Shape := ⟨2, ![2, 2752]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x31x48, .f32⟩
  | .hbm, ⟨1, _⟩ => ⟨S2x31x48, .f32⟩
  | .hbm, ⟨2, _⟩ => ⟨S2x31x48, .f32⟩
  | .hbm, ⟨3, _⟩ => ⟨S2x31x48, .f32⟩
  | .hbm, ⟨4, _⟩ => ⟨S2x3x344, .f32⟩
  | .hbm, ⟨5, _⟩ => ⟨S2x3x344, .f32⟩
  | .hbm, ⟨6, _⟩ => ⟨S2x3x344, .f32⟩
  | .hbm, ⟨7, _⟩ => ⟨S2x3x344, .f32⟩
  | .hbm, ⟨8, _⟩ => ⟨S2x2752, .f32⟩
  | .hbm, ⟨9, _⟩ => ⟨S2x2752, .f32⟩
  | .hbm, ⟨10, _⟩ => ⟨S2x2752, .f32⟩
  | .hbm, ⟨11, _⟩ => ⟨S2x2752, .f32⟩
  | .hbm, ⟨12, _⟩ => ⟨S_, .f32⟩
  | .hbm, ⟨13, _⟩ => ⟨S2x31x48, .f32⟩
  | .hbm, ⟨14, _⟩ => ⟨S2x31x48, .f32⟩
  | .hbm, ⟨15, _⟩ => ⟨S_, .f32⟩
  | .hbm, ⟨16, _⟩ => ⟨S2x31x48, .f32⟩
  | .hbm, ⟨17, _⟩ => ⟨S2x31x48, .f32⟩
  | .hbm, ⟨18, _⟩ => ⟨S2x31x48, .f32⟩
  | .hbm, ⟨19, _⟩ => ⟨S_, .f32⟩
  | .hbm, ⟨20, _⟩ => ⟨S2x31x48, .f32⟩
  | .hbm, ⟨21, _⟩ => ⟨S2x31x48, .f32⟩
  | .hbm, ⟨22, _⟩ => ⟨S2x31x48, .f32⟩
  | .hbm, ⟨23, _⟩ => ⟨S_, .f32⟩
  | .hbm, ⟨24, _⟩ => ⟨S2x31x48, .f32⟩
  | .hbm, ⟨25, _⟩ => ⟨S2x31x48, .f32⟩
  | .hbm, ⟨26, _⟩ => ⟨S2x31x48, .f32⟩
  | .hbm, ⟨27, _⟩ => ⟨S_, .f32⟩
  | .hbm, ⟨28, _⟩ => ⟨S2x31x48, .f32⟩
  | .hbm, ⟨29, _⟩ => ⟨S2x31x48, .f32⟩
  | .hbm, ⟨30, _⟩ => ⟨S_, .f32⟩
  | .hbm, ⟨31, _⟩ => ⟨S2x31x48, .f32⟩
  | .hbm, ⟨32, _⟩ => ⟨S2x31x48, .f32⟩
  | .hbm, ⟨33, _⟩ => ⟨S2x31x48, .f32⟩
  | .hbm, ⟨34, _⟩ => ⟨S_, .f32⟩
  | .hbm, ⟨35, _⟩ => ⟨S2x31x48, .f32⟩
  | .hbm, ⟨36, _⟩ => ⟨S2x31x48, .f32⟩
  | .hbm, ⟨37, _⟩ => ⟨S2x31x48, .f32⟩
  | .hbm, ⟨38, _⟩ => ⟨S_, .f32⟩
  | .hbm, ⟨39, _⟩ => ⟨S2x31x48, .f32⟩
  | .hbm, ⟨40, _⟩ => ⟨S2x31x48, .f32⟩
  | .hbm, ⟨41, _⟩ => ⟨S2x31x48, .f32⟩
  | .hbm, ⟨42, _⟩ => ⟨S_, .f32⟩
  | .hbm, ⟨43, _⟩ => ⟨S2x31x48, .f32⟩
  | .hbm, ⟨44, _⟩ => ⟨S2x31x48, .f32⟩
  | .hbm, ⟨45, _⟩ => ⟨S_, .f32⟩
  | .hbm, ⟨46, _⟩ => ⟨S2x3x344, .f32⟩
  | .hbm, ⟨47, _⟩ => ⟨S2x3x344, .f32⟩
  | .hbm, ⟨48, _⟩ => ⟨S_, .f32⟩
  | .hbm, ⟨49, _⟩ => ⟨S2x3x344, .f32⟩
  | .hbm, ⟨50, _⟩ => ⟨S2x3x344, .f32⟩
  | .hbm, ⟨51, _⟩ => ⟨S2x3x344, .f32⟩
  | .hbm, ⟨52, _⟩ => ⟨S_, .f32⟩
  | .hbm, ⟨53, _⟩ => ⟨S2x3x344, .f32⟩
  | .hbm, ⟨54, _⟩ => ⟨S2x3x344, .f32⟩
  | .hbm, ⟨55, _⟩ => ⟨S2x3x344, .f32⟩
  | .hbm, ⟨56, _⟩ => ⟨S_, .f32⟩
  | .hbm, ⟨57, _⟩ => ⟨S2x3x344, .f32⟩
  | .hbm, ⟨58, _⟩ => ⟨S2x3x344, .f32⟩
  | .hbm, ⟨59, _⟩ => ⟨S2x3x344, .f32⟩
  | .hbm, ⟨60, _⟩ => ⟨S_, .f32⟩
  | .hbm, ⟨61, _⟩ => ⟨S2x3x344, .f32⟩
  | .hbm, ⟨62, _⟩ => ⟨S2x3x344, .f32⟩
  | .hbm, ⟨63, _⟩ => ⟨S_, .f32⟩
  | .hbm, ⟨64, _⟩ => ⟨S2x3x344, .f32⟩
  | .hbm, ⟨65, _⟩ => ⟨S2x3x344, .f32⟩
  | .hbm, ⟨66, _⟩ => ⟨S2x3x344, .f32⟩
  | .hbm, ⟨67, _⟩ => ⟨S_, .f32⟩
  | .hbm, ⟨68, _⟩ => ⟨S2x3x344, .f32⟩
  | .hbm, ⟨69, _⟩ => ⟨S2x3x344, .f32⟩
  | .hbm, ⟨70, _⟩ => ⟨S2x3x344, .f32⟩
  | .hbm, ⟨71, _⟩ => ⟨S_, .f32⟩
  | .hbm, ⟨72, _⟩ => ⟨S2x3x344, .f32⟩
  | .hbm, ⟨73, _⟩ => ⟨S2x3x344, .f32⟩
  | .hbm, ⟨74, _⟩ => ⟨S2x3x344, .f32⟩
  | .hbm, ⟨75, _⟩ => ⟨S_, .f32⟩
  | .hbm, ⟨76, _⟩ => ⟨S2x3x344, .f32⟩
  | .hbm, ⟨77, _⟩ => ⟨S2x3x344, .f32⟩
  | .hbm, ⟨78, _⟩ => ⟨S_, .f32⟩
  | .hbm, ⟨79, _⟩ => ⟨S2x2752, .f32⟩
  | .hbm, ⟨80, _⟩ => ⟨S2x2752, .f32⟩
  | .hbm, ⟨81, _⟩ => ⟨S_, .f32⟩
  | .hbm, ⟨82, _⟩ => ⟨S2x2752, .f32⟩
  | .hbm, ⟨83, _⟩ => ⟨S2x2752, .f32⟩
  | .hbm, ⟨84, _⟩ => ⟨S2x2752, .f32⟩
  | .hbm, ⟨85, _⟩ => ⟨S_, .f32⟩
  | .hbm, ⟨86, _⟩ => ⟨S2x2752, .f32⟩
  | .hbm, ⟨87, _⟩ => ⟨S2x2752, .f32⟩
  | .hbm, ⟨88, _⟩ => ⟨S2x2752, .f32⟩
  | .hbm, ⟨89, _⟩ => ⟨S_, .f32⟩
  | .hbm, ⟨90, _⟩ => ⟨S2x2752, .f32⟩
  | .hbm, ⟨91, _⟩ => ⟨S2x2752, .f32⟩
  | .hbm, ⟨92, _⟩ => ⟨S2x2752, .f32⟩
  | .hbm, ⟨93, _⟩ => ⟨S_, .f32⟩
  | .hbm, ⟨94, _⟩ => ⟨S2x2752, .f32⟩
  | .hbm, ⟨95, _⟩ => ⟨S2x2752, .f32⟩
  | .hbm, ⟨96, _⟩ => ⟨S_, .f32⟩
  | .hbm, ⟨97, _⟩ => ⟨S2x2752, .f32⟩
  | .hbm, ⟨98, _⟩ => ⟨S2x2752, .f32⟩
  | .hbm, ⟨99, _⟩ => ⟨S2x2752, .f32⟩
  | .hbm, ⟨100, _⟩ => ⟨S_, .f32⟩
  | .hbm, ⟨101, _⟩ => ⟨S2x2752, .f32⟩
  | .hbm, ⟨102, _⟩ => ⟨S2x2752, .f32⟩
  | .hbm, ⟨103, _⟩ => ⟨S2x2752, .f32⟩
  | .hbm, ⟨104, _⟩ => ⟨S_, .f32⟩
  | .hbm, ⟨105, _⟩ => ⟨S2x2752, .f32⟩
  | .hbm, ⟨106, _⟩ => ⟨S2x2752, .f32⟩
  | .hbm, ⟨107, _⟩ => ⟨S2x2752, .f32⟩
  | .hbm, ⟨108, _⟩ => ⟨S_, .f32⟩
  | .hbm, ⟨109, _⟩ => ⟨S2x2752, .f32⟩
  | .hbm, ⟨110, _⟩ => ⟨S2x2752, .f32⟩
  | _, _ => ⟨S2x31x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.FfnMath.lean ====
module

public import Idealize.ShloMosaic.Lib.IdealHost

@[expose] public section

noncomputable section

namespace Cert.Ffn

open Idealize.ShloMosaic

/-- A real number among the extended reals. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩

theorem coe_sum {ι : Type} [Fintype ι] (f : ι → ℝ) : (∑ i, ((f i : ℝ) : EReal)) = ((∑ i, f i : ℝ) : EReal) :=
  (map_sum (⟨⟨fun r : ℝ => (r : EReal), EReal.coe_zero⟩, EReal.coe_add⟩ : ℝ →+ EReal) f Finset.univ).symm

theorem isR_sum {ι : Type} [Fintype ι] {f : ι → EReal} (h : ∀ i, IsR (f i)) : IsR (∑ i, f i) := by
  choose g hg using h
  rw [funext hg, coe_sum]
  exact isR_coe _

theorem isR_of_lt {x : EReal} (h : max x (-x) < ⊤) : IsR x := by
  induction x using EReal.rec with
  | bot => simp at h
  | top => simp at h
  | coe r => exact ⟨r, rfl⟩

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe {v : ℝ} (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.2 hv.le), if_neg hv.ne']

/-- The sigmoid of a real number is real. -/
theorem isR_sigmoid {x : EReal} (hx : IsR x) : IsR (Ideal.div 1 (1 + Ideal.exp (-x))) := by
  obtain ⟨r, rfl⟩ := hx
  rw [← EReal.coe_neg, show Ideal.exp ((-r : ℝ) : EReal) = ((Real.exp (-r) : ℝ) : EReal) from rfl, ← EReal.coe_one, ← EReal.coe_add,
    div_coe _ (by positivity)]
  exact isR_coe _

abbrev c1024 : EReal := Ideal.ofBits .f32 1149239296#32
abbrev cEps : EReal := Ideal.ofBits .f32 925353388#32
abbrev cTwo : EReal := Ideal.ofBits .f32 1073741824#32
abbrev cHalf : EReal := Ideal.ofBits .f32 3204448256#32

theorem c1024_eq : c1024 = ((1024 : ℝ) : EReal) := by
  unfold c1024; simp [Ideal.ofBits, Ideal.ieee, -EReal.coe_mul, -EReal.coe_neg]; norm_num
theorem cTwo_eq : cTwo = ((2 : ℝ) : EReal) := by
  unfold cTwo; simp [Ideal.ofBits, Ideal.ieee, -EReal.coe_mul]; norm_num
theorem cHalf_eq : cHalf = ((-(1 / 2) : ℝ) : EReal) := by
  unfold cHalf; simp [Ideal.ofBits, Ideal.ieee, -EReal.coe_mul, -EReal.coe_neg]; norm_num
theorem cEps_eq : ∃ e : ℝ, 0 < e ∧ cEps = (e : EReal) := by
  unfold cEps; simp [Ideal.ofBits, Ideal.ieee, -EReal.coe_mul]
theorem isR_alpha : IsR (Ideal.ofBits .f32 1068827891#32) := by
  simp [Ideal.ofBits, Ideal.ieee, -EReal.coe_mul]; exact isR_coe _

section norm
variable (Z C G : Fin 1024 → EReal)

/-- A row's mean, its distance from it, and its variance. -/
def mu : EReal := Ideal.div (∑ x, Z x) c1024
def zc (b : Fin 1024) : EReal := Z b - mu Z
def vr : EReal := Ideal.div (∑ x, zc Z x * zc Z x) c1024 + cEps

/-- The layer norm's derivative as the kernel writes it. -/
def lnK (b : Fin 1024) : EReal :=
  Ideal.rsqrt (vr Z) * (C b * G b - Ideal.div (∑ x, C x * G x) c1024
    - zc Z b * Ideal.rsqrt (vr Z) * Ideal.div (∑ x, C x * G x * (zc Z x * Ideal.rsqrt (vr Z))) c1024)

/-- The part of the derivative that goes through the variance. -/
def lnA : EReal := Ideal.div ((∑ x, zc Z x * (C x * G x)) * (cHalf * Ideal.div (Ideal.rsqrt (vr Z)) (vr Z))) c1024

/-- The layer norm's derivative step by step. -/
def lnR (b : Fin 1024) : EReal :=
  C b * G b * Ideal.rsqrt (vr Z) + lnA Z C G * (cTwo * zc Z b)
    + Ideal.div ((∑ x, -(C x * G x * Ideal.rsqrt (vr Z))) + ∑ x, -(lnA Z C G * (cTwo * zc Z x))) c1024

theorem ln_real (z c g : Fin 1024 → ℝ) (r v : ℝ) (hv : v ≠ 0) (hr : r * r = 1 / v) (b : Fin 1024) :
    r * (c b * g b - (∑ x, c x * g x) / 1024 - (z b - (∑ x, z x) / 1024) * r * ((∑ x, c x * g x * ((z x - (∑ x, z x) / 1024) * r)) / 1024))
    = c b * g b * r + ((∑ x, (z x - (∑ x, z x) / 1024) * (c x * g x)) * (-(1 / 2) * (r / v))) / 1024 * (2 * (z b - (∑ x, z x) / 1024))
      + ((∑ x, -(c x * g x * r)) + ∑ x, -(((∑ x, (z x - (∑ x, z x) / 1024) * (c x * g x)) * (-(1 / 2) * (r / v))) / 1024 * (2 * (z x - (∑ x, z x) / 1024)))) / 1024 := by
  have h0 : (∑ x, (z x - (∑ x, z x) / 1024)) = 0 := by
    rw [Finset.sum_sub_distrib, Finset.sum_const, Finset.card_univ, Fintype.card_fin, nsmul_eq_mul]
    push_cast; ring
  generalize (∑ x, z x) / 1024 = m at h0 ⊢
  have h1 : (∑ x, c x * g x * ((z x - m) * r)) = (∑ x, (z x - m) * (c x * g x)) * r := by
    rw [Finset.sum_mul]; exact Finset.sum_congr rfl fun x _ => by ring
  rw [h1]
  generalize (∑ x, (z x - m) * (c x * g x)) = T
  have h2 : ∀ A : ℝ, (∑ x, -(A * (2 * (z x - m)))) = 0 := fun A => by
    rw [Finset.sum_neg_distrib, ← Finset.mul_sum, ← Finset.mul_sum, h0]; ring
  rw [h2, Finset.sum_neg_distrib, ← Finset.sum_mul]
  have h3 : r / v = r * (r * r) := by rw [hr]; ring
  rw [h3]; ring

theorem ln_eq (hZ : ∀ x, IsR (Z x)) (hC : ∀ x, IsR (C x)) (hG : ∀ x, IsR (G x)) (b : Fin 1024) : lnK Z C G b = lnR Z C G b ∧ IsR (lnR Z C G b) := by
  choose z hz using hZ
  choose c hc using hC
  choose g hg using hG
  obtain rfl : Z = fun x => (z x : EReal) := funext hz
  obtain rfl : C = fun x => (c x : EReal) := funext hc
  obtain rfl : G = fun x => (g x : EReal) := funext hg
  obtain ⟨e, he, hE⟩ := cEps_eq
  have k : (1024 : ℝ) ≠ 0 := by norm_num
  have hm : mu (fun x => (z x : EReal)) = (((∑ x, z x) / 1024 : ℝ) : EReal) := by
    rw [mu, coe_sum, c1024_eq, div_coe _ k]
  have hzc : ∀ x, zc (fun x => (z x : EReal)) x = ((z x - (∑ x, z x) / 1024 : ℝ) : EReal) := fun x => by
    rw [zc, hm, EReal.coe_sub]
  obtain ⟨v, hv, hvr⟩ : ∃ v : ℝ, 0 < v ∧ vr (fun x => (z x : EReal)) = (v : EReal) := by
    refine ⟨(∑ x, (z x - (∑ x, z x) / 1024) * (z x - (∑ x, z x) / 1024)) / 1024 + e,
      add_pos_of_nonneg_of_pos (div_nonneg (Finset.sum_nonneg fun x _ => mul_self_nonneg _) (by norm_num)) he, ?_⟩
    simp only [vr, hzc, ← EReal.coe_mul, coe_sum]
    rw [hE, c1024_eq, div_coe _ k, EReal.coe_add]
  constructor
  · simp only [lnK, lnR, lnA, hzc, hvr, rsqrt_coe hv, c1024_eq, cTwo_eq, cHalf_eq, ← EReal.coe_mul, coe_sum, div_coe _ hv.ne', div_coe _ k, ← EReal.coe_neg,
      ← EReal.coe_add, ← EReal.coe_sub]
    refine congrArg _ (ln_real z c g _ v hv.ne' ?_ b)
    rw [← mul_inv, Real.mul_self_sqrt hv.le, one_div]
  · simp only [lnR, lnA, hzc, hvr, rsqrt_coe hv, c1024_eq, cTwo_eq, cHalf_eq, ← EReal.coe_mul, coe_sum, div_coe _ hv.ne', div_coe _ k, ← EReal.coe_neg,
      ← EReal.coe_add]
    exact isR_coe _

end norm

/-- The gate's derivative, both ways of writing it. -/
theorem gate_eq {d u s a : EReal} (hd : IsR d) (hu : IsR u) (hs : IsR s) (ha : IsR a) :
    d * u * (s * (1 + a * (1 - s))) = d * u * s + a * (d * u) * (s * (1 - s)) := by
  obtain ⟨d, rfl⟩ := hd; obtain ⟨u, rfl⟩ := hu; obtain ⟨s, rfl⟩ := hs; obtain ⟨a, rfl⟩ := ha
  simp only [← EReal.coe_one, ← EReal.coe_mul, ← EReal.coe_sub, ← EReal.coe_add]
  exact congrArg _ (by ring)

end Cert.Ffn

end
-- ==== Proof.FfnPre.lean ====
module

public import proofs.«01_k».proof.Pre_finite
public import proofs.«01_k».proof.Proof.FfnMath
public import Idealize.ShloMosaic.Lib.Pipeline.ValueKit

@[expose] public section

noncomputable section

namespace Cert.Pre_finite

open Idealize.ShloMosaic

/-- The shapes of the predicate's comparisons. -/
theorem facts : Facts := by
  constructor <;> decide

theorem isR_of_one {S : Shape} (hb : S_.BroadcastsInDim S (![] : Fin 0 → Fin S.rank)) (x : FVec Ideal S .f32)
    (h : cmpf .olt (Host.absf x) (broadcastInDim S ![] hb (constant S_ .f32 0x7F800000#32)) = fun _ => 1#1) (i : S.Idx) : Cert.Ffn.IsR (x i) := by
  have h1 := congrFun h i
  have h2 : Ideal.ofBits .f32 0x7F800000#32 = ⊤ := by
    simp [Ideal.ofBits, Ideal.ieee]
  have h3 : cmpf (F := Ideal) .olt (Host.absf x) (broadcastInDim S ![] hb (constant S_ .f32 0x7F800000#32)) i = BitVec.ofBool (decide (max (x i) (-(x i)) < Ideal.ofBits .f32 0x7F800000#32)) := by
    rfl
  rw [h3, h2] at h1
  refine Cert.Ffn.isR_of_lt ?_
  by_contra hc
  rw [decide_eq_false hc] at h1
  exact absurd h1 (by decide)

end Cert.Pre_finite

end
-- ==== Proof.ProjBody.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The result left in HBM, and the accumulator. -/
abbrev hbM6 : Memref sig .tc .hbm S8x1472x1024 .f32 := Memref.whole main_v2_0
abbrev scM8 : Memref sig .tc .vmem S2816x1024 .f32 := Memref.whole cc0_scratch0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The first point's condition and the last point's, as printed. -/
abbrev isFirst (i : grid0.Coords) : Prop :=
  Scalar.cmpi .ne (Scalar.extui (Scalar.cmpi .eq (BitVec.ofNat 32 (i 0).val) 0#32) : BitVec 32) 0#32 = 1#1
abbrev isLast (i : grid0.Coords) : Prop :=
  Scalar.cmpi .ne (Scalar.extui (Scalar.cmpi .eq (BitVec.ofNat 32 (i 0).val) 31#32) : BitVec 32) 0#32 = 1#1

theorem hb_of_eq (c : Dev nD) {f g : S8x1472x1024.Idx → Elt F .f32} (h : f = g) : (hbPt c hbM6 f : sProp 𝕄) ⊢ hbPt c hbM6 g := by subst h; exact .rfl

/-- A load of a whole buffer reads what the buffer is held at. -/
theorem load_full {κ : Kind} {sp : Space} {s : Shape} {e : EltTy} (v : View sig κ sp s e) (f : v.ty.Contents (Elt F)) {off : Fin s.rank → ℕ}
    (inb : ∀ a, off a + s.size a ≤ s.size a) {X : s.Idx → Elt F e} (h : View.read (Elt F) v f = X) :
    View.readAt (Elt F) v (Rect.unit off s.size inb).toLoadRect f = X := (View.readAt_full v f inb).trans h

/-- A copy into rows of the result left in HBM, through the squeezed slice the body names, is an update of it. -/
theorem write_rows (off : Fin 3 → ℕ) (inb : ∀ a, off a + S1x704x1024.size a ≤ S8x1472x1024.size a) (hst) (hsq)
    (f : S8x1472x1024.Idx → Elt F .f32) (w : S704x1024.Idx → Elt F .f32) :
    View.write (Elt F) ((hbM6.slice (Rect.unit (s := S8x1472x1024) off S1x704x1024.size inb) hst).squeeze S704x1024 hsq).view f w Finset.univ
      = updateSlice f (shapeCast S1x704x1024 w (by decide)) off ⟨rfl, inb⟩ := by
  refine (View.write_reshape_univ _ _ _ _).trans ?_
  exact View.write_whole_slice_unit main_v2_0 off S1x704x1024.size inb f _

/-- The rows of the accumulator a copy reads. -/
def accRows (off : Fin 2 → ℕ) (inb : ∀ a, off a + S704x1024.size a ≤ S2816x1024.size a) (A : S2816x1024.Idx → Elt F .f32) : S704x1024.Idx → Elt F .f32 :=
  fun x => A ((Rect.unit (s := S2816x1024) off S704x1024.size inb).emb x)

theorem read_rows (off : Fin 2 → ℕ) (inb : ∀ a, off a + S704x1024.size a ≤ S2816x1024.size a) (hst) (f : BufTy.Contents (Elt F) scM8.view.ty) (A)
    (h : View.read (Elt F) scM8.view f = A) :
    View.read (Elt F) (scM8.slice (Rect.unit (s := S2816x1024) off S704x1024.size inb) hst).view f = accRows off inb A := by
  subst h; rfl

/-- The result left in HBM after the last point: the accumulator's four row groups over rows 352 to 1055 of its first four slabs. -/
def slabsOf (f : S8x1472x1024.Idx → Elt F .f32) (A : S2816x1024.Idx → Elt F .f32) : S8x1472x1024.Idx → Elt F .f32 :=
  updateSlice (updateSlice (updateSlice (updateSlice f
    (shapeCast S1x704x1024 (accRows ![0, 0] inb_S2816x1024_S704x1024_0_0 A) (by decide)) ![0, 352, 0] ⟨rfl, inb_S8x1472x1024_S1x704x1024_0_352_0⟩)
    (shapeCast S1x704x1024 (accRows ![704, 0] inb_S2816x1024_S704x1024_704_0 A) (by decide)) ![1, 352, 0] ⟨rfl, inb_S8x1472x1024_S1x704x1024_1_352_0⟩)
    (shapeCast S1x704x1024 (accRows ![1408, 0] inb_S2816x1024_S704x1024_1408_0 A) (by decide)) ![2, 352, 0] ⟨rfl, inb_S8x1472x1024_S1x704x1024_2_352_0⟩)
    (shapeCast S1x704x1024 (accRows ![2112, 0] inb_S2816x1024_S704x1024_2112_0 A) (by decide)) ![3, 352, 0] ⟨rfl, inb_S8x1472x1024_S1x704x1024_3_352_0⟩

/-- The same as the run writes it: four writes through the squeezed slices. -/
def slabsW (f : S8x1472x1024.Idx → Elt F .f32) (A : S2816x1024.Idx → Elt F .f32) : S8x1472x1024.Idx → Elt F .f32 :=
  View.write (Elt F) ((hbM6.slice (Rect.unit (s := S8x1472x1024) ![3, 352, 0] S1x704x1024.size inb_S8x1472x1024_S1x704x1024_3_352_0) (fun _ => rfl)).squeeze S704x1024 squeezes_S1x704x1024_S704x1024).view
    (View.write (Elt F) ((hbM6.slice (Rect.unit (s := S8x1472x1024) ![2, 352, 0] S1x704x1024.size inb_S8x1472x1024_S1x704x1024_2_352_0) (fun _ => rfl)).squeeze S704x1024 squeezes_S1x704x1024_S704x1024).view
      (View.write (Elt F) ((hbM6.slice (Rect.unit (s := S8x1472x1024) ![1, 352, 0] S1x704x1024.size inb_S8x1472x1024_S1x704x1024_1_352_0) (fun _ => rfl)).squeeze S704x1024 squeezes_S1x704x1024_S704x1024).view
        (View.write (Elt F) ((hbM6.slice (Rect.unit (s := S8x1472x1024) ![0, 352, 0] S1x704x1024.size inb_S8x1472x1024_S1x704x1024_0_352_0) (fun _ => rfl)).squeeze S704x1024 squeezes_S1x704x1024_S704x1024).view f
          (accRows ![0, 0] inb_S2816x1024_S704x1024_0_0 A) Finset.univ)
        (accRows ![704, 0] inb_S2816x1024_S704x1024_704_0 A) Finset.univ)
      (accRows ![1408, 0] inb_S2816x1024_S704x1024_1408_0 A) Finset.univ)
    (accRows ![2112, 0] inb_S2816x1024_S704x1024_2112_0 A) Finset.univ

theorem slabsW_eq (f : S8x1472x1024.Idx → Elt F .f32) (A : S2816x1024.Idx → Elt F .f32) : slabsW f A = slabsOf f A := by
  unfold slabsOf slabsW
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  exact write_rows _ _ _ _ _ _

section run
variable (c : Dev nD) (i : grid0.Coords)
  (arg1 : Memref sig .tc .hbm S8x1472x1024 .f32) (harg1 : arg1.IsWhole)
  (arg2 : Memref sig .tc .vmem S512x2816 .bf16) (harg2 : arg2.IsWhole)
  (arg3 : Memref sig .tc .vmem S2816x1024 .bf16) (harg3 : arg3.IsWhole)
  (arg4 : Memref sig .tc .vmem S512x1024 .f32) (harg4 : arg4.IsWhole)
  (arg5 : Memref sig .tc .vmem S512x1024 .f32) (harg5 : arg5.IsWhole)
  (arg7 : Memref sig .tc .vmem S512x1024 .f32) (harg7 : arg7.IsWhole)
  (D : Vec F S512x2816 .bf16) (Wt : Vec F S2816x1024 .bf16) (X : Vec F S512x1024 .f32) (Z : Vec F S512x1024 .f32)
  (A : Vec F S2816x1024 .f32)

/-- A middle point: the result block is the product with the addend, the accumulator grows by the block's product. -/
theorem run_mid (h1 : ¬ isFirst i) (h2 : ¬ isLast i) (K : PUnit → sProp 𝕄) :
    iprop(owns (c : Thread nD τ) arg2 fullShare D ∗ owns (c : Thread nD τ) arg3 fullShare Wt
        ∗ owns (c : Thread nD τ) arg4 fullShare X ∗ owns (c : Thread nD τ) arg5 fullShare Z
        ∗ (∃ d, owns (c : Thread nD τ) arg7 fullShare d) ∗ owns (c : Thread nD τ) scM8 fullShare A
        ∗ (iprop(owns (c : Thread nD τ) arg2 fullShare D ∗ owns (c : Thread nD τ) arg3 fullShare Wt
            ∗ owns (c : Thread nD τ) arg4 fullShare X ∗ owns (c : Thread nD τ) arg5 fullShare Z
            ∗ owns (c : Thread nD τ) arg7 fullShare (k0_pay2 D Wt Z)
            ∗ owns (c : Thread nD τ) scM8 fullShare (k0_pay3 D A X)) -∗ K ⟨⟩))
      ⊢ wp frame (wpE (defs₀ (F := F)) Variants.none c none) Set.univ
          (cc0_up_gate_bwd i arg1 harg1 arg2 harg2 arg3 harg3 arg4 harg4 arg5 harg5 hbM6 (Memref.isWhole_whole _) arg7 harg7
            scM8 (Memref.isWhole_whole _) cc0_scratch1) K := by
  simp only [cc0_up_gate_bwd_eq_skeleton]; unfold cc0_up_gate_bwd_skel
  unfold owns
  iintro ⟨⟨%f2, %e2, H2⟩, ⟨%f3, %e3, H3⟩, ⟨%f4, %e4, H4⟩, ⟨%f5, %e5, H5⟩, ⟨%d7, %f7, -, H7⟩, ⟨%f8, %e8, H8⟩, Hk⟩
  sl_exec
  sl_step
  iapply Hk
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H7]; · iexists _; isplitr; swap; · iexact H7
                  ipureintro; refine (View.read_writes_full _ _ _ _ _).trans ?_
                  rw [load_full _ _ _ e2, load_full _ _ _ e3, load_full _ _ _ e5]
  iexists _; isplitr; swap; · iexact H8
  ipureintro; refine (View.read_writes_full _ _ _ _ _).trans ?_
  rw [load_full _ _ _ e2, load_full _ _ _ e4, load_full _ _ _ e8]

/-- The first point: as a middle one, over the accumulator at zero. -/
theorem run_first (h1 : isFirst i) (h2 : ¬ isLast i) (K : PUnit → sProp 𝕄) :
    iprop(owns (c : Thread nD τ) arg2 fullShare D ∗ owns (c : Thread nD τ) arg3 fullShare Wt
        ∗ owns (c : Thread nD τ) arg4 fullShare X ∗ owns (c : Thread nD τ) arg5 fullShare Z
        ∗ (∃ d, owns (c : Thread nD τ) arg7 fullShare d) ∗ (∃ d, owns (c : Thread nD τ) scM8 fullShare d)
        ∗ (iprop(owns (c : Thread nD τ) arg2 fullShare D ∗ owns (c : Thread nD τ) arg3 fullShare Wt
            ∗ owns (c : Thread nD τ) arg4 fullShare X ∗ owns (c : Thread nD τ) arg5 fullShare Z
            ∗ owns (c : Thread nD τ) arg7 fullShare (k0_pay2 D Wt Z)
            ∗ owns (c : Thread nD τ) scM8 fullShare (k0_pay3 D k0_pay1 X)) -∗ K ⟨⟩))
      ⊢ wp frame (wpE (defs₀ (F := F)) Variants.none c none) Set.univ
          (cc0_up_gate_bwd i arg1 harg1 arg2 harg2 arg3 harg3 arg4 harg4 arg5 harg5 hbM6 (Memref.isWhole_whole _) arg7 harg7
            scM8 (Memref.isWhole_whole _) cc0_scratch1) K := by
  simp only [cc0_up_gate_bwd_eq_skeleton]; unfold cc0_up_gate_bwd_skel
  unfold owns
  iintro ⟨⟨%f2, %e2, H2⟩, ⟨%f3, %e3, H3⟩, ⟨%f4, %e4, H4⟩, ⟨%f5, %e5, H5⟩, ⟨%d7, %f7, -, H7⟩, ⟨%d8, %f8, -, H8⟩, Hk⟩
  sl_exec
  sl_step
  iapply Hk
  have e12 : run_first.sl.v12 (F := F) c = k0_pay1 := by
    unfold run_first.sl.v12 run_first.sl.H8_1; exact View.readCov_full (Val := Elt F) _ _ _ _ _
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H7]; · iexists _; isplitr; swap; · iexact H7
                  ipureintro; refine (View.read_writes_full _ _ _ _ _).trans ?_
                  rw [load_full _ _ _ e2, load_full _ _ _ e3, load_full _ _ _ e5]
  iexists _; isplitr; swap; · iexact H8
  ipureintro; refine (View.read_writes_full _ _ _ _ _).trans ?_
  rw [load_full _ _ _ e2, load_full _ _ _ e4, e12]

set_option sl_exec.dmaWindow true in
/-- The last point: as a middle one, then the accumulator's four row groups copied into the result left in HBM. -/
theorem run_last (h1 : ¬ isFirst i) (h2 : isLast i) (G : HbBuf (F := F) c hbM6) (W : Waits sig Unit) (K : PUnit → sProp 𝕄) :
    iprop(owns (c : Thread nD τ) arg2 fullShare D ∗ owns (c : Thread nD τ) arg3 fullShare Wt
        ∗ owns (c : Thread nD τ) arg4 fullShare X ∗ owns (c : Thread nD τ) arg5 fullShare Z
        ∗ (∃ d, owns (c : Thread nD τ) arg7 fullShare d) ∗ owns (c : Thread nD τ) scM8 fullShare A
        ∗ semVal ((c : Thread nD τ), SemLoc.dma 9) 0 ∗ semVal ((c : Thread nD τ), SemLoc.dma 10) 0
        ∗ semVal ((c : Thread nD τ), SemLoc.dma 11) 0 ∗ semVal ((c : Thread nD τ), SemLoc.dma 12) 0
        ∗ hbPt c hbM6 G ∗ owes (c : Thread nD τ) 0 W
        ∗ (iprop(owns (c : Thread nD τ) arg2 fullShare D ∗ owns (c : Thread nD τ) arg3 fullShare Wt
            ∗ owns (c : Thread nD τ) arg4 fullShare X ∗ owns (c : Thread nD τ) arg5 fullShare Z
            ∗ owns (c : Thread nD τ) arg7 fullShare (k0_pay2 D Wt Z)
            ∗ owns (c : Thread nD τ) scM8 fullShare (k0_pay3 D A X)
            ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0
            ∗ hbPt c hbM6 (slabsOf G (k0_pay3 D A X)) ∗ (∃ W', owes (c : Thread nD τ) 0 W')) -∗ K ⟨⟩))
      ⊢ wp frame (wpE (defs₀ (F := F)) Variants.none c none) Set.univ
          (cc0_up_gate_bwd i arg1 harg1 arg2 harg2 arg3 harg3 arg4 harg4 arg5 harg5 hbM6 (Memref.isWhole_whole _) arg7 harg7
            scM8 (Memref.isWhole_whole _) cc0_scratch1) K := by
  simp only [cc0_up_gate_bwd_eq_skeleton]; unfold cc0_up_gate_bwd_skel
  unfold owns
  iintro ⟨⟨%f2, %e2, H2⟩, ⟨%f3, %e3, H3⟩, ⟨%f4, %e4, H4⟩, ⟨%f5, %e5, H5⟩, ⟨%d7, %f7, -, H7⟩, ⟨%f8, %e8, H8⟩, Hs0, Hs1, Hs2, Hs3, HG, HW, Hk⟩
  sl_exec
  sl_step
  iapply Hk
  have eA : View.read (Elt F) scM8.view (scM8.view.writes (Elt F) f8 (run_last.sl.H8_1 c arg2 arg4 f2 f4 f8)) = k0_pay3 D A X := by
    unfold run_last.sl.H8_1
    refine (View.read_writes_full _ _ _ _ _).trans ?_
    rw [load_full _ _ _ e2, load_full _ _ _ e4, load_full _ _ _ e8]
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H7]; · iexists _; isplitr; swap; · iexact H7
                  ipureintro; refine (View.read_writes_full _ _ _ _ _).trans ?_
                  rw [load_full _ _ _ e2, load_full _ _ _ e3, load_full _ _ _ e5]
  isplitl [H8]; · iexists _; isplitr; swap; · iexact H8
                  ipureintro; exact eA
  isplitl [Hs0]; · iexact Hs0
  isplitl [Hs1]; · iexact Hs1
  isplitl [Hs2]; · iexact Hs2
  isplitl [Hs3]; · iexact Hs3
  isplitl [HG]
  · have q0 : run_last.sl.dma9 c arg2 arg4 f2 f4 f8 = accRows ![0, 0] inb_S2816x1024_S704x1024_0_0 (k0_pay3 D A X) := by
      unfold run_last.sl.dma9; exact read_rows _ _ _ _ _ eA
    have q1 : run_last.sl.dma9_1 c arg2 arg4 f2 f4 f8 = accRows ![704, 0] inb_S2816x1024_S704x1024_704_0 (k0_pay3 D A X) := by
      unfold run_last.sl.dma9_1; exact read_rows _ _ _ _ _ eA
    have q2 : run_last.sl.dma9_2 c arg2 arg4 f2 f4 f8 = accRows ![1408, 0] inb_S2816x1024_S704x1024_1408_0 (k0_pay3 D A X) := by
      unfold run_last.sl.dma9_2; exact read_rows _ _ _ _ _ eA
    have q3 : run_last.sl.dma9_3 c arg2 arg4 f2 f4 f8 = accRows ![2112, 0] inb_S2816x1024_S704x1024_2112_0 (k0_pay3 D A X) := by
      unfold run_last.sl.dma9_3; exact read_rows _ _ _ _ _ eA
    rw [q0, q1, q2, q3]
    iapply (hb_of_eq c (slabsW_eq G (k0_pay3 D A X)))
    iexact HG
  iexists _; iexact HW
end run
end Cert.KernelIdeal.Hand

end
-- ==== Proof.ProjRun.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import proofs.«01_k».proof.Proof.ProjBody
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over this algebra -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The buffers the body owns -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
abbrev cells (c : Dev nD) : sProp 𝕄 :=
  iprop(semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3] (by decide) (by decide)]; rfl
def R0 : Finset (Ref sig .tc) := {main_v2_0}
theorem R0_sub : R0 ⊆ Pipeline.restRefs sig spec0 \ ∅ := by decide

/-- The accumulator after the first `n` points. -/
def acc (c : Dev nD) : ℕ → Vec F S2816x1024 .f32
  | 0 => k0_pay1
  | n + 1 => if h : n < cfg0.N then k0_pay3 (iblk m c 0 ⟨n, h⟩) (acc c n) (iblk m c 2 ⟨n, h⟩) else acc c n

theorem acc_succ (c : Dev nD) (t : Fin cfg0.N) : acc m c (t.val + 1) = k0_pay3 (iblk m c 0 t) (acc m c t.val) (iblk m c 2 t) := by
  rw [acc, dif_pos t.isLt]

/-- The result left in HBM after the last point. -/
def slabsEnd (c : Dev nD) : HbBuf (F := F) c hbM6 := slabsOf (V m c main_v2_0) (acc m c cfg0.N)

/-- The contents named for the buffers the body writes. -/
def G (c : Dev nD) : (b : Ref sig .tc) → Buf (Elt F) ((c : Thread nD τ).loc b) := Function.update (V m c) main_v2_0 (slabsEnd m c)

theorem routed_eq (c : Dev nD) (W : (b : Ref sig .tc) → Buf (Elt F) ((c : Thread nD τ).loc b)) :
    (Pipeline.routed R0 c W : sProp 𝕄) = hbPt c hbM6 (W main_v2_0) := by
  unfold Pipeline.routed; rw [BI.bigSep_eq_bigSepL_of_eq [main_v2_0] (by decide) (by decide)]; rfl

theorem PhiDRG_eq (c : Dev nD) (W : (c : Dev nD) → (b : Ref sig .tc) → Buf (Elt F) ((c : Thread nD τ).loc b)) :
    (Pipeline.ΦDRG osem0 spec0 ∅ R0 (V m) W c : sProp 𝕄)
      = iprop((∃ d, owns (c : Thread nD τ) scM8 fullShare d) ∗ (∃ r, prngReg c r) ∗ cells c
          ∗ (bigSep ∅ fun b => ((c : Thread nD τ).loc b) ↦{fullShare} V m c b) ∗ hbPt c hbM6 (W c main_v2_0)) := by
  rw [Pipeline.ΦDRG_eq, scopedRest0_eq, ownSems00_eq, routed_eq]
  simp only [scM8, owns_whole]; try rfl

/-- The accumulator between points: anything before the first, then the sum so far. -/
def accHeld (c : Dev nD) (n : ℕ) : sProp 𝕄 :=
  if n = 0 then iprop(∃ d, owns (c : Thread nD τ) scM8 fullShare d) else owns (c : Thread nD τ) scM8 fullShare (acc m c n)
/-- The result left in HBM between points: as found, and at the end the copied rows. -/
def slabsHeld (c : Dev nD) (n : ℕ) : HbBuf (F := F) c hbM6 := if n = cfg0.N then slabsEnd m c else V m c main_v2_0

def inv (c : Dev nD) (n : ℕ) : sProp 𝕄 :=
  iprop(accHeld m c n ∗ (∃ r, prngReg c r) ∗ cells c
    ∗ (bigSep ∅ fun b => ((c : Thread nD τ).loc b) ↦{fullShare} V m c b) ∗ hbPt c hbM6 (slabsHeld m c n))

def outAt (c : Dev nD) (t : Fin cfg0.N) : Vec F S512x1024 .f32 := k0_pay2 (iblk m c 0 t) (iblk m c 1 t) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-! ## The body at a point -/

theorem isFirst_iff : ∀ t : Fin cfg0.N, isFirst (grid0.coords t) ↔ t.val = 0 := by decide +kernel
theorem isLast_iff : ∀ t : Fin cfg0.N, isLast (grid0.coords t) ↔ t.val = 31 := by decide +kernel

abbrev ms0 (t : Fin cfg0.N) : Memref sig .tc .vmem S512x2816 .bf16 := win0_0.stage (cfg0.slots t 0)
abbrev ms1 (t : Fin cfg0.N) : Memref sig .tc .vmem S2816x1024 .bf16 := win0_1.stage (cfg0.slots t 1)
abbrev ms2 (t : Fin cfg0.N) : Memref sig .tc .vmem S512x1024 .f32 := win0_2.stage (cfg0.slots t 2)
abbrev ms3 (t : Fin cfg0.N) : Memref sig .tc .vmem S512x1024 .f32 := win0_3.stage (cfg0.slots t 3)
abbrev ms4 (t : Fin cfg0.N) : Memref sig .tc .vmem S512x1024 .f32 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  have hN : cfg0.N = 32 := N_0
  have ht := t.isLt
  unfold bodyPre bodyPost bodyAt0
  simp only [before0_of m (dats m 0 c) (A_eq m c 0) (after0 m c), before1_of m (dats m 0 c) (A_eq m c 1) (after1 m c),
    before2_of m (dats m 0 c) (A_eq m c 2) (after2 m c), before3_of m (dats m 0 c) (A_eq m c 3) (after3 m c)]
  rw [after0, after1, after2, after3, after4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have es : accHeld m c (t.val + 1) = owns (c : Thread nD τ) scM8 fullShare (k0_pay3 (iblk m c 0 t) (acc m c t.val) (iblk m c 2 t)) := by
    unfold accHeld; rw [if_neg (by omega), acc_succ]
  rw [es]
  unfold outAt
  by_cases h0 : t.val = 0
  · have eh : slabsHeld m c t.val = slabsHeld m c (t.val + 1) := by
      unfold slabsHeld; rw [if_neg (by omega), if_neg (by omega)]
    have ea : accHeld m c t.val = iprop(∃ d, owns (c : Thread nD τ) scM8 fullShare d) := by unfold accHeld; rw [if_pos h0]
    rw [eh, ea, show acc m c t.val = k0_pay1 by rw [h0, acc]]
    iintro ⟨⟨HA, Hg, Hq, HE, HG⟩, ⟨%W, -, HW⟩, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) (iblk m c 3 t)
      ((isFirst_iff t).mpr h0) (fun h => by have := (isLast_iff t).mp h; omega))
    isplitl [H0]; · iexact H0
    isplitl [H1]; · iexact H1
    isplitl [H2]; · iexact H2
    isplitl [H3]; · iexact H3
    isplitl [H4]; · iexists _; iexact H4
    isplitl [HA]; · iexact HA
    iintro ⟨H0, H1, H2, H3, H4, HA⟩
    isplitl [HA Hg Hq HE HG]
    · isplitl [HA]; · iexact HA
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4
  have ea : accHeld m c t.val = owns (c : Thread nD τ) scM8 fullShare (acc m c t.val) := by unfold accHeld; rw [if_neg h0]
  rw [ea]
  by_cases h1 : t.val = 31
  · have eh : slabsHeld m c t.val = V m c main_v2_0 := by unfold slabsHeld; rw [if_neg (by omega)]
    have eh' : slabsHeld m c (t.val + 1) = slabsOf (V m c main_v2_0) (k0_pay3 (iblk m c 0 t) (acc m c t.val) (iblk m c 2 t)) := by
      unfold slabsHeld; rw [if_pos (by omega), slabsEnd, ← acc_succ]; exact congrArg (fun n => slabsOf (V m c main_v2_0) (acc m c n)) (by omega)
    rw [eh, eh']
    iintro ⟨⟨HA, Hg, Hq, HE, HG⟩, ⟨%W, -, HW⟩, ⟨%d0, H0⟩, ⟨%d1, H1⟩, ⟨%d2, H2⟩, ⟨%d3, H3⟩, ⟨%d4, H4⟩⟩
    iapply (run_last c (grid0.coords t) _ _ _ _ _ _ _ _ _ _ _ _ (iblk m c 0 t) (iblk m c 1 t) (iblk m c 2 t) (iblk m c 3 t) (acc m c t.val)
      (fun h => h0 ((isFirst_iff t).mp h)) ((isLast_iff t).mpr h1) (V m c main_v2_0) W)
    icases Hq with ⟨Hq0, Hq1, Hq2, Hq3⟩
    isplitl [H0]; · iexact H0
    isplitl [H1]; · iexact H1
    isplitl [H2]; · iexact H2
    isplitl [H3]; · iexact H3
    isplitl [H4]; · iexists _; iexact H4
    isplitl [HA]; · iexact HA
    isplitl [Hq0]; · iexact Hq0
    isplitl [Hq1]; · iexact Hq1
    isplitl [Hq2]; · iexact Hq2
    isplitl [Hq3]; · iexact Hq3
    isplitl [HG]; · iexact HG
    isplitl [HW]; · iexact HW
    iintro ⟨H0, H1, H2, H3, H4, HA, Hq0, Hq1, Hq2, Hq3, HG, ⟨%W', HW⟩⟩
    isplitl [HA Hg Hq0 Hq1 Hq2 Hq3 HE HG]
    · isplitl [HA]; · iexact HA
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [HE]; · iexact HE
      iexact HG
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    iexact H4
  · have eh : slabsHeld m c t.val = slabsHeld m c (t.val + 1) := by
      unfold slabsHeld; rw [if_neg (by omega), if_neg (by omega)]
    rw [eh]
    iintro ⟨⟨HA, Hg, Hq, HE, HG⟩, ⟨%W, -, HW⟩, ⟨%d0, H0⟩, ⟨%d1, H1⟩, ⟨%d2, H2⟩, ⟨%d3, H3⟩, ⟨%d4, H4⟩⟩
    iapply (run_mid c (grid0.coords t) _ _ _ _ _ _ _ _ _ _ _ _ (iblk m c 0 t) (iblk m c 1 t) (iblk m c 2 t) (iblk m c 3 t) (acc m c t.val)
      (fun h => h0 ((isFirst_iff t).mp h)) (fun h => h1 ((isLast_iff t).mp h)))
    isplitl [H0]; · iexact H0
    isplitl [H1]; · iexact H1
    isplitl [H2]; · iexact H2
    isplitl [H3]; · iexact H3
    isplitl [H4]; · iexists _; iexact H4
    isplitl [HA]; · iexact HA
    iintro ⟨H0, H1, H2, H3, H4, HA⟩
    isplitl [HA Hg Hq HE HG]
    · isplitl [HA]; · iexact HA
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : Pipeline.ΦDRG osem0 spec0 ∅ R0 (V m) (V m) c ⊢ (dats m 0 c).Φ 0 := by
  rw [PhiDRG_eq, show (dats m 0 c).Φ 0 = inv m c 0 from rfl]
  unfold inv accHeld slabsHeld
  rw [if_pos rfl, if_neg (by rw [show cfg0.N = 32 from N_0]; decide)]
theorem inv_out (c : Dev nD) : (dats m 0 c).Φ (Fin.last cfg0.N) ⊢ Pipeline.ΦDRG osem0 spec0 ∅ R0 (V m) (G m) c := by
  rw [PhiDRG_eq, show (dats m 0 c).Φ (Fin.last cfg0.N) = inv m c cfg0.N from rfl]
  unfold inv accHeld slabsHeld G
  rw [if_neg (by rw [show cfg0.N = 32 from N_0]; decide), if_pos rfl, Function.update_self]
  iintro ⟨HA, Hg, Hq, HE, HG⟩
  isplitl [HA]; · iexists _; iexact HA
  isplitl [Hg]; · iexact Hg
  isplitl [Hq]; · iexact Hq
  isplitl [HE]; · iexact HE
  iexact HG

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (by simp) R0_sub m ρ main
    (hbody := fun c => (body_obligation m c).loose) (hshare := fun c => (dats m 0 c).share_full fun _ => rfl)
    (howed := fun _ _ => rfl) (V := V m) (hmain := hmain m Variants.none) (hA := A_eq m) (G := G m)
    (hin := inv_in m) (hout := inv_out m)

/-- What the run ends with: the two results and the arguments. -/
theorem ends : θ_run defs (onTc (τ := τ) (main (F := F))) ⟨m, fun _ => 0, ρ⟩ (fun r => (∀ c : Dev nD,
      (r.2.mem ((c : Thread nD τ).loc main_v2_0) = slabsEnd m c
      ∧ r.2.mem ((c : Thread nD τ).loc main_v2_1) = (dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨(h.1.written c (by decide : main_v2_0 ∈ R0)).trans (by unfold G; rw [Function.update_self]),
      (h.1.toR c).1 4⟩,
      ((h.1.toR c).2 main_arg0 (Finset.mem_sdiff.mpr ⟨Pipeline.mem_restRefs_of main_arg0 (by decide) (by decide), by decide⟩)).trans (V_main_arg0 m c),
      ((h.1.toR c).1 0).trans (((dats m 0 c).arrAt_in 0 rfl _).trans ((A_eq m c 0).trans (V_main_arg1 m c))),
      ((h.1.toR c).2 main_arg2 (Finset.mem_sdiff.mpr ⟨Pipeline.mem_restRefs_of main_arg2 (by decide) (by decide), by decide⟩)).trans (V_main_arg2 m c),
      ((h.1.toR c).1 2).trans (((dats m 0 c).arrAt_in 2 rfl _).trans ((A_eq m c 2).trans (V_main_arg3 m c))),
      ((h.1.toR c).1 3).trans (((dats m 0 c).arrAt_in 3 rfl _).trans ((A_eq m c 3).trans (V_main_arg4 m c)))⟩, h.2⟩) (run_main m ρ)

/-- The same run with the arguments and the counters only. -/
theorem ends_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (ends m ρ)

end Cert.KernelIdeal.Hand

end
-- ==== Proof.ProjValue.lean ====
module

public import proofs.«01_k».proof.Proof.ProjRun
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The reference's cotangent of the layer's input. -/
def DX (D : FVec Ideal S16384x2816 .bf16) (W : FVec Ideal S1024x2816 .f32) (Z : FVec Ideal S16384x1024 .f32) : FVec Ideal S16384x1024 .f32 :=
  addf (mulf (broadcastInDim Cert.ReferenceIdeal.S16384x1024 ![] Cert.ReferenceIdeal.Gen.bcast_S_S16384x1024 (constant Cert.ReferenceIdeal.S_ .f32 0x3FB504F3#32)) Z)
    (Host.dotGeneral Cert.ReferenceIdeal.dot_S16384x2816_S1024x2816_S16384x1024_1_1_0_0_n_n none (extf .f32 D Cert.ReferenceIdeal.Gen.bitsLt_bf16_f32) W)

/-- The reference's cotangent of the projection's weight, one row per hidden channel. -/
def DW (D : FVec Ideal S16384x2816 .bf16) (X : FVec Ideal S16384x1024 .f32) : FVec Ideal S2816x1024 .f32 :=
  transpose Cert.ReferenceIdeal.S2816x1024 [1, 0] (transpose Cert.ReferenceIdeal.S1024x2816 [1, 0]
    (Host.dotGeneral Cert.ReferenceIdeal.dot_S16384x2816_S16384x1024_S2816x1024_0_0_1_1_n_n none (extf .f32 D Cert.ReferenceIdeal.Gen.bitsLt_bf16_f32) X)
    Cert.ReferenceIdeal.Gen.transposes_S2816x1024_S1024x2816_1_0) Cert.ReferenceIdeal.Gen.transposes_S1024x2816_S2816x1024_1_0

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem V_slabs (c : Dev nD) : V m c main_v2_0 = m ((c : Thread nD τ).loc main_arg0) := by
  entry_read; try rfl

theorem point4 (c : Dev nD) (t : Fin cfg0.N) (y : S512x1024.Idx) : outAt m c t y
    = DX (m ((c : Thread nD τ).loc main_arg1)) (m ((c : Thread nD τ).loc main_arg2)) (m ((c : Thread nD τ).loc main_arg4)) (((cfg0.win 4).blk t).view.emb y) := by
  unfold outAt
  pointwise [k0_pay2, DX]
  rw [add_comm]
  blk_point [iblk, V, idx t]

theorem final4 (c : Dev nD) : (dats m 0 c).arrAt 4 cfg0.N
    = DX (m ((c : Thread nD τ).loc main_arg1)) (m ((c : Thread nD τ).loc main_arg2)) (m ((c : Thread nD τ).loc main_arg4)) := by
  refine (dats m 0 c).arrAt_eq_of_covers 4 _ (by decide +kernel) fun t _ y => ?_
  blk_simp
  rw [after4]
  exact point4 m c t y

/-- One block's contribution to an element of the weight's gradient. -/
def colProd (D : FVec Ideal S512x2816 .bf16) (X : FVec Ideal S512x1024 .f32) (a : Fin 2816) (b : Fin 1024) : EReal :=
  ∑ k : Fin 512, D (ix2 k a) * X (ix2 k b)

theorem pay3_at (D : FVec Ideal S512x2816 .bf16) (A : FVec Ideal S2816x1024 .f32) (X : FVec Ideal S512x1024 .f32) (a : Fin 2816) (b : Fin 1024) :
    k0_pay3 D A X (ix2 a b) = A (ix2 a b) + colProd D X a b := by
  unfold colProd
  pointwise [k0_pay3]

theorem acc_at (c : Dev nD) (a : Fin 2816) (b : Fin 1024) : ∀ n (hn : n ≤ cfg0.N), acc m c n (ix2 a b)
    = ∑ s : Fin n, colProd (iblk m c 0 ⟨s.val, lt_of_lt_of_le s.isLt hn⟩) (iblk m c 2 ⟨s.val, lt_of_lt_of_le s.isLt hn⟩) a b
  | 0, _ => by
    rw [Finset.univ_eq_empty, Finset.sum_empty]
    change k0_pay1 (ix2 a b) = 0
    pointwise [k0_pay1]
  | n + 1, hn => by
    rw [acc_succ m c ⟨n, hn⟩, pay3_at, acc_at c a b n (Nat.le_of_succ_le hn), Fin.sum_univ_castSucc]
    rfl

theorem DW_at (D : FVec Ideal S16384x2816 .bf16) (X : FVec Ideal S16384x1024 .f32) (a : Fin 2816) (b : Fin 1024) :
    DW D X (ix2 a b) = ∑ s : Fin 32, ∑ k : Fin 512, D (ix2 ⟨s.val * 512 + k.val, by omega⟩ a) * X (ix2 ⟨s.val * 512 + k.val, by omega⟩ b) := by
  pointwise [DW]
  rw [Fin.sum_univ_tiles 32 512 rfl]

theorem acc_eq (c : Dev nD) : acc m c cfg0.N = DW (m ((c : Thread nD τ).loc main_arg1)) (m ((c : Thread nD τ).loc main_arg3)) := by
  funext j
  idx_vars j
  rw [acc_at m c _ _ _ le_rfl, DW_at]
  refine Finset.sum_congr rfl fun s _ => ?_
  unfold colProd
  refine Finset.sum_congr rfl fun k _ => ?_
  blk_point [iblk, V, idx ⟨s.val, s.isLt⟩]

/-- The reference's first result: the weight's gradient laid into the slabs. -/
def SLABS (A : FVec Ideal S8x1472x1024 .f32) (G : FVec Ideal S2816x1024 .f32) : FVec Ideal S8x1472x1024 .f32 :=
  Host.dynamicUpdateSlice A (shapeCast _ G Cert.ReferenceIdeal.Gen.shapeCasts_S2816x1024_S4x704x1024)
    (fun k => (((![constantI Cert.ReferenceIdeal.S_ 32 0#32, constantI Cert.ReferenceIdeal.S_ 32 352#32, constantI Cert.ReferenceIdeal.S_ 32 0#32] : Fin 3 → (⟨Cert.ReferenceIdeal.S_, .i32⟩ : BufTy).Contents (Elt Ideal)) k (Shape.Idx.first Cert.ReferenceIdeal.Gen.h_S_))).toInt)
    Cert.ReferenceIdeal.Gen.updateFits_S8x1472x1024_S4x704x1024

theorem start0 : Host.clampedStart S8x1472x1024 Cert.ReferenceIdeal.S4x704x1024 rfl (fun k => (((![constantI Cert.ReferenceIdeal.S_ 32 0#32, constantI Cert.ReferenceIdeal.S_ 32 352#32, constantI Cert.ReferenceIdeal.S_ 32 0#32] : Fin 3 → (⟨Cert.ReferenceIdeal.S_, .i32⟩ : BufTy).Contents (Elt Ideal)) k (Shape.Idx.first Cert.ReferenceIdeal.Gen.h_S_))).toInt) 0 = 0 := rfl
theorem start1 : Host.clampedStart S8x1472x1024 Cert.ReferenceIdeal.S4x704x1024 rfl (fun k => (((![constantI Cert.ReferenceIdeal.S_ 32 0#32, constantI Cert.ReferenceIdeal.S_ 32 352#32, constantI Cert.ReferenceIdeal.S_ 32 0#32] : Fin 3 → (⟨Cert.ReferenceIdeal.S_, .i32⟩ : BufTy).Contents (Elt Ideal)) k (Shape.Idx.first Cert.ReferenceIdeal.Gen.h_S_))).toInt) 1 = 352 := rfl
theorem start2 : Host.clampedStart S8x1472x1024 Cert.ReferenceIdeal.S4x704x1024 rfl (fun k => (((![constantI Cert.ReferenceIdeal.S_ 32 0#32, constantI Cert.ReferenceIdeal.S_ 32 352#32, constantI Cert.ReferenceIdeal.S_ 32 0#32] : Fin 3 → (⟨Cert.ReferenceIdeal.S_, .i32⟩ : BufTy).Contents (Elt Ideal)) k (Shape.Idx.first Cert.ReferenceIdeal.Gen.h_S_))).toInt) 2 = 0 := rfl

theorem slabs_eq (A : FVec Ideal S8x1472x1024 .f32) (G : FVec Ideal S2816x1024 .f32) : slabsOf (F := Ideal) A G = SLABS A G := by
  funext j
  idx_vars j
  pointwise [slabsOf, accRows, SLABS]
  have s0 := start0; have s1 := start1; have s2 := start2
  simp only [s0, s1, s2]
  by_cases hr : 352 ≤ j1.val ∧ j1.val < 1056
  · by_cases q3 : j0.val < 4
    · rw [dif_pos (show (0 ≤ j0.val ∧ j0.val < 0 + 4) ∧ (352 ≤ j1.val ∧ j1.val < 352 + 704) ∧ 0 ≤ j2.val by omega)]
      split_ifs <;> first | omega | skip
      all_goals (refine congrArg G ?_; blk_ext; all_goals omega)
    · rw [dif_neg (by omega), dif_neg (by omega), dif_neg (by omega), dif_neg (by omega), dif_neg (by omega)]
  · rw [dif_neg (by omega), dif_neg (by omega), dif_neg (by omega), dif_neg (by omega), dif_neg (by omega)]

theorem ends_value (ρ : Dev nD → PrngReg) : θ_run defs (onTc (τ := τ) (main (F := Ideal))) ⟨m, fun _ => 0, ρ⟩ (fun r => ∀ c : Dev nD,
      r.2.mem ((c.tc : Thread nD τ).loc main_v2_0) = SLABS (m ((c.tc : Thread nD τ).loc main_arg0)) (DW (m ((c.tc : Thread nD τ).loc main_arg1)) (m ((c.tc : Thread nD τ).loc main_arg3)))
      ∧ r.2.mem ((c.tc : Thread nD τ).loc main_v2_1) = DX (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1.1.trans (by unfold slabsEnd; rw [slabs_eq, V_slabs, acc_eq]), (h.1 c).1.2.trans (final4 m c), (h.1 c).2⟩) (ends m ρ)

end Cert.KernelIdeal.Hand

end
-- ==== Proof.ValBody.lean ====
module

public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The result left in HBM, and the accumulator. -/
abbrev hbM6 : Memref sig .tc .hbm S8x1472x1024 .f32 := Memref.whole main_v2_0
abbrev scM8 : Memref sig .tc .vmem S2816x1024 .f32 := Memref.whole cc0_scratch0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The first point's condition and the last point's, as printed. -/
abbrev isFirst (i : grid0.Coords) : Prop :=
  Scalar.cmpi .ne (Scalar.extui (Scalar.cmpi .eq (BitVec.ofNat 32 (i 0).val) 0#32) : BitVec 32) 0#32 = 1#1
abbrev isLast (i : grid0.Coords) : Prop :=
  Scalar.cmpi .ne (Scalar.extui (Scalar.cmpi .eq (BitVec.ofNat 32 (i 0).val) 31#32) : BitVec 32) 0#32 = 1#1

theorem hb_of_eq (c : Dev nD) {f g : S8x1472x1024.Idx → Elt F .f32} (h : f = g) : (hbPt c hbM6 f : sProp 𝕄) ⊢ hbPt c hbM6 g := by subst h; exact .rfl

/-- A load of a whole buffer reads what the buffer is held at. -/
theorem load_full {κ : Kind} {sp : Space} {s : Shape} {e : EltTy} (v : View sig κ sp s e) (f : v.ty.Contents (Elt F)) {off : Fin s.rank → ℕ}
    (inb : ∀ a, off a + s.size a ≤ s.size a) {X : s.Idx → Elt F e} (h : View.read (Elt F) v f = X) :
    View.readAt (Elt F) v (Rect.unit off s.size inb).toLoadRect f = X := (View.readAt_full v f inb).trans h

/-- A copy into rows of the result left in HBM, through the squeezed slice the body names, is an update of it. -/
theorem write_rows (off : Fin 3 → ℕ) (inb : ∀ a, off a + S1x704x1024.size a ≤ S8x1472x1024.size a) (hst) (hsq)
    (f : S8x1472x1024.Idx → Elt F .f32) (w : S704x1024.Idx → Elt F .f32) :
    View.write (Elt F) ((hbM6.slice (Rect.unit (s := S8x1472x1024) off S1x704x1024.size inb) hst).squeeze S704x1024 hsq).view f w Finset.univ
      = updateSlice f (shapeCast S1x704x1024 w (by decide)) off ⟨rfl, inb⟩ := by
  refine (View.write_reshape_univ _ _ _ _).trans ?_
  exact View.write_whole_slice_unit main_v2_0 off S1x704x1024.size inb f _

/-- The rows of the accumulator a copy reads. -/
def accRows (off : Fin 2 → ℕ) (inb : ∀ a, off a + S704x1024.size a ≤ S2816x1024.size a) (A : S2816x1024.Idx → Elt F .f32) : S704x1024.Idx → Elt F .f32 :=
  fun x => A ((Rect.unit (s := S2816x1024) off S704x1024.size inb).emb x)

theorem read_rows (off : Fin 2 → ℕ) (inb : ∀ a, off a + S704x1024.size a ≤ S2816x1024.size a) (hst) (f : BufTy.Contents (Elt F) scM8.view.ty) (A)
    (h : View.read (Elt F) scM8.view f = A) :
    View.read (Elt F) (scM8.slice (Rect.unit (s := S2816x1024) off S704x1024.size inb) hst).view f = accRows off inb A := by
  subst h; rfl

/-- The result left in HBM after the last point: the accumulator's four row groups over rows 352 to 1055 of its first four slabs. -/
def slabsOf (f : S8x1472x1024.Idx → Elt F .f32) (A : S2816x1024.Idx → Elt F .f32) : S8x1472x1024.Idx → Elt F .f32 :=
  updateSlice (updateSlice (updateSlice (updateSlice f
    (shapeCast S1x704x1024 (accRows ![0, 0] inb_S2816x1024_S704x1024_0_0 A) (by decide)) ![4, 352, 0] ⟨rfl, inb_S8x1472x1024_S1x704x1024_4_352_0⟩)
    (shapeCast S1x704x1024 (accRows ![704, 0] inb_S2816x1024_S704x1024_704_0 A) (by decide)) ![5, 352, 0] ⟨rfl, inb_S8x1472x1024_S1x704x1024_5_352_0⟩)
    (shapeCast S1x704x1024 (accRows ![1408, 0] inb_S2816x1024_S704x1024_1408_0 A) (by decide)) ![6, 352, 0] ⟨rfl, inb_S8x1472x1024_S1x704x1024_6_352_0⟩)
    (shapeCast S1x704x1024 (accRows ![2112, 0] inb_S2816x1024_S704x1024_2112_0 A) (by decide)) ![7, 352, 0] ⟨rfl, inb_S8x1472x1024_S1x704x1024_7_352_0⟩

/-- The same as the run writes it: four writes through the squeezed slices. -/
def slabsW (f : S8x1472x1024.Idx → Elt F .f32) (A : S2816x1024.Idx → Elt F .f32) : S8x1472x1024.Idx → Elt F .f32 :=
  View.write (Elt F) ((hbM6.slice (Rect.unit (s := S8x1472x1024) ![7, 352, 0] S1x704x1024.size inb_S8x1472x1024_S1x704x1024_7_352_0) (fun _ => rfl)).squeeze S704x1024 squeezes_S1x704x1024_S704x1024).view
    (View.write (Elt F) ((hbM6.slice (Rect.unit (s := S8x1472x1024) ![6, 352, 0] S1x704x1024.size inb_S8x1472x1024_S1x704x1024_6_352_0) (fun _ => rfl)).squeeze S704x1024 squeezes_S1x704x1024_S704x1024).view
      (View.write (Elt F) ((hbM6.slice (Rect.unit (s := S8x1472x1024) ![5, 352, 0] S1x704x1024.size inb_S8x1472x1024_S1x704x1024_5_352_0) (fun _ => rfl)).squeeze S704x1024 squeezes_S1x704x1024_S704x1024).view
        (View.write (Elt F) ((hbM6.slice (Rect.unit (s := S8x1472x1024) ![4, 352, 0] S1x704x1024.size inb_S8x1472x1024_S1x704x1024_4_352_0) (fun _ => rfl)).squeeze S704x1024 squeezes_S1x704x1024_S704x1024).view f
          (accRows ![0, 0] inb_S2816x1024_S704x1024_0_0 A) Finset.univ)
        (accRows ![704, 0] inb_S2816x1024_S704x1024_704_0 A) Finset.univ)
      (accRows ![1408, 0] inb_S2816x1024_S704x1024_1408_0 A) Finset.univ)
    (accRows ![2112, 0] inb_S2816x1024_S704x1024_2112_0 A) Finset.univ

theorem slabsW_eq (f : S8x1472x1024.Idx → Elt F .f32) (A : S2816x1024.Idx → Elt F .f32) : slabsW f A = slabsOf f A := by
  unfold slabsOf slabsW
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  exact write_rows _ _ _ _ _ _

section run
variable (c : Dev nD) (i : grid0.Coords)
  (arg1 : Memref sig .tc .hbm S8x1472x1024 .f32) (harg1 : arg1.IsWhole)
  (arg2 : Memref sig .tc .vmem S512x2816 .bf16) (harg2 : arg2.IsWhole)
  (arg3 : Memref sig .tc .vmem S2816x1024 .bf16) (harg3 : arg3.IsWhole)
  (arg4 : Memref sig .tc .vmem S512x1024 .f32) (harg4 : arg4.IsWhole)
  (arg5 : Memref sig .tc .vmem S512x1024 .f32) (harg5 : arg5.IsWhole)
  (arg7 : Memref sig .tc .vmem S512x1024 .f32) (harg7 : arg7.IsWhole)
  (D : Vec F S512x2816 .bf16) (Wt : Vec F S2816x1024 .bf16) (X : Vec F S512x1024 .f32) (Z : Vec F S512x1024 .f32)
  (A : Vec F S2816x1024 .f32)

/-- A middle point: the result block is the product with the addend, the accumulator grows by the block's product. -/
theorem run_mid (h1 : ¬ isFirst i) (h2 : ¬ isLast i) (K : PUnit → sProp 𝕄) :
    iprop(owns (c : Thread nD τ) arg2 fullShare D ∗ owns (c : Thread nD τ) arg3 fullShare Wt
        ∗ owns (c : Thread nD τ) arg4 fullShare X ∗ owns (c : Thread nD τ) arg5 fullShare Z
        ∗ (∃ d, owns (c : Thread nD τ) arg7 fullShare d) ∗ owns (c : Thread nD τ) scM8 fullShare A
        ∗ (iprop(owns (c : Thread nD τ) arg2 fullShare D ∗ owns (c : Thread nD τ) arg3 fullShare Wt
            ∗ owns (c : Thread nD τ) arg4 fullShare X ∗ owns (c : Thread nD τ) arg5 fullShare Z
            ∗ owns (c : Thread nD τ) arg7 fullShare (k0_pay2 D Wt Z)
            ∗ owns (c : Thread nD τ) scM8 fullShare (k0_pay3 D A X)) -∗ K ⟨⟩))
      ⊢ wp frame (wpE (defs₀ (F := F)) Variants.none c none) Set.univ
          (cc0_up_val_bwd i arg1 harg1 arg2 harg2 arg3 harg3 arg4 harg4 arg5 harg5 hbM6 (Memref.isWhole_whole _) arg7 harg7
            scM8 (Memref.isWhole_whole _) cc0_scratch1) K := by
  simp only [cc0_up_val_bwd_eq_skeleton]; unfold cc0_up_val_bwd_skel
  unfold owns
  iintro ⟨⟨%f2, %e2, H2⟩, ⟨%f3, %e3, H3⟩, ⟨%f4, %e4, H4⟩, ⟨%f5, %e5, H5⟩, ⟨%d7, %f7, -, H7⟩, ⟨%f8, %e8, H8⟩, Hk⟩
  sl_exec
  sl_step
  iapply Hk
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H7]; · iexists _; isplitr; swap; · iexact H7
                  ipureintro; refine (View.read_writes_full _ _ _ _ _).trans ?_
                  rw [load_full _ _ _ e2, load_full _ _ _ e3, load_full _ _ _ e5]
  iexists _; isplitr; swap; · iexact H8
  ipureintro; refine (View.read_writes_full _ _ _ _ _).trans ?_
  rw [load_full _ _ _ e2, load_full _ _ _ e4, load_full _ _ _ e8]

/-- The first point: as a middle one, over the accumulator at zero. -/
theorem run_first (h1 : isFirst i) (h2 : ¬ isLast i) (K : PUnit → sProp 𝕄) :
    iprop(owns (c : Thread nD τ) arg2 fullShare D ∗ owns (c : Thread nD τ) arg3 fullShare Wt
        ∗ owns (c : Thread nD τ) arg4 fullShare X ∗ owns (c : Thread nD τ) arg5 fullShare Z
        ∗ (∃ d, owns (c : Thread nD τ) arg7 fullShare d) ∗ (∃ d, owns (c : Thread nD τ) scM8 fullShare d)
        ∗ (iprop(owns (c : Thread nD τ) arg2 fullShare D ∗ owns (c : Thread nD τ) arg3 fullShare Wt
            ∗ owns (c : Thread nD τ) arg4 fullShare X ∗ owns (c : Thread nD τ) arg5 fullShare Z
            ∗ owns (c : Thread nD τ) arg7 fullShare (k0_pay2 D Wt Z)
            ∗ owns (c : Thread nD τ) scM8 fullShare (k0_pay3 D k0_pay1 X)) -∗ K ⟨⟩))
      ⊢ wp frame (wpE (defs₀ (F := F)) Variants.none c none) Set.univ
          (cc0_up_val_bwd i arg1 harg1 arg2 harg2 arg3 harg3 arg4 harg4 arg5 harg5 hbM6 (Memref.isWhole_whole _) arg7 harg7
            scM8 (Memref.isWhole_whole _) cc0_scratch1) K := by
  simp only [cc0_up_val_bwd_eq_skeleton]; unfold cc0_up_val_bwd_skel
  unfold owns
  iintro ⟨⟨%f2, %e2, H2⟩, ⟨%f3, %e3, H3⟩, ⟨%f4, %e4, H4⟩, ⟨%f5, %e5, H5⟩, ⟨%d7, %f7, -, H7⟩, ⟨%d8, %f8, -, H8⟩, Hk⟩
  sl_exec
  sl_step
  iapply Hk
  have e12 : run_first.sl.v12 (F := F) c = k0_pay1 := by
    unfold run_first.sl.v12 run_first.sl.H8_1; exact View.readCov_full (Val := Elt F) _ _ _ _ _
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H7]; · iexists _; isplitr; swap; · iexact H7
                  ipureintro; refine (View.read_writes_full _ _ _ _ _).trans ?_
                  rw [load_full _ _ _ e2, load_full _ _ _ e3, load_full _ _ _ e5]
  iexists _; isplitr; swap; · iexact H8
  ipureintro; refine (View.read_writes_full _ _ _ _ _).trans ?_
  rw [load_full _ _ _ e2, load_full _ _ _ e4, e12]

set_option sl_exec.dmaWindow true in
/-- The last point: as a middle one, then the accumulator's four row groups copied into the result left in HBM. -/
theorem run_last (h1 : ¬ isFirst i) (h2 : isLast i) (G : HbBuf (F := F) c hbM6) (W : Waits sig Unit) (K : PUnit → sProp 𝕄) :
    iprop(owns (c : Thread nD τ) arg2 fullShare D ∗ owns (c : Thread nD τ) arg3 fullShare Wt
        ∗ owns (c : Thread nD τ) arg4 fullShare X ∗ owns (c : Thread nD τ) arg5 fullShare Z
        ∗ (∃ d, owns (c : Thread nD τ) arg7 fullShare d) ∗ owns (c : Thread nD τ) scM8 fullShare A
        ∗ semVal ((c : Thread nD τ), SemLoc.dma 9) 0 ∗ semVal ((c : Thread nD τ), SemLoc.dma 10) 0
        ∗ semVal ((c : Thread nD τ), SemLoc.dma 11) 0 ∗ semVal ((c : Thread nD τ), SemLoc.dma 12) 0
        ∗ hbPt c hbM6 G ∗ owes (c : Thread nD τ) 0 W
        ∗ (iprop(owns (c : Thread nD τ) arg2 fullShare D ∗ owns (c : Thread nD τ) arg3 fullShare Wt
            ∗ owns (c : Thread nD τ) arg4 fullShare X ∗ owns (c : Thread nD τ) arg5 fullShare Z
            ∗ owns (c : Thread nD τ) arg7 fullShare (k0_pay2 D Wt Z)
            ∗ owns (c : Thread nD τ) scM8 fullShare (k0_pay3 D A X)
            ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0
            ∗ hbPt c hbM6 (slabsOf G (k0_pay3 D A X)) ∗ (∃ W', owes (c : Thread nD τ) 0 W')) -∗ K ⟨⟩))
      ⊢ wp frame (wpE (defs₀ (F := F)) Variants.none c none) Set.univ
          (cc0_up_val_bwd i arg1 harg1 arg2 harg2 arg3 harg3 arg4 harg4 arg5 harg5 hbM6 (Memref.isWhole_whole _) arg7 harg7
            scM8 (Memref.isWhole_whole _) cc0_scratch1) K := by
  simp only [cc0_up_val_bwd_eq_skeleton]; unfold cc0_up_val_bwd_skel
  unfold owns
  iintro ⟨⟨%f2, %e2, H2⟩, ⟨%f3, %e3, H3⟩, ⟨%f4, %e4, H4⟩, ⟨%f5, %e5, H5⟩, ⟨%d7, %f7, -, H7⟩, ⟨%f8, %e8, H8⟩, Hs0, Hs1, Hs2, Hs3, HG, HW, Hk⟩
  sl_exec
  sl_step
  iapply Hk
  have eA : View.read (Elt F) scM8.view (scM8.view.writes (Elt F) f8 (run_last.sl.H8_1 c arg2 arg4 f2 f4 f8)) = k0_pay3 D A X := by
    unfold run_last.sl.H8_1
    refine (View.read_writes_full _ _ _ _ _).trans ?_
    rw [load_full _ _ _ e2, load_full _ _ _ e4, load_full _ _ _ e8]
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H7]; · iexists _; isplitr; swap; · iexact H7
                  ipureintro; refine (View.read_writes_full _ _ _ _ _).trans ?_
                  rw [load_full _ _ _ e2, load_full _ _ _ e3, load_full _ _ _ e5]
  isplitl [H8]; · iexists _; isplitr; swap; · iexact H8
                  ipureintro; exact eA
  isplitl [Hs0]; · iexact Hs0
  isplitl [Hs1]; · iexact Hs1
  isplitl [Hs2]; · iexact Hs2
  isplitl [Hs3]; · iexact Hs3
  isplitl [HG]
  · have q0 : run_last.sl.dma9 c arg2 arg4 f2 f4 f8 = accRows ![0, 0] inb_S2816x1024_S704x1024_0_0 (k0_pay3 D A X) := by
      unfold run_last.sl.dma9; exact read_rows _ _ _ _ _ eA
    have q1 : run_last.sl.dma9_1 c arg2 arg4 f2 f4 f8 = accRows ![704, 0] inb_S2816x1024_S704x1024_704_0 (k0_pay3 D A X) := by
      unfold run_last.sl.dma9_1; exact read_rows _ _ _ _ _ eA
    have q2 : run_last.sl.dma9_2 c arg2 arg4 f2 f4 f8 = accRows ![1408, 0] inb_S2816x1024_S704x1024_1408_0 (k0_pay3 D A X) := by
      unfold run_last.sl.dma9_2; exact read_rows _ _ _ _ _ eA
    have q3 : run_last.sl.dma9_3 c arg2 arg4 f2 f4 f8 = accRows ![2112, 0] inb_S2816x1024_S704x1024_2112_0 (k0_pay3 D A X) := by
      unfold run_last.sl.dma9_3; exact read_rows _ _ _ _ _ eA
    rw [q0, q1, q2, q3]
    iapply (hb_of_eq c (slabsW_eq G (k0_pay3 D A X)))
    iexact HG
  iexists _; iexact HW
end run
end Cert.Kernel2Ideal.Hand

end
-- ==== Proof.ValRun.lean ====
module

public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import proofs.«01_k».proof.Proof.ValBody
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over this algebra -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The buffers the body owns -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
abbrev cells (c : Dev nD) : sProp 𝕄 :=
  iprop(semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3] (by decide) (by decide)]; rfl
def R0 : Finset (Ref sig .tc) := {main_v2_0}
theorem R0_sub : R0 ⊆ Pipeline.restRefs sig spec0 \ ∅ := by decide

/-- The accumulator after the first `n` points. -/
def acc (c : Dev nD) : ℕ → Vec F S2816x1024 .f32
  | 0 => k0_pay1
  | n + 1 => if h : n < cfg0.N then k0_pay3 (iblk m c 0 ⟨n, h⟩) (acc c n) (iblk m c 2 ⟨n, h⟩) else acc c n

theorem acc_succ (c : Dev nD) (t : Fin cfg0.N) : acc m c (t.val + 1) = k0_pay3 (iblk m c 0 t) (acc m c t.val) (iblk m c 2 t) := by
  rw [acc, dif_pos t.isLt]

/-- The result left in HBM after the last point. -/
def slabsEnd (c : Dev nD) : HbBuf (F := F) c hbM6 := slabsOf (V m c main_v2_0) (acc m c cfg0.N)

/-- The contents named for the buffers the body writes. -/
def G (c : Dev nD) : (b : Ref sig .tc) → Buf (Elt F) ((c : Thread nD τ).loc b) := Function.update (V m c) main_v2_0 (slabsEnd m c)

theorem routed_eq (c : Dev nD) (W : (b : Ref sig .tc) → Buf (Elt F) ((c : Thread nD τ).loc b)) :
    (Pipeline.routed R0 c W : sProp 𝕄) = hbPt c hbM6 (W main_v2_0) := by
  unfold Pipeline.routed; rw [BI.bigSep_eq_bigSepL_of_eq [main_v2_0] (by decide) (by decide)]; rfl

theorem PhiDRG_eq (c : Dev nD) (W : (c : Dev nD) → (b : Ref sig .tc) → Buf (Elt F) ((c : Thread nD τ).loc b)) :
    (Pipeline.ΦDRG osem0 spec0 ∅ R0 (V m) W c : sProp 𝕄)
      = iprop((∃ d, owns (c : Thread nD τ) scM8 fullShare d) ∗ (∃ r, prngReg c r) ∗ cells c
          ∗ (bigSep ∅ fun b => ((c : Thread nD τ).loc b) ↦{fullShare} V m c b) ∗ hbPt c hbM6 (W c main_v2_0)) := by
  rw [Pipeline.ΦDRG_eq, scopedRest0_eq, ownSems00_eq, routed_eq]
  simp only [scM8, owns_whole]; try rfl

/-- The accumulator between points: anything before the first, then the sum so far. -/
def accHeld (c : Dev nD) (n : ℕ) : sProp 𝕄 :=
  if n = 0 then iprop(∃ d, owns (c : Thread nD τ) scM8 fullShare d) else owns (c : Thread nD τ) scM8 fullShare (acc m c n)
/-- The result left in HBM between points: as found, and at the end the copied rows. -/
def slabsHeld (c : Dev nD) (n : ℕ) : HbBuf (F := F) c hbM6 := if n = cfg0.N then slabsEnd m c else V m c main_v2_0

def inv (c : Dev nD) (n : ℕ) : sProp 𝕄 :=
  iprop(accHeld m c n ∗ (∃ r, prngReg c r) ∗ cells c
    ∗ (bigSep ∅ fun b => ((c : Thread nD τ).loc b) ↦{fullShare} V m c b) ∗ hbPt c hbM6 (slabsHeld m c n))

def outAt (c : Dev nD) (t : Fin cfg0.N) : Vec F S512x1024 .f32 := k0_pay2 (iblk m c 0 t) (iblk m c 1 t) (iblk m c 3 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-! ## The body at a point -/

theorem isFirst_iff : ∀ t : Fin cfg0.N, isFirst (grid0.coords t) ↔ t.val = 0 := by decide +kernel
theorem isLast_iff : ∀ t : Fin cfg0.N, isLast (grid0.coords t) ↔ t.val = 31 := by decide +kernel

abbrev ms0 (t : Fin cfg0.N) : Memref sig .tc .vmem S512x2816 .bf16 := win0_0.stage (cfg0.slots t 0)
abbrev ms1 (t : Fin cfg0.N) : Memref sig .tc .vmem S2816x1024 .bf16 := win0_1.stage (cfg0.slots t 1)
abbrev ms2 (t : Fin cfg0.N) : Memref sig .tc .vmem S512x1024 .f32 := win0_2.stage (cfg0.slots t 2)
abbrev ms3 (t : Fin cfg0.N) : Memref sig .tc .vmem S512x1024 .f32 := win0_3.stage (cfg0.slots t 3)
abbrev ms4 (t : Fin cfg0.N) : Memref sig .tc .vmem S512x1024 .f32 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  have hN : cfg0.N = 32 := N_0
  have ht := t.isLt
  unfold bodyPre bodyPost bodyAt0
  simp only [before0_of m (dats m 0 c) (A_eq m c 0) (after0 m c), before1_of m (dats m 0 c) (A_eq m c 1) (after1 m c),
    before2_of m (dats m 0 c) (A_eq m c 2) (after2 m c), before3_of m (dats m 0 c) (A_eq m c 3) (after3 m c)]
  rw [after0, after1, after2, after3, after4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have es : accHeld m c (t.val + 1) = owns (c : Thread nD τ) scM8 fullShare (k0_pay3 (iblk m c 0 t) (acc m c t.val) (iblk m c 2 t)) := by
    unfold accHeld; rw [if_neg (by omega), acc_succ]
  rw [es]
  unfold outAt
  by_cases h0 : t.val = 0
  · have eh : slabsHeld m c t.val = slabsHeld m c (t.val + 1) := by
      unfold slabsHeld; rw [if_neg (by omega), if_neg (by omega)]
    have ea : accHeld m c t.val = iprop(∃ d, owns (c : Thread nD τ) scM8 fullShare d) := by unfold accHeld; rw [if_pos h0]
    rw [eh, ea, show acc m c t.val = k0_pay1 by rw [h0, acc]]
    iintro ⟨⟨HA, Hg, Hq, HE, HG⟩, ⟨%W, -, HW⟩, ⟨%d0, H0⟩, ⟨%d1, H1⟩, ⟨%d2, H2⟩, ⟨%d3, H3⟩, ⟨%d4, H4⟩⟩
    iapply (run_first c (grid0.coords t) _ _ _ _ _ _ _ _ _ _ _ _ (iblk m c 0 t) (iblk m c 1 t) (iblk m c 2 t) (iblk m c 3 t)
      ((isFirst_iff t).mpr h0) (fun h => by have := (isLast_iff t).mp h; omega))
    isplitl [H0]; · iexact H0
    isplitl [H1]; · iexact H1
    isplitl [H2]; · iexact H2
    isplitl [H3]; · iexact H3
    isplitl [H4]; · iexists _; iexact H4
    isplitl [HA]; · iexact HA
    iintro ⟨H0, H1, H2, H3, H4, HA⟩
    isplitl [HA Hg Hq HE HG]
    · isplitl [HA]; · iexact HA
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4
  have ea : accHeld m c t.val = owns (c : Thread nD τ) scM8 fullShare (acc m c t.val) := by unfold accHeld; rw [if_neg h0]
  rw [ea]
  by_cases h1 : t.val = 31
  · have eh : slabsHeld m c t.val = V m c main_v2_0 := by unfold slabsHeld; rw [if_neg (by omega)]
    have eh' : slabsHeld m c (t.val + 1) = slabsOf (V m c main_v2_0) (k0_pay3 (iblk m c 0 t) (acc m c t.val) (iblk m c 2 t)) := by
      unfold slabsHeld; rw [if_pos (by omega), slabsEnd, ← acc_succ]; exact congrArg (fun n => slabsOf (V m c main_v2_0) (acc m c n)) (by omega)
    rw [eh, eh']
    iintro ⟨⟨HA, Hg, Hq, HE, HG⟩, ⟨%W, -, HW⟩, ⟨%d0, H0⟩, ⟨%d1, H1⟩, ⟨%d2, H2⟩, ⟨%d3, H3⟩, ⟨%d4, H4⟩⟩
    iapply (run_last c (grid0.coords t) _ _ _ _ _ _ _ _ _ _ _ _ (iblk m c 0 t) (iblk m c 1 t) (iblk m c 2 t) (iblk m c 3 t) (acc m c t.val)
      (fun h => h0 ((isFirst_iff t).mp h)) ((isLast_iff t).mpr h1) (V m c main_v2_0) W)
    icases Hq with ⟨Hq0, Hq1, Hq2, Hq3⟩
    isplitl [H0]; · iexact H0
    isplitl [H1]; · iexact H1
    isplitl [H2]; · iexact H2
    isplitl [H3]; · iexact H3
    isplitl [H4]; · iexists _; iexact H4
    isplitl [HA]; · iexact HA
    isplitl [Hq0]; · iexact Hq0
    isplitl [Hq1]; · iexact Hq1
    isplitl [Hq2]; · iexact Hq2
    isplitl [Hq3]; · iexact Hq3
    isplitl [HG]; · iexact HG
    isplitl [HW]; · iexact HW
    iintro ⟨H0, H1, H2, H3, H4, HA, Hq0, Hq1, Hq2, Hq3, HG, ⟨%W', HW⟩⟩
    isplitl [HA Hg Hq0 Hq1 Hq2 Hq3 HE HG]
    · isplitl [HA]; · iexact HA
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [HE]; · iexact HE
      iexact HG
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    iexact H4
  · have eh : slabsHeld m c t.val = slabsHeld m c (t.val + 1) := by
      unfold slabsHeld; rw [if_neg (by omega), if_neg (by omega)]
    rw [eh]
    iintro ⟨⟨HA, Hg, Hq, HE, HG⟩, ⟨%W, -, HW⟩, ⟨%d0, H0⟩, ⟨%d1, H1⟩, ⟨%d2, H2⟩, ⟨%d3, H3⟩, ⟨%d4, H4⟩⟩
    iapply (run_mid c (grid0.coords t) _ _ _ _ _ _ _ _ _ _ _ _ (iblk m c 0 t) (iblk m c 1 t) (iblk m c 2 t) (iblk m c 3 t) (acc m c t.val)
      (fun h => h0 ((isFirst_iff t).mp h)) (fun h => h1 ((isLast_iff t).mp h)))
    isplitl [H0]; · iexact H0
    isplitl [H1]; · iexact H1
    isplitl [H2]; · iexact H2
    isplitl [H3]; · iexact H3
    isplitl [H4]; · iexists _; iexact H4
    isplitl [HA]; · iexact HA
    iintro ⟨H0, H1, H2, H3, H4, HA⟩
    isplitl [HA Hg Hq HE HG]
    · isplitl [HA]; · iexact HA
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : Pipeline.ΦDRG osem0 spec0 ∅ R0 (V m) (V m) c ⊢ (dats m 0 c).Φ 0 := by
  rw [PhiDRG_eq, show (dats m 0 c).Φ 0 = inv m c 0 from rfl]
  unfold inv accHeld slabsHeld
  rw [if_pos rfl, if_neg (by rw [show cfg0.N = 32 from N_0]; decide)]
theorem inv_out (c : Dev nD) : (dats m 0 c).Φ (Fin.last cfg0.N) ⊢ Pipeline.ΦDRG osem0 spec0 ∅ R0 (V m) (G m) c := by
  rw [PhiDRG_eq, show (dats m 0 c).Φ (Fin.last cfg0.N) = inv m c cfg0.N from rfl]
  unfold inv accHeld slabsHeld G
  rw [if_neg (by rw [show cfg0.N = 32 from N_0]; decide), if_pos rfl, Function.update_self]
  iintro ⟨HA, Hg, Hq, HE, HG⟩
  isplitl [HA]; · iexists _; iexact HA
  isplitl [Hg]; · iexact Hg
  isplitl [Hq]; · iexact Hq
  isplitl [HE]; · iexact HE
  iexact HG

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (by simp) R0_sub m ρ main
    (hbody := fun c => (body_obligation m c).loose) (hshare := fun c => (dats m 0 c).share_full fun _ => rfl)
    (howed := fun _ _ => rfl) (V := V m) (hmain := hmain m Variants.none) (hA := A_eq m) (G := G m)
    (hin := inv_in m) (hout := inv_out m)

/-- What the run ends with: the two results and the arguments. -/
theorem ends : θ_run defs (onTc (τ := τ) (main (F := F))) ⟨m, fun _ => 0, ρ⟩ (fun r => (∀ c : Dev nD,
      (r.2.mem ((c : Thread nD τ).loc main_v2_0) = slabsEnd m c
      ∧ r.2.mem ((c : Thread nD τ).loc main_v2_1) = (dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨(h.1.written c (by decide : main_v2_0 ∈ R0)).trans (by unfold G; rw [Function.update_self]),
      (h.1.toR c).1 4⟩,
      ((h.1.toR c).2 main_arg0 (Finset.mem_sdiff.mpr ⟨Pipeline.mem_restRefs_of main_arg0 (by decide) (by decide), by decide⟩)).trans (V_main_arg0 m c),
      ((h.1.toR c).1 0).trans (((dats m 0 c).arrAt_in 0 rfl _).trans ((A_eq m c 0).trans (V_main_arg1 m c))),
      ((h.1.toR c).2 main_arg2 (Finset.mem_sdiff.mpr ⟨Pipeline.mem_restRefs_of main_arg2 (by decide) (by decide), by decide⟩)).trans (V_main_arg2 m c),
      ((h.1.toR c).1 2).trans (((dats m 0 c).arrAt_in 2 rfl _).trans ((A_eq m c 2).trans (V_main_arg3 m c))),
      ((h.1.toR c).1 3).trans (((dats m 0 c).arrAt_in 3 rfl _).trans ((A_eq m c 3).trans (V_main_arg4 m c)))⟩, h.2⟩) (run_main m ρ)

/-- The same run with the arguments and the counters only. -/
theorem ends_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (ends m ρ)

end Cert.Kernel2Ideal.Hand

end
-- ==== Proof.ValValue.lean ====
module

public import proofs.«01_k».proof.Proof.ValRun
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The reference's cotangent of the layer's input. -/
def DX (D : FVec Ideal S16384x2816 .bf16) (W : FVec Ideal S1024x2816 .f32) (Z : FVec Ideal S16384x1024 .f32) : FVec Ideal S16384x1024 .f32 :=
  addf Z
    (Host.dotGeneral Cert.Reference2Ideal.dot_S16384x2816_S1024x2816_S16384x1024_1_1_0_0_n_n none (extf .f32 D Cert.Reference2Ideal.Gen.bitsLt_bf16_f32) W)

/-- The reference's cotangent of the projection's weight, one row per hidden channel. -/
def DW (D : FVec Ideal S16384x2816 .bf16) (X : FVec Ideal S16384x1024 .f32) : FVec Ideal S2816x1024 .f32 :=
  transpose Cert.Reference2Ideal.S2816x1024 [1, 0] (transpose Cert.Reference2Ideal.S1024x2816 [1, 0]
    (Host.dotGeneral Cert.Reference2Ideal.dot_S16384x2816_S16384x1024_S2816x1024_0_0_1_1_n_n none (extf .f32 D Cert.Reference2Ideal.Gen.bitsLt_bf16_f32) X)
    Cert.Reference2Ideal.Gen.transposes_S2816x1024_S1024x2816_1_0) Cert.Reference2Ideal.Gen.transposes_S1024x2816_S2816x1024_1_0

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem V_slabs (c : Dev nD) : V m c main_v2_0 = m ((c : Thread nD τ).loc main_arg0) := by
  entry_read; try rfl

theorem point4 (c : Dev nD) (t : Fin cfg0.N) (y : S512x1024.Idx) : outAt m c t y
    = DX (m ((c : Thread nD τ).loc main_arg1)) (m ((c : Thread nD τ).loc main_arg2)) (m ((c : Thread nD τ).loc main_arg4)) (((cfg0.win 4).blk t).view.emb y) := by
  unfold outAt
  pointwise [k0_pay2, DX]
  rw [add_comm]
  blk_point [iblk, V, idx t]

theorem final4 (c : Dev nD) : (dats m 0 c).arrAt 4 cfg0.N
    = DX (m ((c : Thread nD τ).loc main_arg1)) (m ((c : Thread nD τ).loc main_arg2)) (m ((c : Thread nD τ).loc main_arg4)) := by
  refine (dats m 0 c).arrAt_eq_of_covers 4 _ (by decide +kernel) fun t _ y => ?_
  blk_simp
  rw [after4]
  exact point4 m c t y

/-- One block's contribution to an element of the weight's gradient. -/
def colProd (D : FVec Ideal S512x2816 .bf16) (X : FVec Ideal S512x1024 .f32) (a : Fin 2816) (b : Fin 1024) : EReal :=
  ∑ k : Fin 512, D (ix2 k a) * X (ix2 k b)

theorem pay3_at (D : FVec Ideal S512x2816 .bf16) (A : FVec Ideal S2816x1024 .f32) (X : FVec Ideal S512x1024 .f32) (a : Fin 2816) (b : Fin 1024) :
    k0_pay3 D A X (ix2 a b) = A (ix2 a b) + colProd D X a b := by
  unfold colProd
  pointwise [k0_pay3]

theorem acc_at (c : Dev nD) (a : Fin 2816) (b : Fin 1024) : ∀ n (hn : n ≤ cfg0.N), acc m c n (ix2 a b)
    = ∑ s : Fin n, colProd (iblk m c 0 ⟨s.val, lt_of_lt_of_le s.isLt hn⟩) (iblk m c 2 ⟨s.val, lt_of_lt_of_le s.isLt hn⟩) a b
  | 0, _ => by
    rw [Finset.univ_eq_empty, Finset.sum_empty]
    change k0_pay1 (ix2 a b) = 0
    pointwise [k0_pay1]
  | n + 1, hn => by
    rw [acc_succ m c ⟨n, hn⟩, pay3_at, acc_at c a b n (Nat.le_of_succ_le hn), Fin.sum_univ_castSucc]
    rfl

theorem DW_at (D : FVec Ideal S16384x2816 .bf16) (X : FVec Ideal S16384x1024 .f32) (a : Fin 2816) (b : Fin 1024) :
    DW D X (ix2 a b) = ∑ s : Fin 32, ∑ k : Fin 512, D (ix2 ⟨s.val * 512 + k.val, by omega⟩ a) * X (ix2 ⟨s.val * 512 + k.val, by omega⟩ b) := by
  pointwise [DW]
  rw [Fin.sum_univ_tiles 32 512 rfl]

theorem acc_eq (c : Dev nD) : acc m c cfg0.N = DW (m ((c : Thread nD τ).loc main_arg1)) (m ((c : Thread nD τ).loc main_arg3)) := by
  funext j
  idx_vars j
  rw [acc_at m c _ _ _ le_rfl, DW_at]
  refine Finset.sum_congr rfl fun s _ => ?_
  unfold colProd
  refine Finset.sum_congr rfl fun k _ => ?_
  blk_point [iblk, V, idx ⟨s.val, s.isLt⟩]

/-- The reference's first result: the weight's gradient laid into the slabs. -/
def SLABS (A : FVec Ideal S8x1472x1024 .f32) (G : FVec Ideal S2816x1024 .f32) : FVec Ideal S8x1472x1024 .f32 :=
  Host.dynamicUpdateSlice A (shapeCast _ G Cert.Reference2Ideal.Gen.shapeCasts_S2816x1024_S4x704x1024)
    (fun k => (((![constantI Cert.Reference2Ideal.S_ 32 4#32, constantI Cert.Reference2Ideal.S_ 32 352#32, constantI Cert.Reference2Ideal.S_ 32 0#32] : Fin 3 → (⟨Cert.Reference2Ideal.S_, .i32⟩ : BufTy).Contents (Elt Ideal)) k (Shape.Idx.first Cert.Reference2Ideal.Gen.h_S_))).toInt)
    Cert.Reference2Ideal.Gen.updateFits_S8x1472x1024_S4x704x1024

theorem start0 : Host.clampedStart S8x1472x1024 Cert.Reference2Ideal.S4x704x1024 rfl (fun k => (((![constantI Cert.Reference2Ideal.S_ 32 4#32, constantI Cert.Reference2Ideal.S_ 32 352#32, constantI Cert.Reference2Ideal.S_ 32 0#32] : Fin 3 → (⟨Cert.Reference2Ideal.S_, .i32⟩ : BufTy).Contents (Elt Ideal)) k (Shape.Idx.first Cert.Reference2Ideal.Gen.h_S_))).toInt) 0 = 4 := rfl
theorem start1 : Host.clampedStart S8x1472x1024 Cert.Reference2Ideal.S4x704x1024 rfl (fun k => (((![constantI Cert.Reference2Ideal.S_ 32 4#32, constantI Cert.Reference2Ideal.S_ 32 352#32, constantI Cert.Reference2Ideal.S_ 32 0#32] : Fin 3 → (⟨Cert.Reference2Ideal.S_, .i32⟩ : BufTy).Contents (Elt Ideal)) k (Shape.Idx.first Cert.Reference2Ideal.Gen.h_S_))).toInt) 1 = 352 := rfl
theorem start2 : Host.clampedStart S8x1472x1024 Cert.Reference2Ideal.S4x704x1024 rfl (fun k => (((![constantI Cert.Reference2Ideal.S_ 32 4#32, constantI Cert.Reference2Ideal.S_ 32 352#32, constantI Cert.Reference2Ideal.S_ 32 0#32] : Fin 3 → (⟨Cert.Reference2Ideal.S_, .i32⟩ : BufTy).Contents (Elt Ideal)) k (Shape.Idx.first Cert.Reference2Ideal.Gen.h_S_))).toInt) 2 = 0 := rfl

theorem slabs_eq (A : FVec Ideal S8x1472x1024 .f32) (G : FVec Ideal S2816x1024 .f32) : slabsOf (F := Ideal) A G = SLABS A G := by
  funext j
  idx_vars j
  pointwise [slabsOf, accRows, SLABS]
  have s0 := start0; have s1 := start1; have s2 := start2
  simp only [s0, s1, s2]
  by_cases hr : 352 ≤ j1.val ∧ j1.val < 1056
  · by_cases q3 : 4 ≤ j0.val
    · rw [dif_pos (show 4 ≤ j0.val ∧ (352 ≤ j1.val ∧ j1.val < 352 + 704) ∧ 0 ≤ j2.val by omega)]
      split_ifs <;> first | omega | skip
      all_goals (refine congrArg G ?_; blk_ext; all_goals omega)
    · rw [dif_neg (by omega), dif_neg (by omega), dif_neg (by omega), dif_neg (by omega), dif_neg (by omega)]
  · rw [dif_neg (by omega), dif_neg (by omega), dif_neg (by omega), dif_neg (by omega), dif_neg (by omega)]

theorem ends_value (ρ : Dev nD → PrngReg) : θ_run defs (onTc (τ := τ) (main (F := Ideal))) ⟨m, fun _ => 0, ρ⟩ (fun r => ∀ c : Dev nD,
      r.2.mem ((c.tc : Thread nD τ).loc main_v2_0) = SLABS (m ((c.tc : Thread nD τ).loc main_arg0)) (DW (m ((c.tc : Thread nD τ).loc main_arg1)) (m ((c.tc : Thread nD τ).loc main_arg3)))
      ∧ r.2.mem ((c.tc : Thread nD τ).loc main_v2_1) = DX (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1.1.trans (by unfold slabsEnd; rw [slabs_eq, V_slabs, acc_eq]), (h.1 c).1.2.trans (final4 m c), (h.1 c).2⟩) (ends m ρ)

end Cert.Kernel2Ideal.Hand

end
-- ==== Proof.FfnBody.lean ====
module

public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Frame
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.Pipeline.ValueKit
public import Idealize.ShloMosaic.Lib.WordCmp

@[expose] public section

set_option maxRecDepth 16384

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S8x1472x1024 .f32 := Memref.whole main_v58_0
abbrev scU : Memref sig .tc .vmem S264x2816 .f32 := Memref.whole cc0_scratch0
abbrev scD : Memref sig .tc .vmem S264x2816 .f32 := Memref.whole cc0_scratch1
abbrev scW : Memref sig .tc .vmem S2816x1024 .f32 := Memref.whole cc0_scratch2
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev isFirst (i : grid0.Coords) : Prop := k0_cond1 i = 1#1
abbrev isLater (i : grid0.Coords) : Prop :=
  Scalar.cmpi .ne (Scalar.extui (Scalar.cmpi .sgt (BitVec.ofNat 32 (i 0).val) 0#32) : BitVec 32) 0#32 = 1#1
abbrev isLast (i : grid0.Coords) : Prop :=
  Scalar.cmpi .ne (Scalar.extui (Scalar.cmpi .eq (BitVec.ofNat 32 (i 0).val) 63#32) : BitVec 32) 0#32 = 1#1

/-- A load of a whole buffer reads what the buffer is held at. -/
theorem load_full {κ : Kind} {sp : Space} {s : Shape} {e : EltTy} (v : View sig κ sp s e) (f : v.ty.Contents (Elt F)) {off : Fin s.rank → ℕ}
    (inb : ∀ a, off a + s.size a ≤ s.size a) {X : s.Idx → Elt F e} (h : View.read (Elt F) v f = X) :
    View.readAt (Elt F) v (Rect.unit off s.size inb).toLoadRect f = X := (View.readAt_full v f inb).trans h

section lists
variable {Val : EltTy → Type} [∀ e, Nonempty (Val e)] {κ : Kind} {sp : Space} {s : Shape} {e : EltTy}

/-- The piece that stands for a buffer's contents before the stores. -/
abbrev under (X : s.Idx → Val e) : View.Piece Val s e := ⟨Rect.unit (fun _ => 0) s.size (fun _ => by simp), X⟩

theorem canon_under (X : s.Idx → Val e) : View.canon [under X] = X := View.canon_cons_unit_lit _ X [] fun _ => rfl

theorem canon_append {M M' : List (View.Piece Val s e)} (h : View.canon M = View.canon M') :
    ∀ L : List (View.Piece Val s e), View.canon (L ++ M) = View.canon (L ++ M')
  | [] => h
  | p :: L => by rw [List.cons_append, List.cons_append, View.canon_cons, View.canon_cons, canon_append h L]

/-- Stores into a buffer, covering it or not: the stores over what it held. -/
theorem read_writes_under (v : View sig κ sp s e) (f : v.ty.Contents Val) :
    ∀ L : List (View.Piece Val s e), v.read Val (v.writes Val f L) = View.canon (L ++ [under (v.read Val f)])
  | [] => (canon_under _).symm
  | p :: L => by
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy, read_writes_under v f L]

theorem read_of_under {v : View sig κ sp s e} {f : v.ty.Contents Val} {L L' : List (View.Piece Val s e)} (h : L ++ [under (v.read Val f)] = L') :
    v.read Val (v.writes Val f L) = View.canon L' := h ▸ read_writes_under v f L

theorem read_of_list {v : View sig κ sp s e} {f : v.ty.Contents Val} {L L' : List (View.Piece Val s e)} (hc : ∀ y, ∃ p ∈ L', y ∈ p.1.set) (h : L = L') :
    v.read Val (v.writes Val f L) = View.canon L' := by subst h; exact View.read_writes_eq_canon _ _ _ hc

/-- Stores over a fill of the whole buffer. -/
theorem read_of_fill {v : View sig κ sp s e} {f : v.ty.Contents Val} {L L' : List (View.Piece Val s e)} {X : s.Idx → Val e} {off : Fin s.rank → ℕ}
    (inb : ∀ a, off a + s.size a ≤ s.size a) (ho : ∀ a, off a = 0) (h : L' = L ++ [⟨Rect.unit off s.size inb, X⟩]) :
    v.read Val (v.writes Val f L') = View.canon (L ++ [under X]) := by
  have hX : View.canon [(⟨Rect.unit off s.size inb, X⟩ : View.Piece Val s e)] = X := View.canon_cons_unit_lit _ X [] ho
  rw [read_writes_under, h, List.append_assoc]
  refine canon_append ?_ L
  rw [canon_under, List.singleton_append]
  exact View.canon_cons_unit_lit _ X _ ho

theorem canon_skip (X : s.Idx → Val e) (r : Rect s) : ∀ L : List (View.Piece Val s e),
    (L.all fun p => LoadRect.disj p.1 r.toLoadRect) = true → ∀ j, View.canon (L ++ [under X]) (r.toLoadRect.idx j) = X (r.toLoadRect.idx j)
  | [], _, j => congrFun (canon_under X) _
  | p :: L, h, j => by
    rw [List.all_cons, Bool.and_eq_true] at h
    rw [List.cons_append, View.canon_cons_of_not_mem p _ (LoadRect.idx_not_mem_of_disj h.1 j)]
    exact canon_skip X r L h.2 j

/-- A load that misses every store but the first, which filled the buffer, reads what it was filled with. -/
theorem readCov_drop (v : View sig κ sp s e) (L : List (View.Piece Val s e)) (X : s.Idx → Val e) (r : Rect s) {off : Fin s.rank → ℕ}
    (inb : ∀ a, off a + s.size a ≤ s.size a) (ho : ∀ a, off a = 0) (hL : L = L.dropLast ++ [⟨Rect.unit off s.size inb, X⟩])
    (hd : (L.dropLast.all fun p => LoadRect.disj p.1 r.toLoadRect) = true) : v.readCov L r.toLoadRect = View.ld X r := by
  rw [View.readCov_eq_canon', hL, canon_append (M' := [under X]) ((View.canon_cons_unit_lit _ X [] ho).trans (canon_under X).symm)]
  exact funext fun j => canon_skip X r _ hd j

theorem canon_covered {Val : EltTy → Type} [∀ e, Nonempty (Val e)] {s : Shape} {e : EltTy} {L L' : List (View.Piece Val s e)} {M : List (View.Piece Val s e)}
    (hc : ∀ y, ∃ p ∈ L, y ∈ p.1.set) (h : L = L') : View.canon (L ++ M) = View.canon L' := by
  subst h
  funext y
  have hy := hc y
  clear hc
  induction L with
  | nil => obtain ⟨p, hp, _⟩ := hy; exact absurd hp List.not_mem_nil
  | cons q L ih =>
    by_cases hq : y ∈ q.1.set
    · obtain ⟨r, w⟩ := q
      obtain ⟨x, rfl⟩ : ∃ x, r.emb x = y := r.exists_idx_of_mem hq
      rw [List.cons_append, View.canon_cons_emb, View.canon_cons_emb]
    · rw [List.cons_append, View.canon_cons_of_not_mem q _ hq, View.canon_cons_of_not_mem q _ hq]
      refine ih ?_
      obtain ⟨p, hp, hy⟩ := hy
      rcases List.mem_cons.mp hp with rfl | hp
      · exact absurd hy hq
      · exact ⟨p, hp, hy⟩

end lists

/-! ## What a point leaves, in eleven groups of 256 lanes -/

abbrev rT (q : Fin 11) : Rect S256x2816 := Rect.unit ![0, 256 * q.val] S256x256.size (by revert q; decide)
abbrev rP (q : Fin 11) : Rect S1024x2816 := Rect.unit ![0, 256 * q.val] S1024x256.size (by revert q; decide)
abbrev rW (q : Fin 11) : Rect S2816x1024 := Rect.unit ![256 * q.val, 0] S256x1024.size (by revert q; decide)
abbrev rS (k : Fin 9) (q : Fin 11) : Rect S264x2816 := Rect.unit ![k.val, 256 * q.val] S256x256.size (by revert k q; decide)
abbrev rC (k : Fin 4) (q : Fin 11) : Rect S8x2816 := Rect.unit ![k.val, 256 * q.val] S1x256.size (by revert k q; decide)
abbrev rV (k : Fin 2) : Rect S8x1024 := Rect.unit ![k.val, 0] S1x1024.size (by revert k; decide)
abbrev rZ : Rect S256x1024 := Rect.unit ![0, 0] S256x1024.size inb_S256x1024_S256x1024_0_0
abbrev rH : Rect S256x2816 := Rect.unit ![0, 0] S256x2816.size inb_S256x2816_S256x2816_0_0
abbrev rG : Rect S16x2816 := Rect.unit ![0, 0] S16x2816.size inb_S16x2816_S16x2816_0_0

section forms
variable (a0 : BitVec 32) (X2 X3 : Vec F S256x1024 .f32) (X4 X5 X6 X7 : Vec F S256x2816 .bf16) (X8 : Vec F S16x2816 .bf16) (X9 : Vec F S8x2816 .f32)
  (X10 : Vec F S1024x2816 .bf16) (X11 : Vec F S8x1024 .f32) (X16 : Vec F S8x2816 .f32) (X17 : Vec F S8x1024 .f32) (X20 : Vec F S264x2816 .f32) (X21 : Vec F S2816x1024 .f32)
  (cr : FVec F S8x2816 .f32)

/-- The gradient of the layer's normalised sum, and the same scaled for the products. -/
def dzK : Vec F S256x1024 .f32 := k0_pay15 (k0_pay9 (View.ld X3 rZ)) (k0_pay10 (View.ld X3 rZ)) (View.ld X2 rZ) (View.ld X11 (rV 0))
def dyK : Vec F S256x1024 .bf16 := k0_pay16 (k0_pay9 (View.ld X3 rZ)) (k0_pay10 (View.ld X3 rZ)) (View.ld X2 rZ) (View.ld X11 (rV 0))
/-- The gate rows with the eight before them. -/
def uL : List (View.Piece (Elt F) S264x2816 .f32) :=
  [⟨Rect.unit ![8, 0] S256x2816.size inb_S264x2816_S256x2816_8_0, k0_pay19 (k0_pay18 (View.ld X4 rH))⟩,
   ⟨Rect.unit ![0, 0] S8x2816.size inb_S264x2816_S8x2816_0_0, k0_pay17 a0 (View.ld X8 rG)⟩]
def tapK (k : Fin 9) (q : Fin 11) : Vec F S256x256 .f32 := scU.view.readCov (uL a0 X4 X8) (rS k q).toLoadRect
def dgK (q : Fin 11) : FVec F S256x256 .f32 := k0_pay25 (dyK X2 X3 X11) (View.ld X5 (rT q)) (View.ld X10 (rP q)) (View.ld X7 (rT q))
/-- The gate's gradient with the eight rows after it, as far as group `n`. -/
def dgL : ℕ → List (View.Piece (Elt F) S264x2816 .f32)
  | 0 => [⟨Rect.unit ![256, 0] S8x2816.size inb_S264x2816_S8x2816_256_0, cr⟩]
  | n + 1 => ⟨rS 0 (Fin.ofNat 11 n), k0_pay26 (dgK X2 X3 X5 X7 X10 X11 (Fin.ofNat 11 n))⟩ :: dgL n
def shK (k : Fin 9) (q : Fin 11) : Vec F S256x256 .f32 := scD.view.readCov (dgL X2 X3 X5 X7 X10 X11 cr (q.val + 1)) (rS k q).toLoadRect
def dugP (q : Fin 11) : View.Piece (Elt F) S256x2816 .bf16 :=
  ⟨rT q, k0_pay32 (k0_pay31 (dgK X2 X3 X5 X7 X10 X11 q) (View.ld X9 (rC 2 q))) (View.ld X9 (rC 1 q)) (shK X2 X3 X5 X7 X10 X11 cr 1 q)
    (View.ld X9 (rC 0 q)) (shK X2 X3 X5 X7 X10 X11 cr 2 q)⟩
def duvP (q : Fin 11) : View.Piece (Elt F) S256x2816 .bf16 := ⟨rT q, k0_pay24 (dyK X2 X3 X11) (View.ld X6 (rT q)) (View.ld X10 (rP q))⟩
/-- The sums so far are `w`, group by group. -/
def dwdP (w : Fin 11 → Vec F S256x1024 .f32) (q : Fin 11) : View.Piece (Elt F) S2816x1024 .f32 :=
  ⟨rW q, k0_pay22 (dyK X2 X3 X11) (View.ld X6 (rT q)) (View.ld X5 (rT q)) (w q)⟩
def dcfP (w : Fin 11 → Fin 4 → Vec F S1x256 .f32) (q : Fin 11) : List (View.Piece (Elt F) S8x2816 .f32) :=
  [⟨rC 2 q, k0_pay30 (tapK a0 X4 X8 8 q) (dgK X2 X3 X5 X7 X10 X11 q) (w q 2)⟩,
   ⟨rC 1 q, k0_pay29 (tapK a0 X4 X8 7 q) (dgK X2 X3 X5 X7 X10 X11 q) (w q 1)⟩,
   ⟨rC 0 q, k0_pay28 (tapK a0 X4 X8 6 q) (dgK X2 X3 X5 X7 X10 X11 q) (w q 0)⟩,
   ⟨rC 3 q, k0_pay27 (dgK X2 X3 X5 X7 X10 X11 q) (w q 3)⟩]
def dv2P (w : Fin 2 → Vec F S1x1024 .f32) : List (View.Piece (Elt F) S8x1024 .f32) :=
  [⟨rV 1, k0_pay14 (k0_pay12 (w 1)) (k0_pay13 (View.ld X2 rZ))⟩, ⟨rV 0, k0_pay11 (View.ld X3 rZ) (View.ld X2 rZ) (w 0)⟩]
def groups {α : Type} (f : Fin 11 → α) : List α := [f 10, f 9, f 8, f 7, f 6, f 5, f 4, f 3, f 2, f 1, f 0]

def dugK : Vec F S256x2816 .bf16 := View.canon (groups (dugP X2 X3 X5 X7 X9 X10 X11 cr))
def duvK : Vec F S256x2816 .bf16 := View.canon (groups (duvP X2 X3 X6 X10 X11))
def dwdK : Vec F S2816x1024 .f32 := View.canon (groups (dwdP X2 X3 X5 X6 X11 fun q => View.ld X21 (rW q)))
def dgbK : Vec F S264x2816 .f32 := View.canon (dgL X2 X3 X5 X7 X10 X11 cr 11)
def dcfK : Vec F S8x2816 .f32 := View.canon ((groups (dcfP a0 X2 X3 X4 X5 X7 X8 X10 X11 fun q k => View.ld X16 (rC k q))).flatten ++ [under X16])
def dv2K : Vec F S8x1024 .f32 := View.canon (dv2P X2 X3 (fun k => View.ld X17 (rV k)) ++ [under X17])
/-- The eight rows a point hands to the one before it in the sequence. -/
def carryK : FVec F S8x2816 .f32 := k0_pay7 (View.ld X20 (Rect.unit ![0, 0] S8x2816.size inb_S264x2816_S8x2816_0_0))

theorem dug_cover : ∀ y, ∃ p ∈ groups (dugP X2 X3 X5 X7 X9 X10 X11 cr), y ∈ p.1.set := View.cover_of_tiledL _ S256x256.size (by sl_kernel_rfl)
theorem duv_cover : ∀ y, ∃ p ∈ groups (duvP X2 X3 X6 X10 X11), y ∈ p.1.set := View.cover_of_tiledL _ S256x256.size (by sl_kernel_rfl)
theorem dwd_cover (w : Fin 11 → Vec F S256x1024 .f32) : ∀ y, ∃ p ∈ groups (dwdP X2 X3 X5 X6 X11 w), y ∈ p.1.set := View.cover_of_tiledL _ S256x1024.size (by sl_kernel_rfl)
theorem dgb_cover : ∀ y, ∃ p ∈ dgL X2 X3 X5 X7 X10 X11 cr 11, y ∈ p.1.set := View.cover_of_tiledBy _ ![8, 256] (by sl_kernel_rfl)
end forms

theorem hb_of_eq (c : Dev nD) {f g : S8x1472x1024.Idx → Elt F .f32} (h : f = g) : (hbPt c hbM f : sProp 𝕄) ⊢ hbPt c hbM g := by subst h; exact .rfl

/-- A copy into rows of the result left in HBM, through the squeezed slice the body names, is an update of it. -/
theorem write_rows (off : Fin 3 → ℕ) (inb : ∀ a, off a + S1x352x1024.size a ≤ S8x1472x1024.size a) (hst) (hsq)
    (f : S8x1472x1024.Idx → Elt F .f32) (w : S352x1024.Idx → Elt F .f32) :
    View.write (Elt F) ((hbM.slice (Rect.unit (s := S8x1472x1024) off S1x352x1024.size inb) hst).squeeze S352x1024 hsq).view f w Finset.univ
      = updateSlice f (shapeCast S1x352x1024 w (by decide)) off ⟨rfl, inb⟩ := by
  refine (View.write_reshape_univ _ _ _ _).trans ?_
  exact View.write_whole_slice_unit main_v58_0 off S1x352x1024.size inb f _

/-- The rows of the accumulator a copy reads. -/
def accRows (off : Fin 2 → ℕ) (inb : ∀ a, off a + S352x1024.size a ≤ S2816x1024.size a) (A : S2816x1024.Idx → Elt F .f32) : S352x1024.Idx → Elt F .f32 :=
  fun x => A ((Rect.unit (s := S2816x1024) off S352x1024.size inb).emb x)

theorem read_rows (off : Fin 2 → ℕ) (inb : ∀ a, off a + S352x1024.size a ≤ S2816x1024.size a) (hst) (f : BufTy.Contents (Elt F) scW.view.ty) (A)
    (h : View.read (Elt F) scW.view f = A) :
    View.read (Elt F) (scW.slice (Rect.unit (s := S2816x1024) off S352x1024.size inb) hst).view f = accRows off inb A := by
  subst h; rfl

/-- The result left in HBM after the last point: the sum's eight row groups over the last rows of the slabs. -/
def slabsOf (f : S8x1472x1024.Idx → Elt F .f32) (A : S2816x1024.Idx → Elt F .f32) : S8x1472x1024.Idx → Elt F .f32 :=
  updateSlice (updateSlice (updateSlice (updateSlice (updateSlice (updateSlice (updateSlice (updateSlice f
    (shapeCast S1x352x1024 (accRows ![0, 0] inb_S2816x1024_S352x1024_0_0 A) (by decide)) ![0, 1056, 0] ⟨rfl, inb_S8x1472x1024_S1x352x1024_0_1056_0⟩)
    (shapeCast S1x352x1024 (accRows ![352, 0] inb_S2816x1024_S352x1024_352_0 A) (by decide)) ![1, 1056, 0] ⟨rfl, inb_S8x1472x1024_S1x352x1024_1_1056_0⟩)
    (shapeCast S1x352x1024 (accRows ![704, 0] inb_S2816x1024_S352x1024_704_0 A) (by decide)) ![2, 1056, 0] ⟨rfl, inb_S8x1472x1024_S1x352x1024_2_1056_0⟩)
    (shapeCast S1x352x1024 (accRows ![1056, 0] inb_S2816x1024_S352x1024_1056_0 A) (by decide)) ![3, 1056, 0] ⟨rfl, inb_S8x1472x1024_S1x352x1024_3_1056_0⟩)
    (shapeCast S1x352x1024 (accRows ![1408, 0] inb_S2816x1024_S352x1024_1408_0 A) (by decide)) ![4, 1056, 0] ⟨rfl, inb_S8x1472x1024_S1x352x1024_4_1056_0⟩)
    (shapeCast S1x352x1024 (accRows ![1760, 0] inb_S2816x1024_S352x1024_1760_0 A) (by decide)) ![5, 1056, 0] ⟨rfl, inb_S8x1472x1024_S1x352x1024_5_1056_0⟩)
    (shapeCast S1x352x1024 (accRows ![2112, 0] inb_S2816x1024_S352x1024_2112_0 A) (by decide)) ![6, 1056, 0] ⟨rfl, inb_S8x1472x1024_S1x352x1024_6_1056_0⟩)
    (shapeCast S1x352x1024 (accRows ![2464, 0] inb_S2816x1024_S352x1024_2464_0 A) (by decide)) ![7, 1056, 0] ⟨rfl, inb_S8x1472x1024_S1x352x1024_7_1056_0⟩

/-- The same as the run writes it. -/
def slabsW (f : S8x1472x1024.Idx → Elt F .f32) (A : S2816x1024.Idx → Elt F .f32) : S8x1472x1024.Idx → Elt F .f32 :=
  (View.write (Elt F) ((hbM.slice (Rect.unit (s := S8x1472x1024) ![7, 1056, 0] S1x352x1024.size inb_S8x1472x1024_S1x352x1024_7_1056_0) (fun _ => rfl)).squeeze S352x1024 squeezes_S1x352x1024_S352x1024).view
    (View.write (Elt F) ((hbM.slice (Rect.unit (s := S8x1472x1024) ![6, 1056, 0] S1x352x1024.size inb_S8x1472x1024_S1x352x1024_6_1056_0) (fun _ => rfl)).squeeze S352x1024 squeezes_S1x352x1024_S352x1024).view
    (View.write (Elt F) ((hbM.slice (Rect.unit (s := S8x1472x1024) ![5, 1056, 0] S1x352x1024.size inb_S8x1472x1024_S1x352x1024_5_1056_0) (fun _ => rfl)).squeeze S352x1024 squeezes_S1x352x1024_S352x1024).view
    (View.write (Elt F) ((hbM.slice (Rect.unit (s := S8x1472x1024) ![4, 1056, 0] S1x352x1024.size inb_S8x1472x1024_S1x352x1024_4_1056_0) (fun _ => rfl)).squeeze S352x1024 squeezes_S1x352x1024_S352x1024).view
    (View.write (Elt F) ((hbM.slice (Rect.unit (s := S8x1472x1024) ![3, 1056, 0] S1x352x1024.size inb_S8x1472x1024_S1x352x1024_3_1056_0) (fun _ => rfl)).squeeze S352x1024 squeezes_S1x352x1024_S352x1024).view
    (View.write (Elt F) ((hbM.slice (Rect.unit (s := S8x1472x1024) ![2, 1056, 0] S1x352x1024.size inb_S8x1472x1024_S1x352x1024_2_1056_0) (fun _ => rfl)).squeeze S352x1024 squeezes_S1x352x1024_S352x1024).view
    (View.write (Elt F) ((hbM.slice (Rect.unit (s := S8x1472x1024) ![1, 1056, 0] S1x352x1024.size inb_S8x1472x1024_S1x352x1024_1_1056_0) (fun _ => rfl)).squeeze S352x1024 squeezes_S1x352x1024_S352x1024).view
    (View.write (Elt F) ((hbM.slice (Rect.unit (s := S8x1472x1024) ![0, 1056, 0] S1x352x1024.size inb_S8x1472x1024_S1x352x1024_0_1056_0) (fun _ => rfl)).squeeze S352x1024 squeezes_S1x352x1024_S352x1024).view
    f (accRows ![0, 0] inb_S2816x1024_S352x1024_0_0 A) Finset.univ) (accRows ![352, 0] inb_S2816x1024_S352x1024_352_0 A) Finset.univ) (accRows ![704, 0] inb_S2816x1024_S352x1024_704_0 A) Finset.univ) (accRows ![1056, 0] inb_S2816x1024_S352x1024_1056_0 A) Finset.univ) (accRows ![1408, 0] inb_S2816x1024_S352x1024_1408_0 A) Finset.univ) (accRows ![1760, 0] inb_S2816x1024_S352x1024_1760_0 A) Finset.univ) (accRows ![2112, 0] inb_S2816x1024_S352x1024_2112_0 A) Finset.univ) (accRows ![2464, 0] inb_S2816x1024_S352x1024_2464_0 A) Finset.univ)

theorem slabsW_eq (f : S8x1472x1024.Idx → Elt F .f32) (A : S2816x1024.Idx → Elt F .f32) : slabsW f A = slabsOf f A := by
  unfold slabsOf slabsW
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  exact write_rows _ _ _ _ _ _

section run
variable (c : Dev nD) (i : grid0.Coords)
  (arg1 : Memref sig .tc .hbm S8x1472x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x2816 .bf16) (harg4 : arg4.IsWhole)
  (arg5 : Memref sig .tc .vmem S256x2816 .bf16) (harg5 : arg5.IsWhole)
  (arg6 : Memref sig .tc .vmem S256x2816 .bf16) (harg6 : arg6.IsWhole)
  (arg7 : Memref sig .tc .vmem S256x2816 .bf16) (harg7 : arg7.IsWhole)
  (arg8 : Memref sig .tc .vmem S16x2816 .bf16) (harg8 : arg8.IsWhole)
  (arg9 : Memref sig .tc .vmem S8x2816 .f32) (harg9 : arg9.IsWhole)
  (arg10 : Memref sig .tc .vmem S1024x2816 .bf16) (harg10 : arg10.IsWhole)
  (arg11 : Memref sig .tc .vmem S8x1024 .f32) (harg11 : arg11.IsWhole)
  (arg13 : Memref sig .tc .vmem S256x2816 .bf16) (harg13 : arg13.IsWhole)
  (arg14 : Memref sig .tc .vmem S256x2816 .bf16) (harg14 : arg14.IsWhole)
  (arg15 : Memref sig .tc .vmem S256x1024 .f32) (harg15 : arg15.IsWhole)
  (arg16 : Memref sig .tc .vmem S8x2816 .f32) (harg16 : arg16.IsWhole)
  (arg17 : Memref sig .tc .vmem S8x1024 .f32) (harg17 : arg17.IsWhole)
  (arg18 : Memref sig .tc .vmem S8x128 .f32) (harg18 : arg18.IsWhole)
  (X2 : Vec F S256x1024 .f32)
  (X3 : Vec F S256x1024 .f32)
  (X4 : Vec F S256x2816 .bf16)
  (X5 : Vec F S256x2816 .bf16)
  (X6 : Vec F S256x2816 .bf16)
  (X7 : Vec F S256x2816 .bf16)
  (X8 : Vec F S16x2816 .bf16)
  (X9 : Vec F S8x2816 .f32)
  (X10 : Vec F S1024x2816 .bf16)
  (X11 : Vec F S8x1024 .f32)
  (X16 : Vec F S8x2816 .f32) (X17 : Vec F S8x1024 .f32) (X18 : Vec F S8x128 .f32) (X20 : Vec F S264x2816 .f32) (X21 : Vec F S2816x1024 .f32)

set_option maxHeartbeats 40000000 in
theorem run_mid (h1 : ¬ isFirst i) (h2 : isLater i) (h3 : ¬ isLast i) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare X16
        ∗ owns (c : Thread nD τ) arg17 fullShare X17
        ∗ owns (c : Thread nD τ) arg18 fullShare X18
        ∗ (∃ d, owns (c : Thread nD τ) scU fullShare d)
        ∗ owns (c : Thread nD τ) scD fullShare X20
        ∗ owns (c : Thread nD τ) scW fullShare X21
        ∗ (iprop(owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11
          ∗ owns (c : Thread nD τ) arg13 fullShare (dugK X2 X3 X5 X7 X9 X10 X11 (carryK X20))
          ∗ owns (c : Thread nD τ) arg14 fullShare (duvK X2 X3 X6 X10 X11)
          ∗ owns (c : Thread nD τ) arg15 fullShare (dzK X2 X3 X11)
          ∗ owns (c : Thread nD τ) arg16 fullShare (dcfK (BitVec.ofNat 32 (i 0).val) X2 X3 X4 X5 X7 X8 X10 X11 X16)
          ∗ owns (c : Thread nD τ) arg17 fullShare (dv2K X2 X3 X17)
          ∗ owns (c : Thread nD τ) arg18 fullShare X18
          ∗ (∃ d, owns (c : Thread nD τ) scU fullShare d)
          ∗ owns (c : Thread nD τ) scD fullShare (dgbK X2 X3 X5 X7 X10 X11 (carryK X20))
          ∗ owns (c : Thread nD τ) scW fullShare (dwdK X2 X3 X5 X6 X11 X21)) -∗ K ⟨⟩))
      ⊢ wp frame (wpE (defs₀ (F := F)) Variants.none c none) Set.univ
          (cc0_ffn_bwd i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 arg16 harg16 arg17 harg17 arg18 harg18
            scU (Memref.isWhole_whole _) scD (Memref.isWhole_whole _) scW (Memref.isWhole_whole _) cc0_scratch3) K := by
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d13, %f13, -, H13⟩, ⟨%d14, %f14, -, H14⟩, ⟨%d15, %f15, -, H15⟩, ⟨%f16, %e16, H16⟩, ⟨%f17, %e17, H17⟩, ⟨%f18, %e18, H18⟩, ⟨%d19, %f19, -, H19⟩, ⟨%f20, %e20, H20⟩, ⟨%f21, %e21, H21⟩, Hk⟩
  subst e2
  subst e3
  subst e4
  subst e5
  subst e6
  subst e7
  subst e8
  subst e9
  subst e10
  subst e11
  subst e16
  subst e17
  subst e18
  subst e20
  subst e21
  sl_exec
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  isplitl [H13]; · iexists _; isplitr; swap; · iexact H13
                   ipureintro; exact (read_of_list (dug_cover _ _ _ _ _ _ _ _) (by sl_kernel_rfl))
  isplitl [H14]; · iexists _; isplitr; swap; · iexact H14
                   ipureintro; exact (read_of_list (duv_cover _ _ _ _ _) (by sl_kernel_rfl))
  isplitl [H15]; · iexists _; isplitr; swap; · iexact H15
                   ipureintro; exact View.read_writes_full _ _ _ _ _
  isplitl [H16]; · iexists _; isplitr; swap; · iexact H16
                   ipureintro; exact read_of_under (by sl_kernel_rfl)
  isplitl [H17]; · iexists _; isplitr; swap; · iexact H17
                   ipureintro; exact read_of_under (by sl_kernel_rfl)
  isplitl [H18]; · iexists _; isplitr; swap; · iexact H18
                   ipureintro; rfl
  isplitl [H19]; · iexists _; iexists _; isplitr; swap; · iexact H19
                   ipureintro; rfl
  isplitl [H20]; · iexists _; isplitr; swap; · iexact H20
                   ipureintro; exact (read_of_list (dgb_cover _ _ _ _ _ _ _) (by sl_kernel_rfl))
  iexists _; isplitr; swap; · iexact H21
  ipureintro; exact (read_of_list (dwd_cover _ _ _ _ _ _) (by sl_kernel_rfl))

set_option maxHeartbeats 40000000 in
theorem run_first (h1 : isFirst i) (h2 : ¬ isLater i) (h3 : ¬ isLast i) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) scU fullShare d)
        ∗ (∃ d, owns (c : Thread nD τ) scD fullShare d)
        ∗ (∃ d, owns (c : Thread nD τ) scW fullShare d)
        ∗ (iprop(owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11
          ∗ owns (c : Thread nD τ) arg13 fullShare (dugK X2 X3 X5 X7 X9 X10 X11 k0_pay6)
          ∗ owns (c : Thread nD τ) arg14 fullShare (duvK X2 X3 X6 X10 X11)
          ∗ owns (c : Thread nD τ) arg15 fullShare (dzK X2 X3 X11)
          ∗ owns (c : Thread nD τ) arg16 fullShare (dcfK (BitVec.ofNat 32 (i 0).val) X2 X3 X4 X5 X7 X8 X10 X11 k0_pay3)
          ∗ owns (c : Thread nD τ) arg17 fullShare (dv2K X2 X3 k0_pay4)
          ∗ owns (c : Thread nD τ) arg18 fullShare k0_pay5
          ∗ (∃ d, owns (c : Thread nD τ) scU fullShare d)
          ∗ owns (c : Thread nD τ) scD fullShare (dgbK X2 X3 X5 X7 X10 X11 k0_pay6)
          ∗ owns (c : Thread nD τ) scW fullShare (dwdK X2 X3 X5 X6 X11 k0_pay2)) -∗ K ⟨⟩))
      ⊢ wp frame (wpE (defs₀ (F := F)) Variants.none c none) Set.univ
          (cc0_ffn_bwd i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 arg16 harg16 arg17 harg17 arg18 harg18
            scU (Memref.isWhole_whole _) scD (Memref.isWhole_whole _) scW (Memref.isWhole_whole _) cc0_scratch3) K := by
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst e2
  subst e3
  subst e4
  subst e5
  subst e6
  subst e7
  subst e8
  subst e9
  subst e10
  subst e11
  sl_exec
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  have e_v107 : run_first.sl.v107 (F := F) c arg16 = View.ld k0_pay3 (rC 3 0) := readCov_drop _ _ _ _ inb_S8x2816_S8x2816_0_0 (by decide) (by sl_kernel_rfl) (by sl_kernel_rfl)
  have e_v113 : run_first.sl.v113 (F := F) c arg2 arg3 arg5 arg7 arg10 arg11 arg16 f2 f3 f5 f7 f10 f11 = View.ld k0_pay3 (rC 0 0) := readCov_drop _ _ _ _ inb_S8x2816_S8x2816_0_0 (by decide) (by sl_kernel_rfl) (by sl_kernel_rfl)
  have e_v120 : run_first.sl.v120 (F := F) c i arg2 arg3 arg4 arg5 arg7 arg8 arg10 arg11 arg16 f2 f3 f4 f5 f7 f8 f10 f11 = View.ld k0_pay3 (rC 1 0) := readCov_drop _ _ _ _ inb_S8x2816_S8x2816_0_0 (by decide) (by sl_kernel_rfl) (by sl_kernel_rfl)
  have e_v127 : run_first.sl.v127 (F := F) c i arg2 arg3 arg4 arg5 arg7 arg8 arg10 arg11 arg16 f2 f3 f4 f5 f7 f8 f10 f11 = View.ld k0_pay3 (rC 2 0) := readCov_drop _ _ _ _ inb_S8x2816_S8x2816_0_0 (by decide) (by sl_kernel_rfl) (by sl_kernel_rfl)
  have e_v183 : run_first.sl.v183 (F := F) c i arg2 arg3 arg4 arg5 arg7 arg8 arg10 arg11 arg16 f2 f3 f4 f5 f7 f8 f10 f11 = View.ld k0_pay3 (rC 3 1) := readCov_drop _ _ _ _ inb_S8x2816_S8x2816_0_0 (by decide) (by sl_kernel_rfl) (by sl_kernel_rfl)
  have e_v189 : run_first.sl.v189 (F := F) c i arg2 arg3 arg4 arg5 arg7 arg8 arg10 arg11 arg16 f2 f3 f4 f5 f7 f8 f10 f11 = View.ld k0_pay3 (rC 0 1) := readCov_drop _ _ _ _ inb_S8x2816_S8x2816_0_0 (by decide) (by sl_kernel_rfl) (by sl_kernel_rfl)
  have e_v196 : run_first.sl.v196 (F := F) c i arg2 arg3 arg4 arg5 arg7 arg8 arg10 arg11 arg16 f2 f3 f4 f5 f7 f8 f10 f11 = View.ld k0_pay3 (rC 1 1) := readCov_drop _ _ _ _ inb_S8x2816_S8x2816_0_0 (by decide) (by sl_kernel_rfl) (by sl_kernel_rfl)
  have e_v203 : run_first.sl.v203 (F := F) c i arg2 arg3 arg4 arg5 arg7 arg8 arg10 arg11 arg16 f2 f3 f4 f5 f7 f8 f10 f11 = View.ld k0_pay3 (rC 2 1) := readCov_drop _ _ _ _ inb_S8x2816_S8x2816_0_0 (by decide) (by sl_kernel_rfl) (by sl_kernel_rfl)
  have e_v259 : run_first.sl.v259 (F := F) c i arg2 arg3 arg4 arg5 arg7 arg8 arg10 arg11 arg16 f2 f3 f4 f5 f7 f8 f10 f11 = View.ld k0_pay3 (rC 3 2) := readCov_drop _ _ _ _ inb_S8x2816_S8x2816_0_0 (by decide) (by sl_kernel_rfl) (by sl_kernel_rfl)
  have e_v265 : run_first.sl.v265 (F := F) c i arg2 arg3 arg4 arg5 arg7 arg8 arg10 arg11 arg16 f2 f3 f4 f5 f7 f8 f10 f11 = View.ld k0_pay3 (rC 0 2) := readCov_drop _ _ _ _ inb_S8x2816_S8x2816_0_0 (by decide) (by sl_kernel_rfl) (by sl_kernel_rfl)
  have e_v272 : run_first.sl.v272 (F := F) c i arg2 arg3 arg4 arg5 arg7 arg8 arg10 arg11 arg16 f2 f3 f4 f5 f7 f8 f10 f11 = View.ld k0_pay3 (rC 1 2) := readCov_drop _ _ _ _ inb_S8x2816_S8x2816_0_0 (by decide) (by sl_kernel_rfl) (by sl_kernel_rfl)
  have e_v279 : run_first.sl.v279 (F := F) c i arg2 arg3 arg4 arg5 arg7 arg8 arg10 arg11 arg16 f2 f3 f4 f5 f7 f8 f10 f11 = View.ld k0_pay3 (rC 2 2) := readCov_drop _ _ _ _ inb_S8x2816_S8x2816_0_0 (by decide) (by sl_kernel_rfl) (by sl_kernel_rfl)
  have e_v335 : run_first.sl.v335 (F := F) c i arg2 arg3 arg4 arg5 arg7 arg8 arg10 arg11 arg16 f2 f3 f4 f5 f7 f8 f10 f11 = View.ld k0_pay3 (rC 3 3) := readCov_drop _ _ _ _ inb_S8x2816_S8x2816_0_0 (by decide) (by sl_kernel_rfl) (by sl_kernel_rfl)
  have e_v341 : run_first.sl.v341 (F := F) c i arg2 arg3 arg4 arg5 arg7 arg8 arg10 arg11 arg16 f2 f3 f4 f5 f7 f8 f10 f11 = View.ld k0_pay3 (rC 0 3) := readCov_drop _ _ _ _ inb_S8x2816_S8x2816_0_0 (by decide) (by sl_kernel_rfl) (by sl_kernel_rfl)
  have e_v348 : run_first.sl.v348 (F := F) c i arg2 arg3 arg4 arg5 arg7 arg8 arg10 arg11 arg16 f2 f3 f4 f5 f7 f8 f10 f11 = View.ld k0_pay3 (rC 1 3) := readCov_drop _ _ _ _ inb_S8x2816_S8x2816_0_0 (by decide) (by sl_kernel_rfl) (by sl_kernel_rfl)
  have e_v355 : run_first.sl.v355 (F := F) c i arg2 arg3 arg4 arg5 arg7 arg8 arg10 arg11 arg16 f2 f3 f4 f5 f7 f8 f10 f11 = View.ld k0_pay3 (rC 2 3) := readCov_drop _ _ _ _ inb_S8x2816_S8x2816_0_0 (by decide) (by sl_kernel_rfl) (by sl_kernel_rfl)
  have e_v411 : run_first.sl.v411 (F := F) c i arg2 arg3 arg4 arg5 arg7 arg8 arg10 arg11 arg16 f2 f3 f4 f5 f7 f8 f10 f11 = View.ld k0_pay3 (rC 3 4) := readCov_drop _ _ _ _ inb_S8x2816_S8x2816_0_0 (by decide) (by sl_kernel_rfl) (by sl_kernel_rfl)
  have e_v417 : run_first.sl.v417 (F := F) c i arg2 arg3 arg4 arg5 arg7 arg8 arg10 arg11 arg16 f2 f3 f4 f5 f7 f8 f10 f11 = View.ld k0_pay3 (rC 0 4) := readCov_drop _ _ _ _ inb_S8x2816_S8x2816_0_0 (by decide) (by sl_kernel_rfl) (by sl_kernel_rfl)
  have e_v424 : run_first.sl.v424 (F := F) c i arg2 arg3 arg4 arg5 arg7 arg8 arg10 arg11 arg16 f2 f3 f4 f5 f7 f8 f10 f11 = View.ld k0_pay3 (rC 1 4) := readCov_drop _ _ _ _ inb_S8x2816_S8x2816_0_0 (by decide) (by sl_kernel_rfl) (by sl_kernel_rfl)
  have e_v431 : run_first.sl.v431 (F := F) c i arg2 arg3 arg4 arg5 arg7 arg8 arg10 arg11 arg16 f2 f3 f4 f5 f7 f8 f10 f11 = View.ld k0_pay3 (rC 2 4) := readCov_drop _ _ _ _ inb_S8x2816_S8x2816_0_0 (by decide) (by sl_kernel_rfl) (by sl_kernel_rfl)
  have e_v487 : run_first.sl.v487 (F := F) c i arg2 arg3 arg4 arg5 arg7 arg8 arg10 arg11 arg16 f2 f3 f4 f5 f7 f8 f10 f11 = View.ld k0_pay3 (rC 3 5) := readCov_drop _ _ _ _ inb_S8x2816_S8x2816_0_0 (by decide) (by sl_kernel_rfl) (by sl_kernel_rfl)
  have e_v493 : run_first.sl.v493 (F := F) c i arg2 arg3 arg4 arg5 arg7 arg8 arg10 arg11 arg16 f2 f3 f4 f5 f7 f8 f10 f11 = View.ld k0_pay3 (rC 0 5) := readCov_drop _ _ _ _ inb_S8x2816_S8x2816_0_0 (by decide) (by sl_kernel_rfl) (by sl_kernel_rfl)
  have e_v500 : run_first.sl.v500 (F := F) c i arg2 arg3 arg4 arg5 arg7 arg8 arg10 arg11 arg16 f2 f3 f4 f5 f7 f8 f10 f11 = View.ld k0_pay3 (rC 1 5) := readCov_drop _ _ _ _ inb_S8x2816_S8x2816_0_0 (by decide) (by sl_kernel_rfl) (by sl_kernel_rfl)
  have e_v507 : run_first.sl.v507 (F := F) c i arg2 arg3 arg4 arg5 arg7 arg8 arg10 arg11 arg16 f2 f3 f4 f5 f7 f8 f10 f11 = View.ld k0_pay3 (rC 2 5) := readCov_drop _ _ _ _ inb_S8x2816_S8x2816_0_0 (by decide) (by sl_kernel_rfl) (by sl_kernel_rfl)
  have e_v563 : run_first.sl.v563 (F := F) c i arg2 arg3 arg4 arg5 arg7 arg8 arg10 arg11 arg16 f2 f3 f4 f5 f7 f8 f10 f11 = View.ld k0_pay3 (rC 3 6) := readCov_drop _ _ _ _ inb_S8x2816_S8x2816_0_0 (by decide) (by sl_kernel_rfl) (by sl_kernel_rfl)
  have e_v569 : run_first.sl.v569 (F := F) c i arg2 arg3 arg4 arg5 arg7 arg8 arg10 arg11 arg16 f2 f3 f4 f5 f7 f8 f10 f11 = View.ld k0_pay3 (rC 0 6) := readCov_drop _ _ _ _ inb_S8x2816_S8x2816_0_0 (by decide) (by sl_kernel_rfl) (by sl_kernel_rfl)
  have e_v576 : run_first.sl.v576 (F := F) c i arg2 arg3 arg4 arg5 arg7 arg8 arg10 arg11 arg16 f2 f3 f4 f5 f7 f8 f10 f11 = View.ld k0_pay3 (rC 1 6) := readCov_drop _ _ _ _ inb_S8x2816_S8x2816_0_0 (by decide) (by sl_kernel_rfl) (by sl_kernel_rfl)
  have e_v583 : run_first.sl.v583 (F := F) c i arg2 arg3 arg4 arg5 arg7 arg8 arg10 arg11 arg16 f2 f3 f4 f5 f7 f8 f10 f11 = View.ld k0_pay3 (rC 2 6) := readCov_drop _ _ _ _ inb_S8x2816_S8x2816_0_0 (by decide) (by sl_kernel_rfl) (by sl_kernel_rfl)
  have e_v639 : run_first.sl.v639 (F := F) c i arg2 arg3 arg4 arg5 arg7 arg8 arg10 arg11 arg16 f2 f3 f4 f5 f7 f8 f10 f11 = View.ld k0_pay3 (rC 3 7) := readCov_drop _ _ _ _ inb_S8x2816_S8x2816_0_0 (by decide) (by sl_kernel_rfl) (by sl_kernel_rfl)
  have e_v645 : run_first.sl.v645 (F := F) c i arg2 arg3 arg4 arg5 arg7 arg8 arg10 arg11 arg16 f2 f3 f4 f5 f7 f8 f10 f11 = View.ld k0_pay3 (rC 0 7) := readCov_drop _ _ _ _ inb_S8x2816_S8x2816_0_0 (by decide) (by sl_kernel_rfl) (by sl_kernel_rfl)
  have e_v652 : run_first.sl.v652 (F := F) c i arg2 arg3 arg4 arg5 arg7 arg8 arg10 arg11 arg16 f2 f3 f4 f5 f7 f8 f10 f11 = View.ld k0_pay3 (rC 1 7) := readCov_drop _ _ _ _ inb_S8x2816_S8x2816_0_0 (by decide) (by sl_kernel_rfl) (by sl_kernel_rfl)
  have e_v659 : run_first.sl.v659 (F := F) c i arg2 arg3 arg4 arg5 arg7 arg8 arg10 arg11 arg16 f2 f3 f4 f5 f7 f8 f10 f11 = View.ld k0_pay3 (rC 2 7) := readCov_drop _ _ _ _ inb_S8x2816_S8x2816_0_0 (by decide) (by sl_kernel_rfl) (by sl_kernel_rfl)
  have e_v715 : run_first.sl.v715 (F := F) c i arg2 arg3 arg4 arg5 arg7 arg8 arg10 arg11 arg16 f2 f3 f4 f5 f7 f8 f10 f11 = View.ld k0_pay3 (rC 3 8) := readCov_drop _ _ _ _ inb_S8x2816_S8x2816_0_0 (by decide) (by sl_kernel_rfl) (by sl_kernel_rfl)
  have e_v721 : run_first.sl.v721 (F := F) c i arg2 arg3 arg4 arg5 arg7 arg8 arg10 arg11 arg16 f2 f3 f4 f5 f7 f8 f10 f11 = View.ld k0_pay3 (rC 0 8) := readCov_drop _ _ _ _ inb_S8x2816_S8x2816_0_0 (by decide) (by sl_kernel_rfl) (by sl_kernel_rfl)
  have e_v728 : run_first.sl.v728 (F := F) c i arg2 arg3 arg4 arg5 arg7 arg8 arg10 arg11 arg16 f2 f3 f4 f5 f7 f8 f10 f11 = View.ld k0_pay3 (rC 1 8) := readCov_drop _ _ _ _ inb_S8x2816_S8x2816_0_0 (by decide) (by sl_kernel_rfl) (by sl_kernel_rfl)
  have e_v735 : run_first.sl.v735 (F := F) c i arg2 arg3 arg4 arg5 arg7 arg8 arg10 arg11 arg16 f2 f3 f4 f5 f7 f8 f10 f11 = View.ld k0_pay3 (rC 2 8) := readCov_drop _ _ _ _ inb_S8x2816_S8x2816_0_0 (by decide) (by sl_kernel_rfl) (by sl_kernel_rfl)
  have e_v791 : run_first.sl.v791 (F := F) c i arg2 arg3 arg4 arg5 arg7 arg8 arg10 arg11 arg16 f2 f3 f4 f5 f7 f8 f10 f11 = View.ld k0_pay3 (rC 3 9) := readCov_drop _ _ _ _ inb_S8x2816_S8x2816_0_0 (by decide) (by sl_kernel_rfl) (by sl_kernel_rfl)
  have e_v797 : run_first.sl.v797 (F := F) c i arg2 arg3 arg4 arg5 arg7 arg8 arg10 arg11 arg16 f2 f3 f4 f5 f7 f8 f10 f11 = View.ld k0_pay3 (rC 0 9) := readCov_drop _ _ _ _ inb_S8x2816_S8x2816_0_0 (by decide) (by sl_kernel_rfl) (by sl_kernel_rfl)
  have e_v804 : run_first.sl.v804 (F := F) c i arg2 arg3 arg4 arg5 arg7 arg8 arg10 arg11 arg16 f2 f3 f4 f5 f7 f8 f10 f11 = View.ld k0_pay3 (rC 1 9) := readCov_drop _ _ _ _ inb_S8x2816_S8x2816_0_0 (by decide) (by sl_kernel_rfl) (by sl_kernel_rfl)
  have e_v811 : run_first.sl.v811 (F := F) c i arg2 arg3 arg4 arg5 arg7 arg8 arg10 arg11 arg16 f2 f3 f4 f5 f7 f8 f10 f11 = View.ld k0_pay3 (rC 2 9) := readCov_drop _ _ _ _ inb_S8x2816_S8x2816_0_0 (by decide) (by sl_kernel_rfl) (by sl_kernel_rfl)
  have e_v867 : run_first.sl.v867 (F := F) c i arg2 arg3 arg4 arg5 arg7 arg8 arg10 arg11 arg16 f2 f3 f4 f5 f7 f8 f10 f11 = View.ld k0_pay3 (rC 3 10) := readCov_drop _ _ _ _ inb_S8x2816_S8x2816_0_0 (by decide) (by sl_kernel_rfl) (by sl_kernel_rfl)
  have e_v873 : run_first.sl.v873 (F := F) c i arg2 arg3 arg4 arg5 arg7 arg8 arg10 arg11 arg16 f2 f3 f4 f5 f7 f8 f10 f11 = View.ld k0_pay3 (rC 0 10) := readCov_drop _ _ _ _ inb_S8x2816_S8x2816_0_0 (by decide) (by sl_kernel_rfl) (by sl_kernel_rfl)
  have e_v880 : run_first.sl.v880 (F := F) c i arg2 arg3 arg4 arg5 arg7 arg8 arg10 arg11 arg16 f2 f3 f4 f5 f7 f8 f10 f11 = View.ld k0_pay3 (rC 1 10) := readCov_drop _ _ _ _ inb_S8x2816_S8x2816_0_0 (by decide) (by sl_kernel_rfl) (by sl_kernel_rfl)
  have e_v887 : run_first.sl.v887 (F := F) c i arg2 arg3 arg4 arg5 arg7 arg8 arg10 arg11 arg16 f2 f3 f4 f5 f7 f8 f10 f11 = View.ld k0_pay3 (rC 2 10) := readCov_drop _ _ _ _ inb_S8x2816_S8x2816_0_0 (by decide) (by sl_kernel_rfl) (by sl_kernel_rfl)
  have e_v25 : run_first.sl.v25 (F := F) c arg17 = View.ld k0_pay4 (rV 0) := readCov_drop _ _ _ _ inb_S8x1024_S8x1024_0_0 (by decide) (by sl_kernel_rfl) (by sl_kernel_rfl)
  have e_v32 : run_first.sl.v32 (F := F) c arg2 arg3 arg17 f2 f3 = View.ld k0_pay4 (rV 1) := readCov_drop _ _ _ _ inb_S8x1024_S8x1024_0_0 (by decide) (by sl_kernel_rfl) (by sl_kernel_rfl)
  have e_v87 : run_first.sl.v87 (F := F) c = View.ld k0_pay2 (rW 0) := readCov_drop _ _ _ _ inb_S2816x1024_S2816x1024_0_0 (by decide) (by sl_kernel_rfl) (by sl_kernel_rfl)
  have e_v163 : run_first.sl.v163 (F := F) c arg2 arg3 arg5 arg6 arg11 f2 f3 f5 f6 f11 = View.ld k0_pay2 (rW 1) := readCov_drop _ _ _ _ inb_S2816x1024_S2816x1024_0_0 (by decide) (by sl_kernel_rfl) (by sl_kernel_rfl)
  have e_v239 : run_first.sl.v239 (F := F) c arg2 arg3 arg5 arg6 arg11 f2 f3 f5 f6 f11 = View.ld k0_pay2 (rW 2) := readCov_drop _ _ _ _ inb_S2816x1024_S2816x1024_0_0 (by decide) (by sl_kernel_rfl) (by sl_kernel_rfl)
  have e_v315 : run_first.sl.v315 (F := F) c arg2 arg3 arg5 arg6 arg11 f2 f3 f5 f6 f11 = View.ld k0_pay2 (rW 3) := readCov_drop _ _ _ _ inb_S2816x1024_S2816x1024_0_0 (by decide) (by sl_kernel_rfl) (by sl_kernel_rfl)
  have e_v391 : run_first.sl.v391 (F := F) c arg2 arg3 arg5 arg6 arg11 f2 f3 f5 f6 f11 = View.ld k0_pay2 (rW 4) := readCov_drop _ _ _ _ inb_S2816x1024_S2816x1024_0_0 (by decide) (by sl_kernel_rfl) (by sl_kernel_rfl)
  have e_v467 : run_first.sl.v467 (F := F) c arg2 arg3 arg5 arg6 arg11 f2 f3 f5 f6 f11 = View.ld k0_pay2 (rW 5) := readCov_drop _ _ _ _ inb_S2816x1024_S2816x1024_0_0 (by decide) (by sl_kernel_rfl) (by sl_kernel_rfl)
  have e_v543 : run_first.sl.v543 (F := F) c arg2 arg3 arg5 arg6 arg11 f2 f3 f5 f6 f11 = View.ld k0_pay2 (rW 6) := readCov_drop _ _ _ _ inb_S2816x1024_S2816x1024_0_0 (by decide) (by sl_kernel_rfl) (by sl_kernel_rfl)
  have e_v619 : run_first.sl.v619 (F := F) c arg2 arg3 arg5 arg6 arg11 f2 f3 f5 f6 f11 = View.ld k0_pay2 (rW 7) := readCov_drop _ _ _ _ inb_S2816x1024_S2816x1024_0_0 (by decide) (by sl_kernel_rfl) (by sl_kernel_rfl)
  have e_v695 : run_first.sl.v695 (F := F) c arg2 arg3 arg5 arg6 arg11 f2 f3 f5 f6 f11 = View.ld k0_pay2 (rW 8) := readCov_drop _ _ _ _ inb_S2816x1024_S2816x1024_0_0 (by decide) (by sl_kernel_rfl) (by sl_kernel_rfl)
  have e_v771 : run_first.sl.v771 (F := F) c arg2 arg3 arg5 arg6 arg11 f2 f3 f5 f6 f11 = View.ld k0_pay2 (rW 9) := readCov_drop _ _ _ _ inb_S2816x1024_S2816x1024_0_0 (by decide) (by sl_kernel_rfl) (by sl_kernel_rfl)
  have e_v847 : run_first.sl.v847 (F := F) c arg2 arg3 arg5 arg6 arg11 f2 f3 f5 f6 f11 = View.ld k0_pay2 (rW 10) := readCov_drop _ _ _ _ inb_S2816x1024_S2816x1024_0_0 (by decide) (by sl_kernel_rfl) (by sl_kernel_rfl)
  isplitl [H13]; · iexists _; isplitr; swap; · iexact H13
                   ipureintro; exact (read_of_list (dug_cover _ _ _ _ _ _ _ _) (by sl_kernel_rfl))
  isplitl [H14]; · iexists _; isplitr; swap; · iexact H14
                   ipureintro; exact (read_of_list (duv_cover _ _ _ _ _) (by sl_kernel_rfl))
  isplitl [H15]; · iexists _; isplitr; swap; · iexact H15
                   ipureintro; exact View.read_writes_full _ _ _ _ _
  isplitl [H16]; · iexists _; isplitr; swap; · iexact H16
                   ipureintro; refine (read_of_fill (L := (groups (dcfP (BitVec.ofNat 32 (i 0).val) (arg2.view.read (Elt F) f2) (arg3.view.read (Elt F) f3) (arg4.view.read (Elt F) f4) (arg5.view.read (Elt F) f5) (arg7.view.read (Elt F) f7) (arg8.view.read (Elt F) f8) (arg10.view.read (Elt F) f10) (arg11.view.read (Elt F) f11) ![![run_first.sl.v113 c arg2 arg3 arg5 arg7 arg10 arg11 arg16 f2 f3 f5 f7 f10 f11, run_first.sl.v120 c i arg2 arg3 arg4 arg5 arg7 arg8 arg10 arg11 arg16 f2 f3 f4 f5 f7 f8 f10 f11, run_first.sl.v127 c i arg2 arg3 arg4 arg5 arg7 arg8 arg10 arg11 arg16 f2 f3 f4 f5 f7 f8 f10 f11, run_first.sl.v107 c arg16], ![run_first.sl.v189 c i arg2 arg3 arg4 arg5 arg7 arg8 arg10 arg11 arg16 f2 f3 f4 f5 f7 f8 f10 f11, run_first.sl.v196 c i arg2 arg3 arg4 arg5 arg7 arg8 arg10 arg11 arg16 f2 f3 f4 f5 f7 f8 f10 f11, run_first.sl.v203 c i arg2 arg3 arg4 arg5 arg7 arg8 arg10 arg11 arg16 f2 f3 f4 f5 f7 f8 f10 f11, run_first.sl.v183 c i arg2 arg3 arg4 arg5 arg7 arg8 arg10 arg11 arg16 f2 f3 f4 f5 f7 f8 f10 f11], ![run_first.sl.v265 c i arg2 arg3 arg4 arg5 arg7 arg8 arg10 arg11 arg16 f2 f3 f4 f5 f7 f8 f10 f11, run_first.sl.v272 c i arg2 arg3 arg4 arg5 arg7 arg8 arg10 arg11 arg16 f2 f3 f4 f5 f7 f8 f10 f11, run_first.sl.v279 c i arg2 arg3 arg4 arg5 arg7 arg8 arg10 arg11 arg16 f2 f3 f4 f5 f7 f8 f10 f11, run_first.sl.v259 c i arg2 arg3 arg4 arg5 arg7 arg8 arg10 arg11 arg16 f2 f3 f4 f5 f7 f8 f10 f11], ![run_first.sl.v341 c i arg2 arg3 arg4 arg5 arg7 arg8 arg10 arg11 arg16 f2 f3 f4 f5 f7 f8 f10 f11, run_first.sl.v348 c i arg2 arg3 arg4 arg5 arg7 arg8 arg10 arg11 arg16 f2 f3 f4 f5 f7 f8 f10 f11, run_first.sl.v355 c i arg2 arg3 arg4 arg5 arg7 arg8 arg10 arg11 arg16 f2 f3 f4 f5 f7 f8 f10 f11, run_first.sl.v335 c i arg2 arg3 arg4 arg5 arg7 arg8 arg10 arg11 arg16 f2 f3 f4 f5 f7 f8 f10 f11], ![run_first.sl.v417 c i arg2 arg3 arg4 arg5 arg7 arg8 arg10 arg11 arg16 f2 f3 f4 f5 f7 f8 f10 f11, run_first.sl.v424 c i arg2 arg3 arg4 arg5 arg7 arg8 arg10 arg11 arg16 f2 f3 f4 f5 f7 f8 f10 f11, run_first.sl.v431 c i arg2 arg3 arg4 arg5 arg7 arg8 arg10 arg11 arg16 f2 f3 f4 f5 f7 f8 f10 f11, run_first.sl.v411 c i arg2 arg3 arg4 arg5 arg7 arg8 arg10 arg11 arg16 f2 f3 f4 f5 f7 f8 f10 f11], ![run_first.sl.v493 c i arg2 arg3 arg4 arg5 arg7 arg8 arg10 arg11 arg16 f2 f3 f4 f5 f7 f8 f10 f11, run_first.sl.v500 c i arg2 arg3 arg4 arg5 arg7 arg8 arg10 arg11 arg16 f2 f3 f4 f5 f7 f8 f10 f11, run_first.sl.v507 c i arg2 arg3 arg4 arg5 arg7 arg8 arg10 arg11 arg16 f2 f3 f4 f5 f7 f8 f10 f11, run_first.sl.v487 c i arg2 arg3 arg4 arg5 arg7 arg8 arg10 arg11 arg16 f2 f3 f4 f5 f7 f8 f10 f11], ![run_first.sl.v569 c i arg2 arg3 arg4 arg5 arg7 arg8 arg10 arg11 arg16 f2 f3 f4 f5 f7 f8 f10 f11, run_first.sl.v576 c i arg2 arg3 arg4 arg5 arg7 arg8 arg10 arg11 arg16 f2 f3 f4 f5 f7 f8 f10 f11, run_first.sl.v583 c i arg2 arg3 arg4 arg5 arg7 arg8 arg10 arg11 arg16 f2 f3 f4 f5 f7 f8 f10 f11, run_first.sl.v563 c i arg2 arg3 arg4 arg5 arg7 arg8 arg10 arg11 arg16 f2 f3 f4 f5 f7 f8 f10 f11], ![run_first.sl.v645 c i arg2 arg3 arg4 arg5 arg7 arg8 arg10 arg11 arg16 f2 f3 f4 f5 f7 f8 f10 f11, run_first.sl.v652 c i arg2 arg3 arg4 arg5 arg7 arg8 arg10 arg11 arg16 f2 f3 f4 f5 f7 f8 f10 f11, run_first.sl.v659 c i arg2 arg3 arg4 arg5 arg7 arg8 arg10 arg11 arg16 f2 f3 f4 f5 f7 f8 f10 f11, run_first.sl.v639 c i arg2 arg3 arg4 arg5 arg7 arg8 arg10 arg11 arg16 f2 f3 f4 f5 f7 f8 f10 f11], ![run_first.sl.v721 c i arg2 arg3 arg4 arg5 arg7 arg8 arg10 arg11 arg16 f2 f3 f4 f5 f7 f8 f10 f11, run_first.sl.v728 c i arg2 arg3 arg4 arg5 arg7 arg8 arg10 arg11 arg16 f2 f3 f4 f5 f7 f8 f10 f11, run_first.sl.v735 c i arg2 arg3 arg4 arg5 arg7 arg8 arg10 arg11 arg16 f2 f3 f4 f5 f7 f8 f10 f11, run_first.sl.v715 c i arg2 arg3 arg4 arg5 arg7 arg8 arg10 arg11 arg16 f2 f3 f4 f5 f7 f8 f10 f11], ![run_first.sl.v797 c i arg2 arg3 arg4 arg5 arg7 arg8 arg10 arg11 arg16 f2 f3 f4 f5 f7 f8 f10 f11, run_first.sl.v804 c i arg2 arg3 arg4 arg5 arg7 arg8 arg10 arg11 arg16 f2 f3 f4 f5 f7 f8 f10 f11, run_first.sl.v811 c i arg2 arg3 arg4 arg5 arg7 arg8 arg10 arg11 arg16 f2 f3 f4 f5 f7 f8 f10 f11, run_first.sl.v791 c i arg2 arg3 arg4 arg5 arg7 arg8 arg10 arg11 arg16 f2 f3 f4 f5 f7 f8 f10 f11], ![run_first.sl.v873 c i arg2 arg3 arg4 arg5 arg7 arg8 arg10 arg11 arg16 f2 f3 f4 f5 f7 f8 f10 f11, run_first.sl.v880 c i arg2 arg3 arg4 arg5 arg7 arg8 arg10 arg11 arg16 f2 f3 f4 f5 f7 f8 f10 f11, run_first.sl.v887 c i arg2 arg3 arg4 arg5 arg7 arg8 arg10 arg11 arg16 f2 f3 f4 f5 f7 f8 f10 f11, run_first.sl.v867 c i arg2 arg3 arg4 arg5 arg7 arg8 arg10 arg11 arg16 f2 f3 f4 f5 f7 f8 f10 f11]])).flatten) (X := k0_pay3) inb_S8x2816_S8x2816_0_0 (by decide) (by sl_kernel_rfl)).trans ?_
                   simp only [e_v107, e_v113, e_v120, e_v127, e_v183, e_v189, e_v196, e_v203, e_v259, e_v265, e_v272, e_v279, e_v335, e_v341, e_v348, e_v355, e_v411, e_v417, e_v424, e_v431, e_v487, e_v493, e_v500, e_v507, e_v563, e_v569, e_v576, e_v583, e_v639, e_v645, e_v652, e_v659, e_v715, e_v721, e_v728, e_v735, e_v791, e_v797, e_v804, e_v811, e_v867, e_v873, e_v880, e_v887]; exact congrArg View.canon (by sl_kernel_rfl)
  isplitl [H17]; · iexists _; isplitr; swap; · iexact H17
                   ipureintro; refine (read_of_fill (L := dv2P (arg2.view.read (Elt F) f2) (arg3.view.read (Elt F) f3) ![run_first.sl.v25 c arg17, run_first.sl.v32 c arg2 arg3 arg17 f2 f3]) (X := k0_pay4) inb_S8x1024_S8x1024_0_0 (by decide) (by sl_kernel_rfl)).trans ?_
                   simp only [e_v25, e_v32]; exact congrArg View.canon (by sl_kernel_rfl)
  isplitl [H18]; · iexists _; isplitr; swap; · iexact H18
                   ipureintro; exact View.read_writes_full _ _ _ _ _
  isplitl [H19]; · iexists _; iexists _; isplitr; swap; · iexact H19
                   ipureintro; rfl
  isplitl [H20]; · iexists _; isplitr; swap; · iexact H20
                   ipureintro; exact (read_of_list (dgb_cover _ _ _ _ _ _ _) (by sl_kernel_rfl))
  iexists _; isplitr; swap; · iexact H21
  ipureintro; refine (read_of_fill (L := groups (dwdP (arg2.view.read (Elt F) f2) (arg3.view.read (Elt F) f3) (arg5.view.read (Elt F) f5) (arg6.view.read (Elt F) f6) (arg11.view.read (Elt F) f11) ![run_first.sl.v87 c, run_first.sl.v163 c arg2 arg3 arg5 arg6 arg11 f2 f3 f5 f6 f11, run_first.sl.v239 c arg2 arg3 arg5 arg6 arg11 f2 f3 f5 f6 f11, run_first.sl.v315 c arg2 arg3 arg5 arg6 arg11 f2 f3 f5 f6 f11, run_first.sl.v391 c arg2 arg3 arg5 arg6 arg11 f2 f3 f5 f6 f11, run_first.sl.v467 c arg2 arg3 arg5 arg6 arg11 f2 f3 f5 f6 f11, run_first.sl.v543 c arg2 arg3 arg5 arg6 arg11 f2 f3 f5 f6 f11, run_first.sl.v619 c arg2 arg3 arg5 arg6 arg11 f2 f3 f5 f6 f11, run_first.sl.v695 c arg2 arg3 arg5 arg6 arg11 f2 f3 f5 f6 f11, run_first.sl.v771 c arg2 arg3 arg5 arg6 arg11 f2 f3 f5 f6 f11, run_first.sl.v847 c arg2 arg3 arg5 arg6 arg11 f2 f3 f5 f6 f11])) (X := k0_pay2) inb_S2816x1024_S2816x1024_0_0 (by decide) (by sl_kernel_rfl)).trans ?_
  simp only [e_v87, e_v163, e_v239, e_v315, e_v391, e_v467, e_v543, e_v619, e_v695, e_v771, e_v847]; exact canon_covered (dwd_cover _ _ _ _ _ _) (by sl_kernel_rfl)

set_option sl_exec.dmaWindow true in
set_option maxHeartbeats 40000000 in
theorem run_last (h1 : ¬ isFirst i) (h2 : isLater i) (h3 : isLast i) (G : HbBuf (F := F) c hbM) (W : Waits sig Unit) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare X16
        ∗ owns (c : Thread nD τ) arg17 fullShare X17
        ∗ owns (c : Thread nD τ) arg18 fullShare X18
        ∗ (∃ d, owns (c : Thread nD τ) scU fullShare d)
        ∗ owns (c : Thread nD τ) scD fullShare X20
        ∗ owns (c : Thread nD τ) scW fullShare X21
        ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0
        ∗ hbPt c hbM G ∗ owes (c : Thread nD τ) 0 W
        ∗ (iprop(owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11
          ∗ owns (c : Thread nD τ) arg13 fullShare (dugK X2 X3 X5 X7 X9 X10 X11 (carryK X20))
          ∗ owns (c : Thread nD τ) arg14 fullShare (duvK X2 X3 X6 X10 X11)
          ∗ owns (c : Thread nD τ) arg15 fullShare (dzK X2 X3 X11)
          ∗ owns (c : Thread nD τ) arg16 fullShare (dcfK (BitVec.ofNat 32 (i 0).val) X2 X3 X4 X5 X7 X8 X10 X11 X16)
          ∗ owns (c : Thread nD τ) arg17 fullShare (dv2K X2 X3 X17)
          ∗ owns (c : Thread nD τ) arg18 fullShare X18
          ∗ (∃ d, owns (c : Thread nD τ) scU fullShare d)
          ∗ owns (c : Thread nD τ) scD fullShare (dgbK X2 X3 X5 X7 X10 X11 (carryK X20))
          ∗ owns (c : Thread nD τ) scW fullShare (dwdK X2 X3 X5 X6 X11 X21)
          ∗ semVal ((c : Thread nD τ), SemLoc.dma 26) 0
          ∗ semVal ((c : Thread nD τ), SemLoc.dma 27) 0
          ∗ semVal ((c : Thread nD τ), SemLoc.dma 28) 0
          ∗ semVal ((c : Thread nD τ), SemLoc.dma 29) 0
          ∗ semVal ((c : Thread nD τ), SemLoc.dma 30) 0
          ∗ semVal ((c : Thread nD τ), SemLoc.dma 31) 0
          ∗ semVal ((c : Thread nD τ), SemLoc.dma 32) 0
          ∗ semVal ((c : Thread nD τ), SemLoc.dma 33) 0
          ∗ hbPt c hbM (slabsOf G (dwdK X2 X3 X5 X6 X11 X21))
          ∗ (∃ W', owes (c : Thread nD τ) 0 W')) -∗ K ⟨⟩))
      ⊢ wp frame (wpE (defs₀ (F := F)) Variants.none c none) Set.univ
          (cc0_ffn_bwd i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 arg16 harg16 arg17 harg17 arg18 harg18
            scU (Memref.isWhole_whole _) scD (Memref.isWhole_whole _) scW (Memref.isWhole_whole _) cc0_scratch3) K := by
  simp only [cc0_ffn_bwd_eq_skeleton]; unfold cc0_ffn_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d13, %f13, -, H13⟩, ⟨%d14, %f14, -, H14⟩, ⟨%d15, %f15, -, H15⟩, ⟨%f16, %e16, H16⟩, ⟨%f17, %e17, H17⟩, ⟨%f18, %e18, H18⟩, ⟨%d19, %f19, -, H19⟩, ⟨%f20, %e20, H20⟩, ⟨%f21, %e21, H21⟩, Hs0, Hs1, Hs2, Hs3, Hs4, Hs5, Hs6, Hs7, HG, HW, Hk⟩
  subst e2
  subst e3
  subst e4
  subst e5
  subst e6
  subst e7
  subst e8
  subst e9
  subst e10
  subst e11
  subst e16
  subst e17
  subst e18
  subst e20
  subst e21
  sl_exec
  sl_step
  iapply Hk
  have eA : View.read (Elt F) scW.view (scW.view.writes (Elt F) f21 (run_last.sl.H21_11 c arg2 arg3 arg5 arg6 arg11 f2 f3 f5 f6 f11 f21)) = (dwdK (arg2.view.read (Elt F) f2) (arg3.view.read (Elt F) f3) (arg5.view.read (Elt F) f5) (arg6.view.read (Elt F) f6) (arg11.view.read (Elt F) f11) (scW.view.read (Elt F) f21)) := read_of_list (dwd_cover _ _ _ _ _ _) (by sl_kernel_rfl)
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  isplitl [H13]; · iexists _; isplitr; swap; · iexact H13
                   ipureintro; exact (read_of_list (dug_cover _ _ _ _ _ _ _ _) (by sl_kernel_rfl))
  isplitl [H14]; · iexists _; isplitr; swap; · iexact H14
                   ipureintro; exact (read_of_list (duv_cover _ _ _ _ _) (by sl_kernel_rfl))
  isplitl [H15]; · iexists _; isplitr; swap; · iexact H15
                   ipureintro; exact View.read_writes_full _ _ _ _ _
  isplitl [H16]; · iexists _; isplitr; swap; · iexact H16
                   ipureintro; exact read_of_under (by sl_kernel_rfl)
  isplitl [H17]; · iexists _; isplitr; swap; · iexact H17
                   ipureintro; exact read_of_under (by sl_kernel_rfl)
  isplitl [H18]; · iexists _; isplitr; swap; · iexact H18
                   ipureintro; rfl
  isplitl [H19]; · iexists _; iexists _; isplitr; swap; · iexact H19
                   ipureintro; rfl
  isplitl [H20]; · iexists _; isplitr; swap; · iexact H20
                   ipureintro; exact (read_of_list (dgb_cover _ _ _ _ _ _ _) (by sl_kernel_rfl))
  isplitl [H21]; · iexists _; isplitr; swap; · iexact H21
                   ipureintro; exact (read_of_list (dwd_cover _ _ _ _ _ _) (by sl_kernel_rfl))
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HG]
  · have q0 : run_last.sl.dma383 c arg2 arg3 arg5 arg6 arg11 f2 f3 f5 f6 f11 f21 = accRows ![0, 0] inb_S2816x1024_S352x1024_0_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383; exact read_rows _ _ _ _ _ eA
    have q1 : run_last.sl.dma383_1 c arg2 arg3 arg5 arg6 arg11 f2 f3 f5 f6 f11 f21 = accRows ![352, 0] inb_S2816x1024_S352x1024_352_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_1; exact read_rows _ _ _ _ _ eA
    have q2 : run_last.sl.dma383_2 c arg2 arg3 arg5 arg6 arg11 f2 f3 f5 f6 f11 f21 = accRows ![704, 0] inb_S2816x1024_S352x1024_704_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_2; exact read_rows _ _ _ _ _ eA
    have q3 : run_last.sl.dma383_3 c arg2 arg3 arg5 arg6 arg11 f2 f3 f5 f6 f11 f21 = accRows ![1056, 0] inb_S2816x1024_S352x1024_1056_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_3; exact read_rows _ _ _ _ _ eA
    have q4 : run_last.sl.dma383_4 c arg2 arg3 arg5 arg6 arg11 f2 f3 f5 f6 f11 f21 = accRows ![1408, 0] inb_S2816x1024_S352x1024_1408_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_4; exact read_rows _ _ _ _ _ eA
    have q5 : run_last.sl.dma383_5 c arg2 arg3 arg5 arg6 arg11 f2 f3 f5 f6 f11 f21 = accRows ![1760, 0] inb_S2816x1024_S352x1024_1760_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_5; exact read_rows _ _ _ _ _ eA
    have q6 : run_last.sl.dma383_6 c arg2 arg3 arg5 arg6 arg11 f2 f3 f5 f6 f11 f21 = accRows ![2112, 0] inb_S2816x1024_S352x1024_2112_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_6; exact read_rows _ _ _ _ _ eA
    have q7 : run_last.sl.dma383_7 c arg2 arg3 arg5 arg6 arg11 f2 f3 f5 f6 f11 f21 = accRows ![2464, 0] inb_S2816x1024_S352x1024_2464_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma383_7; exact read_rows _ _ _ _ _ eA
    rw [q0, q1, q2, q3, q4, q5, q6, q7]
    iapply (hb_of_eq c (slabsW_eq G (dwdK (arg2.view.read (Elt F) f2) (arg3.view.read (Elt F) f3) (arg5.view.read (Elt F) f5) (arg6.view.read (Elt F) f6) (arg11.view.read (Elt F) f11) (scW.view.read (Elt F) f21))))
    iexact HG
  iexists _; iexact HW

end run
end Cert.Kernel3Ideal.Hand

end
-- ==== Proof.FfnRun.lean ====
module

public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Frame
public import proofs.«01_k».proof.Proof.FfnBody
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over this algebra -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (Pipeline.UD sig nD τ) ℕ cfg0 c) (t : Fin cfg0.N) (ht : t.val ≠ 0) (d) :
    dat.before 13 t d = dat.after 13 ⟨t.val - 1, Nat.lt_of_le_of_lt (Nat.sub_le _ _) t.isLt⟩ :=
  dat.before_out_kept 13 rfl t ht (Bool.eq_false_iff.mpr fun h => by
    have h1 := (flush0_13 _).mp h
    have h2 : t.val < 64 := t.isLt
    dsimp only at h1
    omega) (fun _ => rfl) (fun _ _ => rfl) d
theorem before14_of {c : Dev nD} (dat : Dat τ (Elt F) Unit ℕ (Pipeline.UD sig nD τ) ℕ cfg0 c) (t : Fin cfg0.N) (ht : t.val ≠ 0) (d) :
    dat.before 14 t d = dat.after 14 ⟨t.val - 1, Nat.lt_of_le_of_lt (Nat.sub_le _ _) t.isLt⟩ :=
  dat.before_out_kept 14 rfl t ht (Bool.eq_false_iff.mpr fun h => by
    have h1 := (flush0_14 _).mp h
    have h2 : t.val < 64 := t.isLt
    dsimp only at h1
    omega) (fun _ => rfl) (fun _ _ => rfl) d

/-! ## The buffers the body owns -/

abbrev osem0 : Fin 8 → SemLoc sig := fun j => (![SemLoc.dma 26, SemLoc.dma 27, SemLoc.dma 28, SemLoc.dma 29, SemLoc.dma 30, SemLoc.dma 31, SemLoc.dma 32, SemLoc.dma 33] : Fin 8 → SemLoc sig) j
theorem ownSemFacts0 : Pipeline.OwnSemFacts spec0 osem0 := by decide
abbrev cells (c : Dev nD) : sProp 𝕄 :=
  iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7] (by decide) (by decide)]; rfl
def R0 : Finset (Ref sig .tc) := {main_v58_0}
theorem R0_sub : R0 ⊆ Pipeline.restRefs sig spec0 \ ∅ := by decide

/-! ## What the points add up to -/

/-- The rows of the gate's gradient handed on by the first `n` points, with the buffer they are read from. -/
def dgS (c : Dev nD) : ℕ → Vec F S264x2816 .f32
  | 0 => View.canon []
  | n + 1 => if h : n < cfg0.N then dgbK (iblk m c 0 ⟨n, h⟩) (iblk m c 1 ⟨n, h⟩) (iblk m c 3 ⟨n, h⟩) (iblk m c 5 ⟨n, h⟩) (iblk m c 8 ⟨n, h⟩) (iblk m c 9 ⟨n, h⟩)
      (if n = 0 then k0_pay6 else carryK (dgS c n)) else dgS c n
def crS (c : Dev nD) (n : ℕ) : FVec F S8x2816 .f32 := if n = 0 then k0_pay6 else carryK (dgS m c n)
/-- The sum for the weight after the first `n` points. -/
def dwS (c : Dev nD) : ℕ → Vec F S2816x1024 .f32
  | 0 => k0_pay2
  | n + 1 => if h : n < cfg0.N then dwdK (iblk m c 0 ⟨n, h⟩) (iblk m c 1 ⟨n, h⟩) (iblk m c 3 ⟨n, h⟩) (iblk m c 4 ⟨n, h⟩) (iblk m c 9 ⟨n, h⟩) (dwS c n) else dwS c n
/-- The sums for the convolution after the first `n` points. -/
def cfS (c : Dev nD) : ℕ → Vec F S8x2816 .f32
  | 0 => k0_pay3
  | n + 1 => if h : n < cfg0.N then dcfK (BitVec.ofNat 32 (grid0.coords ⟨n, h⟩ 0).val) (iblk m c 0 ⟨n, h⟩) (iblk m c 1 ⟨n, h⟩) (iblk m c 2 ⟨n, h⟩) (iblk m c 3 ⟨n, h⟩)
      (iblk m c 5 ⟨n, h⟩) (iblk m c 6 ⟨n, h⟩) (iblk m c 8 ⟨n, h⟩) (iblk m c 9 ⟨n, h⟩) (cfS c n) else cfS c n
/-- The sums for the normalisation after the first `n` points. -/
def v2S (c : Dev nD) : ℕ → Vec F S8x1024 .f32
  | 0 => k0_pay4
  | n + 1 => if h : n < cfg0.N then dv2K (iblk m c 0 ⟨n, h⟩) (iblk m c 1 ⟨n, h⟩) (v2S c n) else v2S c n

theorem dgS_succ (c : Dev nD) (t : Fin cfg0.N) : dgS m c (t.val + 1) = dgbK (iblk m c 0 t) (iblk m c 1 t) (iblk m c 3 t) (iblk m c 5 t) (iblk m c 8 t) (iblk m c 9 t) (crS m c t.val) := by
  rw [dgS, dif_pos t.isLt]; rfl
theorem dwS_succ (c : Dev nD) (t : Fin cfg0.N) : dwS m c (t.val + 1) = dwdK (iblk m c 0 t) (iblk m c 1 t) (iblk m c 3 t) (iblk m c 4 t) (iblk m c 9 t) (dwS m c t.val) := by
  rw [dwS, dif_pos t.isLt]
theorem cfS_succ (c : Dev nD) (t : Fin cfg0.N) : cfS m c (t.val + 1) = dcfK (BitVec.ofNat 32 (grid0.coords t 0).val) (iblk m c 0 t) (iblk m c 1 t) (iblk m c 2 t) (iblk m c 3 t)
      (iblk m c 5 t) (iblk m c 6 t) (iblk m c 8 t) (iblk m c 9 t) (cfS m c t.val) := by
  rw [cfS, dif_pos t.isLt]
theorem v2S_succ (c : Dev nD) (t : Fin cfg0.N) : v2S m c (t.val + 1) = dv2K (iblk m c 0 t) (iblk m c 1 t) (v2S m c t.val) := by
  rw [v2S, dif_pos t.isLt]

/-- The result left in HBM after the last point. -/
def slabsEnd (c : Dev nD) : HbBuf (F := F) c hbM := slabsOf (V m c main_v58_0) (dwS m c cfg0.N)

/-- The contents named for the buffers the body writes. -/
def G (c : Dev nD) : (b : Ref sig .tc) → Buf (Elt F) ((c : Thread nD τ).loc b) := Function.update (V m c) main_v58_0 (slabsEnd m c)

theorem routed_eq (c : Dev nD) (W : (b : Ref sig .tc) → Buf (Elt F) ((c : Thread nD τ).loc b)) :
    (Pipeline.routed R0 c W : sProp 𝕄) = hbPt c hbM (W main_v58_0) := by
  unfold Pipeline.routed; rw [BI.bigSep_eq_bigSepL_of_eq [main_v58_0] (by decide) (by decide)]; rfl

theorem PhiDRG_eq (c : Dev nD) (W : (c : Dev nD) → (b : Ref sig .tc) → Buf (Elt F) ((c : Thread nD τ).loc b)) :
    (Pipeline.ΦDRG osem0 spec0 ∅ R0 (V m) W c : sProp 𝕄)
      = iprop(((∃ d, owns (c : Thread nD τ) scU fullShare d) ∗ (∃ d, owns (c : Thread nD τ) scD fullShare d) ∗ (∃ d, owns (c : Thread nD τ) scW fullShare d)) ∗ (∃ r, prngReg c r) ∗ cells c
          ∗ (bigSep ∅ fun b => ((c : Thread nD τ).loc b) ↦{fullShare} V m c b) ∗ hbPt c hbM (W c main_v58_0)) := by
  rw [Pipeline.ΦDRG_eq, scopedRest0_eq, ownSems00_eq, routed_eq]
  simp only [scU, scD, scW, owns_whole]; try rfl

/-- The three scratch buffers between points: anything before the first; then the gate's gradient and the sum so far. -/
def scrHeld (c : Dev nD) (n : ℕ) : sProp 𝕄 :=
  if n = 0 then iprop((∃ d, owns (c : Thread nD τ) scU fullShare d) ∗ (∃ d, owns (c : Thread nD τ) scD fullShare d) ∗ (∃ d, owns (c : Thread nD τ) scW fullShare d))
  else iprop((∃ d, owns (c : Thread nD τ) scU fullShare d) ∗ owns (c : Thread nD τ) scD fullShare (dgS m c n) ∗ owns (c : Thread nD τ) scW fullShare (dwS m c n))
/-- The result left in HBM between points: as found, and at the end the copied rows. -/
def slabsHeld (c : Dev nD) (n : ℕ) : HbBuf (F := F) c hbM := if n = cfg0.N then slabsEnd m c else V m c main_v58_0

def inv (c : Dev nD) (n : ℕ) : sProp 𝕄 :=
  iprop(scrHeld m c n ∗ (∃ r, prngReg c r) ∗ cells c
    ∗ (bigSep ∅ fun b => ((c : Thread nD τ).loc b) ↦{fullShare} V m c b) ∗ hbPt c hbM (slabsHeld m c n))

def dugAt (c : Dev nD) (t : Fin cfg0.N) : Vec F S256x2816 .bf16 :=
  dugK (iblk m c 0 t) (iblk m c 1 t) (iblk m c 3 t) (iblk m c 5 t) (iblk m c 7 t) (iblk m c 8 t) (iblk m c 9 t) (crS m c t.val)
def duvAt (c : Dev nD) (t : Fin cfg0.N) : Vec F S256x2816 .bf16 := duvK (iblk m c 0 t) (iblk m c 1 t) (iblk m c 4 t) (iblk m c 8 t) (iblk m c 9 t)
def dzAt (c : Dev nD) (t : Fin cfg0.N) : Vec F S256x1024 .f32 := dzK (iblk m c 0 t) (iblk m c 1 t) (iblk m c 9 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dugAt m c t
    | ⟨11, _⟩ => duvAt m c t
    | ⟨12, _⟩ => dzAt m c t
    | ⟨13, _⟩ => cfS m c (t.val + 1)
    | ⟨14, _⟩ => v2S m c (t.val + 1)
    | ⟨15, _⟩ => k0_pay5
    | ⟨_ + 16, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = dugAt m c t := by dsimp only [dats]
theorem after11 (c : Dev nD) (t : Fin cfg0.N) : (dats m 0 c).after 11 t = duvAt m c t := by dsimp only [dats]
theorem after12 (c : Dev nD) (t : Fin cfg0.N) : (dats m 0 c).after 12 t = dzAt m c t := by dsimp only [dats]
theorem after13 (c : Dev nD) (t : Fin cfg0.N) : (dats m 0 c).after 13 t = cfS m c (t.val + 1) := by dsimp only [dats]
theorem after14 (c : Dev nD) (t : Fin cfg0.N) : (dats m 0 c).after 14 t = v2S m c (t.val + 1) := by dsimp only [dats]
theorem after15 (c : Dev nD) (t : Fin cfg0.N) : (dats m 0 c).after 15 t = k0_pay5 := by dsimp only [dats]

/-! ## The body at a point -/

theorem isFirst_iff : ∀ t : Fin cfg0.N, isFirst (grid0.coords t) ↔ t.val = 0 := by decide +kernel
theorem isLater_iff : ∀ t : Fin cfg0.N, isLater (grid0.coords t) ↔ t.val ≠ 0 := by decide +kernel
theorem isLast_iff : ∀ t : Fin cfg0.N, isLast (grid0.coords t) ↔ t.val = 63 := by decide +kernel

abbrev ms0 (t : Fin cfg0.N) : Memref sig .tc .vmem S256x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S256x2816 .bf16 := win0_2.stage (cfg0.slots t 2)
abbrev ms3 (t : Fin cfg0.N) : Memref sig .tc .vmem S256x2816 .bf16 := win0_3.stage (cfg0.slots t 3)
abbrev ms4 (t : Fin cfg0.N) : Memref sig .tc .vmem S256x2816 .bf16 := win0_4.stage (cfg0.slots t 4)
abbrev ms5 (t : Fin cfg0.N) : Memref sig .tc .vmem S256x2816 .bf16 := win0_5.stage (cfg0.slots t 5)
abbrev ms6 (t : Fin cfg0.N) : Memref sig .tc .vmem S16x2816 .bf16 := win0_6.stage (cfg0.slots t 6)
abbrev ms7 (t : Fin cfg0.N) : Memref sig .tc .vmem S8x2816 .f32 := win0_7.stage (cfg0.slots t 7)
abbrev ms8 (t : Fin cfg0.N) : Memref sig .tc .vmem S1024x2816 .bf16 := win0_8.stage (cfg0.slots t 8)
abbrev ms9 (t : Fin cfg0.N) : Memref sig .tc .vmem S8x1024 .f32 := win0_9.stage (cfg0.slots t 9)
abbrev ms10 (t : Fin cfg0.N) : Memref sig .tc .vmem S256x2816 .bf16 := win0_10.stage (cfg0.slots t 10)
abbrev ms11 (t : Fin cfg0.N) : Memref sig .tc .vmem S256x2816 .bf16 := win0_11.stage (cfg0.slots t 11)
abbrev ms12 (t : Fin cfg0.N) : Memref sig .tc .vmem S256x1024 .f32 := win0_12.stage (cfg0.slots t 12)
abbrev ms13 (t : Fin cfg0.N) : Memref sig .tc .vmem S8x2816 .f32 := win0_13.stage (cfg0.slots t 13)
abbrev ms14 (t : Fin cfg0.N) : Memref sig .tc .vmem S8x1024 .f32 := win0_14.stage (cfg0.slots t 14)
abbrev ms15 (t : Fin cfg0.N) : Memref sig .tc .vmem S8x128 .f32 := win0_15.stage (cfg0.slots t 15)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- The eighth output is stored at the first point only. -/
theorem idle15 : ∀ t : Fin cfg0.N, cfg0.idle 15 (cfg0.grid.coords t) = !decide (t.val = 0) := by decide +kernel

theorem before15_of (c : Dev nD) (d) : ∀ (n : ℕ) (h : n < cfg0.N), n ≠ 0 → (dats m 0 c).before 15 ⟨n, h⟩ d = k0_pay5
  | 0, _, h0 => absurd rfl h0
  | n + 1, h, _ => by
    have hN : cfg0.N = 64 := N_0
    have hf : (cfg0.win 15).flush ⟨n, Nat.lt_of_succ_lt h⟩ = false := Bool.eq_false_iff.mpr fun h' => by
      have h1 := (flush0_15 _).mp h'
      dsimp only at h1
      omega
    refine ((dats m 0 c).before_of_pos 15 ⟨n + 1, h⟩ (Nat.succ_ne_zero n) ((cfg0.win 15).fetch_out rfl _) d).trans ?_
    refine (if_neg (fun h' => Bool.false_ne_true (hf.symm.trans h'))).trans ?_
    by_cases h0 : n = 0
    · subst h0
      unfold Dat.left
      rw [show cfg0.idle 15 (cfg0.grid.coords ⟨0 + 1 - 1, Nat.lt_of_le_of_lt (Nat.sub_le _ _) h⟩) = false from (idle15 _).trans (by simp)]
      dsimp only
      unfold Dat.kept
      rw [Pipeline.fill_of_clip_none 15 _ (fun _ => rfl) d ((dats m 0 c).after 15 _), Pipeline.Window.fill_cut, after15]
    · unfold Dat.left
      rw [show cfg0.idle 15 (cfg0.grid.coords ⟨n + 1 - 1, Nat.lt_of_le_of_lt (Nat.sub_le _ _) h⟩) = true from
        (idle15 _).trans (by simp [h0])]
      exact before15_of c d n (Nat.lt_of_succ_lt h) h0

/-- What a point leaves of the eighth output. -/
def post15 (c : Dev nD) (t : Fin cfg0.N) : sProp 𝕄 :=
  match cfg0.idle 15 (cfg0.grid.coords t) with
  | true =>
    match (cfg0.win 15).flush t with
    | false => iprop(∃ d, owns (c : Thread nD τ) (ms15 t) fullShare ((dats m 0 c).before 15 t d))
    | true => owns (c : Thread nD τ) (ms15 t) fullShare ((dats m 0 c).after 15 t)
  | false => owns (c : Thread nD τ) (ms15 t) fullShare ((dats m 0 c).after 15 t)

theorem post15_of (c : Dev nD) (t : Fin cfg0.N) : owns (c : Thread nD τ) (ms15 t) fullShare (k0_pay5 : Vec F S8x128 .f32) ⊢ post15 m c t := by
  unfold post15
  by_cases h0 : t.val = 0
  · rw [show cfg0.idle 15 (cfg0.grid.coords t) = false from (idle15 t).trans (by simp [h0])]
    dsimp only
    rw [after15]
  · rw [show cfg0.idle 15 (cfg0.grid.coords t) = true from (idle15 t).trans (by simp [h0])]
    dsimp only
    cases (cfg0.win 15).flush t
    · dsimp only
      iintro H
      iexists k0_pay5
      rw [before15_of m c k0_pay5 t.val t.isLt h0]
      iexact H
    · dsimp only
      rw [after15]

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ post15 m c t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have hN : cfg0.N = 64 := N_0
  have ht := t.isLt
  unfold bodyPre bodyPost bodyAt0
  simp only [before0_of m (dats m 0 c) (A_eq m c 0) (after0 m c), before1_of m (dats m 0 c) (A_eq m c 1) (after1 m c), before2_of m (dats m 0 c) (A_eq m c 2) (after2 m c), before3_of m (dats m 0 c) (A_eq m c 3) (after3 m c), before4_of m (dats m 0 c) (A_eq m c 4) (after4 m c), before5_of m (dats m 0 c) (A_eq m c 5) (after5 m c), before6_of m (dats m 0 c) (A_eq m c 6) (after6 m c), before7_of m (dats m 0 c) (A_eq m c 7) (after7 m c), before8_of m (dats m 0 c) (A_eq m c 8) (after8 m c), before9_of m (dats m 0 c) (A_eq m c 9) (after9 m c)]
  rw [after0, after1, after2, after3, after4, after5, after6, after7, after8, after9, after10, after11, after12, after13, after14]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have es : scrHeld m c (t.val + 1) = iprop((∃ d, owns (c : Thread nD τ) scU fullShare d) ∗ owns (c : Thread nD τ) scD fullShare (dgS m c (t.val + 1)) ∗ owns (c : Thread nD τ) scW fullShare (dwS m c (t.val + 1))) := by
    unfold scrHeld; rw [if_neg (by omega)]
  rw [es, dgS_succ, dwS_succ, cfS_succ, v2S_succ]
  unfold dugAt duvAt dzAt
  by_cases h0 : t.val = 0
  · have eh : slabsHeld m c t.val = slabsHeld m c (t.val + 1) := by
      unfold slabsHeld; rw [if_neg (by omega), if_neg (by omega)]
    have ea : scrHeld m c t.val = iprop((∃ d, owns (c : Thread nD τ) scU fullShare d) ∗ (∃ d, owns (c : Thread nD τ) scD fullShare d) ∗ (∃ d, owns (c : Thread nD τ) scW fullShare d)) := by unfold scrHeld; rw [if_pos h0]
    rw [eh, ea, show crS m c t.val = k0_pay6 by rw [crS, if_pos h0], show dwS m c t.val = k0_pay2 by rw [h0, dwS], show cfS m c t.val = k0_pay3 by rw [h0, cfS], show v2S m c t.val = k0_pay4 by rw [h0, v2S]]
    iintro ⟨⟨⟨HU, HD, HS⟩, Hg, Hq, HE, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_first c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)
      ((isFirst_iff t).mpr h0) (fun h => (isLater_iff t).mp h h0) (fun h => by have := (isLast_iff t).mp h; omega))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HU]; · iexact HU
    isplitl [HD]; · iexact HD
    isplitl [HS]; · iexact HS
    iintro ⟨H0, H1, H2, H3, H4, H5, H6, H7, H8, H9, H10, H11, H12, H13, H14, H15, HU, HD, HS⟩
    isplitl [HU HD HS Hg Hq HE HG]
    · isplitl [HU HD HS]
      · isplitl [HU]; · iexact HU
        isplitl [HD]; · iexact HD
        iexact HS
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iapply (post15_of m c t)
    iexact H15
  have ea : scrHeld m c t.val = iprop((∃ d, owns (c : Thread nD τ) scU fullShare d) ∗ owns (c : Thread nD τ) scD fullShare (dgS m c t.val) ∗ owns (c : Thread nD τ) scW fullShare (dwS m c t.val)) := by unfold scrHeld; rw [if_neg h0]
  have e15 : ∀ d, (dats m 0 c).before 15 t d = k0_pay5 := fun d => before15_of m c d t.val t.isLt h0
  have en : t.val - 1 + 1 = t.val := by omega
  simp only [before13_of (dats m 0 c) t h0, before14_of (dats m 0 c) t h0, e15, after13, after14, en]
  rw [ea, show crS m c t.val = carryK (dgS m c t.val) by rw [crS, if_neg h0]]
  by_cases h1 : t.val = 63
  · have eh : slabsHeld m c t.val = V m c main_v58_0 := by unfold slabsHeld; rw [if_neg (by omega)]
    have eh' : slabsHeld m c (t.val + 1) = slabsOf (V m c main_v58_0) (dwdK (iblk m c 0 t) (iblk m c 1 t) (iblk m c 3 t) (iblk m c 4 t) (iblk m c 9 t) (dwS m c t.val)) := by
      unfold slabsHeld; rw [if_pos (by omega), slabsEnd, ← dwS_succ]; exact congrArg (fun n => slabsOf (V m c main_v58_0) (dwS m c n)) (by omega)
    rw [eh, eh']
    iintro ⟨⟨⟨HU, HD, HS⟩, Hg, Hq, HE, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_last c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (cfS m c t.val) (v2S m c t.val) k0_pay5 (dgS m c t.val) (dwS m c t.val)
      (fun h => h0 ((isFirst_iff t).mp h)) ((isLater_iff t).mpr h0) ((isLast_iff t).mpr h1) (V m c main_v58_0) W)
    icases Hq with ⟨Hq0, Hq1, Hq2, Hq3, Hq4, Hq5, Hq6, Hq7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HU]; · iexact HU
    isplitl [HD]; · iexact HD
    isplitl [HS]; · iexact HS
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [HG]; · iexact HG
    isplitl [HW]; · iexact HW
    iintro ⟨H0, H1, H2, H3, H4, H5, H6, H7, H8, H9, H10, H11, H12, H13, H14, H15, HU, HD, HS, Hq0, Hq1, Hq2, Hq3, Hq4, Hq5, Hq6, Hq7, HG, ⟨%W', HW⟩⟩
    isplitl [HU HD HS Hg Hq0 Hq1 Hq2 Hq3 Hq4 Hq5 Hq6 Hq7 HE HG]
    · isplitl [HU HD HS]
      · isplitl [HU]; · iexact HU
        isplitl [HD]; · iexact HD
        iexact HS
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [HE]; · iexact HE
      iexact HG
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iapply (post15_of m c t)
    iexact H15
  · have eh : slabsHeld m c t.val = slabsHeld m c (t.val + 1) := by
      unfold slabsHeld; rw [if_neg (by omega), if_neg (by omega)]
    rw [eh]
    iintro ⟨⟨⟨HU, HD, HS⟩, Hg, Hq, HE, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_mid c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (cfS m c t.val) (v2S m c t.val) k0_pay5 (dgS m c t.val) (dwS m c t.val)
      (fun h => h0 ((isFirst_iff t).mp h)) ((isLater_iff t).mpr h0) (fun h => h1 ((isLast_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HU]; · iexact HU
    isplitl [HD]; · iexact HD
    isplitl [HS]; · iexact HS
    iintro ⟨H0, H1, H2, H3, H4, H5, H6, H7, H8, H9, H10, H11, H12, H13, H14, H15, HU, HD, HS⟩
    isplitl [HU HD HS Hg Hq HE HG]
    · isplitl [HU HD HS]
      · isplitl [HU]; · iexact HU
        isplitl [HD]; · iexact HD
        iexact HS
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iapply (post15_of m c t)
    iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : Pipeline.ΦDRG osem0 spec0 ∅ R0 (V m) (V m) c ⊢ (dats m 0 c).Φ 0 := by
  rw [PhiDRG_eq, show (dats m 0 c).Φ 0 = inv m c 0 from rfl]
  unfold inv scrHeld slabsHeld
  rw [if_pos rfl, if_neg (by rw [show cfg0.N = 64 from N_0]; decide)]
theorem inv_out (c : Dev nD) : (dats m 0 c).Φ (Fin.last cfg0.N) ⊢ Pipeline.ΦDRG osem0 spec0 ∅ R0 (V m) (G m) c := by
  rw [PhiDRG_eq, show (dats m 0 c).Φ (Fin.last cfg0.N) = inv m c cfg0.N from rfl]
  unfold inv scrHeld slabsHeld G
  rw [if_neg (by rw [show cfg0.N = 64 from N_0]; decide), if_pos rfl, Function.update_self]
  iintro ⟨⟨HU, HD, HS⟩, Hg, Hq, HE, HG⟩
  isplitl [HU HD HS]
  · isplitl [HU]; · iexact HU
    isplitl [HD]; · iexists _; iexact HD
    iexists _; iexact HS
  isplitl [Hg]; · iexact Hg
  isplitl [Hq]; · iexact Hq
  isplitl [HE]; · iexact HE
  iexact HG

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG_shared (Q' := _) cfgs (dats m) (0 : Fin 1) launch₀0 osem0 defs₀ Variants.none ownSemFacts0 ∅ R0 (by simp) R0_sub m ρ main
    (hbody := fun c => (body_obligation m c).loose) (hq := fun _ _ _ => rfl)
    (howed := fun _ _ => rfl) (V := V m) (hmain := hmain m Variants.none) (hA := A_eq m) (G := G m)
    (hin := inv_in m) (hout := inv_out m)

/-- What the run ends with: the six results and the arguments. -/
theorem ends : θ_run defs (onTc (τ := τ) (main (F := F))) ⟨m, fun _ => 0, ρ⟩ (fun r => (∀ c : Dev nD,
      (r.2.mem ((c : Thread nD τ).loc main_v58_0) = slabsEnd m c
      ∧ r.2.mem ((c : Thread nD τ).loc main_v58_1) = (dats m 0 c).arrAt 10 cfg0.N
      ∧ r.2.mem ((c : Thread nD τ).loc main_v58_2) = (dats m 0 c).arrAt 11 cfg0.N
      ∧ r.2.mem ((c : Thread nD τ).loc main_v58_3) = (dats m 0 c).arrAt 12 cfg0.N
      ∧ r.2.mem ((c : Thread nD τ).loc main_v58_4) = (dats m 0 c).arrAt 13 cfg0.N
      ∧ r.2.mem ((c : Thread nD τ).loc main_v58_5) = (dats m 0 c).arrAt 14 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨⟨(h.1.written c (by decide : main_v58_0 ∈ R0)).trans (by unfold G; rw [Function.update_self]),
      (h.1.toR c).1 10, (h.1.toR c).1 11, (h.1.toR c).1 12, (h.1.toR c).1 13, (h.1.toR c).1 14⟩,
      ((h.1.toR c).2 main_arg0 (Finset.mem_sdiff.mpr ⟨Pipeline.mem_restRefs_of main_arg0 (by decide) (by decide), by decide⟩)).trans (V_main_arg0 m c),
      ((h.1.toR c).1 0).trans (((dats m 0 c).arrAt_in 0 rfl _).trans ((A_eq m c 0).trans (V_main_arg1 m c))),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c),
      ((h.1.toR c).2 main_arg7 (Finset.mem_sdiff.mpr ⟨Pipeline.mem_restRefs_of main_arg7 (by decide) (by decide), by decide⟩)).trans (V_main_arg7 m c),
      ((h.1.toR c).2 main_arg8 (Finset.mem_sdiff.mpr ⟨Pipeline.mem_restRefs_of main_arg8 (by decide) (by decide), by decide⟩)).trans (V_main_arg8 m c),
      ((h.1.toR c).2 main_arg9 (Finset.mem_sdiff.mpr ⟨Pipeline.mem_restRefs_of main_arg9 (by decide) (by decide), by decide⟩)).trans (V_main_arg9 m c)⟩, h.2⟩) (run_main m ρ)

/-- The same run with the arguments and the counters only. -/
theorem ends_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (ends m ρ)

end Cert.Kernel3Ideal.Hand

end
-- ==== Proof.FfnRef.lean ====
module

public import proofs.«01_k».proof.Proof.FfnMath
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Ffn

open Cert.Reference3Ideal Cert.Reference3Ideal.Gen Cert.Reference3Ideal.Value
open Idealize.ShloMosaic

/-- What the reference's arguments hold. -/
abbrev Args := Valuation Cert.Reference3Ideal.τ Cert.Reference3Ideal.sig (Elt Ideal)
variable (V0 : Args)
abbrev aDx : FVec Ideal S16384x1024 .f32 := V0 (Proc.devRef .tc main_arg1)
abbrev aX1 : FVec Ideal S16384x1024 .f32 := V0 (Proc.devRef .tc main_arg2)
abbrev aUg : FVec Ideal S16384x2816 .f32 := V0 (Proc.devRef .tc main_arg3)
abbrev aUv : FVec Ideal S16384x2816 .f32 := V0 (Proc.devRef .tc main_arg4)
abbrev aCw : FVec Ideal S3x2816 .f32 := V0 (Proc.devRef .tc main_arg5)
abbrev aCb : FVec Ideal S2816 .f32 := V0 (Proc.devRef .tc main_arg6)
abbrev aWd : FVec Ideal S2816x1024 .f32 := V0 (Proc.devRef .tc main_arg7)
abbrev aG : FVec Ideal S1024 .f32 := V0 (Proc.devRef .tc main_arg8)
abbrev gt : FVec Ideal S16384x2816 .f32 := res_main_v29 V0
abbrev sg : FVec Ideal S16384x2816 .f32 := res_main_v30_2 V0
abbrev sl : FVec Ideal S16384x2816 .f32 := res_main_v30_0 V0
abbrev z2 : FVec Ideal S16384x1024 .f32 := res_main_v33 V0
abbrev dz : FVec Ideal S16384x1024 .f32 := res_main_v96 V0
abbrev dg : FVec Ideal S16384x2816 .f32 := res_main_v102 V0

abbrev up : FVec Ideal S16384x2816 .f32 := res_main_v31 V0
/-- The six results. -/
def resSlabs : FVec Ideal S8x1472x1024 .f32 := Host.dynamicUpdateSlice (V0 (Proc.devRef .tc main_arg0)) (shapeCast _ (transpose S2816x1024 [1, 0] (Host.dotGeneral (F := Ideal) (φ₁ := .f32) (φ₂ := .f32) dot_S16384x1024_S16384x2816_S1024x2816_0_0_1_1_n_n none (dz V0) (up V0)) transposes_S1024x2816_S2816x1024_1_0) shapeCasts_S2816x1024_S8x352x1024) (fun k => (((![constantI S_ 32 0#32, constantI S_ 32 1056#32, constantI S_ 32 0#32] : Fin 3 → (⟨S_, .i32⟩ : BufTy).Contents (Elt Ideal))) k (Shape.Idx.first h_S_)).toInt) updateFits_S8x1472x1024_S8x352x1024
def resDug : FVec Ideal S16384x2816 .bf16 := truncf .bf16 (extractStridedSlice S16384x2816 ![2, 0] (res_main_v133 V0) slices_S16386x2816_S16384x2816_2_0) bitsLt_bf16_f32
def resDuv : FVec Ideal S16384x2816 .bf16 := truncf .bf16 (mulf (res_main_v30_0 V0) (res_main_v99 V0)) bitsLt_bf16_f32
def resDcf : FVec Ideal S8x2816 .f32 := (concatenate S8x2816 0 [⟨S3x2816, ((addf (addf (pad S3x2816 ![2, 0] ![0, 0] ![0, 0] (broadcastInDim S1x2816 ![1] bcast_S2816_S1x2816_1 (Host.reduceAdd (shapeCast _ (Host.reduceAdd (mulf (res_main_v102 V0) (res_main_v22 V0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf (res_main_v102 V0) (res_main_v15 V0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf (res_main_v102 V0) (res_main_v7 V0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_020_000 h_S_)) : (⟨S3x2816, .f32⟩ : BufTy).Contents (Elt Ideal))⟩, ⟨S1x2816, ((broadcastInDim S1x2816 ![1] bcast_S2816_S1x2816_1 (Host.reduceAdd (shapeCast _ (Host.reduceAdd (res_main_v102 V0) (constant (F := Ideal) S_ .f32 0x00000000#32) reducesTo_S16384x2816_S2816_d0 h_S_) shapeCasts_S2816_S1x2816) (constant (F := Ideal) S_ .f32 0x00000000#32) reducesTo_S1x2816_S2816_d0 h_S_)) : (⟨S1x2816, .f32⟩ : BufTy).Contents (Elt Ideal))⟩, ⟨S4x2816, ((broadcastInDim S4x2816 ![] bcast_S_S4x2816 (constant (F := Ideal) S_ .f32 0x00000000#32)) : (⟨S4x2816, .f32⟩ : BufTy).Contents (Elt Ideal))⟩] concatenates_S3x2816_S1x2816_S4x2816_S8x2816_d0 : (⟨S8x2816, .f32⟩ : BufTy).Contents (Elt Ideal))
def resDv2 : FVec Ideal S8x1024 .f32 := (concatenate S8x1024 0 [⟨S1x1024, ((broadcastInDim S1x1024 ![1] bcast_S1024_S1x1024_1 (Host.reduceAdd (shapeCast _ (Host.reduceAdd (mulf (res_main_v56 V0) (res_main_v63 V0)) (constant (F := Ideal) S_ .f32 0x00000000#32) reducesTo_S16384x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (V0 (Proc.devRef .tc main_arg1)) (constant (F := Ideal) S_ .f32 0x00000000#32) reducesTo_S16384x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S6x1024, ((broadcastInDim S6x1024 ![] bcast_S_S6x1024 (constant (F := Ideal) S_ .f32 0x00000000#32)) : (⟨S6x1024, .f32⟩ : BufTy).Contents (Elt Ideal))⟩] concatenates_S1x1024_S1x1024_S6x1024_S8x1024_d0 : (⟨S8x1024, .f32⟩ : BufTy).Contents (Elt Ideal))
/-- The gradient of the second projection's weight. -/
def resDwd : FVec Ideal S2816x1024 .f32 := transpose S2816x1024 [1, 0] (Host.dotGeneral (F := Ideal) (φ₁ := .f32) (φ₂ := .f32) dot_S16384x1024_S16384x2816_S1024x2816_0_0_1_1_n_n none (dz V0) (up V0)) transposes_S1024x2816_S2816x1024_1_0

/-- The gate's input with eight zero rows before it. -/
def ux (s : ℕ) (f : Fin 2816) : EReal := if h : 8 ≤ s ∧ s < 16392 then aUg V0 (ix2 ⟨s - 8, by omega⟩ f) else 0
/-- The gate's gradient with zero rows after it. -/
def dgx (s : ℕ) (f : Fin 2816) : EReal := if h : s < 16384 then dg V0 (ix2 ⟨s, h⟩ f) else 0

theorem ux_low {s : ℕ} (h : s < 8) (f : Fin 2816) : ux V0 s f = 0 := dif_neg (by omega)
theorem ux_of {s : ℕ} (a : Fin 16384) (h : s = a.val + 8) (f : Fin 2816) : ux V0 s f = aUg V0 (ix2 a f) := by
  subst h
  exact (dif_pos ⟨by omega, by omega⟩).trans (by congr 2)
theorem dgx_high {s : ℕ} (h : 16384 ≤ s) (f : Fin 2816) : dgx V0 s f = 0 := dif_neg (by omega)
theorem dgx_of {s : ℕ} (a : Fin 16384) (h : s = a.val) (f : Fin 2816) : dgx V0 s f = dg V0 (ix2 a f) := by
  subst h; exact dif_pos a.isLt

theorem v7_at (a : Fin 16384) (f : Fin 2816) : res_main_v7 V0 (ix2 a f) = ux V0 (a.val + 6) f := by
  pointwise [res_main_v7, res_main_v3]
  split_ifs with h
  · exact (ux_low V0 (by omega) f).symm
  · exact (ux_of V0 ⟨a.val - 2, by omega⟩ (by show _ = a.val - 2 + 8; omega) f).symm
  · rename_i hh; exact absurd rfl hh
theorem v15_at (a : Fin 16384) (f : Fin 2816) : res_main_v15 V0 (ix2 a f) = ux V0 (a.val + 7) f := by
  pointwise [res_main_v15, res_main_v3]
  split_ifs with h
  · exact (ux_low V0 (by omega) f).symm
  · exact (ux_of V0 ⟨1 + a.val - 2, by omega⟩ (by show _ = 1 + a.val - 2 + 8; omega) f).symm
  · rename_i hh; exact absurd rfl hh
theorem v22_at (a : Fin 16384) (f : Fin 2816) : res_main_v22 V0 (ix2 a f) = ux V0 (a.val + 8) f := by
  pointwise [res_main_v22, res_main_v3]
  exact (ux_of V0 a rfl f).symm
theorem dug_at (a : Fin 16384) (f : Fin 2816) : resDug V0 (ix2 a f) = aCw V0 (ix2 2 f) * dgx V0 a.val f + aCw V0 (ix2 1 f) * dgx V0 (a.val + 1) f + aCw V0 (ix2 0 f) * dgx V0 (a.val + 2) f := by
  pointwise [resDug, res_main_v133, res_main_v23, res_main_v16, res_main_v8]
  rw [dgx_of V0 a rfl]
  refine congrArg₂ (· + ·) (congrArg₂ (· + ·) rfl ?_) ?_
  · split_ifs with h
    · rw [dgx_of V0 ⟨2 + a.val - 1, h.2⟩ (by show _ = 2 + a.val - 1; omega)]
    · rw [dgx_high V0 (by omega), mul_zero]
  · split_ifs with h
    · rw [dgx_of V0 ⟨2 + a.val, h⟩ (by show _ = 2 + a.val; omega)]
    · rw [dgx_high V0 (by omega), mul_zero]
/-- One row's part of the gradients of the convolution's weights and bias. -/
def cfT (r : ℕ) (s : Fin 16384) (f : Fin 2816) : EReal := if r < 3 then dg V0 (ix2 s f) * ux V0 (s.val + 6 + r) f else if r = 3 then dg V0 (ix2 s f) else 0
/-- A row before the layer norm's scale. -/
def zh (Z : Fin 1024 → EReal) (d : Fin 1024) : EReal := zc Z d * Ideal.rsqrt (vr Z)
/-- One row's part of the gradients of the layer norm's scale and bias. -/
def v2T (r : ℕ) (s : Fin 16384) (d : Fin 1024) : EReal :=
  if r = 0 then zh (fun x => z2 V0 (ix2 s x)) d * aDx V0 (ix2 s d) else if r = 1 then aDx V0 (ix2 s d) else 0

theorem dcf_at (a : Fin 8) (f : Fin 2816) : resDcf V0 (ix2 a f) = ∑ s, cfT V0 a.val s f := by
  pointwise [resDcf]
  simp only [Finset.univ_unique, Finset.sum_singleton, v7_at, v15_at, v22_at]
  obtain ⟨a, ha⟩ := a
  interval_cases a <;> simp [cfT]

theorem v37_at (s : Fin 16384) : res_main_v37 V0 (ix2 s 0) = mu (fun x => z2 V0 (ix2 s x)) := by
  pointwise [res_main_v37, mu]
theorem v39_at (s : Fin 16384) (d : Fin 1024) : res_main_v39 V0 (ix2 s d) = zc (fun x => z2 V0 (ix2 s x)) d := by
  pointwise [res_main_v39]; rw [v37_at]; rfl
theorem v48_at (s : Fin 16384) (d : Fin 1024) : res_main_v48 V0 (ix2 s d) = zc (fun x => z2 V0 (ix2 s x)) d := by
  pointwise [res_main_v48]; rw [v37_at]; rfl
theorem v50_at (s : Fin 16384) : res_main_v50 V0 (ix2 s 0) = vr (fun x => z2 V0 (ix2 s x)) := by
  pointwise [res_main_v50]; simp only [v39_at]; rfl
theorem v51_at (s : Fin 16384) : res_main_v51 V0 (ix2 s 0) = Ideal.rsqrt (vr (fun x => z2 V0 (ix2 s x))) := by
  pointwise [res_main_v51]; rw [v50_at]
theorem v56_at (s : Fin 16384) (d : Fin 1024) : res_main_v56 V0 (ix2 s d) = zh (fun x => z2 V0 (ix2 s x)) d := by
  pointwise [res_main_v56]; rw [v48_at, v51_at]; rfl

theorem dv2_at (a : Fin 8) (d : Fin 1024) : resDv2 V0 (ix2 a d) = ∑ s, v2T V0 a.val s d := by
  pointwise [resDv2, res_main_v63]
  simp only [Finset.univ_unique, Finset.sum_singleton, v56_at]
  obtain ⟨a, ha⟩ := a
  interval_cases a <;> simp [v2T]
theorem dwd_at (f : Fin 2816) (d : Fin 1024) : resDwd V0 (ix2 f d) = ∑ s : Fin 16384, dz V0 (ix2 s d) * (sl V0 (ix2 s f) * aUv V0 (ix2 s f)) := by
  pointwise [resDwd, up, res_main_v31]
theorem duv_at (s : Fin 16384) (f : Fin 2816) : resDuv V0 (ix2 s f) = sl V0 (ix2 s f) * ∑ d : Fin 1024, dz V0 (ix2 s d) * aWd V0 (ix2 f d) := by
  pointwise [resDuv, res_main_v99]

/-! ## Real arguments have real values everywhere -/

/-- Every argument but the slabs holds real numbers. -/
def Reals : Prop := (∀ i, IsR (aDx V0 i)) ∧ (∀ i, IsR (aX1 V0 i)) ∧ (∀ i, IsR (aUg V0 i)) ∧ (∀ i, IsR (aUv V0 i)) ∧ (∀ i, IsR (aCw V0 i))
  ∧ (∀ i, IsR (aCb V0 i)) ∧ (∀ i, IsR (aWd V0 i)) ∧ (∀ i, IsR (aG V0 i))

variable {V0} (h : Reals V0)
include h

theorem isR_ux (s : ℕ) (f : Fin 2816) : IsR (ux V0 s f) := by
  unfold ux
  split_ifs
  · exact h.2.2.1 _
  · exact isR_zero

theorem isR_gt (s : Fin 16384) (f : Fin 2816) : IsR (gt V0 (ix2 s f)) := by
  pointwise [gt, res_main_v29, res_main_v8, res_main_v16, res_main_v23]
  rw [v7_at, v15_at, v22_at]
  exact ((((h.2.2.2.2.1 _).mul (isR_ux h _ _)).add ((h.2.2.2.2.1 _).mul (isR_ux h _ _))).add ((h.2.2.2.2.1 _).mul (isR_ux h _ _))).add (h.2.2.2.2.2.1 _)

theorem isR_sg (s : Fin 16384) (f : Fin 2816) : IsR (sg V0 (ix2 s f)) := by
  pointwise [sg, res_main_v30_2]
  exact isR_sigmoid (isR_gt h s f)

theorem isR_z2 (s : Fin 16384) (d : Fin 1024) : IsR (z2 V0 (ix2 s d)) := by
  pointwise [z2, res_main_v33, res_main_v31, res_main_v30_0]
  exact (isR_alpha.mul (h.2.1 _)).add (isR_sum fun f => (((isR_gt h s f).mul (isR_sg h s f)).mul (h.2.2.2.1 _)).mul (h.2.2.2.2.2.2.1 _))

omit h in
theorem dz_at (s : Fin 16384) (d : Fin 1024) : dz V0 (ix2 s d) = lnR (fun x => z2 V0 (ix2 s x)) (fun x => aDx V0 (ix2 s x)) (fun x => aG V0 (ix1 x)) d := by
  pointwise [dz, res_main_v96, res_main_v86, res_main_v77, res_main_v71, res_main_v63, res_main_v57]
  simp only [Fin.sum_univ_one, Finset.univ_unique, Finset.sum_singleton, Fin.default_eq_zero, v39_at, v48_at, v50_at, v51_at]
  rfl

theorem dz_eq (s : Fin 16384) (d : Fin 1024) : lnK (fun x => z2 V0 (ix2 s x)) (fun x => aDx V0 (ix2 s x)) (fun x => aG V0 (ix1 x)) d = dz V0 (ix2 s d) ∧ IsR (dz V0 (ix2 s d)) := by
  rw [dz_at]
  exact ln_eq _ _ _ (fun x => isR_z2 h s x) (fun x => h.1 _) (fun x => h.2.2.2.2.2.2.2 _) d

theorem dg_eq (s : Fin 16384) (f : Fin 2816) : (∑ x : Fin 1024, dz V0 (ix2 s x) * aWd V0 (ix2 f x)) * aUv V0 (ix2 s f)
    * (sg V0 (ix2 s f) * (1 + gt V0 (ix2 s f) * (1 - sg V0 (ix2 s f)))) = dg V0 (ix2 s f) := by
  pointwise [dg, res_main_v102, res_main_v101, res_main_v99]
  exact gate_eq (isR_sum fun x => (dz_eq h s x).2.mul (h.2.2.2.2.2.2.1 _)) (h.2.2.2.1 _) (isR_sg h s f) (isR_gt h s f)

end Cert.Ffn

end
-- ==== Proof.FfnForm.lean ====
module

public import proofs.«01_k».proof.Proof.FfnBody
public import proofs.«01_k».proof.Proof.FfnRef
public import Idealize.ShloMosaic.Lib.Pipeline.CanonAppend

@[expose] public section

set_option maxRecDepth 16384
set_option maxHeartbeats 4000000

noncomputable section

namespace Cert.Kernel3Ideal.Hand

open Cert.Kernel3Ideal Cert.Kernel3Ideal.Gen
open Idealize.ShloMosaic Idealize.ShloMosaic.TcCoe Idealize.SL.Sem
open Cert.Ffn (zc mu vr lnK)

/-- Column `b` of group `q`. -/
def col (q : Fin 11) (b : Fin 256) : Fin 2816 := ⟨256 * q.val + b.val, by omega⟩

theorem col_surj (f : Fin 2816) : ∃ q b, col q b = f :=
  ⟨⟨f.val / 256, by omega⟩, ⟨f.val % 256, by omega⟩, Fin.ext (by simp only [col]; omega)⟩

theorem mem_groups {α : Type} {f : Fin 11 → α} {p : α} (h : p ∈ groups f) : ∃ q, p = f q := by
  simp only [groups, List.mem_cons, List.not_mem_nil, or_false] at h
  rcases h with h | h | h | h | h | h | h | h | h | h | h <;> exact ⟨_, h⟩

theorem groups_mem {α : Type} (f : Fin 11 → α) (q : Fin 11) : f q ∈ groups f := by
  fin_cases q <;> simp [groups]

section
variable (a0 : BitVec 32) (X2 X3 : Vec Ideal S256x1024 .f32) (X4 X5 X6 X7 : Vec Ideal S256x2816 .bf16) (X8 : Vec Ideal S16x2816 .bf16) (X9 : Vec Ideal S8x2816 .f32)
  (X10 : Vec Ideal S1024x2816 .bf16) (X11 : Vec Ideal S8x1024 .f32) (X16 : Vec Ideal S8x2816 .f32) (X17 : Vec Ideal S8x1024 .f32) (X20 : Vec Ideal S264x2816 .f32) (X21 : Vec Ideal S2816x1024 .f32)
  (cr : FVec Ideal S8x2816 .f32)

theorem embT (q : Fin 11) (a b : Fin 256) : (rT q).emb (ix2 a b) = ix2 a (col q b) := by blk_ext [col]
theorem embP (q : Fin 11) (a : Fin 1024) (b : Fin 256) : (rP q).emb (ix2 a b) = ix2 a (col q b) := by blk_ext [col]
theorem embW (q : Fin 11) (b : Fin 256) (d : Fin 1024) : (rW q).emb (ix2 b d) = ix2 (col q b) d := by blk_ext [col]
theorem embC (k : Fin 4) (q : Fin 11) (b : Fin 256) : (rC k q).emb (ix2 0 b) = ix2 ⟨k.val, by omega⟩ (col q b) := by blk_ext [col]
theorem embV (k : Fin 2) (d : Fin 1024) : (rV k).emb (ix2 0 d) = ix2 ⟨k.val, by omega⟩ d := by blk_ext
theorem embS (k : Fin 9) (q : Fin 11) (a b : Fin 256) : (rS k q).emb (ix2 a b) = ix2 ⟨k.val + a.val, by omega⟩ (col q b) := by blk_ext [col]
theorem ldT (X : Vec Ideal S256x2816 .bf16) (q : Fin 11) (a b : Fin 256) : View.ld X (rT q) (ix2 a b) = X (ix2 a (col q b)) := congrArg X (embT q a b)
theorem ldP (X : Vec Ideal S1024x2816 .bf16) (q : Fin 11) (a : Fin 1024) (b : Fin 256) : View.ld X (rP q) (ix2 a b) = X (ix2 a (col q b)) := congrArg X (embP q a b)
theorem ldW (X : Vec Ideal S2816x1024 .f32) (q : Fin 11) (b : Fin 256) (d : Fin 1024) : View.ld X (rW q) (ix2 b d) = X (ix2 (col q b) d) := congrArg X (embW q b d)
theorem ldC (X : Vec Ideal S8x2816 .f32) (k : Fin 4) (q : Fin 11) (b : Fin 256) : View.ld X (rC k q) (ix2 0 b) = X (ix2 ⟨k.val, by omega⟩ (col q b)) := congrArg X (embC k q b)
theorem ldV (X : Vec Ideal S8x1024 .f32) (k : Fin 2) (d : Fin 1024) : View.ld X (rV k) (ix2 0 d) = X (ix2 ⟨k.val, by omega⟩ d) := congrArg X (embV k d)

theorem dzK_at {Z C : Fin 256 → Fin 1024 → EReal} {G : Fin 1024 → EReal} (h3 : ∀ a d, X3 (ix2 a d) = Z a d) (h2 : ∀ a d, X2 (ix2 a d) = C a d) (h11 : ∀ d, X11 (ix2 0 d) = G d)
    (a : Fin 256) (d : Fin 1024) : dzK X2 X3 X11 (ix2 a d) = lnK (Z a) (C a) G d := by
  rw [← funext (h3 a), ← funext (h2 a), ← funext h11]
  pointwise [dzK, k0_pay15, k0_pay9, k0_pay10, k0_pay8]
  rfl

variable {DZ : Fin 256 → Fin 1024 → EReal} (hz : ∀ a d, dzK X2 X3 X11 (ix2 a d) = DZ a d)
include hz
theorem dyK_at (a : Fin 256) (d : Fin 1024) : dyK X2 X3 X11 (ix2 a d) = DZ a d := (hz a d).symm ▸ rfl

variable {W : Fin 2816 → Fin 1024 → EReal} (h10 : ∀ d f, X10 (ix2 d f) = W f d)
include h10
theorem dgK_at {U D : Fin 256 → Fin 2816 → EReal} (h5 : ∀ a f, X5 (ix2 a f) = U a f) (h7 : ∀ a f, X7 (ix2 a f) = D a f) (q : Fin 11) (a b : Fin 256) :
    dgK X2 X3 X5 X7 X10 X11 q (ix2 a b) = (∑ x, DZ a x * W (col q b) x) * U a (col q b) * D a (col q b) := by
  rw [← h5 a, ← h7 a, ← ldT X5 q a b, ← ldT X7 q a b]
  simp only [← h10, ← ldP X10 q, ← dyK_at X2 X3 X11 hz]
  pointwise [dgK, k0_pay25, k0_pay23, k0_pay21]
end

section
variable (a0 : BitVec 32) (X2 X3 : Vec Ideal S256x1024 .f32) (X4 X5 X6 X7 : Vec Ideal S256x2816 .bf16) (X8 : Vec Ideal S16x2816 .bf16) (X9 : Vec Ideal S8x2816 .f32)
  (X10 : Vec Ideal S1024x2816 .bf16) (X11 : Vec Ideal S8x1024 .f32) (X16 : Vec Ideal S8x2816 .f32) (X17 : Vec Ideal S8x1024 .f32) (X20 : Vec Ideal S264x2816 .f32) (X21 : Vec Ideal S2816x1024 .f32)
  (cr : FVec Ideal S8x2816 .f32)

theorem uL_cover : ∀ y, ∃ p ∈ uL a0 X4 X8, y ∈ p.1.set := View.cover_of_tiledBy _ ![8, 2816] (by sl_kernel_rfl)

theorem pay17_at (r : Fin 8) (f : Fin 2816) : k0_pay17 a0 (View.ld X8 rG) (ix2 r f) = if a0 = 63#32 then (0 : EReal) else X8 (ix2 ⟨8 + r.val, by omega⟩ f) := by
  have h : k0_pay17 a0 (View.ld X8 rG) (ix2 r f) = Scalar.select (Scalar.cmpi CmpIPredicate.eq a0 63#32) (0 : EReal) (X8 (ix2 ⟨8 + r.val, by omega⟩ f)) := by
    pointwise [k0_pay17]
  rw [h]
  by_cases h0 : a0 = 63#32
  · subst h0; rfl
  · rw [if_neg h0]
    have : Scalar.cmpi CmpIPredicate.eq a0 63#32 = 0#1 := by
      show BitVec.ofBool (a0 == 63#32) = 0#1
      rw [beq_false_of_ne h0]; rfl
    rw [this]; rfl

/-- The function of a row and a column as a function of the index. -/
def two {n : ℕ} (U : ℕ → Fin 2816 → EReal) (y : (⟨2, ![n, 2816]⟩ : Shape).Idx) : EReal := U (y 0).val (y 1)

theorem emb8 (a : Fin 256) (f : Fin 2816) : (Rect.unit (s := S264x2816) ![8, 0] S256x2816.size inb_S264x2816_S256x2816_8_0).emb (ix2 a f) = ix2 ⟨8 + a.val, by omega⟩ f := by blk_ext
theorem emb0 (a : Fin 8) (f : Fin 2816) : (Rect.unit (s := S264x2816) ![0, 0] S8x2816.size inb_S264x2816_S8x2816_0_0).emb (ix2 a f) = ix2 ⟨a.val, by omega⟩ f := by blk_ext
theorem emb256 (a : Fin 8) (f : Fin 2816) : (Rect.unit (s := S264x2816) ![256, 0] S8x2816.size inb_S264x2816_S8x2816_256_0).emb (ix2 a f) = ix2 ⟨256 + a.val, by omega⟩ f := by blk_ext

/-- A block of the gate rows shifted by `k`, read off a function of the row with the eight before. -/
theorem tapK_at {U : ℕ → Fin 2816 → EReal} (h4 : ∀ (a : Fin 256) f, X4 (ix2 a f) = U (8 + a.val) f)
    (h8 : ∀ (r : Fin 8) f, k0_pay17 a0 (View.ld X8 rG) (ix2 r f) = U r.val f) (k : Fin 9) (q : Fin 11) (a b : Fin 256) :
    tapK a0 X4 X8 k q (ix2 a b) = U (k.val + a.val) (col q b) := by
  unfold tapK
  rw [View.readCov_eq_canon']
  refine (View.canon_apply_of_pieces (two (n := 264) U : S264x2816.Idx → Elt Ideal .f32) _ ?_ _ (uL_cover a0 X4 X8 _)).trans (congrArg (two (n := 264) U) (embS k q a b))
  intro p hp x
  simp only [uL, List.mem_cons, List.not_mem_nil, or_false] at hp
  rcases hp with rfl | rfl
  · obtain ⟨a, f, rfl⟩ : ∃ (a : Fin 256) (f : Fin 2816), x = ix2 a f := ⟨x 0, x 1, eq_ix2 x⟩
    refine Eq.trans (?_ : _ = X4 (ix2 a f)) ((h4 a f).trans (congrArg (two (n := 264) U) (emb8 a f)).symm)
    pointwise [k0_pay19, k0_pay18]
  · obtain ⟨a, f, rfl⟩ : ∃ (a : Fin 8) (f : Fin 2816), x = ix2 a f := ⟨x 0, x 1, eq_ix2 x⟩
    exact (h8 a f).trans (congrArg (two (n := 264) U) (emb0 a f)).symm

section next
variable {D : ℕ → Fin 2816 → EReal} (hd : ∀ (q : Fin 11) (a b : Fin 256), dgK X2 X3 X5 X7 X10 X11 q (ix2 a b) = D a.val (col q b))
  (hcr : ∀ (r : Fin 8) f, cr (ix2 r f) = D (256 + r.val) f)
include hd hcr
theorem dgL_pieces : ∀ n ≤ 11, ∀ p ∈ dgL X2 X3 X5 X7 X10 X11 cr n, ∀ x : p.1.shape.Idx, p.2 x = two (n := 264) D (p.1.emb x)
  | 0, _, p, hp, x => by
    simp only [dgL, List.mem_cons, List.not_mem_nil, or_false] at hp
    subst hp
    obtain ⟨a, f, rfl⟩ : ∃ (a : Fin 8) (f : Fin 2816), x = ix2 a f := ⟨x 0, x 1, eq_ix2 x⟩
    exact (hcr a f).trans (congrArg (two (n := 264) D) (emb256 a f)).symm
  | n + 1, hn, p, hp, x => by
    rw [dgL, List.mem_cons] at hp
    rcases hp with rfl | hp
    · obtain ⟨a, b, rfl⟩ : ∃ (a b : Fin 256), x = ix2 a b := ⟨x 0, x 1, eq_ix2 x⟩
      refine Eq.trans (?_ : _ = dgK X2 X3 X5 X7 X10 X11 (Fin.ofNat 11 n) (ix2 a b)) ((hd _ a b).trans ?_)
      · pointwise [k0_pay26]
      · refine (congrArg (fun k => D k (col (Fin.ofNat 11 n) b)) ?_).trans (congrArg (two (n := 264) D) (embS 0 (Fin.ofNat 11 n) a b)).symm
        exact (Nat.zero_add _).symm
    · exact dgL_pieces n (Nat.le_of_succ_le hn) p hp x

theorem dgbK_at (r : Fin 264) (f : Fin 2816) : dgbK X2 X3 X5 X7 X10 X11 cr (ix2 r f) = D r.val f := by
  unfold dgbK
  exact View.canon_apply_of_pieces (two (n := 264) D : S264x2816.Idx → Elt Ideal .f32) _ (dgL_pieces X2 X3 X5 X7 X10 X11 cr hd hcr 11 le_rfl) _ (dgb_cover X2 X3 X5 X7 X10 X11 cr _)

omit hd hcr in
theorem dgL_last : ∀ n, ⟨Rect.unit ![256, 0] S8x2816.size inb_S264x2816_S8x2816_256_0, cr⟩ ∈ dgL X2 X3 X5 X7 X10 X11 cr n
  | 0 => by rw [dgL]; exact List.mem_singleton.mpr rfl
  | n + 1 => by rw [dgL]; exact List.mem_cons_of_mem _ (dgL_last n)

theorem shK_at (k : Fin 9) (q : Fin 11) (a b : Fin 256) : shK X2 X3 X5 X7 X10 X11 cr k q (ix2 a b) = D (k.val + a.val) (col q b) := by
  unfold shK
  rw [View.readCov_eq_canon']
  refine (View.canon_apply_of_pieces (two (n := 264) D : S264x2816.Idx → Elt Ideal .f32) _ (dgL_pieces X2 X3 X5 X7 X10 X11 cr hd hcr _ (by omega)) _ ?_).trans (congrArg (two (n := 264) D) (embS k q a b))
  show ∃ p ∈ dgL X2 X3 X5 X7 X10 X11 cr (q.val + 1), (rS k q).emb (ix2 a b) ∈ p.1.set
  rw [embS k q a b]
  by_cases h : k.val + a.val < 256
  · refine ⟨_, by rw [dgL]; exact List.mem_cons_self, ?_⟩
    have e : Fin.ofNat 11 q.val = q := Fin.ext (Nat.mod_eq_of_lt q.isLt)
    show _ ∈ (rS 0 (Fin.ofNat 11 q.val)).set
    rw [e]
    refine Rect.mem_set_unit.mpr fun i => ?_
    fin_cases i
    · show 0 ≤ k.val + a.val ∧ k.val + a.val < 0 + 256
      omega
    · show 256 * q.val ≤ 256 * q.val + b.val ∧ 256 * q.val + b.val < 256 * q.val + 256
      omega
  · refine ⟨_, dgL_last X2 X3 X5 X7 X10 X11 cr (q.val + 1), ?_⟩
    show _ ∈ (Rect.unit (s := S264x2816) ![256, 0] S8x2816.size inb_S264x2816_S8x2816_256_0).set
    refine Rect.mem_set_unit.mpr fun i => ?_
    fin_cases i
    · show 256 ≤ k.val + a.val ∧ k.val + a.val < 256 + 8
      omega
    · show 0 ≤ 256 * q.val + b.val ∧ 256 * q.val + b.val < 0 + 2816
      omega

def dugG (a : Fin 256) (f : Fin 2816) : EReal :=
  (fun x y z : EReal => x * D a.val f + y * D (a.val + 1) f + z * D (a.val + 2) f) (X9 (ix2 2 f)) (X9 (ix2 1 f)) (X9 (ix2 0 f))

theorem dugK_at (a : Fin 256) (f : Fin 2816) : dugK X2 X3 X5 X7 X9 X10 X11 cr (ix2 a f) = dugG X9 (D := D) a f := by
  refine View.canon_apply_of_pieces (fun y : S256x2816.Idx => (dugG X9 (D := D) (y 0) (y 1) : Elt Ideal .bf16)) _ ?_ _ (dug_cover X2 X3 X5 X7 X9 X10 X11 cr _)
  intro p hp x
  obtain ⟨q, rfl⟩ := mem_groups hp
  obtain ⟨a, b, rfl⟩ : ∃ (a b : Fin 256), x = ix2 a b := ⟨x 0, x 1, eq_ix2 x⟩
  have e1 := shK_at X2 X3 X5 X7 X10 X11 cr hd hcr 1 q a b
  have e2 := shK_at X2 X3 X5 X7 X10 X11 cr hd hcr 2 q a b
  have e0 := hd q a b
  have c0 := ldC X9 0 q b
  have c1 := ldC X9 1 q b
  have c2 := ldC X9 2 q b
  have L : (dugP X2 X3 X5 X7 X9 X10 X11 cr q).2 (ix2 a b) = (fun u v w x y z : EReal => u * x + v * y + w * z) (View.ld X9 (rC 2 q) (ix2 0 b)) (View.ld X9 (rC 1 q) (ix2 0 b)) (View.ld X9 (rC 0 q) (ix2 0 b))
      (dgK X2 X3 X5 X7 X10 X11 q (ix2 a b)) (shK X2 X3 X5 X7 X10 X11 cr 1 q (ix2 a b)) (shK X2 X3 X5 X7 X10 X11 cr 2 q (ix2 a b)) := by
    pointwise [dugP, k0_pay32, k0_pay31, k0_pay1]
  rw [L, c0, c1, c2, e0, e1, e2]
  refine Eq.trans ?_ (congrArg (fun y : S256x2816.Idx => dugG X9 (D := D) (y 0) (y 1)) (embT q a b)).symm
  show _ = dugG X9 (D := D) a (col q b)
  unfold dugG
  rw [Nat.add_comm a.val 1, Nat.add_comm a.val 2]
  rfl
end next

section prods
variable {DZ : Fin 256 → Fin 1024 → EReal} (hz : ∀ a d, dzK X2 X3 X11 (ix2 a d) = DZ a d)
include hz

theorem duvK_at {W : Fin 2816 → Fin 1024 → EReal} (h10 : ∀ d f, X10 (ix2 d f) = W f d) {S : Fin 256 → Fin 2816 → EReal} (h6 : ∀ a f, X6 (ix2 a f) = S a f)
    (a : Fin 256) (f : Fin 2816) : duvK X2 X3 X6 X10 X11 (ix2 a f) = (∑ x, DZ a x * W f x) * S a f := by
  refine View.canon_apply_of_pieces (fun y : S256x2816.Idx => ((∑ x, DZ (y 0) x * W (y 1) x) * S (y 0) (y 1) : Elt Ideal .bf16)) _ ?_ _ (duv_cover X2 X3 X6 X10 X11 _)
  intro p hp x
  obtain ⟨q, rfl⟩ := mem_groups hp
  obtain ⟨a, b, rfl⟩ : ∃ (a b : Fin 256), x = ix2 a b := ⟨x 0, x 1, eq_ix2 x⟩
  refine Eq.trans ?_ (congrArg (fun y : S256x2816.Idx => (∑ x, DZ (y 0) x * W (y 1) x) * S (y 0) (y 1)) (embT q a b)).symm
  show _ = (∑ x, DZ a x * W (col q b) x) * S a (col q b)
  rw [← h6 a, ← ldT X6 q a b]
  simp only [← h10, ← ldP X10 q, ← dyK_at X2 X3 X11 hz]
  pointwise [duvP, k0_pay24, k0_pay23, k0_pay20]

theorem dwdK_at {U S : Fin 256 → Fin 2816 → EReal} (h5 : ∀ a f, X5 (ix2 a f) = U a f) (h6 : ∀ a f, X6 (ix2 a f) = S a f)
    {A : Fin 2816 → Fin 1024 → EReal} (h21 : ∀ f d, X21 (ix2 f d) = A f d) (f : Fin 2816) (d : Fin 1024) :
    dwdK X2 X3 X5 X6 X11 X21 (ix2 f d) = A f d + ∑ a, DZ a d * (S a f * U a f) := by
  refine View.canon_apply_of_pieces (fun y : S2816x1024.Idx => (A (y 0) (y 1) + ∑ a, DZ a (y 1) * (S a (y 0) * U a (y 0)) : Elt Ideal .f32)) _ ?_ _ (dwd_cover X2 X3 X5 X6 X11 _ _)
  intro p hp x
  obtain ⟨q, rfl⟩ := mem_groups hp
  obtain ⟨b, d, rfl⟩ : ∃ (b : Fin 256) (d : Fin 1024), x = ix2 b d := ⟨x 0, x 1, eq_ix2 x⟩
  refine Eq.trans ?_ (congrArg (fun y : S2816x1024.Idx => A (y 0) (y 1) + ∑ a, DZ a (y 1) * (S a (y 0) * U a (y 0))) (embW q b d)).symm
  show _ = A (col q b) d + ∑ a, DZ a d * (S a (col q b) * U a (col q b))
  rw [← h21 (col q b), ← ldW X21 q b d]
  simp only [mul_comm (DZ _ _)]
  simp only [← h5, ← h6, ← ldT X6 q, ← ldT X5 q, ← dyK_at X2 X3 X11 hz]
  pointwise [dwdP, k0_pay22, k0_pay21, k0_pay20]
end prods

/-- The rows from `k` on of a matrix of eight. -/
abbrev rBelow : Rect S8x2816 := Rect.unit ![4, 0] ![4, 2816] (by decide)
abbrev rBelowV : Rect S8x1024 := Rect.unit ![2, 0] ![6, 1024] (by decide)

theorem dcf_skip (w : Fin 11 → Fin 4 → Vec Ideal S1x256 .f32) : ((groups (dcfP a0 X2 X3 X4 X5 X7 X8 X10 X11 w)).flatten.all fun p => LoadRect.disj p.1 rBelow.toLoadRect) = true := by
  sl_kernel_rfl
theorem dv2_skip (w : Fin 2 → Vec Ideal S1x1024 .f32) : ((dv2P X2 X3 w).all fun p => LoadRect.disj p.1 rBelowV.toLoadRect) = true := by
  sl_kernel_rfl

/-- What a point adds to the convolution's sums. -/
def cfAdd (T : ℕ → Fin 256 → Fin 2816 → EReal) (D : Fin 256 → Fin 2816 → EReal) (r : ℕ) (f : Fin 2816) : EReal :=
  if r < 3 then ∑ a, D a f * T r a f else if r = 3 then ∑ a, D a f else 0

theorem dcfK_at {T : ℕ → Fin 256 → Fin 2816 → EReal} {D : Fin 256 → Fin 2816 → EReal} (hd : ∀ (q : Fin 11) (a b : Fin 256), dgK X2 X3 X5 X7 X10 X11 q (ix2 a b) = D a (col q b))
    (ht : ∀ (k : Fin 3) (q : Fin 11) (a b : Fin 256), tapK a0 X4 X8 ⟨6 + k.val, by omega⟩ q (ix2 a b) = T k.val a (col q b))
    {A : Fin 8 → Fin 2816 → EReal} (h16 : ∀ r f, X16 (ix2 r f) = A r f) (r : Fin 8) (f : Fin 2816) :
    dcfK a0 X2 X3 X4 X5 X7 X8 X10 X11 X16 (ix2 r f) = A r f + cfAdd T D r.val f := by
  unfold dcfK
  by_cases hr : 4 ≤ r.val
  · have hy : ix2 r f = rBelow.toLoadRect.idx (ix2 ⟨r.val - 4, by omega⟩ f) := by
      show ix2 r f = rBelow.emb (ix2 ⟨r.val - 4, by omega⟩ f)
      blk_ext
    rw [hy, canon_skip _ _ _ (dcf_skip a0 X2 X3 X4 X5 X7 X8 X10 X11 _), ← hy, h16, cfAdd, if_neg (by omega), if_neg (by omega), add_zero]
  · refine View.canon_append_of_pieces (Val := Elt Ideal) (e := .f32) (fun y : S8x2816.Idx => (A (y 0) (y 1) + cfAdd T D (y 0).val (y 1) : Elt Ideal .f32)) _ _ ?_ _ ?_
    · intro p hp x
      obtain ⟨L, hL, hp⟩ := List.mem_flatten.mp hp
      obtain ⟨q, rfl⟩ := mem_groups hL
      simp only [dcfP, List.mem_cons, List.not_mem_nil, or_false] at hp
      have key : ∀ (k : Fin 4) (b : Fin 256) (v : EReal), v = A ⟨k.val, by omega⟩ (col q b) + cfAdd T D k.val (col q b) →
          v = (fun y : S8x2816.Idx => A (y 0) (y 1) + cfAdd T D (y 0).val (y 1)) ((rC k q).emb (ix2 0 b)) := fun k b v h => by
        rw [embC k q b]; exact h
      rcases hp with rfl | rfl | rfl | rfl
      · obtain ⟨z, b, rfl⟩ : ∃ (z : Fin 1) (b : Fin 256), x = ix2 z b := ⟨x 0, x 1, eq_ix2 x⟩
        obtain rfl : z = 0 := Subsingleton.elim _ _
        refine key 2 b _ ?_
        have e : cfAdd T D ((2 : Fin 4) : ℕ) (col q b) = ∑ a, D a (col q b) * T ((2 : Fin 3) : ℕ) a (col q b) := if_pos (by decide)
        rw [e, ← h16, ← ldC X16 2 q b]
        simp only [← hd q, ← ht 2 q]
        pointwise [k0_pay30]
      · obtain ⟨z, b, rfl⟩ : ∃ (z : Fin 1) (b : Fin 256), x = ix2 z b := ⟨x 0, x 1, eq_ix2 x⟩
        obtain rfl : z = 0 := Subsingleton.elim _ _
        refine key 1 b _ ?_
        have e : cfAdd T D ((1 : Fin 4) : ℕ) (col q b) = ∑ a, D a (col q b) * T ((1 : Fin 3) : ℕ) a (col q b) := if_pos (by decide)
        rw [e, ← h16, ← ldC X16 1 q b]
        simp only [← hd q, ← ht 1 q]
        pointwise [k0_pay29]
      · obtain ⟨z, b, rfl⟩ : ∃ (z : Fin 1) (b : Fin 256), x = ix2 z b := ⟨x 0, x 1, eq_ix2 x⟩
        obtain rfl : z = 0 := Subsingleton.elim _ _
        refine key 0 b _ ?_
        have e : cfAdd T D ((0 : Fin 4) : ℕ) (col q b) = ∑ a, D a (col q b) * T ((0 : Fin 3) : ℕ) a (col q b) := if_pos (by decide)
        rw [e, ← h16, ← ldC X16 0 q b]
        simp only [← hd q, ← ht 0 q]
        pointwise [k0_pay28]
      · obtain ⟨z, b, rfl⟩ : ∃ (z : Fin 1) (b : Fin 256), x = ix2 z b := ⟨x 0, x 1, eq_ix2 x⟩
        obtain rfl : z = 0 := Subsingleton.elim _ _
        refine key 3 b _ ?_
        have e : cfAdd T D ((3 : Fin 4) : ℕ) (col q b) = ∑ a, D a (col q b) := (if_neg (by decide)).trans (if_pos rfl)
        rw [e, ← h16, ← ldC X16 3 q b]
        simp only [← hd q]
        pointwise [k0_pay27]
    · obtain ⟨q, b, rfl⟩ := col_surj f
      have hm : ∀ k : Fin 4, k.val = r.val → ix2 r (col q b) ∈ (rC k q).set := fun k hk => by
        rw [show ix2 r (col q b) = (rC k q).emb (ix2 0 b) from (congrArg (fun r => ix2 r (col q b)) (Fin.ext hk.symm)).trans (embC k q b).symm]
        exact LoadRect.idx_mem _ _
      have hl : ∀ p ∈ dcfP a0 X2 X3 X4 X5 X7 X8 X10 X11 (fun q k => View.ld X16 (rC k q)) q, p ∈ (groups (dcfP a0 X2 X3 X4 X5 X7 X8 X10 X11 fun q k => View.ld X16 (rC k q))).flatten :=
        fun p hp => List.mem_flatten.mpr ⟨_, groups_mem _ q, hp⟩
      obtain h | h | h | h : r.val = 2 ∨ r.val = 1 ∨ r.val = 0 ∨ r.val = 3 := by omega
      · exact ⟨_, hl _ List.mem_cons_self, hm 2 h.symm⟩
      · exact ⟨_, hl _ (List.mem_cons_of_mem _ List.mem_cons_self), hm 1 h.symm⟩
      · exact ⟨_, hl _ (List.mem_cons_of_mem _ (List.mem_cons_of_mem _ List.mem_cons_self)), hm 0 h.symm⟩
      · exact ⟨_, hl _ (List.mem_cons_of_mem _ (List.mem_cons_of_mem _ (List.mem_cons_of_mem _ List.mem_cons_self))), hm 3 h.symm⟩

/-- What a point adds to the normalisation's sums. -/
def v2Add (Z C : Fin 256 → Fin 1024 → EReal) (r : ℕ) (d : Fin 1024) : EReal :=
  if r = 0 then ∑ a, Cert.Ffn.zh (Z a) d * C a d else if r = 1 then ∑ a, C a d else 0

theorem dv2K_at {Z C : Fin 256 → Fin 1024 → EReal} (h3 : ∀ a d, X3 (ix2 a d) = Z a d) (h2 : ∀ a d, X2 (ix2 a d) = C a d)
    {A : Fin 8 → Fin 1024 → EReal} (h17 : ∀ r d, X17 (ix2 r d) = A r d) (r : Fin 8) (d : Fin 1024) :
    dv2K X2 X3 X17 (ix2 r d) = A r d + v2Add Z C r.val d := by
  unfold dv2K
  by_cases hr : 2 ≤ r.val
  · have hy : ix2 r d = rBelowV.toLoadRect.idx (ix2 ⟨r.val - 2, by omega⟩ d) := by
      show ix2 r d = rBelowV.emb (ix2 ⟨r.val - 2, by omega⟩ d)
      blk_ext
    rw [hy, canon_skip _ _ _ (dv2_skip X2 X3 _), ← hy, h17, v2Add, if_neg (by omega), if_neg (by omega), add_zero]
  · refine View.canon_append_of_pieces (Val := Elt Ideal) (e := .f32) (fun y : S8x1024.Idx => (A (y 0) (y 1) + v2Add Z C (y 0).val (y 1) : Elt Ideal .f32)) _ _ ?_ _ ?_
    · intro p hp x
      simp only [dv2P, List.mem_cons, List.not_mem_nil, or_false] at hp
      have key : ∀ (k : Fin 2) (d : Fin 1024) (v : EReal), v = A ⟨k.val, by omega⟩ d + v2Add Z C k.val d →
          v = (fun y : S8x1024.Idx => A (y 0) (y 1) + v2Add Z C (y 0).val (y 1)) ((rV k).emb (ix2 0 d)) := fun k b v h => by
        rw [embV k b]; exact h
      rcases hp with rfl | rfl
      · obtain ⟨z, b, rfl⟩ : ∃ (z : Fin 1) (b : Fin 1024), x = ix2 z b := ⟨x 0, x 1, eq_ix2 x⟩
        obtain rfl : z = 0 := Subsingleton.elim _ _
        refine key 1 b _ ?_
        have e : v2Add Z C ((1 : Fin 2) : ℕ) b = ∑ a, C a b := (if_neg (by decide)).trans (if_pos rfl)
        rw [e, ← h17, ← ldV X17 1 b]
        simp only [← h2]
        pointwise [k0_pay14, k0_pay12, k0_pay13]
      · obtain ⟨z, b, rfl⟩ : ∃ (z : Fin 1) (b : Fin 1024), x = ix2 z b := ⟨x 0, x 1, eq_ix2 x⟩
        obtain rfl : z = 0 := Subsingleton.elim _ _
        refine key 0 b _ ?_
        have e : v2Add Z C ((0 : Fin 2) : ℕ) b = ∑ a, Cert.Ffn.zh (Z a) b * C a b := if_pos rfl
        rw [e, ← h17, ← ldV X17 0 b]
        simp only [← h2, ← funext (h3 _)]
        pointwise [k0_pay11, k0_pay9, k0_pay10, k0_pay8]
        simp only [mul_comm (Cert.Ffn.zh _ _)]
        rfl
    · have hm : ∀ k : Fin 2, k.val = r.val → ix2 r d ∈ (rV k).set := fun k hk => by
        rw [show ix2 r d = (rV k).emb (ix2 0 d) from (congrArg (fun r => ix2 r d) (Fin.ext hk.symm)).trans (embV k d).symm]
        exact LoadRect.idx_mem _ _
      obtain h | h : r.val = 1 ∨ r.val = 0 := by omega
      · exact ⟨_, List.mem_cons_self, hm 1 h.symm⟩
      · exact ⟨_, List.mem_cons_of_mem _ List.mem_cons_self, hm 0 h.symm⟩

theorem carryK_at (r : Fin 8) (f : Fin 2816) : carryK X20 (ix2 r f) = X20 (ix2 ⟨r.val, by omega⟩ f) := by
  rw [← emb0 r f]
  unfold carryK
  pointwise [k0_pay7]
  rw [emb0 r f]
end

end Cert.Kernel3Ideal.Hand

end
-- ==== Proof.FfnValue.lean ====
module

public import proofs.«01_k».proof.Proof.FfnRun
public import proofs.«01_k».proof.Proof.FfnRef
public import proofs.«01_k».proof.Proof.FfnForm

@[expose] public section

set_option maxRecDepth 16384
set_option maxHeartbeats 4000000

noncomputable section

namespace Cert.Kernel3Ideal.Hand

open Cert.Kernel3Ideal Cert.Kernel3Ideal.Gen
open Idealize.ShloMosaic Idealize.ShloMosaic.TcCoe Idealize.SL.Sem
open Idealize.ShloMosaic.Pipeline (Dat)
open Cert.Ffn (Args aDx aX1 aUg aUv aCw aCb aWd aG gt sg sl z2 dz dg up ux dgx cfT v2T zh zc mu vr lnK Reals)

variable (m : (ℓ : Loc nD τ sig) → Buf (Elt Ideal) ℓ)

/-- The reference's arguments are the kernel's. -/
def Agree (c : Dev nD) (V0 : Args) : Prop :=
  (V0 (Proc.devRef .tc Cert.Reference3Ideal.main_arg0) = m ((c : Thread nD τ).loc main_arg0)) ∧ aDx V0 = m ((c : Thread nD τ).loc main_arg1)
  ∧ aX1 V0 = m ((c : Thread nD τ).loc main_arg2) ∧ aUg V0 = m ((c : Thread nD τ).loc main_arg3) ∧ aUv V0 = m ((c : Thread nD τ).loc main_arg4)
  ∧ aCw V0 = m ((c : Thread nD τ).loc main_arg5) ∧ aCb V0 = m ((c : Thread nD τ).loc main_arg6) ∧ aWd V0 = m ((c : Thread nD τ).loc main_arg7)
  ∧ aG V0 = m ((c : Thread nD τ).loc main_arg8)

section host
variable (c : Dev nD)

theorem V_53 : (V m c main_v53 : FVec Ideal S8x1024 .f32) = concatenate S8x1024 0 [⟨S1x1024, (broadcastInDim S1x1024 ![1] bcast_S1024_S1x1024_1 (m ((c : Thread nD τ).loc main_arg8) : FVec Ideal S1024 .f32) : FVec Ideal S1x1024 .f32)⟩,
    ⟨S1x1024, (broadcastInDim S1x1024 ![1] bcast_S1024_S1x1024_1 (m ((c : Thread nD τ).loc main_arg9) : FVec Ideal S1024 .f32) : FVec Ideal S1x1024 .f32)⟩,
    ⟨S6x1024, (broadcastInDim S6x1024 ![] bcast_S_S6x1024 (constant (F := Ideal) S_ .f32 0x00000000#32) : FVec Ideal S6x1024 .f32)⟩] concatenates_S1x1024_S1x1024_S6x1024_S8x1024_d0 := by
  sl_kernel_rfl
theorem V_47 : (V m c main_v47 : FVec Ideal S8x2816 .f32) = concatenate S8x2816 0 [⟨S3x2816, (m ((c : Thread nD τ).loc main_arg5) : FVec Ideal S3x2816 .f32)⟩,
    ⟨S1x2816, (broadcastInDim S1x2816 ![1] bcast_S2816_S1x2816_1 (m ((c : Thread nD τ).loc main_arg6) : FVec Ideal S2816 .f32) : FVec Ideal S1x2816 .f32)⟩,
    ⟨S4x2816, (broadcastInDim S4x2816 ![] bcast_S_S4x2816 (constant (F := Ideal) S_ .f32 0x00000000#32) : FVec Ideal S4x2816 .f32)⟩] concatenates_S3x2816_S1x2816_S4x2816_S8x2816_d0 := by
  sl_kernel_rfl
theorem V_32 : V m c main_v32 = (fun (G : FVec Ideal S16384x2816 .f32) => Host.divf (broadcastInDim S16384x2816 ![] bcast_S_S16384x2816 (constant (F := Ideal) S_ .f32 0x3F800000#32))
    (addf (broadcastInDim S16384x2816 ![] bcast_S_S16384x2816 (constant (F := Ideal) S_ .f32 0x3F800000#32)) (Host.exp (Host.negf G)))) (V m c main_v26) := by
  sl_kernel_rfl
theorem V_33 : V m c main_v33 = (fun (G S : FVec Ideal S16384x2816 .f32) => mulf G S) (V m c main_v26) (V m c main_v32) := by
  sl_kernel_rfl
theorem V_56 : V m c main_v56 = (fun (G : FVec Ideal S16384x2816 .f32) => G) (V m c main_v33) := by
  sl_kernel_rfl
theorem V_57 : V m c main_v57 = (fun (G S : FVec Ideal S16384x2816 .f32) => mulf S (addf (broadcastInDim S16384x2816 ![] bcast_S_S16384x2816 (constant (F := Ideal) S_ .f32 0x3F800000#32))
    (mulf G (subf (broadcastInDim S16384x2816 ![] bcast_S_S16384x2816 (constant (F := Ideal) S_ .f32 0x3F800000#32)) S)))) (V m c main_v26) (V m c main_v32) := by
  sl_kernel_rfl
theorem V_49 : V m c main_v49 = (fun (W : FVec Ideal S2816x1024 .f32) => transpose S1024x2816 [1, 0] W transposes_S2816x1024_S1024x2816_1_0) (m ((c : Thread nD τ).loc main_arg7)) := by
  sl_kernel_rfl
theorem V_44 : V m c main_v44 = (fun (S U : FVec Ideal S16384x2816 .f32) (X : FVec Ideal S16384x1024 .f32) (W : FVec Ideal S2816x1024 .f32) =>
      addf (mulf (broadcastInDim S16384x1024 ![] bcast_S_S16384x1024 (constant (F := Ideal) S_ .f32 0x3FB504F3#32)) X) (Host.dotGeneral (F := Ideal) (φ₁ := .f32) (φ₂ := .f32) dot_S16384x2816_S2816x1024_S16384x1024_1_0_0_1_n_n none (mulf S U) W))
    (V m c main_v33) (m ((c : Thread nD τ).loc main_arg4)) (m ((c : Thread nD τ).loc main_arg2)) (m ((c : Thread nD τ).loc main_arg7)) := by
  sl_kernel_rfl
theorem V_54 : V m c main_v54 = m ((c : Thread nD τ).loc main_arg3) := by sl_kernel_rfl
theorem V_55 : V m c main_v55 = m ((c : Thread nD τ).loc main_arg4) := by sl_kernel_rfl
theorem V_slabs : V m c main_v58_0 = m ((c : Thread nD τ).loc main_arg0) := by sl_kernel_rfl
theorem V_dx : V m c main_arg1 = m ((c : Thread nD τ).loc main_arg1) := by sl_kernel_rfl
end host

section agree
variable {m} {c : Dev nD} {V0 : Args} (e : Agree m c V0)
include e

theorem V_gate : V m c main_v26 = gt V0 := by
  have e5 := e.2.2.2.2.2.1; have e6 := e.2.2.2.2.2.2.1; have e3 := e.2.2.2.1
  unfold aCw at e5; unfold aCb at e6; unfold aUg at e3
  entry_read
  unfold gt Cert.Reference3Ideal.Value.res_main_v29 Cert.Reference3Ideal.Value.res_main_v8 Cert.Reference3Ideal.Value.res_main_v16 Cert.Reference3Ideal.Value.res_main_v23 Cert.Reference3Ideal.Value.res_main_v7 Cert.Reference3Ideal.Value.res_main_v15 Cert.Reference3Ideal.Value.res_main_v22 Cert.Reference3Ideal.Value.res_main_v3
  rw [e5, e6, e3]
  rfl
theorem V_sg : V m c main_v32 = sg V0 := by rw [V_32, V_gate e]; rfl
theorem V_sl : V m c main_v33 = sl V0 := by rw [V_33, V_gate e, V_sg e]; rfl
theorem V_z2 : V m c main_v44 = z2 V0 := by rw [V_44, V_sl e, ← e.2.2.2.2.1, ← e.2.2.1, ← e.2.2.2.2.2.2.2.1]; rfl
theorem V_ds (s : Fin 16384) (f : Fin 2816) : (fun X : FVec Ideal S16384x2816 .bf16 => X) (V m c main_v57) (ix2 s f) = sg V0 (ix2 s f) * (1 + gt V0 (ix2 s f) * (1 - sg V0 (ix2 s f))) := by
  rw [V_57, V_gate e, V_sg e]; pointwise []
theorem V_wt (d : Fin 1024) (f : Fin 2816) : (fun X : FVec Ideal S1024x2816 .bf16 => X) (V m c main_v49) (ix2 d f) = aWd V0 (ix2 f d) := by
  rw [V_49, ← e.2.2.2.2.2.2.2.1]; pointwise []
theorem V_g (d : Fin 1024) : (fun X : FVec Ideal S8x1024 .f32 => X) (V m c main_v53) (ix2 0 d) = aG V0 (ix1 d) := by
  rw [V_53, ← e.2.2.2.2.2.2.2.2]; pointwise []
theorem V_cw (r : Fin 8) (k : Fin 3) (h : r.val = k.val) (f : Fin 2816) : (fun X : FVec Ideal S8x2816 .f32 => X) (V m c main_v47) (ix2 r f) = aCw V0 (ix2 k f) := by
  obtain ⟨k, hk⟩ := k; obtain ⟨r, hr⟩ := r; obtain rfl : r = k := h
  rw [V_47, ← e.2.2.2.2.2.1]; pointwise []
  rw [dif_pos hk]

omit e in
theorem idx : ∀ t : Fin cfg0.N, (win0_0.index t = ![63 - t.val, 0] ∧ win0_1.index t = ![63 - t.val, 0] ∧ win0_2.index t = ![63 - t.val, 0] ∧ win0_3.index t = ![63 - t.val, 0]
    ∧ win0_4.index t = ![63 - t.val, 0] ∧ win0_5.index t = ![63 - t.val, 0] ∧ win0_6.index t = ![16 * (63 - t.val) - 1, 0])
    ∧ (win0_7.index t = ![0, 0] ∧ win0_8.index t = ![0, 0] ∧ win0_9.index t = ![0, 0] ∧ win0_13.index t = ![0, 0] ∧ win0_14.index t = ![0, 0])
    ∧ (win0_10.index t = ![63 - t.val, 0] ∧ win0_11.index t = ![63 - t.val, 0] ∧ win0_12.index t = ![63 - t.val, 0]) :=
  (by decide +kernel : ∀ t : Fin grid0.N, _)

/-- The row of the sequence that row `a` of point `t`'s block is. -/
def R (t : Fin cfg0.N) (a : Fin 256) : Fin 16384 := ⟨256 * (63 - t.val) + a.val, by omega⟩

theorem b0 (t : Fin cfg0.N) (a : Fin 256) (d : Fin 1024) : (fun X : FVec Ideal S256x1024 .f32 => X) (iblk m c 0 t) (ix2 a d) = aDx V0 (ix2 (R t a) d) := by
  have h : V m c main_arg1 = aDx V0 := by rw [V_dx, e.2.1]
  refine (congrArg (fun f => ((cfg0.win 0).blk t).view.read (Elt Ideal) f (ix2 a d)) h).trans (congrArg (aDx V0) ?_)
  blk_ext [idx t, R]
theorem b1 (t : Fin cfg0.N) (a : Fin 256) (d : Fin 1024) : (fun X : FVec Ideal S256x1024 .f32 => X) (iblk m c 1 t) (ix2 a d) = z2 V0 (ix2 (R t a) d) := by
  refine (congrArg (fun f => ((cfg0.win 1).blk t).view.read (Elt Ideal) f (ix2 a d)) (V_z2 e)).trans (congrArg (z2 V0) ?_)
  blk_ext [idx t, R]
theorem b2 (t : Fin cfg0.N) (a : Fin 256) (d : Fin 2816) : (fun X : FVec Ideal S256x2816 .bf16 => X) (iblk m c 2 t) (ix2 a d) = aUg V0 (ix2 (R t a) d) := by
  have h : V m c main_v54 = aUg V0 := by rw [V_54, e.2.2.2.1]
  refine (congrArg (fun f => ((cfg0.win 2).blk t).view.read (Elt Ideal) f (ix2 a d)) h).trans (congrArg (aUg V0) ?_)
  blk_ext [idx t, R]
theorem b3 (t : Fin cfg0.N) (a : Fin 256) (d : Fin 2816) : (fun X : FVec Ideal S256x2816 .bf16 => X) (iblk m c 3 t) (ix2 a d) = aUv V0 (ix2 (R t a) d) := by
  have h : V m c main_v55 = aUv V0 := by rw [V_55, e.2.2.2.2.1]
  refine (congrArg (fun f => ((cfg0.win 3).blk t).view.read (Elt Ideal) f (ix2 a d)) h).trans (congrArg (aUv V0) ?_)
  blk_ext [idx t, R]
theorem b4 (t : Fin cfg0.N) (a : Fin 256) (d : Fin 2816) : (fun X : FVec Ideal S256x2816 .bf16 => X) (iblk m c 4 t) (ix2 a d) = sl V0 (ix2 (R t a) d) := by
  have h : V m c main_v56 = sl V0 := by rw [V_56, V_sl e]
  refine (congrArg (fun f => ((cfg0.win 4).blk t).view.read (Elt Ideal) f (ix2 a d)) h).trans (congrArg (sl V0) ?_)
  blk_ext [idx t, R]
theorem b5 (t : Fin cfg0.N) (a : Fin 256) (d : Fin 2816) : (fun X : FVec Ideal S256x2816 .bf16 => X) (iblk m c 5 t) (ix2 a d)
    = sg V0 (ix2 (R t a) d) * (1 + gt V0 (ix2 (R t a) d) * (1 - sg V0 (ix2 (R t a) d))) := by
  refine Eq.trans (congrArg ((fun X : FVec Ideal S16384x2816 .bf16 => X) (V m c main_v57)) ?_) (V_ds e (R t a) d)
  blk_ext [idx t, R]
theorem b6 (t : Fin cfg0.N) (ht : t.val < 63) (a : Fin 16) (d : Fin 2816) : (fun X : FVec Ideal S16x2816 .bf16 => X) (iblk m c 6 t) (ix2 a d)
    = aUg V0 (ix2 ⟨256 * (63 - t.val) - 16 + a.val, by omega⟩ d) := by
  have h : V m c main_v54 = aUg V0 := by rw [V_54, e.2.2.2.1]
  refine (congrArg (fun f => ((cfg0.win 6).blk t).view.read (Elt Ideal) f (ix2 a d)) h).trans (congrArg (aUg V0) ?_)
  blk_ext [idx t]
theorem b7 (t : Fin cfg0.N) (r : Fin 8) (k : Fin 3) (h : r.val = k.val) (f : Fin 2816) : (fun X : FVec Ideal S8x2816 .f32 => X) (iblk m c 7 t) (ix2 r f) = aCw V0 (ix2 k f) := by
  refine Eq.trans (congrArg ((fun X : FVec Ideal S8x2816 .f32 => X) (V m c main_v47)) ?_) (V_cw e r k h f)
  blk_ext [idx t]
theorem b8 (t : Fin cfg0.N) (d : Fin 1024) (f : Fin 2816) : (fun X : FVec Ideal S1024x2816 .bf16 => X) (iblk m c 8 t) (ix2 d f) = aWd V0 (ix2 f d) := by
  refine Eq.trans (congrArg ((fun X : FVec Ideal S1024x2816 .bf16 => X) (V m c main_v49)) ?_) (V_wt e d f)
  blk_ext [idx t]
theorem b9 (t : Fin cfg0.N) (d : Fin 1024) : (fun X : FVec Ideal S8x1024 .f32 => X) (iblk m c 9 t) (ix2 0 d) = aG V0 (ix1 d) := by
  refine Eq.trans (congrArg ((fun X : FVec Ideal S8x1024 .f32 => X) (V m c main_v53)) ?_) (V_g e d)
  blk_ext [idx t]

/-! ## A point's parts -/

theorem dz_at (h : Reals V0) (t : Fin cfg0.N) (a : Fin 256) (d : Fin 1024) :
    dzK (iblk m c 0 t) (iblk m c 1 t) (iblk m c 9 t) (ix2 a d) = dz V0 (ix2 (R t a) d) :=
  (dzK_at _ _ _ (b1 e t) (b0 e t) (b9 e t) a d).trans (Cert.Ffn.dz_eq h (R t a) d).1

theorem dg_at (h : Reals V0) (t : Fin cfg0.N) (q : Fin 11) (a b : Fin 256) :
    dgK (iblk m c 0 t) (iblk m c 1 t) (iblk m c 3 t) (iblk m c 5 t) (iblk m c 8 t) (iblk m c 9 t) q (ix2 a b) = dg V0 (ix2 (R t a) (col q b)) :=
  (dgK_at _ _ _ _ _ _ (dz_at e h t) (b8 e t) (b3 e t) (b5 e t) q a b).trans (Cert.Ffn.dg_eq h (R t a) (col q b))

theorem dgx_at (h : Reals V0) (t : Fin cfg0.N) (q : Fin 11) (a b : Fin 256) :
    dgK (iblk m c 0 t) (iblk m c 1 t) (iblk m c 3 t) (iblk m c 5 t) (iblk m c 8 t) (iblk m c 9 t) q (ix2 a b)
    = (fun (r : ℕ) f => dgx V0 (256 * (63 - t.val) + r) f) a.val (col q b) :=
  (dg_at e h t q a b).trans (Cert.Ffn.dgx_of V0 (R t a) rfl _).symm

theorem cr_at (h : Reals V0) : ∀ (n : ℕ) (hn : n < cfg0.N) (r : Fin 8) (f : Fin 2816),
    crS m c n (ix2 r f) = (fun (r : ℕ) f => dgx V0 (256 * (63 - n) + r) f) (256 + r.val) f
  | 0, hn, r, f => by
    show _ = dgx V0 (256 * (63 - 0) + (256 + r.val)) f
    rw [Cert.Ffn.dgx_high V0 (by omega)]
    show k0_pay6 (ix2 r f) = 0
    pointwise [k0_pay6]
  | n + 1, hn, r, f => by
    have hN : cfg0.N = 64 := N_0
    rw [crS, if_neg (Nat.succ_ne_zero n), carryK_at, dgS_succ m c ⟨n, by omega⟩,
      dgbK_at _ _ _ _ _ _ _ (D := fun (r : ℕ) f => dgx V0 (256 * (63 - n) + r) f) (dgx_at e h ⟨n, by omega⟩) (cr_at h n (by omega))]
    refine congrArg (fun s => dgx V0 s f) ?_
    show 256 * (63 - n) + r.val = 256 * (63 - (n + 1)) + (256 + r.val)
    omega

omit e in
theorem coord : ∀ t : Fin cfg0.N, BitVec.ofNat 32 (grid0.coords t 0).val = 63#32 ↔ t.val = 63 := (by decide +kernel : ∀ t : Fin grid0.N, _)

theorem tap_at (t : Fin cfg0.N) (k : Fin 3) (q : Fin 11) (a b : Fin 256) :
    tapK (BitVec.ofNat 32 (grid0.coords t 0).val) (iblk m c 2 t) (iblk m c 6 t) ⟨6 + k.val, by omega⟩ q (ix2 a b) = ux V0 ((R t a).val + 6 + k.val) (col q b) := by
  have hN : cfg0.N = 64 := N_0
  have h4 : ∀ (a : Fin 256) (f : Fin 2816), (fun X : FVec Ideal S256x2816 .bf16 => X) (iblk m c 2 t) (ix2 a f) = (fun (r : ℕ) f => ux V0 (256 * (63 - t.val) + r) f) (8 + a.val) f := fun a f =>
    (b2 e t a f).trans (Cert.Ffn.ux_of V0 (R t a) (by simp only [R]; omega) f).symm
  have h8 : ∀ (r : Fin 8) (f : Fin 2816), k0_pay17 (BitVec.ofNat 32 (grid0.coords t 0).val) (View.ld (iblk m c 6 t) rG) (ix2 r f) = (fun (r : ℕ) f => ux V0 (256 * (63 - t.val) + r) f) r.val f := fun r f => by
    rw [pay17_at]
    by_cases ht : t.val = 63
    · rw [if_pos ((coord t).mpr ht)]
      show 0 = ux V0 (256 * (63 - t.val) + r.val) f
      rw [ht, Cert.Ffn.ux_low V0 (by omega)]
    · rw [if_neg fun h => ht ((coord t).mp h)]
      refine (b6 e t (by omega) _ f).trans (Cert.Ffn.ux_of V0 _ ?_ f).symm
      show 256 * (63 - t.val) + r.val = 256 * (63 - t.val) - 16 + (8 + r.val) + 8
      omega
  refine (tapK_at _ _ _ (U := fun (r : ℕ) f => ux V0 (256 * (63 - t.val) + r) f) h4 h8 ⟨6 + k.val, by omega⟩ q a b).trans (congrArg (fun s => ux V0 s (col q b)) ?_)
  show 256 * (63 - t.val) + (6 + k.val + a.val) = 256 * (63 - t.val) + a.val + 6 + k.val
  omega

/-! ## The sums -/

omit e in
/-- The points' blocks of rows are all the rows, last block first. -/
theorem sum_rows (g : Fin 16384 → EReal) : ∑ s : Fin cfg0.N, ∑ a : Fin 256, g (R ⟨s.val, lt_of_lt_of_le s.isLt le_rfl⟩ a) = ∑ s, g s := by
  rw [Fin.sum_univ_tiles 64 256 rfl g]
  refine (Equiv.sum_comp Fin.revPerm (fun s : Fin 64 => ∑ a : Fin 256, g (R ⟨s.val, s.isLt⟩ a))).symm.trans ?_
  refine Finset.sum_congr rfl fun s _ => Finset.sum_congr rfl fun a _ => congrArg g (Fin.ext ?_)
  show 256 * (63 - (Fin.rev s).val) + a.val = s.val * 256 + a.val
  rw [Fin.val_rev]
  omega

theorem dw_at (h : Reals V0) (f : Fin 2816) (d : Fin 1024) : ∀ n (hn : n ≤ cfg0.N), dwS m c n (ix2 f d)
    = ∑ s : Fin n, ∑ a : Fin 256, (fun r : Fin 16384 => dz V0 (ix2 r d) * (sl V0 (ix2 r f) * aUv V0 (ix2 r f))) (R ⟨s.val, lt_of_lt_of_le s.isLt hn⟩ a)
  | 0, _ => by
    rw [Finset.univ_eq_empty, Finset.sum_empty]
    change k0_pay2 (ix2 f d) = 0
    pointwise [k0_pay2]
  | n + 1, hn => by
    rw [dwS_succ m c ⟨n, hn⟩, dwdK_at _ _ _ _ _ _ (dz_at e h ⟨n, hn⟩) (b3 e ⟨n, hn⟩) (b4 e ⟨n, hn⟩) (A := fun f d => dwS m c n (ix2 f d)) (fun _ _ => rfl), Fin.sum_univ_castSucc (n := n)]
    exact congrArg₂ (fun x y : EReal => x + y) (dw_at h f d n (Nat.le_of_succ_le hn)) rfl

theorem cf_at (h : Reals V0) (r : Fin 8) (f : Fin 2816) : ∀ n (hn : n ≤ cfg0.N), cfS m c n (ix2 r f)
    = ∑ s : Fin n, ∑ a : Fin 256, (fun i : Fin 16384 => cfT V0 r.val i f) (R ⟨s.val, lt_of_lt_of_le s.isLt hn⟩ a)
  | 0, _ => by
    rw [Finset.univ_eq_empty, Finset.sum_empty]
    change k0_pay3 (ix2 r f) = 0
    pointwise [k0_pay3]
  | n + 1, hn => by
    rw [cfS_succ m c ⟨n, hn⟩, dcfK_at _ _ _ _ _ _ _ _ _ _ (D := fun a f => dg V0 (ix2 (R ⟨n, hn⟩ a) f)) (T := fun k a f => ux V0 ((R ⟨n, hn⟩ a).val + 6 + k) f) (dg_at e h ⟨n, hn⟩) (tap_at e ⟨n, hn⟩) (A := fun r f => cfS m c n (ix2 r f)) (fun _ _ => rfl),
      Fin.sum_univ_castSucc (n := n)]
    refine congrArg₂ (fun x y : EReal => x + y) (cf_at h r f n (Nat.le_of_succ_le hn)) ?_
    show cfAdd _ _ r.val f = ∑ a : Fin 256, cfT V0 r.val (R ⟨n, hn⟩ a) f
    unfold cfAdd cfT
    split_ifs
    · rfl
    · rfl
    · rw [Finset.sum_const_zero]

theorem v2_at (r : Fin 8) (d : Fin 1024) : ∀ n (hn : n ≤ cfg0.N), v2S m c n (ix2 r d)
    = ∑ s : Fin n, ∑ a : Fin 256, (fun i : Fin 16384 => v2T V0 r.val i d) (R ⟨s.val, lt_of_lt_of_le s.isLt hn⟩ a)
  | 0, _ => by
    rw [Finset.univ_eq_empty, Finset.sum_empty]
    change k0_pay4 (ix2 r d) = 0
    pointwise [k0_pay4]
  | n + 1, hn => by
    rw [v2S_succ m c ⟨n, hn⟩, dv2K_at _ _ _ (b1 e ⟨n, hn⟩) (b0 e ⟨n, hn⟩) (A := fun r d => v2S m c n (ix2 r d)) (fun _ _ => rfl), Fin.sum_univ_castSucc (n := n)]
    refine congrArg₂ (fun x y : EReal => x + y) (v2_at r d n (Nat.le_of_succ_le hn)) ?_
    show v2Add _ _ r.val d = ∑ a : Fin 256, v2T V0 r.val (R ⟨n, hn⟩ a) d
    unfold v2Add v2T
    split_ifs
    · rfl
    · rfl
    · rw [Finset.sum_const_zero]

theorem dw_eq (h : Reals V0) : dwS m c cfg0.N = Cert.Ffn.resDwd V0 := by
  funext j
  idx_vars j
  exact (dw_at e h _ _ _ le_rfl).trans ((sum_rows _).trans (Cert.Ffn.dwd_at V0 _ _).symm)
theorem cf_eq (h : Reals V0) : cfS m c cfg0.N = Cert.Ffn.resDcf V0 := by
  funext j
  idx_vars j
  exact (cf_at e h _ _ _ le_rfl).trans ((sum_rows _).trans (Cert.Ffn.dcf_at V0 _ _).symm)
theorem v2_eq : v2S m c cfg0.N = Cert.Ffn.resDv2 V0 := by
  funext j
  idx_vars j
  exact (v2_at e _ _ _ le_rfl).trans ((sum_rows _).trans (Cert.Ffn.dv2_at V0 _ _).symm)

/-! ## The results -/

omit e in
theorem emb10 (t : Fin cfg0.N) (a : Fin 256) (f : Fin 2816) : ((cfg0.win 10).blk t).view.emb (ix2 a f) = ix2 (R t a) f := by blk_ext [idx t, R]
omit e in
theorem emb11 (t : Fin cfg0.N) (a : Fin 256) (f : Fin 2816) : ((cfg0.win 11).blk t).view.emb (ix2 a f) = ix2 (R t a) f := by blk_ext [idx t, R]
omit e in
theorem emb12 (t : Fin cfg0.N) (a : Fin 256) (d : Fin 1024) : ((cfg0.win 12).blk t).view.emb (ix2 a d) = ix2 (R t a) d := by blk_ext [idx t, R]
omit e in
theorem emb13 (t : Fin cfg0.N) (a : Fin 8) (f : Fin 2816) : ((cfg0.win 13).blk t).view.emb (ix2 a f) = ix2 a f := by blk_ext [idx t]
omit e in
theorem emb14 (t : Fin cfg0.N) (a : Fin 8) (d : Fin 1024) : ((cfg0.win 14).blk t).view.emb (ix2 a d) = ix2 a d := by blk_ext [idx t]

theorem final10 (h : Reals V0) : (dats m 0 c).arrAt 10 cfg0.N = Cert.Ffn.resDug V0 := by
  refine (dats m 0 c).arrAt_eq_of_covers 10 _ (by decide +kernel) fun t _ y => ?_
  blk_simp
  rw [after10]
  obtain ⟨a, f, rfl⟩ : ∃ (a : Fin 256) (f : Fin 2816), y = ix2 a f := ⟨y 0, y 1, eq_ix2 y⟩
  refine Eq.trans ?_ (congrArg (Cert.Ffn.resDug V0) (emb10 t a f)).symm
  refine (dugK_at _ _ _ _ _ _ _ _ (D := fun (r : ℕ) f => dgx V0 (256 * (63 - t.val) + r) f) (dgx_at e h t) (cr_at e h t.val t.isLt) a f).trans ?_
  rw [Cert.Ffn.dug_at, ← b7 e t 2 2 rfl f, ← b7 e t 1 1 rfl f, ← b7 e t 0 0 rfl f]
  rfl

theorem final11 (h : Reals V0) : (dats m 0 c).arrAt 11 cfg0.N = Cert.Ffn.resDuv V0 := by
  refine (dats m 0 c).arrAt_eq_of_covers 11 _ (by decide +kernel) fun t _ y => ?_
  blk_simp
  rw [after11]
  obtain ⟨a, f, rfl⟩ : ∃ (a : Fin 256) (f : Fin 2816), y = ix2 a f := ⟨y 0, y 1, eq_ix2 y⟩
  refine Eq.trans ?_ (congrArg (Cert.Ffn.resDuv V0) (emb11 t a f)).symm
  refine (duvK_at _ _ _ _ _ (dz_at e h t) (b8 e t) (b4 e t) a f).trans ?_
  rw [Cert.Ffn.duv_at]
  exact mul_comm _ _

theorem final12 (h : Reals V0) : (dats m 0 c).arrAt 12 cfg0.N = dz V0 := by
  refine (dats m 0 c).arrAt_eq_of_covers 12 _ (by decide +kernel) fun t _ y => ?_
  blk_simp
  rw [after12]
  obtain ⟨a, d, rfl⟩ : ∃ (a : Fin 256) (d : Fin 1024), y = ix2 a d := ⟨y 0, y 1, eq_ix2 y⟩
  exact (dz_at e h t a d).trans (congrArg (dz V0) (emb12 t a d)).symm

theorem final13 (h : Reals V0) : (dats m 0 c).arrAt 13 cfg0.N = Cert.Ffn.resDcf V0 := by
  refine (dats m 0 c).arrAt_eq_of_covers 13 _ (by decide +kernel) fun t ht y => ?_
  blk_simp
  rw [after13]
  have hN : cfg0.N = 64 := N_0
  have h1 := (flush0_13 t).mp ht
  rw [show t.val + 1 = cfg0.N by omega, cf_eq e h]
  obtain ⟨a, f, rfl⟩ : ∃ (a : Fin 8) (f : Fin 2816), y = ix2 a f := ⟨y 0, y 1, eq_ix2 y⟩
  exact (congrArg (Cert.Ffn.resDcf V0) (emb13 t a f)).symm

theorem final14 : (dats m 0 c).arrAt 14 cfg0.N = Cert.Ffn.resDv2 V0 := by
  refine (dats m 0 c).arrAt_eq_of_covers 14 _ (by decide +kernel) fun t ht y => ?_
  blk_simp
  rw [after14]
  have hN : cfg0.N = 64 := N_0
  have h1 := (flush0_14 t).mp ht
  rw [show t.val + 1 = cfg0.N by omega, v2_eq e]
  obtain ⟨a, d, rfl⟩ : ∃ (a : Fin 8) (d : Fin 1024), y = ix2 a d := ⟨y 0, y 1, eq_ix2 y⟩
  exact (congrArg (Cert.Ffn.resDv2 V0) (emb14 t a d)).symm
end agree

/-- The reference's first result: the weight's gradient laid into the slabs. -/
def SLABS (A : FVec Ideal S8x1472x1024 .f32) (G : FVec Ideal S2816x1024 .f32) : FVec Ideal S8x1472x1024 .f32 :=
  Host.dynamicUpdateSlice A (shapeCast _ G Cert.Reference3Ideal.Gen.shapeCasts_S2816x1024_S8x352x1024)
    (fun k => (((![constantI Cert.Reference3Ideal.S_ 32 0#32, constantI Cert.Reference3Ideal.S_ 32 1056#32, constantI Cert.Reference3Ideal.S_ 32 0#32] : Fin 3 → (⟨Cert.Reference3Ideal.S_, .i32⟩ : BufTy).Contents (Elt Ideal)) k (Shape.Idx.first Cert.Reference3Ideal.Gen.h_S_))).toInt)
    Cert.Reference3Ideal.Gen.updateFits_S8x1472x1024_S8x352x1024

theorem start0 : Host.clampedStart S8x1472x1024 Cert.Reference3Ideal.S8x352x1024 rfl (fun k => (((![constantI Cert.Reference3Ideal.S_ 32 0#32, constantI Cert.Reference3Ideal.S_ 32 1056#32, constantI Cert.Reference3Ideal.S_ 32 0#32] : Fin 3 → (⟨Cert.Reference3Ideal.S_, .i32⟩ : BufTy).Contents (Elt Ideal)) k (Shape.Idx.first Cert.Reference3Ideal.Gen.h_S_))).toInt) 0 = 0 := rfl
theorem start1 : Host.clampedStart S8x1472x1024 Cert.Reference3Ideal.S8x352x1024 rfl (fun k => (((![constantI Cert.Reference3Ideal.S_ 32 0#32, constantI Cert.Reference3Ideal.S_ 32 1056#32, constantI Cert.Reference3Ideal.S_ 32 0#32] : Fin 3 → (⟨Cert.Reference3Ideal.S_, .i32⟩ : BufTy).Contents (Elt Ideal)) k (Shape.Idx.first Cert.Reference3Ideal.Gen.h_S_))).toInt) 1 = 1056 := rfl
theorem start2 : Host.clampedStart S8x1472x1024 Cert.Reference3Ideal.S8x352x1024 rfl (fun k => (((![constantI Cert.Reference3Ideal.S_ 32 0#32, constantI Cert.Reference3Ideal.S_ 32 1056#32, constantI Cert.Reference3Ideal.S_ 32 0#32] : Fin 3 → (⟨Cert.Reference3Ideal.S_, .i32⟩ : BufTy).Contents (Elt Ideal)) k (Shape.Idx.first Cert.Reference3Ideal.Gen.h_S_))).toInt) 2 = 0 := rfl

theorem slabs_eq (A : FVec Ideal S8x1472x1024 .f32) (G : FVec Ideal S2816x1024 .f32) : slabsOf (F := Ideal) A G = SLABS A G := by
  funext j
  idx_vars j
  pointwise [slabsOf, accRows, SLABS]
  have s0 := start0; have s1 := start1; have s2 := start2
  simp only [s0, s1, s2]
  by_cases hr : 1056 ≤ j1.val ∧ j1.val < 1408
  · rw [dif_pos (show 0 ≤ j0.val ∧ (1056 ≤ j1.val ∧ j1.val < 1056 + 352) ∧ 0 ≤ j2.val by omega)]
    split_ifs <;> first | omega | skip
    all_goals (refine congrArg G ?_; blk_ext; all_goals omega)
  · rw [dif_neg (by omega), dif_neg (by omega), dif_neg (by omega), dif_neg (by omega), dif_neg (by omega), dif_neg (by omega), dif_neg (by omega), dif_neg (by omega), dif_neg (by omega)]

theorem slabs_at {c : Dev nD} {V0 : Args} (e : Agree m c V0) (h : Reals V0) : slabsEnd m c = Cert.Ffn.resSlabs V0 := by
  unfold slabsEnd
  rw [slabs_eq, V_slabs, dw_eq e h, ← e.1]
  rfl

theorem ends_value (ρ : Dev nD → PrngReg) (W : Dev nD → Args) (e : ∀ c, Agree m c (W c)) (h : ∀ c, Reals (W c)) :
    θ_run defs (onTc (τ := τ) (main (F := Ideal))) ⟨m, fun _ => 0, ρ⟩ (fun r => ∀ c : Dev nD,
      r.2.mem ((c.tc : Thread nD τ).loc main_v58_0) = Cert.Ffn.resSlabs (W c)
      ∧ r.2.mem ((c.tc : Thread nD τ).loc main_v58_1) = Cert.Ffn.resDug (W c)
      ∧ r.2.mem ((c.tc : Thread nD τ).loc main_v58_2) = Cert.Ffn.resDuv (W c)
      ∧ r.2.mem ((c.tc : Thread nD τ).loc main_v58_3) = dz (W c)
      ∧ r.2.mem ((c.tc : Thread nD τ).loc main_v58_4) = Cert.Ffn.resDcf (W c)
      ∧ r.2.mem ((c.tc : Thread nD τ).loc main_v58_5) = Cert.Ffn.resDv2 (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ k c => ⟨(k.1 c).1.1.trans (slabs_at m (e c) (h c)), (k.1 c).1.2.1.trans (final10 (e c) (h c)),
    (k.1 c).1.2.2.1.trans (final11 (e c) (h c)), (k.1 c).1.2.2.2.1.trans (final12 (e c) (h c)), (k.1 c).1.2.2.2.2.1.trans (final13 (e c) (h c)),
    (k.1 c).1.2.2.2.2.2.trans (final14 (e c)), (k.1 c).2⟩) (ends m ρ)

end Cert.Kernel3Ideal.Hand

end
-- ==== Proof.StepValue.lean ====
module

public import proofs.«01_k».proof.Defs
public import proofs.«01_k».proof.Proof.Gen.Kernel7Ideal.Value
public import proofs.«01_k».proof.Proof.Gen.Kernel8Ideal.Value
public import proofs.«01_k».proof.Proof.Gen.Reference7Ideal.Run
public import proofs.«01_k».proof.Proof.Gen.Reference8Ideal.Run
public import Idealize.ShloMosaic.Lib.Pipeline.ValueKit
public import Idealize.ShloMosaic.Lib.Pointwise

@[expose] public section

set_option maxRecDepth 16384
set_option maxHeartbeats 4000000

noncomputable section

namespace Cert.Kernel8Ideal.Hand

open Idealize.ShloMosaic Idealize.ShloMosaic.TcCoe Idealize.SL.Sem

/-- The optimiser's step: every element of the nine results is the reference's. -/
theorem value : algebraic_Kernel8Ideal_Reference8Ideal (hKernel8Ideal := Cert.Kernel8Ideal.Gen.facts) (hReference8Ideal := Cert.Reference8Ideal.Gen.facts) :=
  fun m ρ m' ρ' _ e => ⟨_, _, _, _, _, _, _, _, _, Cert.Kernel8Ideal.Value.run m ρ,
    (θ_run Cert.Reference8Ideal.defs _ _).mono (fun _ h c => by
      obtain ⟨h0, h1, h2, h3, h4, h5, h6, h7, h8, ha⟩ := h c
      obtain ⟨e0, e1, e2, e3, e4, e5, e6, e7, e8, e9, e10, e11⟩ := e c
      rw [e0, e1, e2, e3] at h0
      rw [e1, e2] at h1
      rw [e1, e3] at h2
      rw [e4, e5, e6, e7] at h3
      rw [e5, e6] at h4
      rw [e5, e7] at h5
      rw [e8, e9, e10, e11] at h6
      rw [e9, e10] at h7
      rw [e9, e11] at h8
      exact ⟨h0, h1, h2, h3, h4, h5, h6, h7, h8, ha⟩) (Cert.Reference8Ideal.Value.run m' ρ')⟩

end Cert.Kernel8Ideal.Hand

namespace Cert.Kernel7Ideal.Hand

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- A product of the memory with one weight, as the reference has it. -/
def MW (X : FVec Ideal S256x1024 .f32) (W : FVec Ideal S1024x256 .f32) : FVec Ideal S256x256 .f32 :=
  Host.dotGeneral Cert.Reference7Ideal.dot_S256x1024_S1024x256_S256x256_1_0_0_1_n_n none X W

theorem MW_at (X : FVec Ideal S256x1024 .f32) (W : FVec Ideal S1024x256 .f32) (a b : Fin 256) :
    MW X W (ix2 a b) = ∑ k : Fin 1024, X (ix2 a k) * W (ix2 k b) := by
  pointwise [MW]

theorem pay2_at (x0 x1 x2 x3 : Vec Ideal S1x256x256 .bf16) (w0 w1 w2 w3 : Vec Ideal S256x256 .bf16) (a b : Fin 256) :
    k0_pay2 x0 w0 x1 w1 x2 w2 x3 w3 (ix2 a b) = (∑ k : Fin 256, x0 (ix3 0 a k) * w0 (ix2 k b)) + (∑ k : Fin 256, x1 (ix3 0 a k) * w1 (ix2 k b))
      + (∑ k : Fin 256, x2 (ix3 0 a k) * w2 (ix2 k b)) + (∑ k : Fin 256, x3 (ix3 0 a k) * w3 (ix2 k b)) := by
  pointwise [k0_pay2]

theorem idx : ∀ t : Fin cfg0.N, win0_0.index t = ![0, 0, 0] ∧ win0_1.index t = ![0, 0] ∧ win0_2.index t = ![0, 0] ∧ win0_3.index t = ![0, 0] ∧ win0_4.index t = ![0, 0] :=
  (by decide +kernel : ∀ t : Fin grid0.N, _)

section host
theorem V_2 : (V m c main_v2 : FVec Ideal S4x256x256 .bf16) = (fun X : FVec Ideal S256x1024 .f32 => (truncf .bf16 (transpose S4x256x256 [2, 0, 1] (shapeCast S256x256x4 X shapeCasts_S256x1024_S256x256x4) transposes_S256x256x4_S4x256x256_2_0_1 : FVec Ideal S4x256x256 .f32) bitsLt_bf16_f32 : FVec Ideal S4x256x256 .bf16)) (m ((c.tc : Thread nD τ).loc main_arg0)) := by
  sl_kernel_rfl
theorem V_4 : (V m c main_v4 : FVec Ideal S256x1024 .bf16) = (fun W : FVec Ideal S1024x256 .f32 => (truncf .bf16 (shapeCast S256x1024 W shapeCasts_S1024x256_S256x1024 : FVec Ideal S256x1024 .f32) bitsLt_bf16_f32 : FVec Ideal S256x1024 .bf16)) (m ((c.tc : Thread nD τ).loc main_arg1)) := by
  sl_kernel_rfl
theorem V_6 : (V m c main_v6 : FVec Ideal S256x1024 .bf16) = (fun W : FVec Ideal S1024x256 .f32 => (truncf .bf16 (shapeCast S256x1024 W shapeCasts_S1024x256_S256x1024 : FVec Ideal S256x1024 .f32) bitsLt_bf16_f32 : FVec Ideal S256x1024 .bf16)) (m ((c.tc : Thread nD τ).loc main_arg2)) := by
  sl_kernel_rfl
end host

theorem b0 (t : Fin cfg0.N) (q : Fin 4) (a k : Fin 256) : (fun X : FVec Ideal S4x256x256 .bf16 => X) (iblk m c 0 t) (ix3 q a k)
    = (fun X : FVec Ideal S256x1024 .f32 => X) (m ((c.tc : Thread nD τ).loc main_arg0)) (ix2 a ⟨4 * k.val + q.val, by omega⟩) := by
  refine (show _ = (fun X : FVec Ideal S4x256x256 .bf16 => X) (V m c main_v2) (ix3 q a k) from congrArg (V m c main_v2 : FVec Ideal S4x256x256 .bf16) ?_).trans ?_
  · blk_ext [idx t]
  · rw [V_2]
    pointwise []
    refine congrArg (m ((c.tc : Thread nD τ).loc main_arg0) : FVec Ideal S256x1024 .f32) ?_
    blk_ext
    all_goals omega
theorem b1 (t : Fin cfg0.N) (q : Fin 4) (k b : Fin 256) : (fun X : FVec Ideal S256x1024 .bf16 => X) (iblk m c 1 t) (ix2 k ⟨256 * q.val + b.val, by omega⟩)
    = (fun X : FVec Ideal S1024x256 .f32 => X) (m ((c.tc : Thread nD τ).loc main_arg1)) (ix2 ⟨4 * k.val + q.val, by omega⟩ b) := by
  refine (show _ = (fun X : FVec Ideal S256x1024 .bf16 => X) (V m c main_v4) (ix2 k ⟨256 * q.val + b.val, by omega⟩) from congrArg (V m c main_v4 : FVec Ideal S256x1024 .bf16) ?_).trans ?_
  · blk_ext [idx t]
  · rw [V_4]
    pointwise []
    refine congrArg (m ((c.tc : Thread nD τ).loc main_arg1) : FVec Ideal S1024x256 .f32) ?_
    blk_ext
    all_goals omega
theorem b2 (t : Fin cfg0.N) (q : Fin 4) (k b : Fin 256) : (fun X : FVec Ideal S256x1024 .bf16 => X) (iblk m c 2 t) (ix2 k ⟨256 * q.val + b.val, by omega⟩)
    = (fun X : FVec Ideal S1024x256 .f32 => X) (m ((c.tc : Thread nD τ).loc main_arg2)) (ix2 ⟨4 * k.val + q.val, by omega⟩ b) := by
  refine (show _ = (fun X : FVec Ideal S256x1024 .bf16 => X) (V m c main_v6) (ix2 k ⟨256 * q.val + b.val, by omega⟩) from congrArg (V m c main_v6 : FVec Ideal S256x1024 .bf16) ?_).trans ?_
  · blk_ext [idx t]
  · rw [V_6]
    pointwise []
    refine congrArg (m ((c.tc : Thread nD τ).loc main_arg2) : FVec Ideal S1024x256 .f32) ?_
    blk_ext
    all_goals omega

/-- The four partial sums, over the rows with remainder 0, 1, 2 and 3 modulo 4, are the sum. -/
theorem sum4 (f : Fin 1024 → EReal) : (∑ k : Fin 256, f ⟨4 * k.val + 0, by omega⟩) + (∑ k : Fin 256, f ⟨4 * k.val + 1, by omega⟩)
    + (∑ k : Fin 256, f ⟨4 * k.val + 2, by omega⟩) + (∑ k : Fin 256, f ⟨4 * k.val + 3, by omega⟩) = ∑ k, f k := by
  rw [Fin.sum_univ_tiles 256 4 rfl, ← Finset.sum_add_distrib, ← Finset.sum_add_distrib, ← Finset.sum_add_distrib]
  refine Finset.sum_congr rfl fun k _ => ?_
  rw [Fin.sum_univ_four]
  congr 1 <;> [congr 1 <;> [congr 1; skip]; skip] <;> exact congrArg f (Fin.ext (by simp; omega))

/-- A load of one quarter of the memory, and of the weight's columns. -/
theorem ldX (x0 : Vec Ideal S4x256x256 .bf16) (o : Fin 4) (inb) (a k : Fin 256) :
    View.ld x0 (Rect.unit (s := S4x256x256) ![o.val, 0, 0] S1x256x256.size inb) (ix3 (0 : Fin 1) a k) = x0 (ix3 o a k) :=
  View.ld_unit_apply_of _ _ _ _ _ _ fun d => by fin_cases d <;> simp [ix3]
theorem ldW (x1 : Vec Ideal S256x1024 .bf16) (q : Fin 4) (o : ℕ) (ho : o = 256 * q.val) (inb) (k b : Fin 256) :
    View.ld x1 (Rect.unit (s := S256x1024) ![0, o] S256x256.size inb) (ix2 k b) = x1 (ix2 k ⟨256 * q.val + b.val, by omega⟩) :=
  View.ld_unit_apply_of _ _ _ _ _ _ fun d => by subst ho; fin_cases d <;> simp [ix2]

theorem out3_at (x0 : Vec Ideal S4x256x256 .bf16) (x1 x2 : Vec Ideal S256x1024 .bf16) (a b : Fin 256) (X W : Fin 1024 → EReal)
    (h0 : ∀ (q : Fin 4) (k : Fin 256), x0 (ix3 q a k) = X ⟨4 * k.val + q.val, by omega⟩)
    (h1 : ∀ (q : Fin 4) (k : Fin 256), x1 (ix2 k ⟨256 * q.val + b.val, by omega⟩) = W ⟨4 * k.val + q.val, by omega⟩) :
    out0_3 x0 x1 x2 (ix2 a b) = ∑ k, X k * W k := by
  have hz : (![0, 0] : Fin 2 → ℕ) = fun _ => 0 := funext fun d => by fin_cases d <;> rfl
  unfold out0_3
  rw [View.canon_unit_zero hz, pay2_at, ← sum4 fun k => X k * W k]
  refine congrArg₂ (· + ·) (congrArg₂ (· + ·) (congrArg₂ (· + ·) ?_ ?_) ?_) ?_ <;> refine Finset.sum_congr rfl fun k _ => ?_
  · exact congrArg₂ (· * ·) ((ldX x0 0 _ a k).trans (h0 0 k)) ((ldW x1 0 0 rfl _ k b).trans (h1 0 k))
  · exact congrArg₂ (· * ·) ((ldX x0 1 _ a k).trans (h0 1 k)) ((ldW x1 1 256 rfl _ k b).trans (h1 1 k))
  · exact congrArg₂ (· * ·) ((ldX x0 2 _ a k).trans (h0 2 k)) ((ldW x1 2 512 rfl _ k b).trans (h1 2 k))
  · exact congrArg₂ (· * ·) ((ldX x0 3 _ a k).trans (h0 3 k)) ((ldW x1 3 768 rfl _ k b).trans (h1 3 k))

theorem out4_eq (x0 : Vec Ideal S4x256x256 .bf16) (x1 x2 : Vec Ideal S256x1024 .bf16) : out0_4 x0 x1 x2 = out0_3 x0 x2 x1 := rfl

theorem emb3 (t : Fin cfg0.N) (a b : Fin 256) : ((cfg0.win 3).blk t).view.emb (ix2 a b) = ix2 a b := by blk_ext [idx t]
theorem final3 : (dats m 0 c).arrAt 3 cfg0.N = MW (m ((c.tc : Thread nD τ).loc main_arg0)) (m ((c.tc : Thread nD τ).loc main_arg1)) := by
  refine (dats m 0 c).arrAt_eq_of_covers 3 _ (by decide +kernel) fun t _ y => ?_
  blk_simp
  rw [after0_3]
  obtain ⟨a, b, rfl⟩ : ∃ a b : Fin 256, y = ix2 a b := ⟨y 0, y 1, eq_ix2 y⟩
  refine Eq.trans ?_ (congrArg (MW (m ((c.tc : Thread nD τ).loc main_arg0)) (m ((c.tc : Thread nD τ).loc main_arg1)) : S256x256.Idx → EReal) (emb3 t a b)).symm
  exact (out3_at _ _ _ a b (fun k => (fun X : FVec Ideal S256x1024 .f32 => X) (m ((c.tc : Thread nD τ).loc main_arg0)) (ix2 a k))
    (fun k => (fun X : FVec Ideal S1024x256 .f32 => X) (m ((c.tc : Thread nD τ).loc main_arg1)) (ix2 k b)) (fun q k => b0 m c t q a k) (fun q k => b1 m c t q k b)).trans (MW_at _ _ a b).symm

theorem emb4 (t : Fin cfg0.N) (a b : Fin 256) : ((cfg0.win 4).blk t).view.emb (ix2 a b) = ix2 a b := by blk_ext [idx t]
theorem final4 : (dats m 0 c).arrAt 4 cfg0.N = MW (m ((c.tc : Thread nD τ).loc main_arg0)) (m ((c.tc : Thread nD τ).loc main_arg2)) := by
  refine (dats m 0 c).arrAt_eq_of_covers 4 _ (by decide +kernel) fun t _ y => ?_
  blk_simp
  rw [after0_4, out4_eq]
  obtain ⟨a, b, rfl⟩ : ∃ a b : Fin 256, y = ix2 a b := ⟨y 0, y 1, eq_ix2 y⟩
  refine Eq.trans ?_ (congrArg (MW (m ((c.tc : Thread nD τ).loc main_arg0)) (m ((c.tc : Thread nD τ).loc main_arg2)) : S256x256.Idx → EReal) (emb4 t a b)).symm
  exact (out3_at _ _ _ a b (fun k => (fun X : FVec Ideal S256x1024 .f32 => X) (m ((c.tc : Thread nD τ).loc main_arg0)) (ix2 a k))
    (fun k => (fun X : FVec Ideal S1024x256 .f32 => X) (m ((c.tc : Thread nD τ).loc main_arg2)) (ix2 k b)) (fun q k => b0 m c t q a k) (fun q k => b2 m c t q k b)).trans (MW_at _ _ a b).symm

/-- The memory's keys and values are the reference's products. -/
theorem value : algebraic_Kernel7Ideal_Reference7Ideal (hKernel7Ideal := Cert.Kernel7Ideal.Gen.facts) (hReference7Ideal := Cert.Reference7Ideal.Gen.facts) :=
  fun m ρ m' ρ' _ e => ⟨fun c => MW (m ((c.tc : Thread nD τ).loc main_arg0)) (m ((c.tc : Thread nD τ).loc main_arg1)),
    fun c => MW (m ((c.tc : Thread nD τ).loc main_arg0)) (m ((c.tc : Thread nD τ).loc main_arg2)),
    (θ_run defs _ _).mono (fun _ h c => ⟨(h c).1.trans (final3 m c), (h c).2.1.trans (final4 m c), (h c).2.2⟩) (Cert.Kernel7Ideal.Value.run_blocks m ρ),
    (θ_run Cert.Reference7Ideal.defs _ _).mono (fun _ h c => by
      obtain ⟨h0, h1, ha⟩ := h c
      obtain ⟨e0, e1, e2⟩ := e c
      rw [e0, e1] at h0
      rw [e0, e2] at h1
      exact ⟨h0, h1, ha⟩) (Cert.Reference7Ideal.Value.run m' ρ')⟩

end Cert.Kernel7Ideal.Hand

end
-- ==== Proof.FwdMath.lean ====
module

public import proofs.«01_k».proof.Proof.FfnMath

@[expose] public section

noncomputable section

namespace Cert.Fwd

open Idealize.ShloMosaic
open Cert.Ffn (zc vr IsR)

/-- The sigmoid, and what the gate makes of it: its value and its slope. -/
def sgF (g : EReal) : EReal := Ideal.div 1 (1 + Ideal.exp (-g))
def slF (g : EReal) : EReal := g * sgF g
def dsF (g : EReal) : EReal := sgF g * (1 + g * (1 - sgF g))

theorem sgF_top : sgF ⊤ = 1 := by
  unfold sgF
  rw [EReal.neg_top, Ideal.exp_bot, add_zero, ← EReal.coe_one, Cert.Ffn.div_coe 1 one_ne_zero, div_one]
theorem sgF_bot : sgF ⊥ = 0 := by
  unfold sgF
  rw [EReal.neg_bot, Ideal.exp_top, ← EReal.coe_one, EReal.coe_add_top]
  unfold Ideal.div
  rw [if_neg EReal.top_ne_zero, EReal.inv_top, mul_zero]

/-- The slope as the derivative's own terms, at every extended real. -/
theorem dsF_eq (g : EReal) : sgF g + g * (sgF g * (1 - sgF g)) = dsF g := by
  unfold dsF
  induction g using EReal.rec with
  | top =>
    rw [sgF_top, ← EReal.coe_one, ← EReal.coe_sub, sub_self, EReal.coe_zero, EReal.coe_one, one_mul, mul_zero, add_zero, one_mul]
  | bot => rw [sgF_bot, zero_mul, zero_mul, mul_zero, add_zero]
  | coe r =>
    obtain ⟨s, hs⟩ : IsR (sgF (r : EReal)) := Cert.Ffn.isR_sigmoid ⟨r, rfl⟩
    rw [hs, ← EReal.coe_one, ← EReal.coe_sub, ← EReal.coe_mul, ← EReal.coe_mul, ← EReal.coe_mul, ← EReal.coe_add, ← EReal.coe_add, ← EReal.coe_mul]
    congr 1
    ring

abbrev cAl : EReal := Ideal.ofBits .f32 0x3FB504F3#32

section
variable (X : Fin 16384 → Fin 1024 → EReal) (Wg Wv : Fin 1024 → Fin 2816 → EReal) (C : ℕ → Fin 2816 → EReal) (Wd : Fin 2816 → Fin 1024 → EReal) (G B : Fin 1024 → EReal)

/-- A product of the input's rows. -/
def prF (s : Fin 16384) (f : Fin 2816) : EReal := ∑ d, X s d * Wg d f
/-- The gate's input with eight zero rows before it. -/
def ux (s : ℕ) (f : Fin 2816) : EReal := if h : 8 ≤ s ∧ s < 16392 then prF X Wg ⟨s - 8, by omega⟩ f else 0

theorem ux_low {s : ℕ} (h : s < 8) (f : Fin 2816) : ux X Wg s f = 0 := dif_neg (by omega)
theorem ux_of {s : ℕ} (a : Fin 16384) (h : s = a.val + 8) (f : Fin 2816) : ux X Wg s f = prF X Wg a f := by
  subst h
  exact (dif_pos ⟨by omega, by omega⟩).trans (by congr 2)

/-- The gate of a row: three taps of `U` and the bias. -/
def gtF (U : ℕ → Fin 2816 → EReal) (s : ℕ) (f : Fin 2816) : EReal := ((C 3 f + C 2 f * U (s + 8) f) + C 1 f * U (s + 7) f) + C 0 f * U (s + 6) f
/-- The gated product. -/
def acF (s : Fin 16384) (f : Fin 2816) : EReal := slF (gtF C (ux X Wg) s.val f) * prF X Wv s f
/-- The second sum, and its layer norm. -/
def z2F (s : Fin 16384) (d : Fin 1024) : EReal := cAl * X s d + ∑ f, acF X Wg Wv C s f * Wd f d
def lnF (Z : Fin 1024 → EReal) (d : Fin 1024) : EReal := zc Z d * Ideal.rsqrt (vr Z) * G d + B d
def x2F (s : Fin 16384) (d : Fin 1024) : EReal := lnF G B (z2F X Wg Wv C Wd s) d
end

end Cert.Fwd

end
-- ==== Proof.FwdRef.lean ====
module

public import proofs.«01_k».proof.Proof.FwdMath
public import proofs.«01_k».proof.Proof.Gen.Reference4Ideal.Run
public import Idealize.ShloMosaic.Lib.Pipeline.ValueKit
public import Idealize.ShloMosaic.Lib.Pointwise

@[expose] public section

set_option maxRecDepth 16384
set_option maxHeartbeats 4000000

noncomputable section

namespace Cert.Reference4Ideal.Hand

open Cert.Reference4Ideal Cert.Reference4Ideal.Gen Cert.Reference4Ideal.Value
open Idealize.ShloMosaic Idealize.ShloMosaic.TcCoe Idealize.SL.Sem
open Cert.Fwd

variable (m : (ℓ : Loc nD τ sig) → Buf (Elt Ideal) ℓ) (c : Dev nD)

/-- What the arguments hold, by row and column. -/
def xR (s : Fin 16384) (d : Fin 1024) : EReal := (m ((c.tc : Thread nD τ).loc main_arg0) : FVec Ideal S16384x1024 .f32) (ix2 s d)
def wgR (d : Fin 1024) (f : Fin 2816) : EReal := (m ((c.tc : Thread nD τ).loc main_arg1) : FVec Ideal S1024x2816 .f32) (ix2 d f)
def wvR (d : Fin 1024) (f : Fin 2816) : EReal := (m ((c.tc : Thread nD τ).loc main_arg2) : FVec Ideal S1024x2816 .f32) (ix2 d f)
def cR (k : ℕ) (f : Fin 2816) : EReal := if h : k < 3 then (m ((c.tc : Thread nD τ).loc main_arg3) : FVec Ideal S3x2816 .f32) (ix2 ⟨k, h⟩ f) else (m ((c.tc : Thread nD τ).loc main_arg4) : FVec Ideal S2816 .f32) (ix1 f)
def wdR (f : Fin 2816) (d : Fin 1024) : EReal := (m ((c.tc : Thread nD τ).loc main_arg5) : FVec Ideal S2816x1024 .f32) (ix2 f d)
def gR (d : Fin 1024) : EReal := (m ((c.tc : Thread nD τ).loc main_arg6) : FVec Ideal S1024 .f32) (ix1 d)
def bR (d : Fin 1024) : EReal := (m ((c.tc : Thread nD τ).loc main_arg7) : FVec Ideal S1024 .f32) (ix1 d)

/-- The two products, the gate's input with two rows before it, the gate, and its sigmoid. -/
def ugR : FVec Ideal S16384x2816 .f32 := Host.dotGeneral (F := Ideal) (φ₁ := .f32) (φ₂ := .f32) dot_S16384x1024_S1024x2816_S16384x2816_1_0_0_1_n_n none (m ((c.tc : Thread nD τ).loc main_arg0)) (m ((c.tc : Thread nD τ).loc main_arg1))
def uvR : FVec Ideal S16384x2816 .f32 := Host.dotGeneral (F := Ideal) (φ₁ := .f32) (φ₂ := .f32) dot_S16384x1024_S1024x2816_S16384x2816_1_0_0_1_n_n none (m ((c.tc : Thread nD τ).loc main_arg0)) (m ((c.tc : Thread nD τ).loc main_arg2))
def pdR : FVec Ideal S16386x2816 .f32 := concatenate S16386x2816 0 [⟨S2x2816, (broadcastInDim S2x2816 ![] bcast_S_S2x2816 (constant (F := Ideal) S_ .f32 0x00000000#32))⟩, ⟨S16384x2816, ugR m c⟩] concatenates_S2x2816_S16384x2816_S16386x2816_d0
def gtR : FVec Ideal S16384x2816 .f32 := addf (addf (addf (addf (broadcastInDim S16384x2816 ![] bcast_S_S16384x2816 (constant S_ .f32 0x00000000#32)) (mulf (broadcastInDim S16384x2816 ![0, 1] bcast_S1x2816_S16384x2816_0_1 (broadcastInDim S1x2816 ![1] bcast_S2816_S1x2816_1 (shapeCast _ (extractStridedSlice S1x2816 ![0, 0] (m ((c.tc : Thread nD τ).loc main_arg3)) slices_S3x2816_S1x2816_0_0) shapeCasts_S1x2816_S2816))) (extractStridedSlice S16384x2816 ![0, 0] (pdR m c) slices_S16386x2816_S16384x2816_0_0))) (mulf (broadcastInDim S16384x2816 ![0, 1] bcast_S1x2816_S16384x2816_0_1 (broadcastInDim S1x2816 ![1] bcast_S2816_S1x2816_1 (shapeCast _ (extractStridedSlice S1x2816 ![1, 0] (m ((c.tc : Thread nD τ).loc main_arg3)) slices_S3x2816_S1x2816_1_0) shapeCasts_S1x2816_S2816))) (extractStridedSlice S16384x2816 ![1, 0] (pdR m c) slices_S16386x2816_S16384x2816_1_0))) (mulf (broadcastInDim S16384x2816 ![0, 1] bcast_S1x2816_S16384x2816_0_1 (broadcastInDim S1x2816 ![1] bcast_S2816_S1x2816_1 (shapeCast _ (extractStridedSlice S1x2816 ![2, 0] (m ((c.tc : Thread nD τ).loc main_arg3)) slices_S3x2816_S1x2816_2_0) shapeCasts_S1x2816_S2816))) (extractStridedSlice S16384x2816 ![2, 0] (pdR m c) slices_S16386x2816_S16384x2816_2_0))) (broadcastInDim S16384x2816 ![0, 1] bcast_S1x2816_S16384x2816_0_1 (broadcastInDim S1x2816 ![1] bcast_S2816_S1x2816_1 (m ((c.tc : Thread nD τ).loc main_arg4))))
def sgR : FVec Ideal S16384x2816 .f32 := Host.divf (broadcastInDim S16384x2816 ![] bcast_S_S16384x2816 (constant S_ .f32 0x3F800000#32)) (addf (broadcastInDim S16384x2816 ![] bcast_S_S16384x2816 (constant S_ .f32 0x3F800000#32)) (Host.exp (Host.negf (gtR m c))))
def slR : FVec Ideal S16384x2816 .f32 := mulf (gtR m c) (sgR m c)
def z2R : FVec Ideal S16384x1024 .f32 := addf (mulf (broadcastInDim S16384x1024 ![] bcast_S_S16384x1024 (constant S_ .f32 0x3FB504F3#32)) (m ((c.tc : Thread nD τ).loc main_arg0)))
  (Host.dotGeneral (F := Ideal) (φ₁ := .f32) (φ₂ := .f32) dot_S16384x2816_S2816x1024_S16384x1024_1_0_0_1_n_n none (mulf (slR m c) (uvR m c)) (m ((c.tc : Thread nD τ).loc main_arg5)))

theorem sl_eq : res_main_v39 m c = truncf .bf16 (slR m c) bitsLt_bf16_f32 := by sl_kernel_rfl
theorem dsl_eq : res_main_v40 m c = truncf .bf16 (addf (mulf (broadcastInDim S16384x2816 ![] bcast_S_S16384x2816 (constant S_ .f32 0x3F800000#32)) (sgR m c))
    (mulf (mulf (gtR m c) (broadcastInDim S16384x2816 ![] bcast_S_S16384x2816 (constant S_ .f32 0x3F800000#32))) (mulf (sgR m c) (subf (broadcastInDim S16384x2816 ![] bcast_S_S16384x2816 (constant S_ .f32 0x3F800000#32)) (sgR m c))))) bitsLt_bf16_f32 := by sl_kernel_rfl
theorem z2_eq : res_main_v36 m c = z2R m c := by sl_kernel_rfl

theorem ug_at (s : Fin 16384) (f : Fin 2816) : ugR m c (ix2 s f) = prF (xR m c) (wgR m c) s f := by
  pointwise [ugR]; rfl
theorem uv_at (s : Fin 16384) (f : Fin 2816) : uvR m c (ix2 s f) = prF (xR m c) (wvR m c) s f := by
  pointwise [uvR]; rfl

theorem pd_at (s : Fin 16386) (f : Fin 2816) : pdR m c (ix2 s f) = ux (xR m c) (wgR m c) (s.val + 6) f := by
  pointwise [pdR]
  split_ifs with h
  · exact (ux_low _ _ (by omega) f).symm
  · exact (ug_at m c _ f).trans (ux_of _ _ ⟨s.val - 2, by omega⟩ (by show _ = s.val - 2 + 8; omega) f).symm
  · rename_i hh; exact absurd rfl hh

theorem gt_at (s : Fin 16384) (f : Fin 2816) : gtR m c (ix2 s f) = gtF (cR m c) (ux (xR m c) (wgR m c)) s.val f := by
  have h : gtR m c (ix2 s f) = ((cR m c 0 f * pdR m c (ix2 ⟨s.val, by omega⟩ f) + cR m c 1 f * pdR m c (ix2 ⟨1 + s.val, by omega⟩ f)) + cR m c 2 f * pdR m c (ix2 ⟨2 + s.val, by omega⟩ f)) + cR m c 3 f := by
    pointwise [gtR]
    rfl
  rw [h, pd_at, pd_at, pd_at]
  unfold gtF
  rw [show (1 + s.val + 6 : ℕ) = s.val + 7 by omega, show (2 + s.val + 6 : ℕ) = s.val + 8 by omega]
  abel

theorem sg_at (s : Fin 16384) (f : Fin 2816) : sgR m c (ix2 s f) = sgF (gtF (cR m c) (ux (xR m c) (wgR m c)) s.val f) := by
  rw [← gt_at]; pointwise [sgR]; rfl
theorem slR_at (s : Fin 16384) (f : Fin 2816) : slR m c (ix2 s f) = slF (gtF (cR m c) (ux (xR m c) (wgR m c)) s.val f) := by
  have h : slR m c (ix2 s f) = gtR m c (ix2 s f) * sgR m c (ix2 s f) := by pointwise [slR]
  rw [h, gt_at, sg_at]; rfl

theorem sl_at (s : Fin 16384) (f : Fin 2816) : res_main_v39 m c (ix2 s f) = slF (gtF (cR m c) (ux (xR m c) (wgR m c)) s.val f) := by
  rw [sl_eq]; exact slR_at m c s f
theorem dsl_at (s : Fin 16384) (f : Fin 2816) : res_main_v40 m c (ix2 s f) = dsF (gtF (cR m c) (ux (xR m c) (wgR m c)) s.val f) := by
  rw [dsl_eq, ← dsF_eq, ← sg_at, ← gt_at]
  pointwise []
theorem z2R_at (s : Fin 16384) (d : Fin 1024) : z2R m c (ix2 s d) = z2F (xR m c) (wgR m c) (wvR m c) (cR m c) (wdR m c) s d := by
  have h : z2R m c (ix2 s d) = cAl * xR m c s d + ∑ f : Fin 2816, (slR m c (ix2 s f) * uvR m c (ix2 s f)) * wdR m c f d := by
    pointwise [z2R]
    rfl
  rw [h]
  simp only [slR_at, uv_at]
  rfl
theorem z2_at (s : Fin 16384) (d : Fin 1024) : res_main_v36 m c (ix2 s d) = z2F (xR m c) (wgR m c) (wvR m c) (cR m c) (wdR m c) s d := by
  rw [z2_eq]; exact z2R_at m c s d

/-- The layer norm of a matrix's rows. -/
def lnR (Z : FVec Ideal S16384x1024 .f32) : FVec Ideal S16384x1024 .f32 := addf (mulf (mulf (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))))) (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (m ((c.tc : Thread nD τ).loc main_arg6))))) (broadcastInDim S16384x1024 ![0, 1] bcast_S1x1024_S16384x1024_0_1 (broadcastInDim S1x1024 ![1] bcast_S1024_S1x1024_1 (m ((c.tc : Thread nD τ).loc main_arg7))))
theorem x2_eq : res_main_v64 m c = lnR m c (z2R m c) := by sl_kernel_rfl
theorem ln_at (Z : FVec Ideal S16384x1024 .f32) (s : Fin 16384) (d : Fin 1024) : lnR m c Z (ix2 s d) = lnF (gR m c) (bR m c) (fun x => Z (ix2 s x)) d := by
  pointwise [lnR]
  rfl
theorem x2_at (s : Fin 16384) (d : Fin 1024) : res_main_v64 m c (ix2 s d) = x2F (xR m c) (wgR m c) (wvR m c) (cR m c) (wdR m c) (gR m c) (bR m c) s d := by
  rw [x2_eq, ln_at]
  simp only [z2R_at]
  rfl

end Cert.Reference4Ideal.Hand

end
-- ==== Proof.FwdBody.lean ====
module

public import proofs.«01_k».proof.Proof.Gen.Kernel4Ideal.Frame
public import proofs.«01_k».proof.Proof.FfnBody

@[expose] public section

set_option maxRecDepth 16384
set_option maxHeartbeats 4000000

noncomputable section

namespace Cert.Kernel4Ideal.Hand

open Cert.Kernel4Ideal.Gen
open Idealize.ShloMosaic Idealize.ShloMosaic.TcCoe Idealize.ShloMosaic.Tactic
open Idealize.ShloMosaic.Pipeline (Dat Cfg Window)
open Cert.Kernel3Ideal.Hand (groups)

variable {F : FTy → Type} [FloatOps F]

/-! ## What a point leaves, in eleven groups of 256 lanes -/

abbrev rT (q : Fin 11) : Rect S256x2816 := Rect.unit ![0, 256 * q.val] S256x256.size (by revert q; decide)
abbrev rP (q : Fin 11) : Rect S1024x2816 := Rect.unit ![0, 256 * q.val] S1024x256.size (by revert q; decide)
abbrev rS (k : Fin 9) (q : Fin 11) : Rect S264x2816 := Rect.unit ![k.val, 256 * q.val] S256x256.size (by revert k q; decide)
abbrev rC (k : Fin 4) (q : Fin 11) : Rect S8x2816 := Rect.unit ![k.val, 256 * q.val] S1x256.size (by revert k q; decide)
abbrev rV (k : Fin 2) : Rect S8x1024 := Rect.unit ![k.val, 0] S1x1024.size (by revert k; decide)
abbrev rZ : Rect S256x1024 := Rect.unit ![0, 0] S256x1024.size inb_S256x1024_S256x1024_0_0
abbrev rH : Rect S256x2816 := Rect.unit ![0, 0] S256x2816.size inb_S256x2816_S256x2816_0_0
abbrev rD : Rect S2816x1024 := Rect.unit ![0, 0] S2816x1024.size inb_S2816x1024_S2816x1024_0_0
abbrev rE : Rect S264x2816 := Rect.unit ![256, 0] S8x2816.size inb_S264x2816_S8x2816_256_0
abbrev rI : Rect S264x2816 := Rect.unit ![0, 0] S8x2816.size inb_S264x2816_S8x2816_0_0

section forms
variable (v13 : View sig .tc .vmem S264x2816 .f32) (v14 : View sig .tc .vmem S256x2816 .bf16)
  (X1 : Vec F S256x1024 .f32) (X2 X3 : Vec F S1024x2816 .bf16) (X4 : Vec F S8x2816 .f32) (X5 : Vec F S2816x1024 .bf16) (X6 : Vec F S8x1024 .f32)
  (X13 : Vec F S264x2816 .f32) (cr : FVec F S8x2816 .f32)

/-- The gate rows with the eight before them, as far as group `n`. -/
def ubL : ℕ → List (View.Piece (Elt F) S264x2816 .f32)
  | 0 => [⟨rI, cr⟩]
  | n + 1 => ⟨rS 8 (Fin.ofNat 11 n), k0_pay7 (View.ld X1 rZ) (View.ld X2 (rP (Fin.ofNat 11 n)))⟩ :: ubL n
def tapK (k : Fin 9) (q : Fin 11) : Vec F S256x256 .f32 := v13.readCov (ubL X1 X2 cr (q.val + 1)) (rS k q).toLoadRect
def cwK (k : Fin 4) (q : Fin 11) : Vec F S1x256 .f32 := View.ld X4 (rC k q)
def ugP (q : Fin 11) : View.Piece (Elt F) S256x2816 .bf16 := ⟨rT q, k0_pay5 (View.ld X1 rZ) (View.ld X2 (rP q))⟩
def uvP (q : Fin 11) : View.Piece (Elt F) S256x2816 .bf16 := ⟨rT q, k0_pay6 (View.ld X1 rZ) (View.ld X3 (rP q))⟩
def slP (q : Fin 11) : View.Piece (Elt F) S256x2816 .bf16 :=
  ⟨rT q, k0_pay12 (tapK v13 X1 X2 cr 6 q) (tapK v13 X1 X2 cr 7 q) (tapK v13 X1 X2 cr 8 q) (k0_pay8 (cwK X4 3 q)) (cwK X4 2 q) (cwK X4 1 q) (cwK X4 0 q)⟩
def dslP (q : Fin 11) : View.Piece (Elt F) S256x2816 .bf16 :=
  ⟨rT q, k0_pay13 (tapK v13 X1 X2 cr 6 q) (tapK v13 X1 X2 cr 7 q) (tapK v13 X1 X2 cr 8 q) (k0_pay8 (cwK X4 3 q)) (cwK X4 2 q) (cwK X4 1 q) (cwK X4 0 q)⟩
def acP (q : Fin 11) : View.Piece (Elt F) S256x2816 .bf16 :=
  ⟨rT q, k0_pay14 (k0_pay6 (View.ld X1 rZ) (View.ld X3 (rP q))) (tapK v13 X1 X2 cr 6 q) (tapK v13 X1 X2 cr 7 q) (tapK v13 X1 X2 cr 8 q) (k0_pay8 (cwK X4 3 q)) (cwK X4 2 q) (cwK X4 1 q) (cwK X4 0 q)⟩

def ugK : Vec F S256x2816 .bf16 := View.canon (groups (ugP X1 X2))
def uvK : Vec F S256x2816 .bf16 := View.canon (groups (uvP X1 X3))
def slK : Vec F S256x2816 .bf16 := View.canon (groups (slP v13 X1 X2 X4 cr))
def dslK : Vec F S256x2816 .bf16 := View.canon (groups (dslP v13 X1 X2 X4 cr))
def acK : Vec F S256x2816 .bf16 := v14.readCov (groups (acP v13 X1 X2 X3 X4 cr)) rH.toLoadRect
def alK : F .f32 := Scalar.ofBits .f32 0x3FB504F3#32
def z2K : Vec F S256x1024 .f32 := k0_pay119 (View.ld X1 rZ) alK (acK v13 v14 X1 X2 X3 X4 cr) (View.ld X5 rD)
def x2K : Vec F S256x1024 .f32 := k0_pay1 (k0_pay120 (View.ld X1 rZ) alK (acK v13 v14 X1 X2 X3 X4 cr) (View.ld X5 rD)) (k0_pay121 (View.ld X6 (rV 0))) (View.ld X6 (rV 1))
def ubK : Vec F S264x2816 .f32 := View.canon (ubL X1 X2 cr 11)
/-- The eight rows a point takes from the one before it. -/
def carryK : FVec F S8x2816 .f32 := k0_pay3 (View.ld X13 rE)
end forms

section outs
variable (c : Dev nD) (i : grid0.Coords)
  (arg1 : Memref sig .tc .vmem S256x1024 .f32) (harg1 : arg1.IsWhole)
  (arg2 : Memref sig .tc .vmem S1024x2816 .bf16) (harg2 : arg2.IsWhole)
  (arg3 : Memref sig .tc .vmem S1024x2816 .bf16) (harg3 : arg3.IsWhole)
  (arg4 : Memref sig .tc .vmem S8x2816 .f32) (harg4 : arg4.IsWhole)
  (arg5 : Memref sig .tc .vmem S2816x1024 .bf16) (harg5 : arg5.IsWhole)
  (arg6 : Memref sig .tc .vmem S8x1024 .f32) (harg6 : arg6.IsWhole)
  (arg7 : Memref sig .tc .vmem S256x2816 .bf16) (harg7 : arg7.IsWhole)
  (arg8 : Memref sig .tc .vmem S256x2816 .bf16) (harg8 : arg8.IsWhole)
  (arg9 : Memref sig .tc .vmem S256x2816 .bf16) (harg9 : arg9.IsWhole)
  (arg10 : Memref sig .tc .vmem S256x2816 .bf16) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S264x2816 .f32) (harg13 : arg13.IsWhole)
  (arg14 : Memref sig .tc .vmem S256x2816 .bf16) (harg14 : arg14.IsWhole)
  (x0 : Vec F S256x1024 .f32) (x1 : Vec F S1024x2816 .bf16) (x2 : Vec F S1024x2816 .bf16) (x3 : Vec F S8x2816 .f32) (x4 : Vec F S2816x1024 .bf16) (x5 : Vec F S8x1024 .f32) (xs0 : Vec F S264x2816 .f32)

theorem ugK_A (h0 : cond0_0 i) (h1 : ¬cond0_1 i) : out0_A_6 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = ugK x0 x1 := by
  have h : out0_A_6 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = ugK (arg1.view.read (Elt F) (harg1.unread x0)) (arg2.view.read (Elt F) (harg2.unread x1)) := by
    have hl : (kernelRun0_A c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5).1 = groups (ugP (arg1.view.read (Elt F) (harg1.unread x0)) (arg2.view.read (Elt F) (harg2.unread x1))) := by sl_kernel_rfl
    exact (View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans (congrArg View.canon hl)
  simp only [Memref.IsWhole.read_unread] at h; exact h
theorem uvK_A (h0 : cond0_0 i) (h1 : ¬cond0_1 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = uvK x0 x2 := by
  have h : out0_A_7 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = uvK (arg1.view.read (Elt F) (harg1.unread x0)) (arg3.view.read (Elt F) (harg3.unread x2)) := by
    have hl : (kernelRun0_A c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5).2.1 = groups (uvP (arg1.view.read (Elt F) (harg1.unread x0)) (arg3.view.read (Elt F) (harg3.unread x2))) := by sl_kernel_rfl
    exact (View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans (congrArg View.canon hl)
  simp only [Memref.IsWhole.read_unread] at h; exact h
theorem slK_A (h0 : cond0_0 i) (h1 : ¬cond0_1 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = slK arg13.view x0 x1 x3 k0_pay2 := by
  have h : out0_A_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = slK arg13.view (arg1.view.read (Elt F) (harg1.unread x0)) (arg2.view.read (Elt F) (harg2.unread x1)) (arg4.view.read (Elt F) (harg4.unread x3)) k0_pay2 := by
    have hl : (kernelRun0_A c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5).2.2.1 = groups (slP arg13.view (arg1.view.read (Elt F) (harg1.unread x0)) (arg2.view.read (Elt F) (harg2.unread x1)) (arg4.view.read (Elt F) (harg4.unread x3)) k0_pay2) := by sl_kernel_rfl
    exact (View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans (congrArg View.canon hl)
  simp only [Memref.IsWhole.read_unread] at h; exact h
theorem dslK_A (h0 : cond0_0 i) (h1 : ¬cond0_1 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = dslK arg13.view x0 x1 x3 k0_pay2 := by
  have h : out0_A_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = dslK arg13.view (arg1.view.read (Elt F) (harg1.unread x0)) (arg2.view.read (Elt F) (harg2.unread x1)) (arg4.view.read (Elt F) (harg4.unread x3)) k0_pay2 := by
    have hl : (kernelRun0_A c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5).2.2.2.1 = groups (dslP arg13.view (arg1.view.read (Elt F) (harg1.unread x0)) (arg2.view.read (Elt F) (harg2.unread x1)) (arg4.view.read (Elt F) (harg4.unread x3)) k0_pay2) := by sl_kernel_rfl
    exact (View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans (congrArg View.canon hl)
  simp only [Memref.IsWhole.read_unread] at h; exact h
theorem z2K_A (h0 : cond0_0 i) (h1 : ¬cond0_1 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = z2K arg13.view arg14.view x0 x1 x2 x3 x4 k0_pay2 := by
  have h : out0_A_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) k0_pay2 := (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans ((congrArg View.canon (by sl_kernel_rfl : _ = [(⟨rZ, z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) k0_pay2⟩ : View.Piece (Elt F) S256x1024 .f32)])).trans (View.canon_cons_unit_lit _ _ [] (by decide)))
  simp only [Memref.IsWhole.read_unread] at h; exact h
theorem x2K_A (h0 : cond0_0 i) (h1 : ¬cond0_1 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = x2K arg13.view arg14.view x0 x1 x2 x3 x4 x5 k0_pay2 := by
  have h : out0_A_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = x2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) k0_pay2 := (View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans ((congrArg View.canon (by sl_kernel_rfl : _ = [(⟨rZ, x2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) k0_pay2⟩ : View.Piece (Elt F) S256x1024 .f32)])).trans (View.canon_cons_unit_lit _ _ [] (by decide)))
  simp only [Memref.IsWhole.read_unread] at h; exact h
theorem ubK_A (h0 : cond0_0 i) (h1 : ¬cond0_1 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = ubK x0 x1 k0_pay2 := by
  have h : sout0_A_0 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 = ubK (arg1.view.read (Elt F) (harg1.unread x0)) (arg2.view.read (Elt F) (harg2.unread x1)) k0_pay2 := by
    have hl : (kernelRun0_A c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5).2.2.2.2.2.2.1 = ubL (arg1.view.read (Elt F) (harg1.unread x0)) (arg2.view.read (Elt F) (harg2.unread x1)) k0_pay2 11 := by sl_kernel_rfl
    exact (View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5)).trans (congrArg View.canon hl)
  simp only [Memref.IsWhole.read_unread] at h; exact h

theorem ugK_B (h0 : ¬cond0_0 i) (h1 : cond0_1 i) : out0_B_6 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = ugK x0 x1 := by
  have h : out0_B_6 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = ugK (arg1.view.read (Elt F) (harg1.unread x0)) (arg2.view.read (Elt F) (harg2.unread x1)) := by
    have hl : (kernelRun0_B c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0).1 = groups (ugP (arg1.view.read (Elt F) (harg1.unread x0)) (arg2.view.read (Elt F) (harg2.unread x1))) := by sl_kernel_rfl
    exact (View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans (congrArg View.canon hl)
  simp only [Memref.IsWhole.read_unread] at h; exact h
theorem uvK_B (h0 : ¬cond0_0 i) (h1 : cond0_1 i) : out0_B_7 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = uvK x0 x2 := by
  have h : out0_B_7 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = uvK (arg1.view.read (Elt F) (harg1.unread x0)) (arg3.view.read (Elt F) (harg3.unread x2)) := by
    have hl : (kernelRun0_B c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0).2.1 = groups (uvP (arg1.view.read (Elt F) (harg1.unread x0)) (arg3.view.read (Elt F) (harg3.unread x2))) := by sl_kernel_rfl
    exact (View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans (congrArg View.canon hl)
  simp only [Memref.IsWhole.read_unread] at h; exact h
theorem slK_B (h0 : ¬cond0_0 i) (h1 : cond0_1 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = slK arg13.view x0 x1 x3 (carryK xs0) := by
  have h : out0_B_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = slK arg13.view (arg1.view.read (Elt F) (harg1.unread x0)) (arg2.view.read (Elt F) (harg2.unread x1)) (arg4.view.read (Elt F) (harg4.unread x3)) (carryK (arg13.view.read (Elt F) (harg13.unread xs0))) := by
    have hl : (kernelRun0_B c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0).2.2.1 = groups (slP arg13.view (arg1.view.read (Elt F) (harg1.unread x0)) (arg2.view.read (Elt F) (harg2.unread x1)) (arg4.view.read (Elt F) (harg4.unread x3)) (carryK (arg13.view.read (Elt F) (harg13.unread xs0)))) := by sl_kernel_rfl
    exact (View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans (congrArg View.canon hl)
  simp only [Memref.IsWhole.read_unread] at h; exact h
theorem dslK_B (h0 : ¬cond0_0 i) (h1 : cond0_1 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = dslK arg13.view x0 x1 x3 (carryK xs0) := by
  have h : out0_B_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = dslK arg13.view (arg1.view.read (Elt F) (harg1.unread x0)) (arg2.view.read (Elt F) (harg2.unread x1)) (arg4.view.read (Elt F) (harg4.unread x3)) (carryK (arg13.view.read (Elt F) (harg13.unread xs0))) := by
    have hl : (kernelRun0_B c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0).2.2.2.1 = groups (dslP arg13.view (arg1.view.read (Elt F) (harg1.unread x0)) (arg2.view.read (Elt F) (harg2.unread x1)) (arg4.view.read (Elt F) (harg4.unread x3)) (carryK (arg13.view.read (Elt F) (harg13.unread xs0)))) := by sl_kernel_rfl
    exact (View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans (congrArg View.canon hl)
  simp only [Memref.IsWhole.read_unread] at h; exact h
theorem z2K_B (h0 : ¬cond0_0 i) (h1 : cond0_1 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = z2K arg13.view arg14.view x0 x1 x2 x3 x4 (carryK xs0) := by
  have h : out0_B_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (carryK (arg13.view.read (Elt F) (harg13.unread xs0))) := (View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans ((congrArg View.canon (by sl_kernel_rfl : _ = [(⟨rZ, z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (carryK (arg13.view.read (Elt F) (harg13.unread xs0)))⟩ : View.Piece (Elt F) S256x1024 .f32)])).trans (View.canon_cons_unit_lit _ _ [] (by decide)))
  simp only [Memref.IsWhole.read_unread] at h; exact h
theorem x2K_B (h0 : ¬cond0_0 i) (h1 : cond0_1 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = x2K arg13.view arg14.view x0 x1 x2 x3 x4 x5 (carryK xs0) := by
  have h : out0_B_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = x2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (carryK (arg13.view.read (Elt F) (harg13.unread xs0))) := (View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans ((congrArg View.canon (by sl_kernel_rfl : _ = [(⟨rZ, x2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (carryK (arg13.view.read (Elt F) (harg13.unread xs0)))⟩ : View.Piece (Elt F) S256x1024 .f32)])).trans (View.canon_cons_unit_lit _ _ [] (by decide)))
  simp only [Memref.IsWhole.read_unread] at h; exact h
theorem ubK_B (h0 : ¬cond0_0 i) (h1 : cond0_1 i) : sout0_B_0 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = ubK x0 x1 (carryK xs0) := by
  have h : sout0_B_0 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0 = ubK (arg1.view.read (Elt F) (harg1.unread x0)) (arg2.view.read (Elt F) (harg2.unread x1)) (carryK (arg13.view.read (Elt F) (harg13.unread xs0))) := by
    have hl : (kernelRun0_B c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0).2.2.2.2.2.2.1 = ubL (arg1.view.read (Elt F) (harg1.unread x0)) (arg2.view.read (Elt F) (harg2.unread x1)) (carryK (arg13.view.read (Elt F) (harg13.unread xs0))) 11 := by sl_kernel_rfl
    exact (View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 h0 h1 x0 x1 x2 x3 x4 x5 xs0)).trans (congrArg View.canon hl)
  simp only [Memref.IsWhole.read_unread] at h; exact h

end outs

/-! ## Point by point -/

variable (m : (ℓ : Loc nD τ sig) → Buf (Elt F) ℓ)

/-- The rows of the gate a point takes over. -/
def crS (c : Dev nD) (t : Fin cfg0.N) : FVec F S8x2816 .f32 :=
  if t.val = 0 then k0_pay2 else carryK (outsAt0 m c (t.val - 1) (Nat.lt_of_le_of_lt (Nat.sub_le _ _) t.isLt)).2.2.2.2.2.2

theorem outs_eq (c : Dev nD) (t : Fin cfg0.N) : outsAt0 m c t.val t.isLt = (ugK (iblk m c 0 t) (iblk m c 1 t), uvK (iblk m c 0 t) (iblk m c 2 t), slK scM0_0.view (iblk m c 0 t) (iblk m c 1 t) (iblk m c 3 t) (crS m c t), dslK scM0_0.view (iblk m c 0 t) (iblk m c 1 t) (iblk m c 3 t) (crS m c t), z2K scM0_0.view scM0_1.view (iblk m c 0 t) (iblk m c 1 t) (iblk m c 2 t) (iblk m c 3 t) (iblk m c 4 t) (crS m c t), x2K scM0_0.view scM0_1.view (iblk m c 0 t) (iblk m c 1 t) (iblk m c 2 t) (iblk m c 3 t) (iblk m c 4 t) (iblk m c 5 t) (crS m c t), ubK (iblk m c 0 t) (iblk m c 1 t) (crS m c t)) := by
  have ht : t.val < 64 := lt_of_lt_of_eq t.isLt N_0
  by_cases h : t.val = 0
  · have e : crS m c t = k0_pay2 := by rw [crS, if_pos h]
    rw [e, outsAt0_A m c t (by omega) (by omega)]
    simp only [ugK_A, uvK_A, slK_A, dslK_A, z2K_A, x2K_A, ubK_A]
  · have e : crS m c t = carryK (outsAt0 m c (t.val - 1) (Nat.lt_of_le_of_lt (Nat.sub_le _ _) t.isLt)).2.2.2.2.2.2 := by rw [crS, if_neg h]
    rw [e, outsAt0_B m c t (by omega) (by omega)]
    simp only [ugK_B, uvK_B, slK_B, dslK_B, z2K_B, x2K_B, ubK_B]

end Cert.Kernel4Ideal.Hand

end
-- ==== Proof.FwdForm.lean ====
module

public import proofs.«01_k».proof.Proof.FwdBody
public import proofs.«01_k».proof.Proof.FwdMath
public import proofs.«01_k».proof.Proof.FfnForm

@[expose] public section

set_option maxRecDepth 16384
set_option maxHeartbeats 4000000

noncomputable section

namespace Cert.Kernel4Ideal.Hand

open Cert.Kernel4Ideal Cert.Kernel4Ideal.Gen
open Idealize.ShloMosaic Idealize.ShloMosaic.TcCoe Idealize.SL.Sem
open Cert.Ffn (zc vr)
open Cert.Fwd
open Cert.Kernel3Ideal.Hand (groups col col_surj mem_groups two)

section
variable (T6 T7 T8 : Vec Ideal S256x256 .f32) (b3 : FVec Ideal S1x256 .f32) (c2 c1 c0 : Vec Ideal S1x256 .f32)

theorem pay9_at (a b : Fin 256) : k0_pay9 T6 T7 T8 b3 c2 c1 c0 (ix2 a b)
    = (fun w3 w2 w1 w0 x y z : EReal => ((w3 + w2 * z) + w1 * y) + w0 * x) (b3 (ix2 0 b)) (c2 (ix2 0 b)) (c1 (ix2 0 b)) (c0 (ix2 0 b)) (T6 (ix2 a b)) (T7 (ix2 a b)) (T8 (ix2 a b)) := by
  pointwise [k0_pay9]
theorem pay10_at (a b : Fin 256) : k0_pay10 T6 T7 T8 b3 c2 c1 c0 (ix2 a b) = sgF (k0_pay9 T6 T7 T8 b3 c2 c1 c0 (ix2 a b)) := by
  pointwise [k0_pay10]
  unfold sgF
  rw [← zero_sub]
  try rfl
theorem pay11_at (a b : Fin 256) : k0_pay11 T6 T7 T8 b3 c2 c1 c0 (ix2 a b) = slF (k0_pay9 T6 T7 T8 b3 c2 c1 c0 (ix2 a b)) := by
  unfold slF
  rw [← pay10_at]
  pointwise [k0_pay11]
theorem pay12_at (a b : Fin 256) : k0_pay12 T6 T7 T8 b3 c2 c1 c0 (ix2 a b) = slF (k0_pay9 T6 T7 T8 b3 c2 c1 c0 (ix2 a b)) := by
  rw [← pay11_at]
  pointwise [k0_pay12]
theorem pay13_at (a b : Fin 256) : k0_pay13 T6 T7 T8 b3 c2 c1 c0 (ix2 a b) = dsF (k0_pay9 T6 T7 T8 b3 c2 c1 c0 (ix2 a b)) := by
  unfold dsF
  rw [← pay10_at]
  pointwise [k0_pay13]
theorem pay14_at (p : FVec Ideal S256x256 .bf16) (a b : Fin 256) : k0_pay14 p T6 T7 T8 b3 c2 c1 c0 (ix2 a b)
    = (fun x y : EReal => x * y) (slF (k0_pay9 T6 T7 T8 b3 c2 c1 c0 (ix2 a b))) (p (ix2 a b)) := by
  rw [← pay11_at]
  pointwise [k0_pay14]
end

theorem embT (q : Fin 11) (a b : Fin 256) : (rT q).emb (ix2 a b) = ix2 a (col q b) := by blk_ext [col]
theorem embP (q : Fin 11) (a : Fin 1024) (b : Fin 256) : (rP q).emb (ix2 a b) = ix2 a (col q b) := by blk_ext [col]
theorem embC (k : Fin 4) (q : Fin 11) (b : Fin 256) : (rC k q).emb (ix2 0 b) = ix2 ⟨k.val, by omega⟩ (col q b) := by blk_ext [col]
theorem embV (k : Fin 2) (d : Fin 1024) : (rV k).emb (ix2 0 d) = ix2 ⟨k.val, by omega⟩ d := by blk_ext
theorem embS (k : Fin 9) (q : Fin 11) (a b : Fin 256) : (rS k q).emb (ix2 a b) = ix2 ⟨k.val + a.val, by omega⟩ (col q b) := by blk_ext [col]
theorem embZ (a : Fin 256) (d : Fin 1024) : rZ.emb (ix2 a d) = ix2 a d := by blk_ext
theorem embH (a : Fin 256) (f : Fin 2816) : rH.emb (ix2 a f) = ix2 a f := by blk_ext
theorem embD (f : Fin 2816) (d : Fin 1024) : rD.emb (ix2 f d) = ix2 f d := by blk_ext
theorem embE (a : Fin 8) (f : Fin 2816) : rE.emb (ix2 a f) = ix2 ⟨256 + a.val, by omega⟩ f := by blk_ext
theorem embI (a : Fin 8) (f : Fin 2816) : rI.emb (ix2 a f) = ix2 ⟨a.val, by omega⟩ f := by blk_ext
theorem ldP (X : Vec Ideal S1024x2816 .bf16) (q : Fin 11) (a : Fin 1024) (b : Fin 256) : View.ld X (rP q) (ix2 a b) = X (ix2 a (col q b)) := congrArg X (embP q a b)
theorem ldC (X : Vec Ideal S8x2816 .f32) (k : Fin 4) (q : Fin 11) (b : Fin 256) : View.ld X (rC k q) (ix2 0 b) = X (ix2 ⟨k.val, by omega⟩ (col q b)) := congrArg X (embC k q b)
theorem ldV (X : Vec Ideal S8x1024 .f32) (k : Fin 2) (d : Fin 1024) : View.ld X (rV k) (ix2 0 d) = X (ix2 ⟨k.val, by omega⟩ d) := congrArg X (embV k d)
theorem ldZ (X : Vec Ideal S256x1024 .f32) (a : Fin 256) (d : Fin 1024) : View.ld X rZ (ix2 a d) = X (ix2 a d) := congrArg X (embZ a d)
theorem ldD (X : Vec Ideal S2816x1024 .bf16) (f : Fin 2816) (d : Fin 1024) : View.ld X rD (ix2 f d) = X (ix2 f d) := congrArg X (embD f d)

section
variable (v13 : View sig .tc .vmem S264x2816 .f32) (v14 : View sig .tc .vmem S256x2816 .bf16)
  (X1 : Vec Ideal S256x1024 .f32) (X2 X3 : Vec Ideal S1024x2816 .bf16) (X4 : Vec Ideal S8x2816 .f32) (X5 : Vec Ideal S2816x1024 .bf16) (X6 : Vec Ideal S8x1024 .f32)
  (X13 : Vec Ideal S264x2816 .f32) (cr : FVec Ideal S8x2816 .f32)

theorem ug_cover : ∀ y, ∃ p ∈ groups (ugP X1 X2), y ∈ p.1.set := View.cover_of_tiledBy _ ![256, 256] (by sl_kernel_rfl)
theorem uv_cover : ∀ y, ∃ p ∈ groups (uvP X1 X3), y ∈ p.1.set := View.cover_of_tiledBy _ ![256, 256] (by sl_kernel_rfl)
theorem sl_cover : ∀ y, ∃ p ∈ groups (slP v13 X1 X2 X4 cr), y ∈ p.1.set := View.cover_of_tiledBy _ ![256, 256] (by sl_kernel_rfl)
theorem dsl_cover : ∀ y, ∃ p ∈ groups (dslP v13 X1 X2 X4 cr), y ∈ p.1.set := View.cover_of_tiledBy _ ![256, 256] (by sl_kernel_rfl)
theorem ac_cover : ∀ y, ∃ p ∈ groups (acP v13 X1 X2 X3 X4 cr), y ∈ p.1.set := View.cover_of_tiledBy _ ![256, 256] (by sl_kernel_rfl)
theorem ub_cover : ∀ y, ∃ p ∈ ubL X1 X2 cr 11, y ∈ p.1.set := View.cover_of_tiledBy _ ![8, 256] (by sl_kernel_rfl)

theorem carryK_at (r : Fin 8) (f : Fin 2816) : carryK X13 (ix2 r f) = X13 (ix2 ⟨256 + r.val, by omega⟩ f) := by
  refine Eq.trans (?_ : _ = View.ld X13 rE (ix2 r f)) (congrArg X13 (embE r f))
  pointwise [carryK, k0_pay3]

variable {Xr : Fin 256 → Fin 1024 → EReal} (h1 : ∀ a d, X1 (ix2 a d) = Xr a d)
include h1

theorem pay5_at {W : Fin 1024 → Fin 2816 → EReal} (h2 : ∀ d f, X2 (ix2 d f) = W d f) (q : Fin 11) (a b : Fin 256) :
    k0_pay5 (View.ld X1 rZ) (View.ld X2 (rP q)) (ix2 a b) = ∑ d, Xr a d * W d (col q b) := by
  simp only [← h1, ← h2, ← ldP X2 q, ← ldZ X1]
  pointwise [k0_pay5, k0_pay4]
theorem pay6_at {W : Fin 1024 → Fin 2816 → EReal} (h3 : ∀ d f, X3 (ix2 d f) = W d f) (q : Fin 11) (a b : Fin 256) :
    k0_pay6 (View.ld X1 rZ) (View.ld X3 (rP q)) (ix2 a b) = ∑ d, Xr a d * W d (col q b) := by
  simp only [← h1, ← h3, ← ldP X3 q, ← ldZ X1]
  pointwise [k0_pay6, k0_pay4]

theorem ugK_at {W : Fin 1024 → Fin 2816 → EReal} (h2 : ∀ d f, X2 (ix2 d f) = W d f) (a : Fin 256) (f : Fin 2816) : ugK X1 X2 (ix2 a f) = ∑ d, Xr a d * W d f := by
  refine View.canon_apply_of_pieces (fun y : S256x2816.Idx => ((∑ d, Xr (y 0) d * W d (y 1)) : Elt Ideal .bf16)) _ ?_ _ (ug_cover X1 X2 _)
  intro p hp x
  obtain ⟨q, rfl⟩ := mem_groups hp
  obtain ⟨a, b, rfl⟩ : ∃ (a b : Fin 256), x = ix2 a b := ⟨x 0, x 1, eq_ix2 x⟩
  exact (pay5_at X1 X2 h1 h2 q a b).trans (congrArg (fun y : S256x2816.Idx => ∑ d, Xr (y 0) d * W d (y 1)) (embT q a b)).symm
theorem uvK_at {W : Fin 1024 → Fin 2816 → EReal} (h3 : ∀ d f, X3 (ix2 d f) = W d f) (a : Fin 256) (f : Fin 2816) : uvK X1 X3 (ix2 a f) = ∑ d, Xr a d * W d f := by
  refine View.canon_apply_of_pieces (fun y : S256x2816.Idx => ((∑ d, Xr (y 0) d * W d (y 1)) : Elt Ideal .bf16)) _ ?_ _ (uv_cover X1 X3 _)
  intro p hp x
  obtain ⟨q, rfl⟩ := mem_groups hp
  obtain ⟨a, b, rfl⟩ : ∃ (a b : Fin 256), x = ix2 a b := ⟨x 0, x 1, eq_ix2 x⟩
  exact (pay6_at X1 X3 h1 h3 q a b).trans (congrArg (fun y : S256x2816.Idx => ∑ d, Xr (y 0) d * W d (y 1)) (embT q a b)).symm

variable {W : Fin 1024 → Fin 2816 → EReal} (h2 : ∀ d f, X2 (ix2 d f) = W d f)
  {U : ℕ → Fin 2816 → EReal} (hU : ∀ (a : Fin 256) f, (∑ d, Xr a d * W d f) = U (8 + a.val) f) (hcr : ∀ (r : Fin 8) f, cr (ix2 r f) = U r.val f)
include h2 hU hcr

theorem ubL_pieces : ∀ n ≤ 11, ∀ p ∈ ubL X1 X2 cr n, ∀ x : p.1.shape.Idx, p.2 x = two (n := 264) U (p.1.emb x)
  | 0, _, p, hp, x => by
    simp only [ubL, List.mem_cons, List.not_mem_nil, or_false] at hp
    subst hp
    obtain ⟨a, f, rfl⟩ : ∃ (a : Fin 8) (f : Fin 2816), x = ix2 a f := ⟨x 0, x 1, eq_ix2 x⟩
    exact (hcr a f).trans (congrArg (two (n := 264) U) (embI a f)).symm
  | n + 1, hn, p, hp, x => by
    rw [ubL, List.mem_cons] at hp
    rcases hp with rfl | hp
    · obtain ⟨a, b, rfl⟩ : ∃ (a b : Fin 256), x = ix2 a b := ⟨x 0, x 1, eq_ix2 x⟩
      refine Eq.trans (?_ : _ = k0_pay5 (View.ld X1 rZ) (View.ld X2 (rP (Fin.ofNat 11 n))) (ix2 a b)) ((pay5_at X1 X2 h1 h2 _ a b).trans ((hU a _).trans ?_))
      · pointwise [k0_pay7]
      · exact (congrArg (two (n := 264) U) (embS 8 (Fin.ofNat 11 n) a b)).symm
    · exact ubL_pieces n (Nat.le_of_succ_le hn) p hp x

theorem ubK_at (r : Fin 264) (f : Fin 2816) : ubK X1 X2 cr (ix2 r f) = U r.val f := by
  unfold ubK
  exact View.canon_apply_of_pieces (two (n := 264) U : S264x2816.Idx → Elt Ideal .f32) _ (ubL_pieces X1 X2 cr h1 h2 hU hcr 11 le_rfl) _ (ub_cover X1 X2 cr _)

omit h1 h2 hU hcr in
theorem ubL_last : ∀ n, ⟨rI, cr⟩ ∈ ubL X1 X2 cr n
  | 0 => by rw [ubL]; exact List.mem_singleton.mpr rfl
  | n + 1 => by rw [ubL]; exact List.mem_cons_of_mem _ (ubL_last n)

theorem tapK_at (k : Fin 9) (q : Fin 11) (a b : Fin 256) : tapK v13 X1 X2 cr k q (ix2 a b) = U (k.val + a.val) (col q b) := by
  unfold tapK
  rw [View.readCov_eq_canon']
  refine (View.canon_apply_of_pieces (two (n := 264) U : S264x2816.Idx → Elt Ideal .f32) _ (ubL_pieces X1 X2 cr h1 h2 hU hcr _ (by omega)) _ ?_).trans (congrArg (two (n := 264) U) (embS k q a b))
  show ∃ p ∈ ubL X1 X2 cr (q.val + 1), (rS k q).emb (ix2 a b) ∈ p.1.set
  rw [embS k q a b]
  by_cases h : 8 ≤ k.val + a.val
  · refine ⟨_, by rw [ubL]; exact List.mem_cons_self, ?_⟩
    have e : Fin.ofNat 11 q.val = q := Fin.ext (Nat.mod_eq_of_lt q.isLt)
    show _ ∈ (rS 8 (Fin.ofNat 11 q.val)).set
    rw [e]
    refine Rect.mem_set_unit.mpr fun i => ?_
    fin_cases i
    · show 8 ≤ k.val + a.val ∧ k.val + a.val < 8 + 256
      omega
    · show 256 * q.val ≤ 256 * q.val + b.val ∧ 256 * q.val + b.val < 256 * q.val + 256
      omega
  · refine ⟨_, ubL_last X1 X2 cr (q.val + 1), ?_⟩
    show _ ∈ rI.set
    refine Rect.mem_set_unit.mpr fun i => ?_
    fin_cases i
    · show 0 ≤ k.val + a.val ∧ k.val + a.val < 0 + 8
      omega
    · show 0 ≤ 256 * q.val + b.val ∧ 256 * q.val + b.val < 0 + 2816
      omega

variable {C : ℕ → Fin 2816 → EReal} (h4 : ∀ (k : Fin 4) f, X4 (ix2 ⟨k.val, by omega⟩ f) = C k.val f)
include h4

theorem gate_at (q : Fin 11) (a b : Fin 256) : k0_pay9 (tapK v13 X1 X2 cr 6 q) (tapK v13 X1 X2 cr 7 q) (tapK v13 X1 X2 cr 8 q) (k0_pay8 (cwK X4 3 q)) (cwK X4 2 q) (cwK X4 1 q) (cwK X4 0 q) (ix2 a b)
    = gtF C U a.val (col q b) := by
  have e (k : Fin 4) : cwK X4 k q (ix2 0 b) = C k.val (col q b) := (ldC X4 k q b).trans (h4 k _)
  have e3 : k0_pay8 (cwK X4 3 q) (ix2 0 b) = C 3 (col q b) := by
    refine Eq.trans (?_ : _ = cwK X4 3 q (ix2 0 b)) (e 3)
    pointwise [k0_pay8]
  rw [pay9_at, e3, e 2, e 1, e 0, tapK_at v13 X1 X2 cr h1 h2 hU hcr, tapK_at v13 X1 X2 cr h1 h2 hU hcr, tapK_at v13 X1 X2 cr h1 h2 hU hcr]
  show ((C 3 (col q b) + C 2 (col q b) * U (8 + a.val) (col q b)) + C 1 (col q b) * U (7 + a.val) (col q b)) + C 0 (col q b) * U (6 + a.val) (col q b) = _
  unfold gtF
  rw [Nat.add_comm 8, Nat.add_comm 7, Nat.add_comm 6]

theorem slK_at (a : Fin 256) (f : Fin 2816) : slK v13 X1 X2 X4 cr (ix2 a f) = slF (gtF C U a.val f) := by
  refine View.canon_apply_of_pieces (fun y : S256x2816.Idx => (slF (gtF C U (y 0).val (y 1)) : Elt Ideal .bf16)) _ ?_ _ (sl_cover v13 X1 X2 X4 cr _)
  intro p hp x
  obtain ⟨q, rfl⟩ := mem_groups hp
  obtain ⟨a, b, rfl⟩ : ∃ (a b : Fin 256), x = ix2 a b := ⟨x 0, x 1, eq_ix2 x⟩
  refine ((pay12_at _ _ _ _ _ _ _ a b).trans (congrArg slF (gate_at v13 X1 X2 X4 cr h1 h2 hU hcr h4 q a b))).trans
    (congrArg (fun y : S256x2816.Idx => slF (gtF C U (y 0).val (y 1))) (embT q a b)).symm
theorem dslK_at (a : Fin 256) (f : Fin 2816) : dslK v13 X1 X2 X4 cr (ix2 a f) = dsF (gtF C U a.val f) := by
  refine View.canon_apply_of_pieces (fun y : S256x2816.Idx => (dsF (gtF C U (y 0).val (y 1)) : Elt Ideal .bf16)) _ ?_ _ (dsl_cover v13 X1 X2 X4 cr _)
  intro p hp x
  obtain ⟨q, rfl⟩ := mem_groups hp
  obtain ⟨a, b, rfl⟩ : ∃ (a b : Fin 256), x = ix2 a b := ⟨x 0, x 1, eq_ix2 x⟩
  refine ((pay13_at _ _ _ _ _ _ _ a b).trans (congrArg dsF (gate_at v13 X1 X2 X4 cr h1 h2 hU hcr h4 q a b))).trans
    (congrArg (fun y : S256x2816.Idx => dsF (gtF C U (y 0).val (y 1))) (embT q a b)).symm

variable {W' : Fin 1024 → Fin 2816 → EReal} (h3 : ∀ d f, X3 (ix2 d f) = W' d f)
include h3
theorem acK_at (a : Fin 256) (f : Fin 2816) : acK v13 v14 X1 X2 X3 X4 cr (ix2 a f) = slF (gtF C U a.val f) * ∑ d, Xr a d * W' d f := by
  unfold acK
  rw [View.readCov_eq_canon']
  refine (View.canon_apply_of_pieces (fun y : S256x2816.Idx => (slF (gtF C U (y 0).val (y 1)) * ∑ d, Xr (y 0) d * W' d (y 1) : Elt Ideal .bf16)) _ ?_ _ (ac_cover v13 X1 X2 X3 X4 cr _)).trans
    (congrArg (fun y : S256x2816.Idx => slF (gtF C U (y 0).val (y 1)) * ∑ d, Xr (y 0) d * W' d (y 1)) (embH a f))
  intro p hp x
  obtain ⟨q, rfl⟩ := mem_groups hp
  obtain ⟨a, b, rfl⟩ : ∃ (a b : Fin 256), x = ix2 a b := ⟨x 0, x 1, eq_ix2 x⟩
  refine ((pay14_at _ _ _ _ _ _ _ _ a b).trans (congrArg₂ (fun x y : EReal => slF x * y) (gate_at v13 X1 X2 X4 cr h1 h2 hU hcr h4 q a b) (pay6_at X1 X3 h1 h3 q a b))).trans
    (congrArg (fun y : S256x2816.Idx => slF (gtF C U (y 0).val (y 1)) * ∑ d, Xr (y 0) d * W' d (y 1)) (embT q a b)).symm

variable {Wd : Fin 2816 → Fin 1024 → EReal} (h5 : ∀ f d, X5 (ix2 f d) = Wd f d)
include h5
theorem z2K_at (a : Fin 256) (d : Fin 1024) : z2K v13 v14 X1 X2 X3 X4 X5 cr (ix2 a d)
    = cAl * Xr a d + ∑ f, (slF (gtF C U a.val f) * ∑ d, Xr a d * W' d f) * Wd f d := by
  have h : z2K v13 v14 X1 X2 X3 X4 X5 cr (ix2 a d) = (fun (x : EReal) (y : Fin 2816 → EReal) (z : Fin 2816 → EReal) => cAl * x + ∑ f, y f * z f)
      (View.ld X1 rZ (ix2 a d)) (fun f => acK v13 v14 X1 X2 X3 X4 cr (ix2 a f)) (fun f => View.ld X5 rD (ix2 f d)) := by
    pointwise [z2K, k0_pay119]
    rfl
  rw [h, ldZ, h1, funext fun f => acK_at v13 v14 X1 X2 X3 X4 cr h1 h2 hU hcr h4 h3 a f, funext fun f => (ldD X5 f d).trans (h5 f d)]
omit h1 h2 hU hcr h4 h3 h5 in
theorem pay120_at (v6 : Vec Ideal S256x1024 .f32) (al : Ideal .f32) (A : Vec Ideal S256x2816 .bf16) (D : Vec Ideal S2816x1024 .bf16) (a : Fin 256) (d : Fin 1024) :
    k0_pay120 v6 al A D (ix2 a d) = zc (fun x => k0_pay119 v6 al A D (ix2 a x)) d * Ideal.rsqrt (vr (fun x => k0_pay119 v6 al A D (ix2 a x))) := by
  pointwise [k0_pay120]
  rfl
theorem x2K_at {G B : Fin 1024 → EReal} (h6 : ∀ d, X6 (ix2 0 d) = G d) (h6' : ∀ d, X6 (ix2 1 d) = B d) (a : Fin 256) (d : Fin 1024) :
    x2K v13 v14 X1 X2 X3 X4 X5 X6 cr (ix2 a d) = lnF G B (fun d => cAl * Xr a d + ∑ f, (slF (gtF C U a.val f) * ∑ d, Xr a d * W' d f) * Wd f d) d := by
  have h : x2K v13 v14 X1 X2 X3 X4 X5 X6 cr (ix2 a d) = (fun x y z : EReal => x * y + z)
      (k0_pay120 (View.ld X1 rZ) alK (acK v13 v14 X1 X2 X3 X4 cr) (View.ld X5 rD) (ix2 a d)) (View.ld X6 (rV 0) (ix2 0 d)) (View.ld X6 (rV 1) (ix2 0 d)) := by
    pointwise [x2K, k0_pay1, k0_pay121]
  rw [h, pay120_at, ldV X6 0 d, ldV X6 1 d]
  have e := funext fun d => z2K_at v13 v14 X1 X2 X3 X4 X5 cr h1 h2 hU hcr h4 h3 h5 a d
  unfold z2K at e
  rw [e]
  unfold lnF
  rw [← h6, ← h6']
  rfl
end

end Cert.Kernel4Ideal.Hand

end
-- ==== Proof.FwdValue.lean ====
module

public import proofs.«01_k».proof.Proof.FwdRef
public import proofs.«01_k».proof.Proof.FwdForm

@[expose] public section

set_option maxRecDepth 16384
set_option maxHeartbeats 4000000

noncomputable section

namespace Cert.Kernel4Ideal.Hand

open Cert.Kernel4Ideal Cert.Kernel4Ideal.Gen
open Idealize.ShloMosaic Idealize.ShloMosaic.TcCoe Idealize.SL.Sem
open Idealize.ShloMosaic.Pipeline (Dat)
open Cert.Fwd
open Cert.Reference4Ideal.Hand (xR wgR wvR cR wdR gR bR)

variable (m : (ℓ : Loc nD τ sig) → Buf (Elt Ideal) ℓ)
  (m' : (ℓ : Loc Cert.Reference4Ideal.nD Cert.Reference4Ideal.τ Cert.Reference4Ideal.sig) → Buf (Elt Ideal) ℓ)

/-- The reference's arguments are the kernel's. -/
def Agree (c : Dev nD) : Prop :=
  m' ((c.tc : Thread Cert.Reference4Ideal.nD Cert.Reference4Ideal.τ).loc Cert.Reference4Ideal.main_arg0) = m ((c.tc : Thread nD τ).loc main_arg0)
  ∧ m' ((c.tc : Thread Cert.Reference4Ideal.nD Cert.Reference4Ideal.τ).loc Cert.Reference4Ideal.main_arg1) = m ((c.tc : Thread nD τ).loc main_arg1)
  ∧ m' ((c.tc : Thread Cert.Reference4Ideal.nD Cert.Reference4Ideal.τ).loc Cert.Reference4Ideal.main_arg2) = m ((c.tc : Thread nD τ).loc main_arg2)
  ∧ m' ((c.tc : Thread Cert.Reference4Ideal.nD Cert.Reference4Ideal.τ).loc Cert.Reference4Ideal.main_arg3) = m ((c.tc : Thread nD τ).loc main_arg3)
  ∧ m' ((c.tc : Thread Cert.Reference4Ideal.nD Cert.Reference4Ideal.τ).loc Cert.Reference4Ideal.main_arg4) = m ((c.tc : Thread nD τ).loc main_arg4)
  ∧ m' ((c.tc : Thread Cert.Reference4Ideal.nD Cert.Reference4Ideal.τ).loc Cert.Reference4Ideal.main_arg5) = m ((c.tc : Thread nD τ).loc main_arg5)
  ∧ m' ((c.tc : Thread Cert.Reference4Ideal.nD Cert.Reference4Ideal.τ).loc Cert.Reference4Ideal.main_arg6) = m ((c.tc : Thread nD τ).loc main_arg6)
  ∧ m' ((c.tc : Thread Cert.Reference4Ideal.nD Cert.Reference4Ideal.τ).loc Cert.Reference4Ideal.main_arg7) = m ((c.tc : Thread nD τ).loc main_arg7)

section host
variable (c : Dev nD)
theorem V_0 : V m c main_v0 = (fun W : FVec Ideal S1024x2816 .f32 => truncf .bf16 W bitsLt_bf16_f32) (m ((c.tc : Thread nD τ).loc main_arg1)) := by sl_kernel_rfl
theorem V_1 : V m c main_v1 = (fun W : FVec Ideal S1024x2816 .f32 => truncf .bf16 W bitsLt_bf16_f32) (m ((c.tc : Thread nD τ).loc main_arg2)) := by sl_kernel_rfl
theorem V_5 : V m c main_v5 = (fun W : FVec Ideal S2816x1024 .f32 => truncf .bf16 W bitsLt_bf16_f32) (m ((c.tc : Thread nD τ).loc main_arg5)) := by sl_kernel_rfl
theorem V_4 : (V m c main_v4 : FVec Ideal S8x2816 .f32) = concatenate S8x2816 0 [⟨S3x2816, (m ((c.tc : Thread nD τ).loc main_arg3) : FVec Ideal S3x2816 .f32)⟩,
    ⟨S1x2816, (broadcastInDim S1x2816 ![1] bcast_S2816_S1x2816_1 (m ((c.tc : Thread nD τ).loc main_arg4) : FVec Ideal S2816 .f32) : FVec Ideal S1x2816 .f32)⟩,
    ⟨S4x2816, (broadcastInDim S4x2816 ![] bcast_S_S4x2816 (constant (F := Ideal) S_ .f32 0x00000000#32) : FVec Ideal S4x2816 .f32)⟩] concatenates_S3x2816_S1x2816_S4x2816_S8x2816_d0 := by
  sl_kernel_rfl
theorem V_9 : (V m c main_v9 : FVec Ideal S8x1024 .f32) = concatenate S8x1024 0 [⟨S1x1024, (broadcastInDim S1x1024 ![1] bcast_S1024_S1x1024_1 (m ((c.tc : Thread nD τ).loc main_arg6) : FVec Ideal S1024 .f32) : FVec Ideal S1x1024 .f32)⟩,
    ⟨S1x1024, (broadcastInDim S1x1024 ![1] bcast_S1024_S1x1024_1 (m ((c.tc : Thread nD τ).loc main_arg7) : FVec Ideal S1024 .f32) : FVec Ideal S1x1024 .f32)⟩,
    ⟨S6x1024, (broadcastInDim S6x1024 ![] bcast_S_S6x1024 (constant (F := Ideal) S_ .f32 0x00000000#32) : FVec Ideal S6x1024 .f32)⟩] concatenates_S1x1024_S1x1024_S6x1024_S8x1024_d0 := by
  sl_kernel_rfl
end host

theorem idx : ∀ t : Fin cfg0.N, (win0_0.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0])
    ∧ (win0_1.index t = ![0, 0] ∧ win0_2.index t = ![0, 0] ∧ win0_3.index t = ![0, 0] ∧ win0_4.index t = ![0, 0] ∧ win0_5.index t = ![0, 0]) :=
  (by decide +kernel : ∀ t : Fin grid0.N, _)

/-- The row of the sequence that row `a` of point `t`'s block is. -/
def R (t : Fin cfg0.N) (a : Fin 256) : Fin 16384 := ⟨256 * t.val + a.val, by have := lt_of_lt_of_eq t.isLt N_0; omega⟩

section agree
variable {m m'} {c : Dev nD} (e : Agree m m' c)
include e

theorem b0 (t : Fin cfg0.N) (a : Fin 256) (d : Fin 1024) : (fun X : FVec Ideal S256x1024 .f32 => X) (iblk m c 0 t) (ix2 a d) = (fun (a : Fin 256) d => xR m' c (R t a) d) a d := by
  refine (congrArg (fun f => ((cfg0.win 0).blk t).view.read (Elt Ideal) f (ix2 a d)) (V_main_arg0 m c)).trans
    ((congrArg (m ((c.tc : Thread nD τ).loc main_arg0) : FVec Ideal S16384x1024 .f32) ?_).trans (congrFun e.1 (ix2 (R t a) d)).symm)
  blk_ext [idx t, R]
theorem b1 (t : Fin cfg0.N) (d : Fin 1024) (f : Fin 2816) : (fun X : FVec Ideal S1024x2816 .bf16 => X) (iblk m c 1 t) (ix2 d f) = wgR m' c d f := by
  refine (congrArg (fun g => ((cfg0.win 1).blk t).view.read (Elt Ideal) g (ix2 d f)) (V_0 m c)).trans
    ((congrArg (m ((c.tc : Thread nD τ).loc main_arg1) : FVec Ideal S1024x2816 .f32) ?_).trans (congrFun e.2.1 (ix2 d f)).symm)
  blk_ext [idx t]
theorem b2 (t : Fin cfg0.N) (d : Fin 1024) (f : Fin 2816) : (fun X : FVec Ideal S1024x2816 .bf16 => X) (iblk m c 2 t) (ix2 d f) = wvR m' c d f := by
  refine (congrArg (fun g => ((cfg0.win 2).blk t).view.read (Elt Ideal) g (ix2 d f)) (V_1 m c)).trans
    ((congrArg (m ((c.tc : Thread nD τ).loc main_arg2) : FVec Ideal S1024x2816 .f32) ?_).trans (congrFun e.2.2.1 (ix2 d f)).symm)
  blk_ext [idx t]
theorem b4 (t : Fin cfg0.N) (f : Fin 2816) (d : Fin 1024) : (fun X : FVec Ideal S2816x1024 .bf16 => X) (iblk m c 4 t) (ix2 f d) = wdR m' c f d := by
  refine (congrArg (fun g => ((cfg0.win 4).blk t).view.read (Elt Ideal) g (ix2 f d)) (V_5 m c)).trans
    ((congrArg (m ((c.tc : Thread nD τ).loc main_arg5) : FVec Ideal S2816x1024 .f32) ?_).trans (congrFun e.2.2.2.2.2.1 (ix2 f d)).symm)
  blk_ext [idx t]
theorem V_cf (k : Fin 4) (f : Fin 2816) : (fun X : FVec Ideal S8x2816 .f32 => X) (V m c main_v4) (ix2 ⟨k.val, by omega⟩ f) = cR m' c k.val f := by
  rw [V_4]
  unfold cR
  rw [e.2.2.2.1, e.2.2.2.2.1]
  fin_cases k <;> pointwise []
theorem b3 (t : Fin cfg0.N) (k : Fin 4) (f : Fin 2816) : (fun X : FVec Ideal S8x2816 .f32 => X) (iblk m c 3 t) (ix2 ⟨k.val, by omega⟩ f) = cR m' c k.val f := by
  refine (show _ = (fun X : FVec Ideal S8x2816 .f32 => X) (V m c main_v4) (ix2 ⟨k.val, by omega⟩ f) from congrArg (V m c main_v4 : FVec Ideal S8x2816 .f32) ?_).trans (V_cf e k f)
  blk_ext [idx t]
theorem V_g (d : Fin 1024) : (fun X : FVec Ideal S8x1024 .f32 => X) (V m c main_v9) (ix2 0 d) = gR m' c d := by
  rw [V_9]; unfold gR; rw [e.2.2.2.2.2.2.1]; pointwise []
theorem V_b (d : Fin 1024) : (fun X : FVec Ideal S8x1024 .f32 => X) (V m c main_v9) (ix2 1 d) = bR m' c d := by
  rw [V_9]; unfold bR; rw [e.2.2.2.2.2.2.2]; pointwise []
theorem b5g (t : Fin cfg0.N) (d : Fin 1024) : (fun X : FVec Ideal S8x1024 .f32 => X) (iblk m c 5 t) (ix2 0 d) = gR m' c d := by
  refine (show _ = (fun X : FVec Ideal S8x1024 .f32 => X) (V m c main_v9) (ix2 0 d) from congrArg (V m c main_v9 : FVec Ideal S8x1024 .f32) ?_).trans (V_g e d)
  blk_ext [idx t]
theorem b5b (t : Fin cfg0.N) (d : Fin 1024) : (fun X : FVec Ideal S8x1024 .f32 => X) (iblk m c 5 t) (ix2 1 d) = bR m' c d := by
  refine (show _ = (fun X : FVec Ideal S8x1024 .f32 => X) (V m c main_v9) (ix2 1 d) from congrArg (V m c main_v9 : FVec Ideal S8x1024 .f32) ?_).trans (V_b e d)
  blk_ext [idx t]

omit e in
theorem hU (t : Fin cfg0.N) (a : Fin 256) (f : Fin 2816) : (∑ d, (fun (a : Fin 256) d => xR m' c (R t a) d) a d * wgR m' c d f) = (fun (r : ℕ) f => ux (xR m' c) (wgR m' c) (256 * t.val + r) f) (8 + a.val) f :=
  (ux_of (xR m' c) (wgR m' c) (R t a) (show 256 * t.val + (8 + a.val) = 256 * t.val + a.val + 8 by omega) f).symm

theorem cr_at : ∀ (n : ℕ) (hn : n < cfg0.N) (r : Fin 8) (f : Fin 2816),
    crS m c ⟨n, hn⟩ (ix2 r f) = (fun (r : ℕ) f => ux (xR m' c) (wgR m' c) (256 * n + r) f) r.val f
  | 0, hn, r, f => by
    show _ = ux (xR m' c) (wgR m' c) (256 * 0 + r.val) f
    rw [ux_low _ _ (by omega), crS, if_pos rfl]
    pointwise [k0_pay2]
  | n + 1, hn, r, f => by
    have hp : n < cfg0.N := by omega
    rw [crS, if_neg (Nat.succ_ne_zero n), carryK_at]
    refine (congrArg (fun X : Vec Ideal S264x2816 .f32 => X (ix2 ⟨256 + r.val, by omega⟩ f)) (congrArg (fun p => p.2.2.2.2.2.2) (outs_eq m c ⟨n, hp⟩))).trans ?_
    refine (ubK_at _ _ _ (b0 e ⟨n, hp⟩) (b1 e ⟨n, hp⟩) (U := fun (r : ℕ) f => ux (xR m' c) (wgR m' c) (256 * n + r) f) (hU ⟨n, hp⟩) (cr_at n hp) ⟨256 + r.val, by omega⟩ f).trans ?_
    refine congrArg (fun s => ux (xR m' c) (wgR m' c) s f) ?_
    show 256 * n + (256 + r.val) = 256 * (n + 1) + r.val
    omega

omit e in
theorem gt_shift (t : Fin cfg0.N) (a : Fin 256) (f : Fin 2816) : gtF (cR m' c) (fun (r : ℕ) f => ux (xR m' c) (wgR m' c) (256 * t.val + r) f) a.val f
    = gtF (cR m' c) (ux (xR m' c) (wgR m' c)) (R t a).val f := rfl

/-! ## The results -/

omit e in
theorem emb6 (t : Fin cfg0.N) (a : Fin 256) (f : Fin 2816) : ((cfg0.win 6).blk t).view.emb (ix2 a f) = ix2 (R t a) f := by blk_ext [idx t, R]
theorem final6 : (dats m 0 c).arrAt 6 cfg0.N = (truncf .bf16 (Cert.Reference4Ideal.Hand.ugR m' c) bitsLt_bf16_f32 : FVec Ideal S16384x2816 .bf16) := by
  refine (dats m 0 c).arrAt_eq_of_covers 6 _ (by decide +kernel) fun t _ y => ?_
  blk_simp
  rw [after0_6, outs_eq]
  obtain ⟨a, f, rfl⟩ : ∃ (a : Fin 256) (f : Fin 2816), y = ix2 a f := ⟨y 0, y 1, eq_ix2 y⟩
  refine Eq.trans ?_ (congrArg ((truncf .bf16 (Cert.Reference4Ideal.Hand.ugR m' c) bitsLt_bf16_f32 : FVec Ideal S16384x2816 .bf16) : S16384x2816.Idx → EReal) (emb6 t a f)).symm
  exact (ugK_at _ _ (b0 e t) (b1 e t) a f).trans (Cert.Reference4Ideal.Hand.ug_at m' c (R t a) f).symm

omit e in
theorem emb7 (t : Fin cfg0.N) (a : Fin 256) (f : Fin 2816) : ((cfg0.win 7).blk t).view.emb (ix2 a f) = ix2 (R t a) f := by blk_ext [idx t, R]
theorem final7 : (dats m 0 c).arrAt 7 cfg0.N = (truncf .bf16 (Cert.Reference4Ideal.Hand.uvR m' c) bitsLt_bf16_f32 : FVec Ideal S16384x2816 .bf16) := by
  refine (dats m 0 c).arrAt_eq_of_covers 7 _ (by decide +kernel) fun t _ y => ?_
  blk_simp
  rw [after0_7, outs_eq]
  obtain ⟨a, f, rfl⟩ : ∃ (a : Fin 256) (f : Fin 2816), y = ix2 a f := ⟨y 0, y 1, eq_ix2 y⟩
  refine Eq.trans ?_ (congrArg ((truncf .bf16 (Cert.Reference4Ideal.Hand.uvR m' c) bitsLt_bf16_f32 : FVec Ideal S16384x2816 .bf16) : S16384x2816.Idx → EReal) (emb7 t a f)).symm
  exact (uvK_at _ _ (b0 e t) (b2 e t) a f).trans (Cert.Reference4Ideal.Hand.uv_at m' c (R t a) f).symm

omit e in
theorem emb8 (t : Fin cfg0.N) (a : Fin 256) (f : Fin 2816) : ((cfg0.win 8).blk t).view.emb (ix2 a f) = ix2 (R t a) f := by blk_ext [idx t, R]
theorem final8 : (dats m 0 c).arrAt 8 cfg0.N = Cert.Reference4Ideal.Value.res_main_v39 m' c := by
  refine (dats m 0 c).arrAt_eq_of_covers 8 _ (by decide +kernel) fun t _ y => ?_
  blk_simp
  rw [after0_8, outs_eq]
  obtain ⟨a, f, rfl⟩ : ∃ (a : Fin 256) (f : Fin 2816), y = ix2 a f := ⟨y 0, y 1, eq_ix2 y⟩
  refine Eq.trans ?_ (congrArg (Cert.Reference4Ideal.Value.res_main_v39 m' c : S16384x2816.Idx → EReal) (emb8 t a f)).symm
  exact (slK_at _ _ _ _ _ (b0 e t) (b1 e t) (U := fun (r : ℕ) f => ux (xR m' c) (wgR m' c) (256 * t.val + r) f) (hU t) (cr_at e t.val t.isLt) (b3 e t) a f).trans (Cert.Reference4Ideal.Hand.sl_at m' c (R t a) f).symm

omit e in
theorem emb9 (t : Fin cfg0.N) (a : Fin 256) (f : Fin 2816) : ((cfg0.win 9).blk t).view.emb (ix2 a f) = ix2 (R t a) f := by blk_ext [idx t, R]
theorem final9 : (dats m 0 c).arrAt 9 cfg0.N = Cert.Reference4Ideal.Value.res_main_v40 m' c := by
  refine (dats m 0 c).arrAt_eq_of_covers 9 _ (by decide +kernel) fun t _ y => ?_
  blk_simp
  rw [after0_9, outs_eq]
  obtain ⟨a, f, rfl⟩ : ∃ (a : Fin 256) (f : Fin 2816), y = ix2 a f := ⟨y 0, y 1, eq_ix2 y⟩
  refine Eq.trans ?_ (congrArg (Cert.Reference4Ideal.Value.res_main_v40 m' c : S16384x2816.Idx → EReal) (emb9 t a f)).symm
  exact (dslK_at _ _ _ _ _ (b0 e t) (b1 e t) (U := fun (r : ℕ) f => ux (xR m' c) (wgR m' c) (256 * t.val + r) f) (hU t) (cr_at e t.val t.isLt) (b3 e t) a f).trans (Cert.Reference4Ideal.Hand.dsl_at m' c (R t a) f).symm

omit e in
theorem emb10 (t : Fin cfg0.N) (a : Fin 256) (d : Fin 1024) : ((cfg0.win 10).blk t).view.emb (ix2 a d) = ix2 (R t a) d := by blk_ext [idx t, R]
theorem final10 : (dats m 0 c).arrAt 10 cfg0.N = Cert.Reference4Ideal.Value.res_main_v36 m' c := by
  refine (dats m 0 c).arrAt_eq_of_covers 10 _ (by decide +kernel) fun t _ y => ?_
  blk_simp
  rw [after0_10, outs_eq]
  obtain ⟨a, d, rfl⟩ : ∃ (a : Fin 256) (d : Fin 1024), y = ix2 a d := ⟨y 0, y 1, eq_ix2 y⟩
  refine Eq.trans ?_ (congrArg (Cert.Reference4Ideal.Value.res_main_v36 m' c : S16384x1024.Idx → EReal) (emb10 t a d)).symm
  exact (z2K_at _ _ _ _ _ _ _ _ (b0 e t) (b1 e t) (U := fun (r : ℕ) f => ux (xR m' c) (wgR m' c) (256 * t.val + r) f) (hU t) (cr_at e t.val t.isLt) (b3 e t) (b2 e t) (b4 e t) a d).trans (Cert.Reference4Ideal.Hand.z2_at m' c (R t a) d).symm

omit e in
theorem emb11 (t : Fin cfg0.N) (a : Fin 256) (d : Fin 1024) : ((cfg0.win 11).blk t).view.emb (ix2 a d) = ix2 (R t a) d := by blk_ext [idx t, R]
theorem final11 : (dats m 0 c).arrAt 11 cfg0.N = Cert.Reference4Ideal.Value.res_main_v64 m' c := by
  refine (dats m 0 c).arrAt_eq_of_covers 11 _ (by decide +kernel) fun t _ y => ?_
  blk_simp
  rw [after0_11, outs_eq]
  obtain ⟨a, d, rfl⟩ : ∃ (a : Fin 256) (d : Fin 1024), y = ix2 a d := ⟨y 0, y 1, eq_ix2 y⟩
  refine Eq.trans ?_ (congrArg (Cert.Reference4Ideal.Value.res_main_v64 m' c : S16384x1024.Idx → EReal) (emb11 t a d)).symm
  exact (x2K_at _ _ _ _ _ _ _ _ _ (b0 e t) (b1 e t) (U := fun (r : ℕ) f => ux (xR m' c) (wgR m' c) (256 * t.val + r) f) (hU t) (cr_at e t.val t.isLt) (b3 e t) (b2 e t) (b4 e t) (b5g e t) (b5b e t) a d).trans (Cert.Reference4Ideal.Hand.x2_at m' c (R t a) d).symm
end agree

theorem ends_value (ρ : Dev nD → PrngReg) (e : ∀ c, Agree m m' c) :
    θ_run defs (onTc (τ := τ) (main (F := Ideal))) ⟨m, fun _ => 0, ρ⟩ (fun r => ∀ c : Dev nD,
      r.2.mem ((c.tc : Thread nD τ).loc main_v10_0) = (truncf .bf16 (Cert.Reference4Ideal.Hand.ugR m' c) bitsLt_bf16_f32 : FVec Ideal S16384x2816 .bf16)
      ∧ r.2.mem ((c.tc : Thread nD τ).loc main_v10_1) = (truncf .bf16 (Cert.Reference4Ideal.Hand.uvR m' c) bitsLt_bf16_f32 : FVec Ideal S16384x2816 .bf16)
      ∧ r.2.mem ((c.tc : Thread nD τ).loc main_v10_2) = Cert.Reference4Ideal.Value.res_main_v39 m' c
      ∧ r.2.mem ((c.tc : Thread nD τ).loc main_v10_3) = Cert.Reference4Ideal.Value.res_main_v40 m' c
      ∧ r.2.mem ((c.tc : Thread nD τ).loc main_v10_4) = Cert.Reference4Ideal.Value.res_main_v36 m' c
      ∧ r.2.mem ((c.tc : Thread nD τ).loc main_v10_5) = Cert.Reference4Ideal.Value.res_main_v64 m' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 6).trans (final6 (e c)),
    ((h.1 c).1 7).trans (final7 (e c)),
    ((h.1 c).1 8).trans (final8 (e c)),
    ((h.1 c).1 9).trans (final9 (e c)),
    ((h.1 c).1 10).trans (final10 (e c)),
    ((h.1 c).1 11).trans (final11 (e c)),
    ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩) (run_main_quiescent m ρ)

end Cert.Kernel4Ideal.Hand

end
-- ==== Proof.FwdLastRef.lean ====
module

public import proofs.«01_k».proof.Proof.FwdMath
public import proofs.«01_k».proof.Proof.Gen.Reference5Ideal.Run
public import Idealize.ShloMosaic.Lib.Pipeline.ValueKit
public import Idealize.ShloMosaic.Lib.Pointwise

@[expose] public section

set_option maxRecDepth 16384
set_option maxHeartbeats 4000000

noncomputable section

namespace Cert.Reference5Ideal.Hand

open Cert.Reference5Ideal Cert.Reference5Ideal.Gen Cert.Reference5Ideal.Value
open Idealize.ShloMosaic Idealize.ShloMosaic.TcCoe Idealize.SL.Sem
open Cert.Fwd

variable (m : (ℓ : Loc nD τ sig) → Buf (Elt Ideal) ℓ) (c : Dev nD)

/-- What the arguments hold, by row and column. -/
def xR (s : Fin 16384) (d : Fin 1024) : EReal := (m ((c.tc : Thread nD τ).loc main_arg0) : FVec Ideal S16384x1024 .f32) (ix2 s d)
def wgR (d : Fin 1024) (f : Fin 2816) : EReal := (m ((c.tc : Thread nD τ).loc main_arg1) : FVec Ideal S1024x2816 .f32) (ix2 d f)
def wvR (d : Fin 1024) (f : Fin 2816) : EReal := (m ((c.tc : Thread nD τ).loc main_arg2) : FVec Ideal S1024x2816 .f32) (ix2 d f)
def cR (k : ℕ) (f : Fin 2816) : EReal := if h : k < 3 then (m ((c.tc : Thread nD τ).loc main_arg3) : FVec Ideal S3x2816 .f32) (ix2 ⟨k, h⟩ f) else (m ((c.tc : Thread nD τ).loc main_arg4) : FVec Ideal S2816 .f32) (ix1 f)
def wdR (f : Fin 2816) (d : Fin 1024) : EReal := (m ((c.tc : Thread nD τ).loc main_arg5) : FVec Ideal S2816x1024 .f32) (ix2 f d)

/-- The two products, the gate's input with two rows before it, the gate, and its sigmoid. -/
def ugR : FVec Ideal S16384x2816 .f32 := Host.dotGeneral (F := Ideal) (φ₁ := .f32) (φ₂ := .f32) dot_S16384x1024_S1024x2816_S16384x2816_1_0_0_1_n_n none (m ((c.tc : Thread nD τ).loc main_arg0)) (m ((c.tc : Thread nD τ).loc main_arg1))
def uvR : FVec Ideal S16384x2816 .f32 := Host.dotGeneral (F := Ideal) (φ₁ := .f32) (φ₂ := .f32) dot_S16384x1024_S1024x2816_S16384x2816_1_0_0_1_n_n none (m ((c.tc : Thread nD τ).loc main_arg0)) (m ((c.tc : Thread nD τ).loc main_arg2))
def pdR : FVec Ideal S16386x2816 .f32 := concatenate S16386x2816 0 [⟨S2x2816, (broadcastInDim S2x2816 ![] bcast_S_S2x2816 (constant (F := Ideal) S_ .f32 0x00000000#32))⟩, ⟨S16384x2816, ugR m c⟩] concatenates_S2x2816_S16384x2816_S16386x2816_d0
def gtR : FVec Ideal S16384x2816 .f32 := addf (addf (addf (addf (broadcastInDim S16384x2816 ![] bcast_S_S16384x2816 (constant S_ .f32 0x00000000#32)) (mulf (broadcastInDim S16384x2816 ![0, 1] bcast_S1x2816_S16384x2816_0_1 (broadcastInDim S1x2816 ![1] bcast_S2816_S1x2816_1 (shapeCast _ (extractStridedSlice S1x2816 ![0, 0] (m ((c.tc : Thread nD τ).loc main_arg3)) slices_S3x2816_S1x2816_0_0) shapeCasts_S1x2816_S2816))) (extractStridedSlice S16384x2816 ![0, 0] (pdR m c) slices_S16386x2816_S16384x2816_0_0))) (mulf (broadcastInDim S16384x2816 ![0, 1] bcast_S1x2816_S16384x2816_0_1 (broadcastInDim S1x2816 ![1] bcast_S2816_S1x2816_1 (shapeCast _ (extractStridedSlice S1x2816 ![1, 0] (m ((c.tc : Thread nD τ).loc main_arg3)) slices_S3x2816_S1x2816_1_0) shapeCasts_S1x2816_S2816))) (extractStridedSlice S16384x2816 ![1, 0] (pdR m c) slices_S16386x2816_S16384x2816_1_0))) (mulf (broadcastInDim S16384x2816 ![0, 1] bcast_S1x2816_S16384x2816_0_1 (broadcastInDim S1x2816 ![1] bcast_S2816_S1x2816_1 (shapeCast _ (extractStridedSlice S1x2816 ![2, 0] (m ((c.tc : Thread nD τ).loc main_arg3)) slices_S3x2816_S1x2816_2_0) shapeCasts_S1x2816_S2816))) (extractStridedSlice S16384x2816 ![2, 0] (pdR m c) slices_S16386x2816_S16384x2816_2_0))) (broadcastInDim S16384x2816 ![0, 1] bcast_S1x2816_S16384x2816_0_1 (broadcastInDim S1x2816 ![1] bcast_S2816_S1x2816_1 (m ((c.tc : Thread nD τ).loc main_arg4))))
def sgR : FVec Ideal S16384x2816 .f32 := Host.divf (broadcastInDim S16384x2816 ![] bcast_S_S16384x2816 (constant S_ .f32 0x3F800000#32)) (addf (broadcastInDim S16384x2816 ![] bcast_S_S16384x2816 (constant S_ .f32 0x3F800000#32)) (Host.exp (Host.negf (gtR m c))))
def slR : FVec Ideal S16384x2816 .f32 := mulf (gtR m c) (sgR m c)
def z2R : FVec Ideal S16384x1024 .f32 := addf (mulf (broadcastInDim S16384x1024 ![] bcast_S_S16384x1024 (constant S_ .f32 0x3FB504F3#32)) (m ((c.tc : Thread nD τ).loc main_arg0)))
  (Host.dotGeneral (F := Ideal) (φ₁ := .f32) (φ₂ := .f32) dot_S16384x2816_S2816x1024_S16384x1024_1_0_0_1_n_n none (mulf (slR m c) (uvR m c)) (m ((c.tc : Thread nD τ).loc main_arg5)))

theorem sl_eq : res_main_v34 m c = truncf .bf16 (slR m c) bitsLt_bf16_f32 := by sl_kernel_rfl
theorem dsl_eq : res_main_v35 m c = truncf .bf16 (addf (mulf (broadcastInDim S16384x2816 ![] bcast_S_S16384x2816 (constant S_ .f32 0x3F800000#32)) (sgR m c))
    (mulf (mulf (gtR m c) (broadcastInDim S16384x2816 ![] bcast_S_S16384x2816 (constant S_ .f32 0x3F800000#32))) (mulf (sgR m c) (subf (broadcastInDim S16384x2816 ![] bcast_S_S16384x2816 (constant S_ .f32 0x3F800000#32)) (sgR m c))))) bitsLt_bf16_f32 := by sl_kernel_rfl
theorem z2_eq : res_main_v40 m c = z2R m c := by sl_kernel_rfl

theorem ug_at (s : Fin 16384) (f : Fin 2816) : ugR m c (ix2 s f) = prF (xR m c) (wgR m c) s f := by
  pointwise [ugR]; rfl
theorem uv_at (s : Fin 16384) (f : Fin 2816) : uvR m c (ix2 s f) = prF (xR m c) (wvR m c) s f := by
  pointwise [uvR]; rfl

theorem pd_at (s : Fin 16386) (f : Fin 2816) : pdR m c (ix2 s f) = ux (xR m c) (wgR m c) (s.val + 6) f := by
  pointwise [pdR]
  split_ifs with h
  · exact (ux_low _ _ (by omega) f).symm
  · exact (ug_at m c _ f).trans (ux_of _ _ ⟨s.val - 2, by omega⟩ (by show _ = s.val - 2 + 8; omega) f).symm
  · rename_i hh; exact absurd rfl hh

theorem gt_at (s : Fin 16384) (f : Fin 2816) : gtR m c (ix2 s f) = gtF (cR m c) (ux (xR m c) (wgR m c)) s.val f := by
  have h : gtR m c (ix2 s f) = ((cR m c 0 f * pdR m c (ix2 ⟨s.val, by omega⟩ f) + cR m c 1 f * pdR m c (ix2 ⟨1 + s.val, by omega⟩ f)) + cR m c 2 f * pdR m c (ix2 ⟨2 + s.val, by omega⟩ f)) + cR m c 3 f := by
    pointwise [gtR]
    rfl
  rw [h, pd_at, pd_at, pd_at]
  unfold gtF
  rw [show (1 + s.val + 6 : ℕ) = s.val + 7 by omega, show (2 + s.val + 6 : ℕ) = s.val + 8 by omega]
  abel

theorem sg_at (s : Fin 16384) (f : Fin 2816) : sgR m c (ix2 s f) = sgF (gtF (cR m c) (ux (xR m c) (wgR m c)) s.val f) := by
  rw [← gt_at]; pointwise [sgR]; rfl
theorem slR_at (s : Fin 16384) (f : Fin 2816) : slR m c (ix2 s f) = slF (gtF (cR m c) (ux (xR m c) (wgR m c)) s.val f) := by
  have h : slR m c (ix2 s f) = gtR m c (ix2 s f) * sgR m c (ix2 s f) := by pointwise [slR]
  rw [h, gt_at, sg_at]; rfl

theorem sl_at (s : Fin 16384) (f : Fin 2816) : res_main_v34 m c (ix2 s f) = slF (gtF (cR m c) (ux (xR m c) (wgR m c)) s.val f) := by
  rw [sl_eq]; exact slR_at m c s f
theorem dsl_at (s : Fin 16384) (f : Fin 2816) : res_main_v35 m c (ix2 s f) = dsF (gtF (cR m c) (ux (xR m c) (wgR m c)) s.val f) := by
  rw [dsl_eq, ← dsF_eq, ← sg_at, ← gt_at]
  pointwise []
theorem z2R_at (s : Fin 16384) (d : Fin 1024) : z2R m c (ix2 s d) = z2F (xR m c) (wgR m c) (wvR m c) (cR m c) (wdR m c) s d := by
  have h : z2R m c (ix2 s d) = cAl * xR m c s d + ∑ f : Fin 2816, (slR m c (ix2 s f) * uvR m c (ix2 s f)) * wdR m c f d := by
    pointwise [z2R]
    rfl
  rw [h]
  simp only [slR_at, uv_at]
  rfl
theorem z2_at (s : Fin 16384) (d : Fin 1024) : res_main_v40 m c (ix2 s d) = z2F (xR m c) (wgR m c) (wvR m c) (cR m c) (wdR m c) s d := by
  rw [z2_eq]; exact z2R_at m c s d

end Cert.Reference5Ideal.Hand

end
-- ==== Proof.FwdLastBody.lean ====
module

public import proofs.«01_k».proof.Proof.Gen.Kernel5Ideal.Frame
public import proofs.«01_k».proof.Proof.FfnBody

@[expose] public section

set_option maxRecDepth 16384
set_option maxHeartbeats 4000000

noncomputable section

namespace Cert.Kernel5Ideal.Hand

open Cert.Kernel5Ideal.Gen
open Idealize.ShloMosaic Idealize.ShloMosaic.TcCoe Idealize.ShloMosaic.Tactic
open Idealize.ShloMosaic.Pipeline (Dat Cfg Window)
open Cert.Kernel3Ideal.Hand (groups)

variable {F : FTy → Type} [FloatOps F]

/-! ## What a point leaves, in eleven groups of 256 lanes -/

abbrev rT (q : Fin 11) : Rect S256x2816 := Rect.unit ![0, 256 * q.val] S256x256.size (by revert q; decide)
abbrev rP (q : Fin 11) : Rect S1024x2816 := Rect.unit ![0, 256 * q.val] S1024x256.size (by revert q; decide)
abbrev rS (k : Fin 9) (q : Fin 11) : Rect S264x2816 := Rect.unit ![k.val, 256 * q.val] S256x256.size (by revert k q; decide)
abbrev rC (k : Fin 4) (q : Fin 11) : Rect S8x2816 := Rect.unit ![k.val, 256 * q.val] S1x256.size (by revert k q; decide)
abbrev rZ : Rect S256x1024 := Rect.unit ![0, 0] S256x1024.size inb_S256x1024_S256x1024_0_0
abbrev rH : Rect S256x2816 := Rect.unit ![0, 0] S256x2816.size inb_S256x2816_S256x2816_0_0
abbrev rD : Rect S2816x1024 := Rect.unit ![0, 0] S2816x1024.size inb_S2816x1024_S2816x1024_0_0
abbrev rE : Rect S264x2816 := Rect.unit ![256, 0] S8x2816.size inb_S264x2816_S8x2816_256_0
abbrev rI : Rect S264x2816 := Rect.unit ![0, 0] S8x2816.size inb_S264x2816_S8x2816_0_0

section forms
variable (v13 : View sig .tc .vmem S264x2816 .f32) (v14 : View sig .tc .vmem S256x2816 .bf16)
  (X1 : Vec F S256x1024 .f32) (X2 X3 : Vec F S1024x2816 .bf16) (X4 : Vec F S8x2816 .f32) (X5 : Vec F S2816x1024 .bf16) (X6 : Vec F S8x1024 .f32)
  (X13 : Vec F S264x2816 .f32) (cr : FVec F S8x2816 .f32)

/-- The gate rows with the eight before them, as far as group `n`. -/
def ubL : ℕ → List (View.Piece (Elt F) S264x2816 .f32)
  | 0 => [⟨rI, cr⟩]
  | n + 1 => ⟨rS 8 (Fin.ofNat 11 n), k0_pay7 (View.ld X1 rZ) (View.ld X2 (rP (Fin.ofNat 11 n)))⟩ :: ubL n
def tapK (k : Fin 9) (q : Fin 11) : Vec F S256x256 .f32 := v13.readCov (ubL X1 X2 cr (q.val + 1)) (rS k q).toLoadRect
def cwK (k : Fin 4) (q : Fin 11) : Vec F S1x256 .f32 := View.ld X4 (rC k q)
def ugP (q : Fin 11) : View.Piece (Elt F) S256x2816 .bf16 := ⟨rT q, k0_pay5 (View.ld X1 rZ) (View.ld X2 (rP q))⟩
def uvP (q : Fin 11) : View.Piece (Elt F) S256x2816 .bf16 := ⟨rT q, k0_pay6 (View.ld X1 rZ) (View.ld X3 (rP q))⟩
def slP (q : Fin 11) : View.Piece (Elt F) S256x2816 .bf16 :=
  ⟨rT q, k0_pay12 (tapK v13 X1 X2 cr 6 q) (tapK v13 X1 X2 cr 7 q) (tapK v13 X1 X2 cr 8 q) (k0_pay8 (cwK X4 3 q)) (cwK X4 2 q) (cwK X4 1 q) (cwK X4 0 q)⟩
def dslP (q : Fin 11) : View.Piece (Elt F) S256x2816 .bf16 :=
  ⟨rT q, k0_pay13 (tapK v13 X1 X2 cr 6 q) (tapK v13 X1 X2 cr 7 q) (tapK v13 X1 X2 cr 8 q) (k0_pay8 (cwK X4 3 q)) (cwK X4 2 q) (cwK X4 1 q) (cwK X4 0 q)⟩
def acP (q : Fin 11) : View.Piece (Elt F) S256x2816 .bf16 :=
  ⟨rT q, k0_pay14 (k0_pay6 (View.ld X1 rZ) (View.ld X3 (rP q))) (tapK v13 X1 X2 cr 6 q) (tapK v13 X1 X2 cr 7 q) (tapK v13 X1 X2 cr 8 q) (k0_pay8 (cwK X4 3 q)) (cwK X4 2 q) (cwK X4 1 q) (cwK X4 0 q)⟩

def ugK : Vec F S256x2816 .bf16 := View.canon (groups (ugP X1 X2))
def uvK : Vec F S256x2816 .bf16 := View.canon (groups (uvP X1 X3))
def slK : Vec F S256x2816 .bf16 := View.canon (groups (slP v13 X1 X2 X4 cr))
def dslK : Vec F S256x2816 .bf16 := View.canon (groups (dslP v13 X1 X2 X4 cr))
def acK : Vec F S256x2816 .bf16 := v14.readCov (groups (acP v13 X1 X2 X3 X4 cr)) rH.toLoadRect
def alK : F .f32 := Scalar.ofBits .f32 0x3FB504F3#32
def z2K : Vec F S256x1024 .f32 := k0_pay1 (View.ld X1 rZ) alK (acK v13 v14 X1 X2 X3 X4 cr) (View.ld X5 rD)
def ubK : Vec F S264x2816 .f32 := View.canon (ubL X1 X2 cr 11)
/-- The eight rows a point takes from the one before it. -/
def carryK : FVec F S8x2816 .f32 := k0_pay3 (View.ld X13 rE)
end forms

section outs
variable (c : Dev nD) (i : grid0.Coords)
  (arg1 : Memref sig .tc .vmem S256x1024 .f32) (harg1 : arg1.IsWhole)
  (arg2 : Memref sig .tc .vmem S1024x2816 .bf16) (harg2 : arg2.IsWhole)
  (arg3 : Memref sig .tc .vmem S1024x2816 .bf16) (harg3 : arg3.IsWhole)
  (arg4 : Memref sig .tc .vmem S8x2816 .f32) (harg4 : arg4.IsWhole)
  (arg5 : Memref sig .tc .vmem S2816x1024 .bf16) (harg5 : arg5.IsWhole)
  (arg6 : Memref sig .tc .vmem S8x1024 .f32) (harg6 : arg6.IsWhole)
  (arg7 : Memref sig .tc .vmem S256x2816 .bf16) (harg7 : arg7.IsWhole)
  (arg8 : Memref sig .tc .vmem S256x2816 .bf16) (harg8 : arg8.IsWhole)
  (arg9 : Memref sig .tc .vmem S256x2816 .bf16) (harg9 : arg9.IsWhole)
  (arg10 : Memref sig .tc .vmem S256x2816 .bf16) (harg10 : arg10.IsWhole)
  (arg11 : Memref sig .tc .vmem S256x1024 .f32) (harg11 : arg11.IsWhole)
  (arg13 : Memref sig .tc .vmem S264x2816 .f32) (harg13 : arg13.IsWhole)
  (arg14 : Memref sig .tc .vmem S256x2816 .bf16) (harg14 : arg14.IsWhole)
  (x0 : Vec F S256x1024 .f32) (x1 : Vec F S1024x2816 .bf16) (x2 : Vec F S1024x2816 .bf16) (x3 : Vec F S8x2816 .f32) (x4 : Vec F S2816x1024 .bf16) (x5 : Vec F S8x1024 .f32) (xs0 : Vec F S264x2816 .f32)

theorem ugK_A (h0 : cond0_0 i) (h1 : ¬cond0_1 i) : out0_A_6 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = ugK x0 x1 := by
  have h : out0_A_6 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = ugK (arg1.view.read (Elt F) (harg1.unread x0)) (arg2.view.read (Elt F) (harg2.unread x1)) := by
    have hl : (kernelRun0_A c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5).1 = groups (ugP (arg1.view.read (Elt F) (harg1.unread x0)) (arg2.view.read (Elt F) (harg2.unread x1))) := by sl_kernel_rfl
    exact (View.read_writes_eq_canon _ _ _ (cover0_A_6 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5)).trans (congrArg View.canon hl)
  simp only [Memref.IsWhole.read_unread] at h; exact h
theorem uvK_A (h0 : cond0_0 i) (h1 : ¬cond0_1 i) : out0_A_7 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = uvK x0 x2 := by
  have h : out0_A_7 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = uvK (arg1.view.read (Elt F) (harg1.unread x0)) (arg3.view.read (Elt F) (harg3.unread x2)) := by
    have hl : (kernelRun0_A c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5).2.1 = groups (uvP (arg1.view.read (Elt F) (harg1.unread x0)) (arg3.view.read (Elt F) (harg3.unread x2))) := by sl_kernel_rfl
    exact (View.read_writes_eq_canon _ _ _ (cover0_A_7 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5)).trans (congrArg View.canon hl)
  simp only [Memref.IsWhole.read_unread] at h; exact h
theorem slK_A (h0 : cond0_0 i) (h1 : ¬cond0_1 i) : out0_A_8 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = slK arg13.view x0 x1 x3 k0_pay2 := by
  have h : out0_A_8 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = slK arg13.view (arg1.view.read (Elt F) (harg1.unread x0)) (arg2.view.read (Elt F) (harg2.unread x1)) (arg4.view.read (Elt F) (harg4.unread x3)) k0_pay2 := by
    have hl : (kernelRun0_A c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5).2.2.1 = groups (slP arg13.view (arg1.view.read (Elt F) (harg1.unread x0)) (arg2.view.read (Elt F) (harg2.unread x1)) (arg4.view.read (Elt F) (harg4.unread x3)) k0_pay2) := by sl_kernel_rfl
    exact (View.read_writes_eq_canon _ _ _ (cover0_A_8 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5)).trans (congrArg View.canon hl)
  simp only [Memref.IsWhole.read_unread] at h; exact h
theorem dslK_A (h0 : cond0_0 i) (h1 : ¬cond0_1 i) : out0_A_9 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = dslK arg13.view x0 x1 x3 k0_pay2 := by
  have h : out0_A_9 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = dslK arg13.view (arg1.view.read (Elt F) (harg1.unread x0)) (arg2.view.read (Elt F) (harg2.unread x1)) (arg4.view.read (Elt F) (harg4.unread x3)) k0_pay2 := by
    have hl : (kernelRun0_A c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5).2.2.2.1 = groups (dslP arg13.view (arg1.view.read (Elt F) (harg1.unread x0)) (arg2.view.read (Elt F) (harg2.unread x1)) (arg4.view.read (Elt F) (harg4.unread x3)) k0_pay2) := by sl_kernel_rfl
    exact (View.read_writes_eq_canon _ _ _ (cover0_A_9 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5)).trans (congrArg View.canon hl)
  simp only [Memref.IsWhole.read_unread] at h; exact h
theorem z2K_A (h0 : cond0_0 i) (h1 : ¬cond0_1 i) : out0_A_10 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = z2K arg13.view arg14.view x0 x1 x2 x3 x4 k0_pay2 := by
  have h : out0_A_10 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) k0_pay2 := (View.read_writes_eq_canon _ _ _ (cover0_A_10 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5)).trans ((congrArg View.canon (by sl_kernel_rfl : _ = [(⟨rZ, z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) k0_pay2⟩ : View.Piece (Elt F) S256x1024 .f32)])).trans (View.canon_cons_unit_lit _ _ [] (by decide)))
  simp only [Memref.IsWhole.read_unread] at h; exact h
theorem ubK_A (h0 : cond0_0 i) (h1 : ¬cond0_1 i) : sout0_A_0 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = ubK x0 x1 k0_pay2 := by
  have h : sout0_A_0 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 = ubK (arg1.view.read (Elt F) (harg1.unread x0)) (arg2.view.read (Elt F) (harg2.unread x1)) k0_pay2 := by
    have hl : (kernelRun0_A c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5).2.2.2.2.2.1 = ubL (arg1.view.read (Elt F) (harg1.unread x0)) (arg2.view.read (Elt F) (harg2.unread x1)) k0_pay2 11 := by sl_kernel_rfl
    exact (View.read_writes_eq_canon _ _ _ (scover0_A_0 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5)).trans (congrArg View.canon hl)
  simp only [Memref.IsWhole.read_unread] at h; exact h

theorem ugK_B (h0 : ¬cond0_0 i) (h1 : cond0_1 i) : out0_B_6 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = ugK x0 x1 := by
  have h : out0_B_6 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = ugK (arg1.view.read (Elt F) (harg1.unread x0)) (arg2.view.read (Elt F) (harg2.unread x1)) := by
    have hl : (kernelRun0_B c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0).1 = groups (ugP (arg1.view.read (Elt F) (harg1.unread x0)) (arg2.view.read (Elt F) (harg2.unread x1))) := by sl_kernel_rfl
    exact (View.read_writes_eq_canon _ _ _ (cover0_B_6 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0)).trans (congrArg View.canon hl)
  simp only [Memref.IsWhole.read_unread] at h; exact h
theorem uvK_B (h0 : ¬cond0_0 i) (h1 : cond0_1 i) : out0_B_7 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = uvK x0 x2 := by
  have h : out0_B_7 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = uvK (arg1.view.read (Elt F) (harg1.unread x0)) (arg3.view.read (Elt F) (harg3.unread x2)) := by
    have hl : (kernelRun0_B c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0).2.1 = groups (uvP (arg1.view.read (Elt F) (harg1.unread x0)) (arg3.view.read (Elt F) (harg3.unread x2))) := by sl_kernel_rfl
    exact (View.read_writes_eq_canon _ _ _ (cover0_B_7 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0)).trans (congrArg View.canon hl)
  simp only [Memref.IsWhole.read_unread] at h; exact h
theorem slK_B (h0 : ¬cond0_0 i) (h1 : cond0_1 i) : out0_B_8 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = slK arg13.view x0 x1 x3 (carryK xs0) := by
  have h : out0_B_8 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = slK arg13.view (arg1.view.read (Elt F) (harg1.unread x0)) (arg2.view.read (Elt F) (harg2.unread x1)) (arg4.view.read (Elt F) (harg4.unread x3)) (carryK (arg13.view.read (Elt F) (harg13.unread xs0))) := by
    have hl : (kernelRun0_B c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0).2.2.1 = groups (slP arg13.view (arg1.view.read (Elt F) (harg1.unread x0)) (arg2.view.read (Elt F) (harg2.unread x1)) (arg4.view.read (Elt F) (harg4.unread x3)) (carryK (arg13.view.read (Elt F) (harg13.unread xs0)))) := by sl_kernel_rfl
    exact (View.read_writes_eq_canon _ _ _ (cover0_B_8 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0)).trans (congrArg View.canon hl)
  simp only [Memref.IsWhole.read_unread] at h; exact h
theorem dslK_B (h0 : ¬cond0_0 i) (h1 : cond0_1 i) : out0_B_9 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = dslK arg13.view x0 x1 x3 (carryK xs0) := by
  have h : out0_B_9 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = dslK arg13.view (arg1.view.read (Elt F) (harg1.unread x0)) (arg2.view.read (Elt F) (harg2.unread x1)) (arg4.view.read (Elt F) (harg4.unread x3)) (carryK (arg13.view.read (Elt F) (harg13.unread xs0))) := by
    have hl : (kernelRun0_B c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0).2.2.2.1 = groups (dslP arg13.view (arg1.view.read (Elt F) (harg1.unread x0)) (arg2.view.read (Elt F) (harg2.unread x1)) (arg4.view.read (Elt F) (harg4.unread x3)) (carryK (arg13.view.read (Elt F) (harg13.unread xs0)))) := by sl_kernel_rfl
    exact (View.read_writes_eq_canon _ _ _ (cover0_B_9 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0)).trans (congrArg View.canon hl)
  simp only [Memref.IsWhole.read_unread] at h; exact h
theorem z2K_B (h0 : ¬cond0_0 i) (h1 : cond0_1 i) : out0_B_10 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = z2K arg13.view arg14.view x0 x1 x2 x3 x4 (carryK xs0) := by
  have h : out0_B_10 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (carryK (arg13.view.read (Elt F) (harg13.unread xs0))) := (View.read_writes_eq_canon _ _ _ (cover0_B_10 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0)).trans ((congrArg View.canon (by sl_kernel_rfl : _ = [(⟨rZ, z2K arg13.view arg14.view (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (carryK (arg13.view.read (Elt F) (harg13.unread xs0)))⟩ : View.Piece (Elt F) S256x1024 .f32)])).trans (View.canon_cons_unit_lit _ _ [] (by decide)))
  simp only [Memref.IsWhole.read_unread] at h; exact h
theorem ubK_B (h0 : ¬cond0_0 i) (h1 : cond0_1 i) : sout0_B_0 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = ubK x0 x1 (carryK xs0) := by
  have h : sout0_B_0 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0 = ubK (arg1.view.read (Elt F) (harg1.unread x0)) (arg2.view.read (Elt F) (harg2.unread x1)) (carryK (arg13.view.read (Elt F) (harg13.unread xs0))) := by
    have hl : (kernelRun0_B c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0).2.2.2.2.2.1 = ubL (arg1.view.read (Elt F) (harg1.unread x0)) (arg2.view.read (Elt F) (harg2.unread x1)) (carryK (arg13.view.read (Elt F) (harg13.unread xs0))) 11 := by sl_kernel_rfl
    exact (View.read_writes_eq_canon _ _ _ (scover0_B_0 c i arg1 harg1 arg2 harg2 arg3 harg3 arg4 harg4 arg5 harg5 arg6 harg6 arg7 harg7 arg8 harg8 arg9 harg9 arg10 harg10 arg11 harg11 arg13 harg13 arg14 harg14 h0 h1 x0 x1 x2 x3 x4 x5 xs0)).trans (congrArg View.canon hl)
  simp only [Memref.IsWhole.read_unread] at h; exact h

end outs

/-! ## Point by point -/

variable (m : (ℓ : Loc nD τ sig) → Buf (Elt F) ℓ)

/-- The rows of the gate a point takes over. -/
def crS (c : Dev nD) (t : Fin cfg0.N) : FVec F S8x2816 .f32 :=
  if t.val = 0 then k0_pay2 else carryK (outsAt0 m c (t.val - 1) (Nat.lt_of_le_of_lt (Nat.sub_le _ _) t.isLt)).2.2.2.2.2

theorem outs_eq (c : Dev nD) (t : Fin cfg0.N) : outsAt0 m c t.val t.isLt = (ugK (iblk m c 0 t) (iblk m c 1 t), uvK (iblk m c 0 t) (iblk m c 2 t), slK scM0_0.view (iblk m c 0 t) (iblk m c 1 t) (iblk m c 3 t) (crS m c t), dslK scM0_0.view (iblk m c 0 t) (iblk m c 1 t) (iblk m c 3 t) (crS m c t), z2K scM0_0.view scM0_1.view (iblk m c 0 t) (iblk m c 1 t) (iblk m c 2 t) (iblk m c 3 t) (iblk m c 4 t) (crS m c t), ubK (iblk m c 0 t) (iblk m c 1 t) (crS m c t)) := by
  have ht : t.val < 64 := lt_of_lt_of_eq t.isLt N_0
  by_cases h : t.val = 0
  · have e : crS m c t = k0_pay2 := by rw [crS, if_pos h]
    rw [e, outsAt0_A m c t (by omega) (by omega)]
    simp only [ugK_A, uvK_A, slK_A, dslK_A, z2K_A, ubK_A]
  · have e : crS m c t = carryK (outsAt0 m c (t.val - 1) (Nat.lt_of_le_of_lt (Nat.sub_le _ _) t.isLt)).2.2.2.2.2 := by rw [crS, if_neg h]
    rw [e, outsAt0_B m c t (by omega) (by omega)]
    simp only [ugK_B, uvK_B, slK_B, dslK_B, z2K_B, ubK_B]

end Cert.Kernel5Ideal.Hand

end
-- ==== Proof.FwdLastForm.lean ====
module

public import proofs.«01_k».proof.Proof.FwdLastBody
public import proofs.«01_k».proof.Proof.FwdMath
public import proofs.«01_k».proof.Proof.FfnForm

@[expose] public section

set_option maxRecDepth 16384
set_option maxHeartbeats 4000000

noncomputable section

namespace Cert.Kernel5Ideal.Hand

open Cert.Kernel5Ideal Cert.Kernel5Ideal.Gen
open Idealize.ShloMosaic Idealize.ShloMosaic.TcCoe Idealize.SL.Sem
open Cert.Ffn (zc vr)
open Cert.Fwd
open Cert.Kernel3Ideal.Hand (groups col col_surj mem_groups two)

section
variable (T6 T7 T8 : Vec Ideal S256x256 .f32) (b3 : FVec Ideal S1x256 .f32) (c2 c1 c0 : Vec Ideal S1x256 .f32)

theorem pay9_at (a b : Fin 256) : k0_pay9 T6 T7 T8 b3 c2 c1 c0 (ix2 a b)
    = (fun w3 w2 w1 w0 x y z : EReal => ((w3 + w2 * z) + w1 * y) + w0 * x) (b3 (ix2 0 b)) (c2 (ix2 0 b)) (c1 (ix2 0 b)) (c0 (ix2 0 b)) (T6 (ix2 a b)) (T7 (ix2 a b)) (T8 (ix2 a b)) := by
  pointwise [k0_pay9]
theorem pay10_at (a b : Fin 256) : k0_pay10 T6 T7 T8 b3 c2 c1 c0 (ix2 a b) = sgF (k0_pay9 T6 T7 T8 b3 c2 c1 c0 (ix2 a b)) := by
  pointwise [k0_pay10]
  unfold sgF
  rw [← zero_sub]
  try rfl
theorem pay11_at (a b : Fin 256) : k0_pay11 T6 T7 T8 b3 c2 c1 c0 (ix2 a b) = slF (k0_pay9 T6 T7 T8 b3 c2 c1 c0 (ix2 a b)) := by
  unfold slF
  rw [← pay10_at]
  pointwise [k0_pay11]
theorem pay12_at (a b : Fin 256) : k0_pay12 T6 T7 T8 b3 c2 c1 c0 (ix2 a b) = slF (k0_pay9 T6 T7 T8 b3 c2 c1 c0 (ix2 a b)) := by
  rw [← pay11_at]
  pointwise [k0_pay12]
theorem pay13_at (a b : Fin 256) : k0_pay13 T6 T7 T8 b3 c2 c1 c0 (ix2 a b) = dsF (k0_pay9 T6 T7 T8 b3 c2 c1 c0 (ix2 a b)) := by
  unfold dsF
  rw [← pay10_at]
  pointwise [k0_pay13]
theorem pay14_at (p : FVec Ideal S256x256 .bf16) (a b : Fin 256) : k0_pay14 p T6 T7 T8 b3 c2 c1 c0 (ix2 a b)
    = (fun x y : EReal => x * y) (slF (k0_pay9 T6 T7 T8 b3 c2 c1 c0 (ix2 a b))) (p (ix2 a b)) := by
  rw [← pay11_at]
  pointwise [k0_pay14]
end

theorem embT (q : Fin 11) (a b : Fin 256) : (rT q).emb (ix2 a b) = ix2 a (col q b) := by blk_ext [col]
theorem embP (q : Fin 11) (a : Fin 1024) (b : Fin 256) : (rP q).emb (ix2 a b) = ix2 a (col q b) := by blk_ext [col]
theorem embC (k : Fin 4) (q : Fin 11) (b : Fin 256) : (rC k q).emb (ix2 0 b) = ix2 ⟨k.val, by omega⟩ (col q b) := by blk_ext [col]
theorem embS (k : Fin 9) (q : Fin 11) (a b : Fin 256) : (rS k q).emb (ix2 a b) = ix2 ⟨k.val + a.val, by omega⟩ (col q b) := by blk_ext [col]
theorem embZ (a : Fin 256) (d : Fin 1024) : rZ.emb (ix2 a d) = ix2 a d := by blk_ext
theorem embH (a : Fin 256) (f : Fin 2816) : rH.emb (ix2 a f) = ix2 a f := by blk_ext
theorem embD (f : Fin 2816) (d : Fin 1024) : rD.emb (ix2 f d) = ix2 f d := by blk_ext
theorem embE (a : Fin 8) (f : Fin 2816) : rE.emb (ix2 a f) = ix2 ⟨256 + a.val, by omega⟩ f := by blk_ext
theorem embI (a : Fin 8) (f : Fin 2816) : rI.emb (ix2 a f) = ix2 ⟨a.val, by omega⟩ f := by blk_ext
theorem ldP (X : Vec Ideal S1024x2816 .bf16) (q : Fin 11) (a : Fin 1024) (b : Fin 256) : View.ld X (rP q) (ix2 a b) = X (ix2 a (col q b)) := congrArg X (embP q a b)
theorem ldC (X : Vec Ideal S8x2816 .f32) (k : Fin 4) (q : Fin 11) (b : Fin 256) : View.ld X (rC k q) (ix2 0 b) = X (ix2 ⟨k.val, by omega⟩ (col q b)) := congrArg X (embC k q b)
theorem ldZ (X : Vec Ideal S256x1024 .f32) (a : Fin 256) (d : Fin 1024) : View.ld X rZ (ix2 a d) = X (ix2 a d) := congrArg X (embZ a d)
theorem ldD (X : Vec Ideal S2816x1024 .bf16) (f : Fin 2816) (d : Fin 1024) : View.ld X rD (ix2 f d) = X (ix2 f d) := congrArg X (embD f d)

section
variable (v13 : View sig .tc .vmem S264x2816 .f32) (v14 : View sig .tc .vmem S256x2816 .bf16)
  (X1 : Vec Ideal S256x1024 .f32) (X2 X3 : Vec Ideal S1024x2816 .bf16) (X4 : Vec Ideal S8x2816 .f32) (X5 : Vec Ideal S2816x1024 .bf16) (X6 : Vec Ideal S8x1024 .f32)
  (X13 : Vec Ideal S264x2816 .f32) (cr : FVec Ideal S8x2816 .f32)

theorem ug_cover : ∀ y, ∃ p ∈ groups (ugP X1 X2), y ∈ p.1.set := View.cover_of_tiledBy _ ![256, 256] (by sl_kernel_rfl)
theorem uv_cover : ∀ y, ∃ p ∈ groups (uvP X1 X3), y ∈ p.1.set := View.cover_of_tiledBy _ ![256, 256] (by sl_kernel_rfl)
theorem sl_cover : ∀ y, ∃ p ∈ groups (slP v13 X1 X2 X4 cr), y ∈ p.1.set := View.cover_of_tiledBy _ ![256, 256] (by sl_kernel_rfl)
theorem dsl_cover : ∀ y, ∃ p ∈ groups (dslP v13 X1 X2 X4 cr), y ∈ p.1.set := View.cover_of_tiledBy _ ![256, 256] (by sl_kernel_rfl)
theorem ac_cover : ∀ y, ∃ p ∈ groups (acP v13 X1 X2 X3 X4 cr), y ∈ p.1.set := View.cover_of_tiledBy _ ![256, 256] (by sl_kernel_rfl)
theorem ub_cover : ∀ y, ∃ p ∈ ubL X1 X2 cr 11, y ∈ p.1.set := View.cover_of_tiledBy _ ![8, 256] (by sl_kernel_rfl)

theorem carryK_at (r : Fin 8) (f : Fin 2816) : carryK X13 (ix2 r f) = X13 (ix2 ⟨256 + r.val, by omega⟩ f) := by
  refine Eq.trans (?_ : _ = View.ld X13 rE (ix2 r f)) (congrArg X13 (embE r f))
  pointwise [carryK, k0_pay3]

variable {Xr : Fin 256 → Fin 1024 → EReal} (h1 : ∀ a d, X1 (ix2 a d) = Xr a d)
include h1

theorem pay5_at {W : Fin 1024 → Fin 2816 → EReal} (h2 : ∀ d f, X2 (ix2 d f) = W d f) (q : Fin 11) (a b : Fin 256) :
    k0_pay5 (View.ld X1 rZ) (View.ld X2 (rP q)) (ix2 a b) = ∑ d, Xr a d * W d (col q b) := by
  simp only [← h1, ← h2, ← ldP X2 q, ← ldZ X1]
  pointwise [k0_pay5, k0_pay4]
theorem pay6_at {W : Fin 1024 → Fin 2816 → EReal} (h3 : ∀ d f, X3 (ix2 d f) = W d f) (q : Fin 11) (a b : Fin 256) :
    k0_pay6 (View.ld X1 rZ) (View.ld X3 (rP q)) (ix2 a b) = ∑ d, Xr a d * W d (col q b) := by
  simp only [← h1, ← h3, ← ldP X3 q, ← ldZ X1]
  pointwise [k0_pay6, k0_pay4]

theorem ugK_at {W : Fin 1024 → Fin 2816 → EReal} (h2 : ∀ d f, X2 (ix2 d f) = W d f) (a : Fin 256) (f : Fin 2816) : ugK X1 X2 (ix2 a f) = ∑ d, Xr a d * W d f := by
  refine View.canon_apply_of_pieces (fun y : S256x2816.Idx => ((∑ d, Xr (y 0) d * W d (y 1)) : Elt Ideal .bf16)) _ ?_ _ (ug_cover X1 X2 _)
  intro p hp x
  obtain ⟨q, rfl⟩ := mem_groups hp
  obtain ⟨a, b, rfl⟩ : ∃ (a b : Fin 256), x = ix2 a b := ⟨x 0, x 1, eq_ix2 x⟩
  exact (pay5_at X1 X2 h1 h2 q a b).trans (congrArg (fun y : S256x2816.Idx => ∑ d, Xr (y 0) d * W d (y 1)) (embT q a b)).symm
theorem uvK_at {W : Fin 1024 → Fin 2816 → EReal} (h3 : ∀ d f, X3 (ix2 d f) = W d f) (a : Fin 256) (f : Fin 2816) : uvK X1 X3 (ix2 a f) = ∑ d, Xr a d * W d f := by
  refine View.canon_apply_of_pieces (fun y : S256x2816.Idx => ((∑ d, Xr (y 0) d * W d (y 1)) : Elt Ideal .bf16)) _ ?_ _ (uv_cover X1 X3 _)
  intro p hp x
  obtain ⟨q, rfl⟩ := mem_groups hp
  obtain ⟨a, b, rfl⟩ : ∃ (a b : Fin 256), x = ix2 a b := ⟨x 0, x 1, eq_ix2 x⟩
  exact (pay6_at X1 X3 h1 h3 q a b).trans (congrArg (fun y : S256x2816.Idx => ∑ d, Xr (y 0) d * W d (y 1)) (embT q a b)).symm

variable {W : Fin 1024 → Fin 2816 → EReal} (h2 : ∀ d f, X2 (ix2 d f) = W d f)
  {U : ℕ → Fin 2816 → EReal} (hU : ∀ (a : Fin 256) f, (∑ d, Xr a d * W d f) = U (8 + a.val) f) (hcr : ∀ (r : Fin 8) f, cr (ix2 r f) = U r.val f)
include h2 hU hcr

theorem ubL_pieces : ∀ n ≤ 11, ∀ p ∈ ubL X1 X2 cr n, ∀ x : p.1.shape.Idx, p.2 x = two (n := 264) U (p.1.emb x)
  | 0, _, p, hp, x => by
    simp only [ubL, List.mem_cons, List.not_mem_nil, or_false] at hp
    subst hp
    obtain ⟨a, f, rfl⟩ : ∃ (a : Fin 8) (f : Fin 2816), x = ix2 a f := ⟨x 0, x 1, eq_ix2 x⟩
    exact (hcr a f).trans (congrArg (two (n := 264) U) (embI a f)).symm
  | n + 1, hn, p, hp, x => by
    rw [ubL, List.mem_cons] at hp
    rcases hp with rfl | hp
    · obtain ⟨a, b, rfl⟩ : ∃ (a b : Fin 256), x = ix2 a b := ⟨x 0, x 1, eq_ix2 x⟩
      refine Eq.trans (?_ : _ = k0_pay5 (View.ld X1 rZ) (View.ld X2 (rP (Fin.ofNat 11 n))) (ix2 a b)) ((pay5_at X1 X2 h1 h2 _ a b).trans ((hU a _).trans ?_))
      · pointwise [k0_pay7]
      · exact (congrArg (two (n := 264) U) (embS 8 (Fin.ofNat 11 n) a b)).symm
    · exact ubL_pieces n (Nat.le_of_succ_le hn) p hp x

theorem ubK_at (r : Fin 264) (f : Fin 2816) : ubK X1 X2 cr (ix2 r f) = U r.val f := by
  unfold ubK
  exact View.canon_apply_of_pieces (two (n := 264) U : S264x2816.Idx → Elt Ideal .f32) _ (ubL_pieces X1 X2 cr h1 h2 hU hcr 11 le_rfl) _ (ub_cover X1 X2 cr _)

omit h1 h2 hU hcr in
theorem ubL_last : ∀ n, ⟨rI, cr⟩ ∈ ubL X1 X2 cr n
  | 0 => by rw [ubL]; exact List.mem_singleton.mpr rfl
  | n + 1 => by rw [ubL]; exact List.mem_cons_of_mem _ (ubL_last n)

theorem tapK_at (k : Fin 9) (q : Fin 11) (a b : Fin 256) : tapK v13 X1 X2 cr k q (ix2 a b) = U (k.val + a.val) (col q b) := by
  unfold tapK
  rw [View.readCov_eq_canon']
  refine (View.canon_apply_of_pieces (two (n := 264) U : S264x2816.Idx → Elt Ideal .f32) _ (ubL_pieces X1 X2 cr h1 h2 hU hcr _ (by omega)) _ ?_).trans (congrArg (two (n := 264) U) (embS k q a b))
  show ∃ p ∈ ubL X1 X2 cr (q.val + 1), (rS k q).emb (ix2 a b) ∈ p.1.set
  rw [embS k q a b]
  by_cases h : 8 ≤ k.val + a.val
  · refine ⟨_, by rw [ubL]; exact List.mem_cons_self, ?_⟩
    have e : Fin.ofNat 11 q.val = q := Fin.ext (Nat.mod_eq_of_lt q.isLt)
    show _ ∈ (rS 8 (Fin.ofNat 11 q.val)).set
    rw [e]
    refine Rect.mem_set_unit.mpr fun i => ?_
    fin_cases i
    · show 8 ≤ k.val + a.val ∧ k.val + a.val < 8 + 256
      omega
    · show 256 * q.val ≤ 256 * q.val + b.val ∧ 256 * q.val + b.val < 256 * q.val + 256
      omega
  · refine ⟨_, ubL_last X1 X2 cr (q.val + 1), ?_⟩
    show _ ∈ rI.set
    refine Rect.mem_set_unit.mpr fun i => ?_
    fin_cases i
    · show 0 ≤ k.val + a.val ∧ k.val + a.val < 0 + 8
      omega
    · show 0 ≤ 256 * q.val + b.val ∧ 256 * q.val + b.val < 0 + 2816
      omega

variable {C : ℕ → Fin 2816 → EReal} (h4 : ∀ (k : Fin 4) f, X4 (ix2 ⟨k.val, by omega⟩ f) = C k.val f)
include h4

theorem gate_at (q : Fin 11) (a b : Fin 256) : k0_pay9 (tapK v13 X1 X2 cr 6 q) (tapK v13 X1 X2 cr 7 q) (tapK v13 X1 X2 cr 8 q) (k0_pay8 (cwK X4 3 q)) (cwK X4 2 q) (cwK X4 1 q) (cwK X4 0 q) (ix2 a b)
    = gtF C U a.val (col q b) := by
  have e (k : Fin 4) : cwK X4 k q (ix2 0 b) = C k.val (col q b) := (ldC X4 k q b).trans (h4 k _)
  have e3 : k0_pay8 (cwK X4 3 q) (ix2 0 b) = C 3 (col q b) := by
    refine Eq.trans (?_ : _ = cwK X4 3 q (ix2 0 b)) (e 3)
    pointwise [k0_pay8]
  rw [pay9_at, e3, e 2, e 1, e 0, tapK_at v13 X1 X2 cr h1 h2 hU hcr, tapK_at v13 X1 X2 cr h1 h2 hU hcr, tapK_at v13 X1 X2 cr h1 h2 hU hcr]
  show ((C 3 (col q b) + C 2 (col q b) * U (8 + a.val) (col q b)) + C 1 (col q b) * U (7 + a.val) (col q b)) + C 0 (col q b) * U (6 + a.val) (col q b) = _
  unfold gtF
  rw [Nat.add_comm 8, Nat.add_comm 7, Nat.add_comm 6]

theorem slK_at (a : Fin 256) (f : Fin 2816) : slK v13 X1 X2 X4 cr (ix2 a f) = slF (gtF C U a.val f) := by
  refine View.canon_apply_of_pieces (fun y : S256x2816.Idx => (slF (gtF C U (y 0).val (y 1)) : Elt Ideal .bf16)) _ ?_ _ (sl_cover v13 X1 X2 X4 cr _)
  intro p hp x
  obtain ⟨q, rfl⟩ := mem_groups hp
  obtain ⟨a, b, rfl⟩ : ∃ (a b : Fin 256), x = ix2 a b := ⟨x 0, x 1, eq_ix2 x⟩
  refine ((pay12_at _ _ _ _ _ _ _ a b).trans (congrArg slF (gate_at v13 X1 X2 X4 cr h1 h2 hU hcr h4 q a b))).trans
    (congrArg (fun y : S256x2816.Idx => slF (gtF C U (y 0).val (y 1))) (embT q a b)).symm
theorem dslK_at (a : Fin 256) (f : Fin 2816) : dslK v13 X1 X2 X4 cr (ix2 a f) = dsF (gtF C U a.val f) := by
  refine View.canon_apply_of_pieces (fun y : S256x2816.Idx => (dsF (gtF C U (y 0).val (y 1)) : Elt Ideal .bf16)) _ ?_ _ (dsl_cover v13 X1 X2 X4 cr _)
  intro p hp x
  obtain ⟨q, rfl⟩ := mem_groups hp
  obtain ⟨a, b, rfl⟩ : ∃ (a b : Fin 256), x = ix2 a b := ⟨x 0, x 1, eq_ix2 x⟩
  refine ((pay13_at _ _ _ _ _ _ _ a b).trans (congrArg dsF (gate_at v13 X1 X2 X4 cr h1 h2 hU hcr h4 q a b))).trans
    (congrArg (fun y : S256x2816.Idx => dsF (gtF C U (y 0).val (y 1))) (embT q a b)).symm

variable {W' : Fin 1024 → Fin 2816 → EReal} (h3 : ∀ d f, X3 (ix2 d f) = W' d f)
include h3
theorem acK_at (a : Fin 256) (f : Fin 2816) : acK v13 v14 X1 X2 X3 X4 cr (ix2 a f) = slF (gtF C U a.val f) * ∑ d, Xr a d * W' d f := by
  unfold acK
  rw [View.readCov_eq_canon']
  refine (View.canon_apply_of_pieces (fun y : S256x2816.Idx => (slF (gtF C U (y 0).val (y 1)) * ∑ d, Xr (y 0) d * W' d (y 1) : Elt Ideal .bf16)) _ ?_ _ (ac_cover v13 X1 X2 X3 X4 cr _)).trans
    (congrArg (fun y : S256x2816.Idx => slF (gtF C U (y 0).val (y 1)) * ∑ d, Xr (y 0) d * W' d (y 1)) (embH a f))
  intro p hp x
  obtain ⟨q, rfl⟩ := mem_groups hp
  obtain ⟨a, b, rfl⟩ : ∃ (a b : Fin 256), x = ix2 a b := ⟨x 0, x 1, eq_ix2 x⟩
  refine ((pay14_at _ _ _ _ _ _ _ _ a b).trans (congrArg₂ (fun x y : EReal => slF x * y) (gate_at v13 X1 X2 X4 cr h1 h2 hU hcr h4 q a b) (pay6_at X1 X3 h1 h3 q a b))).trans
    (congrArg (fun y : S256x2816.Idx => slF (gtF C U (y 0).val (y 1)) * ∑ d, Xr (y 0) d * W' d (y 1)) (embT q a b)).symm

variable {Wd : Fin 2816 → Fin 1024 → EReal} (h5 : ∀ f d, X5 (ix2 f d) = Wd f d)
include h5
theorem z2K_at (a : Fin 256) (d : Fin 1024) : z2K v13 v14 X1 X2 X3 X4 X5 cr (ix2 a d)
    = cAl * Xr a d + ∑ f, (slF (gtF C U a.val f) * ∑ d, Xr a d * W' d f) * Wd f d := by
  have h : z2K v13 v14 X1 X2 X3 X4 X5 cr (ix2 a d) = (fun (x : EReal) (y : Fin 2816 → EReal) (z : Fin 2816 → EReal) => cAl * x + ∑ f, y f * z f)
      (View.ld X1 rZ (ix2 a d)) (fun f => acK v13 v14 X1 X2 X3 X4 cr (ix2 a f)) (fun f => View.ld X5 rD (ix2 f d)) := by
    pointwise [z2K, k0_pay1]
    rfl
  rw [h, ldZ, h1, funext fun f => acK_at v13 v14 X1 X2 X3 X4 cr h1 h2 hU hcr h4 h3 a f, funext fun f => (ldD X5 f d).trans (h5 f d)]
end

end Cert.Kernel5Ideal.Hand

end
-- ==== Proof.FwdLastValue.lean ====
module

public import proofs.«01_k».proof.Proof.FwdLastRef
public import proofs.«01_k».proof.Proof.FwdLastForm

@[expose] public section

set_option maxRecDepth 16384
set_option maxHeartbeats 4000000

noncomputable section

namespace Cert.Kernel5Ideal.Hand

open Cert.Kernel5Ideal Cert.Kernel5Ideal.Gen
open Idealize.ShloMosaic Idealize.ShloMosaic.TcCoe Idealize.SL.Sem
open Idealize.ShloMosaic.Pipeline (Dat)
open Cert.Fwd
open Cert.Reference5Ideal.Hand (xR wgR wvR cR wdR)

variable (m : (ℓ : Loc nD τ sig) → Buf (Elt Ideal) ℓ)
  (m' : (ℓ : Loc Cert.Reference5Ideal.nD Cert.Reference5Ideal.τ Cert.Reference5Ideal.sig) → Buf (Elt Ideal) ℓ)

/-- The reference's arguments are the kernel's. -/
def Agree (c : Dev nD) : Prop :=
  m' ((c.tc : Thread Cert.Reference5Ideal.nD Cert.Reference5Ideal.τ).loc Cert.Reference5Ideal.main_arg0) = m ((c.tc : Thread nD τ).loc main_arg0)
  ∧ m' ((c.tc : Thread Cert.Reference5Ideal.nD Cert.Reference5Ideal.τ).loc Cert.Reference5Ideal.main_arg1) = m ((c.tc : Thread nD τ).loc main_arg1)
  ∧ m' ((c.tc : Thread Cert.Reference5Ideal.nD Cert.Reference5Ideal.τ).loc Cert.Reference5Ideal.main_arg2) = m ((c.tc : Thread nD τ).loc main_arg2)
  ∧ m' ((c.tc : Thread Cert.Reference5Ideal.nD Cert.Reference5Ideal.τ).loc Cert.Reference5Ideal.main_arg3) = m ((c.tc : Thread nD τ).loc main_arg3)
  ∧ m' ((c.tc : Thread Cert.Reference5Ideal.nD Cert.Reference5Ideal.τ).loc Cert.Reference5Ideal.main_arg4) = m ((c.tc : Thread nD τ).loc main_arg4)
  ∧ m' ((c.tc : Thread Cert.Reference5Ideal.nD Cert.Reference5Ideal.τ).loc Cert.Reference5Ideal.main_arg5) = m ((c.tc : Thread nD τ).loc main_arg5)

section host
variable (c : Dev nD)
theorem V_0 : V m c main_v0 = (fun W : FVec Ideal S1024x2816 .f32 => truncf .bf16 W bitsLt_bf16_f32) (m ((c.tc : Thread nD τ).loc main_arg1)) := by sl_kernel_rfl
theorem V_1 : V m c main_v1 = (fun W : FVec Ideal S1024x2816 .f32 => truncf .bf16 W bitsLt_bf16_f32) (m ((c.tc : Thread nD τ).loc main_arg2)) := by sl_kernel_rfl
theorem V_5 : V m c main_v5 = (fun W : FVec Ideal S2816x1024 .f32 => truncf .bf16 W bitsLt_bf16_f32) (m ((c.tc : Thread nD τ).loc main_arg5)) := by sl_kernel_rfl
theorem V_4 : (V m c main_v4 : FVec Ideal S8x2816 .f32) = concatenate S8x2816 0 [⟨S3x2816, (m ((c.tc : Thread nD τ).loc main_arg3) : FVec Ideal S3x2816 .f32)⟩,
    ⟨S1x2816, (broadcastInDim S1x2816 ![1] bcast_S2816_S1x2816_1 (m ((c.tc : Thread nD τ).loc main_arg4) : FVec Ideal S2816 .f32) : FVec Ideal S1x2816 .f32)⟩,
    ⟨S4x2816, (broadcastInDim S4x2816 ![] bcast_S_S4x2816 (constant (F := Ideal) S_ .f32 0x00000000#32) : FVec Ideal S4x2816 .f32)⟩] concatenates_S3x2816_S1x2816_S4x2816_S8x2816_d0 := by
  sl_kernel_rfl
end host

theorem idx : ∀ t : Fin cfg0.N, (win0_0.index t = ![t.val, 0] ∧ win0_6.index t = ![t.val, 0] ∧ win0_7.index t = ![t.val, 0] ∧ win0_8.index t = ![t.val, 0] ∧ win0_9.index t = ![t.val, 0] ∧ win0_10.index t = ![t.val, 0])
    ∧ (win0_1.index t = ![0, 0] ∧ win0_2.index t = ![0, 0] ∧ win0_3.index t = ![0, 0] ∧ win0_4.index t = ![0, 0] ∧ win0_5.index t = ![0, 0]) :=
  (by decide +kernel : ∀ t : Fin grid0.N, _)

/-- The row of the sequence that row `a` of point `t`'s block is. -/
def R (t : Fin cfg0.N) (a : Fin 256) : Fin 16384 := ⟨256 * t.val + a.val, by have := lt_of_lt_of_eq t.isLt N_0; omega⟩

section agree
variable {m m'} {c : Dev nD} (e : Agree m m' c)
include e

theorem b0 (t : Fin cfg0.N) (a : Fin 256) (d : Fin 1024) : (fun X : FVec Ideal S256x1024 .f32 => X) (iblk m c 0 t) (ix2 a d) = (fun (a : Fin 256) d => xR m' c (R t a) d) a d := by
  refine (congrArg (fun f => ((cfg0.win 0).blk t).view.read (Elt Ideal) f (ix2 a d)) (V_main_arg0 m c)).trans
    ((congrArg (m ((c.tc : Thread nD τ).loc main_arg0) : FVec Ideal S16384x1024 .f32) ?_).trans (congrFun e.1 (ix2 (R t a) d)).symm)
  blk_ext [idx t, R]
theorem b1 (t : Fin cfg0.N) (d : Fin 1024) (f : Fin 2816) : (fun X : FVec Ideal S1024x2816 .bf16 => X) (iblk m c 1 t) (ix2 d f) = wgR m' c d f := by
  refine (congrArg (fun g => ((cfg0.win 1).blk t).view.read (Elt Ideal) g (ix2 d f)) (V_0 m c)).trans
    ((congrArg (m ((c.tc : Thread nD τ).loc main_arg1) : FVec Ideal S1024x2816 .f32) ?_).trans (congrFun e.2.1 (ix2 d f)).symm)
  blk_ext [idx t]
theorem b2 (t : Fin cfg0.N) (d : Fin 1024) (f : Fin 2816) : (fun X : FVec Ideal S1024x2816 .bf16 => X) (iblk m c 2 t) (ix2 d f) = wvR m' c d f := by
  refine (congrArg (fun g => ((cfg0.win 2).blk t).view.read (Elt Ideal) g (ix2 d f)) (V_1 m c)).trans
    ((congrArg (m ((c.tc : Thread nD τ).loc main_arg2) : FVec Ideal S1024x2816 .f32) ?_).trans (congrFun e.2.2.1 (ix2 d f)).symm)
  blk_ext [idx t]
theorem b4 (t : Fin cfg0.N) (f : Fin 2816) (d : Fin 1024) : (fun X : FVec Ideal S2816x1024 .bf16 => X) (iblk m c 4 t) (ix2 f d) = wdR m' c f d := by
  refine (congrArg (fun g => ((cfg0.win 4).blk t).view.read (Elt Ideal) g (ix2 f d)) (V_5 m c)).trans
    ((congrArg (m ((c.tc : Thread nD τ).loc main_arg5) : FVec Ideal S2816x1024 .f32) ?_).trans (congrFun e.2.2.2.2.2 (ix2 f d)).symm)
  blk_ext [idx t]
theorem V_cf (k : Fin 4) (f : Fin 2816) : (fun X : FVec Ideal S8x2816 .f32 => X) (V m c main_v4) (ix2 ⟨k.val, by omega⟩ f) = cR m' c k.val f := by
  rw [V_4]
  unfold cR
  rw [e.2.2.2.1, e.2.2.2.2.1]
  fin_cases k <;> pointwise []
theorem b3 (t : Fin cfg0.N) (k : Fin 4) (f : Fin 2816) : (fun X : FVec Ideal S8x2816 .f32 => X) (iblk m c 3 t) (ix2 ⟨k.val, by omega⟩ f) = cR m' c k.val f := by
  refine (show _ = (fun X : FVec Ideal S8x2816 .f32 => X) (V m c main_v4) (ix2 ⟨k.val, by omega⟩ f) from congrArg (V m c main_v4 : FVec Ideal S8x2816 .f32) ?_).trans (V_cf e k f)
  blk_ext [idx t]

omit e in
theorem hU (t : Fin cfg0.N) (a : Fin 256) (f : Fin 2816) : (∑ d, (fun (a : Fin 256) d => xR m' c (R t a) d) a d * wgR m' c d f) = (fun (r : ℕ) f => ux (xR m' c) (wgR m' c) (256 * t.val + r) f) (8 + a.val) f :=
  (ux_of (xR m' c) (wgR m' c) (R t a) (show 256 * t.val + (8 + a.val) = 256 * t.val + a.val + 8 by omega) f).symm

theorem cr_at : ∀ (n : ℕ) (hn : n < cfg0.N) (r : Fin 8) (f : Fin 2816),
    crS m c ⟨n, hn⟩ (ix2 r f) = (fun (r : ℕ) f => ux (xR m' c) (wgR m' c) (256 * n + r) f) r.val f
  | 0, hn, r, f => by
    show _ = ux (xR m' c) (wgR m' c) (256 * 0 + r.val) f
    rw [ux_low _ _ (by omega), crS, if_pos rfl]
    pointwise [k0_pay2]
  | n + 1, hn, r, f => by
    have hp : n < cfg0.N := by omega
    rw [crS, if_neg (Nat.succ_ne_zero n), carryK_at]
    refine (congrArg (fun X : Vec Ideal S264x2816 .f32 => X (ix2 ⟨256 + r.val, by omega⟩ f)) (congrArg (fun p => p.2.2.2.2.2) (outs_eq m c ⟨n, hp⟩))).trans ?_
    refine (ubK_at _ _ _ (b0 e ⟨n, hp⟩) (b1 e ⟨n, hp⟩) (U := fun (r : ℕ) f => ux (xR m' c) (wgR m' c) (256 * n + r) f) (hU ⟨n, hp⟩) (cr_at n hp) ⟨256 + r.val, by omega⟩ f).trans ?_
    refine congrArg (fun s => ux (xR m' c) (wgR m' c) s f) ?_
    show 256 * n + (256 + r.val) = 256 * (n + 1) + r.val
    omega

omit e in
theorem gt_shift (t : Fin cfg0.N) (a : Fin 256) (f : Fin 2816) : gtF (cR m' c) (fun (r : ℕ) f => ux (xR m' c) (wgR m' c) (256 * t.val + r) f) a.val f
    = gtF (cR m' c) (ux (xR m' c) (wgR m' c)) (R t a).val f := rfl

/-! ## The results -/

omit e in
theorem emb6 (t : Fin cfg0.N) (a : Fin 256) (f : Fin 2816) : ((cfg0.win 6).blk t).view.emb (ix2 a f) = ix2 (R t a) f := by blk_ext [idx t, R]
theorem final6 : (dats m 0 c).arrAt 6 cfg0.N = (truncf .bf16 (Cert.Reference5Ideal.Hand.ugR m' c) bitsLt_bf16_f32 : FVec Ideal S16384x2816 .bf16) := by
  refine (dats m 0 c).arrAt_eq_of_covers 6 _ (by decide +kernel) fun t _ y => ?_
  blk_simp
  rw [after0_6, outs_eq]
  obtain ⟨a, f, rfl⟩ : ∃ (a : Fin 256) (f : Fin 2816), y = ix2 a f := ⟨y 0, y 1, eq_ix2 y⟩
  refine Eq.trans ?_ (congrArg ((truncf .bf16 (Cert.Reference5Ideal.Hand.ugR m' c) bitsLt_bf16_f32 : FVec Ideal S16384x2816 .bf16) : S16384x2816.Idx → EReal) (emb6 t a f)).symm
  exact (ugK_at _ _ (b0 e t) (b1 e t) a f).trans (Cert.Reference5Ideal.Hand.ug_at m' c (R t a) f).symm

omit e in
theorem emb7 (t : Fin cfg0.N) (a : Fin 256) (f : Fin 2816) : ((cfg0.win 7).blk t).view.emb (ix2 a f) = ix2 (R t a) f := by blk_ext [idx t, R]
theorem final7 : (dats m 0 c).arrAt 7 cfg0.N = (truncf .bf16 (Cert.Reference5Ideal.Hand.uvR m' c) bitsLt_bf16_f32 : FVec Ideal S16384x2816 .bf16) := by
  refine (dats m 0 c).arrAt_eq_of_covers 7 _ (by decide +kernel) fun t _ y => ?_
  blk_simp
  rw [after0_7, outs_eq]
  obtain ⟨a, f, rfl⟩ : ∃ (a : Fin 256) (f : Fin 2816), y = ix2 a f := ⟨y 0, y 1, eq_ix2 y⟩
  refine Eq.trans ?_ (congrArg ((truncf .bf16 (Cert.Reference5Ideal.Hand.uvR m' c) bitsLt_bf16_f32 : FVec Ideal S16384x2816 .bf16) : S16384x2816.Idx → EReal) (emb7 t a f)).symm
  exact (uvK_at _ _ (b0 e t) (b2 e t) a f).trans (Cert.Reference5Ideal.Hand.uv_at m' c (R t a) f).symm

omit e in
theorem emb8 (t : Fin cfg0.N) (a : Fin 256) (f : Fin 2816) : ((cfg0.win 8).blk t).view.emb (ix2 a f) = ix2 (R t a) f := by blk_ext [idx t, R]
theorem final8 : (dats m 0 c).arrAt 8 cfg0.N = Cert.Reference5Ideal.Value.res_main_v34 m' c := by
  refine (dats m 0 c).arrAt_eq_of_covers 8 _ (by decide +kernel) fun t _ y => ?_
  blk_simp
  rw [after0_8, outs_eq]
  obtain ⟨a, f, rfl⟩ : ∃ (a : Fin 256) (f : Fin 2816), y = ix2 a f := ⟨y 0, y 1, eq_ix2 y⟩
  refine Eq.trans ?_ (congrArg (Cert.Reference5Ideal.Value.res_main_v34 m' c : S16384x2816.Idx → EReal) (emb8 t a f)).symm
  exact (slK_at _ _ _ _ _ (b0 e t) (b1 e t) (U := fun (r : ℕ) f => ux (xR m' c) (wgR m' c) (256 * t.val + r) f) (hU t) (cr_at e t.val t.isLt) (b3 e t) a f).trans (Cert.Reference5Ideal.Hand.sl_at m' c (R t a) f).symm

omit e in
theorem emb9 (t : Fin cfg0.N) (a : Fin 256) (f : Fin 2816) : ((cfg0.win 9).blk t).view.emb (ix2 a f) = ix2 (R t a) f := by blk_ext [idx t, R]
theorem final9 : (dats m 0 c).arrAt 9 cfg0.N = Cert.Reference5Ideal.Value.res_main_v35 m' c := by
  refine (dats m 0 c).arrAt_eq_of_covers 9 _ (by decide +kernel) fun t _ y => ?_
  blk_simp
  rw [after0_9, outs_eq]
  obtain ⟨a, f, rfl⟩ : ∃ (a : Fin 256) (f : Fin 2816), y = ix2 a f := ⟨y 0, y 1, eq_ix2 y⟩
  refine Eq.trans ?_ (congrArg (Cert.Reference5Ideal.Value.res_main_v35 m' c : S16384x2816.Idx → EReal) (emb9 t a f)).symm
  exact (dslK_at _ _ _ _ _ (b0 e t) (b1 e t) (U := fun (r : ℕ) f => ux (xR m' c) (wgR m' c) (256 * t.val + r) f) (hU t) (cr_at e t.val t.isLt) (b3 e t) a f).trans (Cert.Reference5Ideal.Hand.dsl_at m' c (R t a) f).symm

omit e in
theorem emb10 (t : Fin cfg0.N) (a : Fin 256) (d : Fin 1024) : ((cfg0.win 10).blk t).view.emb (ix2 a d) = ix2 (R t a) d := by blk_ext [idx t, R]
theorem final10 : (dats m 0 c).arrAt 10 cfg0.N = Cert.Reference5Ideal.Value.res_main_v40 m' c := by
  refine (dats m 0 c).arrAt_eq_of_covers 10 _ (by decide +kernel) fun t _ y => ?_
  blk_simp
  rw [after0_10, outs_eq]
  obtain ⟨a, d, rfl⟩ : ∃ (a : Fin 256) (d : Fin 1024), y = ix2 a d := ⟨y 0, y 1, eq_ix2 y⟩
  refine Eq.trans ?_ (congrArg (Cert.Reference5Ideal.Value.res_main_v40 m' c : S16384x1024.Idx → EReal) (emb10 t a d)).symm
  exact (z2K_at _ _ _ _ _ _ _ _ (b0 e t) (b1 e t) (U := fun (r : ℕ) f => ux (xR m' c) (wgR m' c) (256 * t.val + r) f) (hU t) (cr_at e t.val t.isLt) (b3 e t) (b2 e t) (b4 e t) a d).trans (Cert.Reference5Ideal.Hand.z2_at m' c (R t a) d).symm
end agree

theorem ends_value (ρ : Dev nD → PrngReg) (e : ∀ c, Agree m m' c) :
    θ_run defs (onTc (τ := τ) (main (F := Ideal))) ⟨m, fun _ => 0, ρ⟩ (fun r => ∀ c : Dev nD,
      r.2.mem ((c.tc : Thread nD τ).loc main_v7_0) = (truncf .bf16 (Cert.Reference5Ideal.Hand.ugR m' c) bitsLt_bf16_f32 : FVec Ideal S16384x2816 .bf16)
      ∧ r.2.mem ((c.tc : Thread nD τ).loc main_v7_1) = (truncf .bf16 (Cert.Reference5Ideal.Hand.uvR m' c) bitsLt_bf16_f32 : FVec Ideal S16384x2816 .bf16)
      ∧ r.2.mem ((c.tc : Thread nD τ).loc main_v7_2) = Cert.Reference5Ideal.Value.res_main_v34 m' c
      ∧ r.2.mem ((c.tc : Thread nD τ).loc main_v7_3) = Cert.Reference5Ideal.Value.res_main_v35 m' c
      ∧ r.2.mem ((c.tc : Thread nD τ).loc main_v7_4) = Cert.Reference5Ideal.Value.res_main_v40 m' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (final6 (e c)),
    ((h.1 c).1 7).trans (final7 (e c)),
    ((h.1 c).1 8).trans (final8 (e c)),
    ((h.1 c).1 9).trans (final9 (e c)),
    ((h.1 c).1 10).trans (final10 (e c)),
    ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩) (run_main_quiescent m ρ)

end Cert.Kernel5Ideal.Hand

end
-- ==== Proof.FfnLastBody.lean ====
module

public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Frame
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.Pipeline.ValueKit
public import Idealize.ShloMosaic.Lib.WordCmp

@[expose] public section

set_option maxRecDepth 16384

noncomputable section

namespace Cert.Kernel6Ideal.Hand

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev hbM : Memref sig .tc .hbm S8x1472x1024 .f32 := Memref.whole main_v58_0
abbrev scU : Memref sig .tc .vmem S264x2816 .f32 := Memref.whole cc0_scratch0
abbrev scD : Memref sig .tc .vmem S264x2816 .f32 := Memref.whole cc0_scratch1
abbrev scW : Memref sig .tc .vmem S2816x1024 .f32 := Memref.whole cc0_scratch2
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev isFirst (i : grid0.Coords) : Prop :=
  Scalar.cmpi .ne (Scalar.extui (Scalar.cmpi .eq (BitVec.ofNat 32 (i 0).val) 0#32) : BitVec 32) 0#32 = 1#1
abbrev isLater (i : grid0.Coords) : Prop :=
  Scalar.cmpi .ne (Scalar.extui (Scalar.cmpi .sgt (BitVec.ofNat 32 (i 0).val) 0#32) : BitVec 32) 0#32 = 1#1
abbrev isLast (i : grid0.Coords) : Prop :=
  Scalar.cmpi .ne (Scalar.extui (Scalar.cmpi .eq (BitVec.ofNat 32 (i 0).val) 63#32) : BitVec 32) 0#32 = 1#1

/-- A load of a whole buffer reads what the buffer is held at. -/
theorem load_full {κ : Kind} {sp : Space} {s : Shape} {e : EltTy} (v : View sig κ sp s e) (f : v.ty.Contents (Elt F)) {off : Fin s.rank → ℕ}
    (inb : ∀ a, off a + s.size a ≤ s.size a) {X : s.Idx → Elt F e} (h : View.read (Elt F) v f = X) :
    View.readAt (Elt F) v (Rect.unit off s.size inb).toLoadRect f = X := (View.readAt_full v f inb).trans h

section lists
variable {Val : EltTy → Type} [∀ e, Nonempty (Val e)] {κ : Kind} {sp : Space} {s : Shape} {e : EltTy}

/-- The piece that stands for a buffer's contents before the stores. -/
abbrev under (X : s.Idx → Val e) : View.Piece Val s e := ⟨Rect.unit (fun _ => 0) s.size (fun _ => by simp), X⟩

theorem canon_under (X : s.Idx → Val e) : View.canon [under X] = X := View.canon_cons_unit_lit _ X [] fun _ => rfl

theorem canon_append {M M' : List (View.Piece Val s e)} (h : View.canon M = View.canon M') :
    ∀ L : List (View.Piece Val s e), View.canon (L ++ M) = View.canon (L ++ M')
  | [] => h
  | p :: L => by rw [List.cons_append, List.cons_append, View.canon_cons, View.canon_cons, canon_append h L]

/-- Stores into a buffer, covering it or not: the stores over what it held. -/
theorem read_writes_under (v : View sig κ sp s e) (f : v.ty.Contents Val) :
    ∀ L : List (View.Piece Val s e), v.read Val (v.writes Val f L) = View.canon (L ++ [under (v.read Val f)])
  | [] => (canon_under _).symm
  | p :: L => by
    funext y
    by_cases hy : y ∈ p.1.set
    · obtain ⟨r, w⟩ := p
      obtain ⟨x, rfl⟩ : ∃ x, r.emb x = y := r.exists_idx_of_mem hy
      rw [View.read_writes_cons_emb, List.cons_append, View.canon_cons_emb]
    · have hy' : y ∉ Finset.univ.map p.1.emb := by rwa [Rect.map_emb_univ]
      rw [View.writes_cons, View.read_slice_write_of_not_mem p.1 _ _ _ hy', List.cons_append, View.canon_cons_of_not_mem p _ hy, read_writes_under v f L]

theorem read_of_under {v : View sig κ sp s e} {f : v.ty.Contents Val} {L L' : List (View.Piece Val s e)} (h : L ++ [under (v.read Val f)] = L') :
    v.read Val (v.writes Val f L) = View.canon L' := h ▸ read_writes_under v f L

theorem read_of_list {v : View sig κ sp s e} {f : v.ty.Contents Val} {L L' : List (View.Piece Val s e)} (hc : ∀ y, ∃ p ∈ L', y ∈ p.1.set) (h : L = L') :
    v.read Val (v.writes Val f L) = View.canon L' := by subst h; exact View.read_writes_eq_canon _ _ _ hc

/-- Stores over a fill of the whole buffer. -/
theorem read_of_fill {v : View sig κ sp s e} {f : v.ty.Contents Val} {L L' : List (View.Piece Val s e)} {X : s.Idx → Val e} {off : Fin s.rank → ℕ}
    (inb : ∀ a, off a + s.size a ≤ s.size a) (ho : ∀ a, off a = 0) (h : L' = L ++ [⟨Rect.unit off s.size inb, X⟩]) :
    v.read Val (v.writes Val f L') = View.canon (L ++ [under X]) := by
  have hX : View.canon [(⟨Rect.unit off s.size inb, X⟩ : View.Piece Val s e)] = X := View.canon_cons_unit_lit _ X [] ho
  rw [read_writes_under, h, List.append_assoc]
  refine canon_append ?_ L
  rw [canon_under, List.singleton_append]
  exact View.canon_cons_unit_lit _ X _ ho

theorem canon_skip (X : s.Idx → Val e) (r : Rect s) : ∀ L : List (View.Piece Val s e),
    (L.all fun p => LoadRect.disj p.1 r.toLoadRect) = true → ∀ j, View.canon (L ++ [under X]) (r.toLoadRect.idx j) = X (r.toLoadRect.idx j)
  | [], _, j => congrFun (canon_under X) _
  | p :: L, h, j => by
    rw [List.all_cons, Bool.and_eq_true] at h
    rw [List.cons_append, View.canon_cons_of_not_mem p _ (LoadRect.idx_not_mem_of_disj h.1 j)]
    exact canon_skip X r L h.2 j

/-- A load that misses every store but the first, which filled the buffer, reads what it was filled with. -/
theorem readCov_drop (v : View sig κ sp s e) (L : List (View.Piece Val s e)) (X : s.Idx → Val e) (r : Rect s) {off : Fin s.rank → ℕ}
    (inb : ∀ a, off a + s.size a ≤ s.size a) (ho : ∀ a, off a = 0) (hL : L = L.dropLast ++ [⟨Rect.unit off s.size inb, X⟩])
    (hd : (L.dropLast.all fun p => LoadRect.disj p.1 r.toLoadRect) = true) : v.readCov L r.toLoadRect = View.ld X r := by
  rw [View.readCov_eq_canon', hL, canon_append (M' := [under X]) ((View.canon_cons_unit_lit _ X [] ho).trans (canon_under X).symm)]
  exact funext fun j => canon_skip X r _ hd j

theorem canon_covered {Val : EltTy → Type} [∀ e, Nonempty (Val e)] {s : Shape} {e : EltTy} {L L' : List (View.Piece Val s e)} {M : List (View.Piece Val s e)}
    (hc : ∀ y, ∃ p ∈ L, y ∈ p.1.set) (h : L = L') : View.canon (L ++ M) = View.canon L' := by
  subst h
  funext y
  have hy := hc y
  clear hc
  induction L with
  | nil => obtain ⟨p, hp, _⟩ := hy; exact absurd hp List.not_mem_nil
  | cons q L ih =>
    by_cases hq : y ∈ q.1.set
    · obtain ⟨r, w⟩ := q
      obtain ⟨x, rfl⟩ : ∃ x, r.emb x = y := r.exists_idx_of_mem hq
      rw [List.cons_append, View.canon_cons_emb, View.canon_cons_emb]
    · rw [List.cons_append, View.canon_cons_of_not_mem q _ hq, View.canon_cons_of_not_mem q _ hq]
      refine ih ?_
      obtain ⟨p, hp, hy⟩ := hy
      rcases List.mem_cons.mp hp with rfl | hp
      · exact absurd hy hq
      · exact ⟨p, hp, hy⟩

end lists

/-! ## What a point leaves, in eleven groups of 256 lanes -/

abbrev rT (q : Fin 11) : Rect S256x2816 := Rect.unit ![0, 256 * q.val] S256x256.size (by revert q; decide)
abbrev rP (q : Fin 11) : Rect S1024x2816 := Rect.unit ![0, 256 * q.val] S1024x256.size (by revert q; decide)
abbrev rW (q : Fin 11) : Rect S2816x1024 := Rect.unit ![256 * q.val, 0] S256x1024.size (by revert q; decide)
abbrev rS (k : Fin 9) (q : Fin 11) : Rect S264x2816 := Rect.unit ![k.val, 256 * q.val] S256x256.size (by revert k q; decide)
abbrev rC (k : Fin 4) (q : Fin 11) : Rect S8x2816 := Rect.unit ![k.val, 256 * q.val] S1x256.size (by revert k q; decide)
abbrev rV (k : Fin 2) : Rect S8x1024 := Rect.unit ![k.val, 0] S1x1024.size (by revert k; decide)
abbrev rZ : Rect S256x1024 := Rect.unit ![0, 0] S256x1024.size inb_S256x1024_S256x1024_0_0
abbrev rL : Rect S8x128 := Rect.unit ![0, 0] S8x128.size inb_S8x128_S8x128_0_0
abbrev rH : Rect S256x2816 := Rect.unit ![0, 0] S256x2816.size inb_S256x2816_S256x2816_0_0
abbrev rG : Rect S16x2816 := Rect.unit ![0, 0] S16x2816.size inb_S16x2816_S16x2816_0_0

section forms
variable (a0 : BitVec 32) (X2 X3 : Vec F S256x1024 .f32) (X4 X5 X6 X7 : Vec F S256x2816 .bf16) (X8 : Vec F S16x2816 .bf16) (X9 : Vec F S8x2816 .f32)
  (X10 : Vec F S1024x2816 .bf16) (X11 : Vec F S8x1024 .f32) (X16 : Vec F S8x2816 .f32) (X17 : Vec F S8x1024 .f32) (X18 : Vec F S8x128 .f32) (X20 : Vec F S264x2816 .f32) (X21 : Vec F S2816x1024 .f32)
  (cr : FVec F S8x2816 .f32)

/-- How far the layer's result is from the target. -/
def diK : FVec F S256x1024 .f32 := k0_pay11 (View.ld X3 rZ) (View.ld X11 (rV 0)) (View.ld X11 (rV 1)) (View.ld X2 rZ)
/-- The gradient of the layer's normalised sum, and the same scaled for the products. -/
def dzK : Vec F S256x1024 .f32 := k0_pay21 (k0_pay9 (View.ld X3 rZ)) (k0_pay10 (View.ld X3 rZ)) (k0_pay18 (diK X2 X3 X11) (View.ld X11 (rV 0)))
  (k0_pay19 (k0_pay10 (View.ld X3 rZ)) (diK X2 X3 X11) (View.ld X11 (rV 0))) (k0_pay20 (diK X2 X3 X11) (View.ld X11 (rV 0)))
def dyK : Vec F S256x1024 .bf16 := k0_pay22 (k0_pay9 (View.ld X3 rZ)) (k0_pay10 (View.ld X3 rZ)) (k0_pay18 (diK X2 X3 X11) (View.ld X11 (rV 0)))
  (k0_pay19 (k0_pay10 (View.ld X3 rZ)) (diK X2 X3 X11) (View.ld X11 (rV 0))) (k0_pay20 (diK X2 X3 X11) (View.ld X11 (rV 0)))
/-- The gate rows with the eight before them. -/
def uL : List (View.Piece (Elt F) S264x2816 .f32) :=
  [⟨Rect.unit ![8, 0] S256x2816.size inb_S264x2816_S256x2816_8_0, k0_pay24 (View.ld X4 rH)⟩,
   ⟨Rect.unit ![0, 0] S8x2816.size inb_S264x2816_S8x2816_0_0, k0_pay23 a0 (View.ld X8 rG)⟩]
def tapK (k : Fin 9) (q : Fin 11) : Vec F S256x256 .f32 := scU.view.readCov (uL a0 X4 X8) (rS k q).toLoadRect
def dgK (q : Fin 11) : FVec F S256x256 .f32 := k0_pay31 (dyK X2 X3 X11) (k0_pay26 (View.ld X5 (rT q))) (View.ld X10 (rP q)) (View.ld X7 (rT q))
/-- The gate's gradient with the eight rows after it, as far as group `n`. -/
def dgL : ℕ → List (View.Piece (Elt F) S264x2816 .f32)
  | 0 => [⟨Rect.unit ![256, 0] S8x2816.size inb_S264x2816_S8x2816_256_0, cr⟩]
  | n + 1 => ⟨rS 0 (Fin.ofNat 11 n), k0_pay32 (dyK X2 X3 X11) (k0_pay26 (View.ld X5 (rT (Fin.ofNat 11 n)))) (View.ld X10 (rP (Fin.ofNat 11 n))) (View.ld X7 (rT (Fin.ofNat 11 n)))⟩ :: dgL n
def shK (k : Fin 9) (q : Fin 11) : Vec F S256x256 .f32 := scD.view.readCov (dgL X2 X3 X5 X7 X10 X11 cr (q.val + 1)) (rS k q).toLoadRect
def dugP (q : Fin 11) : View.Piece (Elt F) S256x2816 .bf16 :=
  ⟨rT q, k0_pay37 (dgK X2 X3 X5 X7 X10 X11 q) (View.ld X9 (rC 2 q)) (View.ld X9 (rC 1 q)) (shK X2 X3 X5 X7 X10 X11 cr 1 q)
    (View.ld X9 (rC 0 q)) (shK X2 X3 X5 X7 X10 X11 cr 2 q)⟩
def duvP (q : Fin 11) : View.Piece (Elt F) S256x2816 .bf16 := ⟨rT q, k0_pay30 (dyK X2 X3 X11) (k0_pay25 (View.ld X6 (rT q))) (View.ld X10 (rP q))⟩
/-- The sums so far are `w`, group by group. -/
def dwdP (w : Fin 11 → Vec F S256x1024 .f32) (q : Fin 11) : View.Piece (Elt F) S2816x1024 .f32 :=
  ⟨rW q, k0_pay28 (dyK X2 X3 X11) (k0_pay27 (View.ld X6 (rT q)) (View.ld X5 (rT q))) (w q)⟩
def dcfP (w : Fin 11 → Fin 4 → Vec F S1x256 .f32) (q : Fin 11) : List (View.Piece (Elt F) S8x2816 .f32) :=
  [⟨rC 2 q, k0_pay48 (tapK a0 X4 X8 8 q) (dgK X2 X3 X5 X7 X10 X11 q) (w q 2)⟩,
   ⟨rC 1 q, k0_pay47 (tapK a0 X4 X8 7 q) (dgK X2 X3 X5 X7 X10 X11 q) (w q 1)⟩,
   ⟨rC 0 q, k0_pay46 (tapK a0 X4 X8 6 q) (dgK X2 X3 X5 X7 X10 X11 q) (w q 0)⟩,
   ⟨rC 3 q, k0_pay45 (dgK X2 X3 X5 X7 X10 X11 q) (w q 3)⟩]
def dv2P (w : Fin 2 → Vec F S1x1024 .f32) : List (View.Piece (Elt F) S8x1024 .f32) :=
  [⟨rV 1, k0_pay17 (diK X2 X3 X11) (w 1)⟩, ⟨rV 0, k0_pay16 (k0_pay10 (View.ld X3 rZ)) (diK X2 X3 X11) (w 0)⟩]
def groups {α : Type} (f : Fin 11 → α) : List α := [f 10, f 9, f 8, f 7, f 6, f 5, f 4, f 3, f 2, f 1, f 0]

def dugK : Vec F S256x2816 .bf16 := View.canon (groups (dugP X2 X3 X5 X7 X9 X10 X11 cr))
def duvK : Vec F S256x2816 .bf16 := View.canon (groups (duvP X2 X3 X6 X10 X11))
def dwdK : Vec F S2816x1024 .f32 := View.canon (groups (dwdP X2 X3 X5 X6 X11 fun q => View.ld X21 (rW q)))
def dgbK : Vec F S264x2816 .f32 := View.canon (dgL X2 X3 X5 X7 X10 X11 cr 11)
def dcfK : Vec F S8x2816 .f32 := View.canon ((groups (dcfP a0 X2 X3 X4 X5 X7 X8 X10 X11 fun q k => View.ld X16 (rC k q))).flatten ++ [under X16])
def dv2K : Vec F S8x1024 .f32 := View.canon (dv2P X2 X3 X11 (fun k => View.ld X17 (rV k)) ++ [under X17])
/-- The loss so far is `X18`; a point adds its rows'. -/
def lossK : Vec F S8x128 .f32 := k0_pay14 (k0_pay12 (View.ld X18 rL)) (k0_pay13 (View.ld X3 rZ) (View.ld X11 (rV 0)) (View.ld X11 (rV 1)) (View.ld X2 rZ))
/-- The eight rows a point hands to the one before it in the sequence. -/
def carryK : FVec F S8x2816 .f32 := k0_pay7 (View.ld X20 (Rect.unit ![0, 0] S8x2816.size inb_S264x2816_S8x2816_0_0))

theorem dug_cover : ∀ y, ∃ p ∈ groups (dugP X2 X3 X5 X7 X9 X10 X11 cr), y ∈ p.1.set := View.cover_of_tiledL _ S256x256.size (by sl_kernel_rfl)
theorem duv_cover : ∀ y, ∃ p ∈ groups (duvP X2 X3 X6 X10 X11), y ∈ p.1.set := View.cover_of_tiledL _ S256x256.size (by sl_kernel_rfl)
theorem dwd_cover (w : Fin 11 → Vec F S256x1024 .f32) : ∀ y, ∃ p ∈ groups (dwdP X2 X3 X5 X6 X11 w), y ∈ p.1.set := View.cover_of_tiledL _ S256x1024.size (by sl_kernel_rfl)
theorem dgb_cover : ∀ y, ∃ p ∈ dgL X2 X3 X5 X7 X10 X11 cr 11, y ∈ p.1.set := View.cover_of_tiledBy _ ![8, 256] (by sl_kernel_rfl)
end forms

theorem hb_of_eq (c : Dev nD) {f g : S8x1472x1024.Idx → Elt F .f32} (h : f = g) : (hbPt c hbM f : sProp 𝕄) ⊢ hbPt c hbM g := by subst h; exact .rfl

/-- A copy into rows of the result left in HBM, through the squeezed slice the body names, is an update of it. -/
theorem write_rows (off : Fin 3 → ℕ) (inb : ∀ a, off a + S1x352x1024.size a ≤ S8x1472x1024.size a) (hst) (hsq)
    (f : S8x1472x1024.Idx → Elt F .f32) (w : S352x1024.Idx → Elt F .f32) :
    View.write (Elt F) ((hbM.slice (Rect.unit (s := S8x1472x1024) off S1x352x1024.size inb) hst).squeeze S352x1024 hsq).view f w Finset.univ
      = updateSlice f (shapeCast S1x352x1024 w (by decide)) off ⟨rfl, inb⟩ := by
  refine (View.write_reshape_univ _ _ _ _).trans ?_
  exact View.write_whole_slice_unit main_v58_0 off S1x352x1024.size inb f _

/-- The rows of the accumulator a copy reads. -/
def accRows (off : Fin 2 → ℕ) (inb : ∀ a, off a + S352x1024.size a ≤ S2816x1024.size a) (A : S2816x1024.Idx → Elt F .f32) : S352x1024.Idx → Elt F .f32 :=
  fun x => A ((Rect.unit (s := S2816x1024) off S352x1024.size inb).emb x)

theorem read_rows (off : Fin 2 → ℕ) (inb : ∀ a, off a + S352x1024.size a ≤ S2816x1024.size a) (hst) (f : BufTy.Contents (Elt F) scW.view.ty) (A)
    (h : View.read (Elt F) scW.view f = A) :
    View.read (Elt F) (scW.slice (Rect.unit (s := S2816x1024) off S352x1024.size inb) hst).view f = accRows off inb A := by
  subst h; rfl

/-- The result left in HBM after the last point: the sum's eight row groups over the last rows of the slabs. -/
def slabsOf (f : S8x1472x1024.Idx → Elt F .f32) (A : S2816x1024.Idx → Elt F .f32) : S8x1472x1024.Idx → Elt F .f32 :=
  updateSlice (updateSlice (updateSlice (updateSlice (updateSlice (updateSlice (updateSlice (updateSlice f
    (shapeCast S1x352x1024 (accRows ![0, 0] inb_S2816x1024_S352x1024_0_0 A) (by decide)) ![0, 1056, 0] ⟨rfl, inb_S8x1472x1024_S1x352x1024_0_1056_0⟩)
    (shapeCast S1x352x1024 (accRows ![352, 0] inb_S2816x1024_S352x1024_352_0 A) (by decide)) ![1, 1056, 0] ⟨rfl, inb_S8x1472x1024_S1x352x1024_1_1056_0⟩)
    (shapeCast S1x352x1024 (accRows ![704, 0] inb_S2816x1024_S352x1024_704_0 A) (by decide)) ![2, 1056, 0] ⟨rfl, inb_S8x1472x1024_S1x352x1024_2_1056_0⟩)
    (shapeCast S1x352x1024 (accRows ![1056, 0] inb_S2816x1024_S352x1024_1056_0 A) (by decide)) ![3, 1056, 0] ⟨rfl, inb_S8x1472x1024_S1x352x1024_3_1056_0⟩)
    (shapeCast S1x352x1024 (accRows ![1408, 0] inb_S2816x1024_S352x1024_1408_0 A) (by decide)) ![4, 1056, 0] ⟨rfl, inb_S8x1472x1024_S1x352x1024_4_1056_0⟩)
    (shapeCast S1x352x1024 (accRows ![1760, 0] inb_S2816x1024_S352x1024_1760_0 A) (by decide)) ![5, 1056, 0] ⟨rfl, inb_S8x1472x1024_S1x352x1024_5_1056_0⟩)
    (shapeCast S1x352x1024 (accRows ![2112, 0] inb_S2816x1024_S352x1024_2112_0 A) (by decide)) ![6, 1056, 0] ⟨rfl, inb_S8x1472x1024_S1x352x1024_6_1056_0⟩)
    (shapeCast S1x352x1024 (accRows ![2464, 0] inb_S2816x1024_S352x1024_2464_0 A) (by decide)) ![7, 1056, 0] ⟨rfl, inb_S8x1472x1024_S1x352x1024_7_1056_0⟩

/-- The same as the run writes it. -/
def slabsW (f : S8x1472x1024.Idx → Elt F .f32) (A : S2816x1024.Idx → Elt F .f32) : S8x1472x1024.Idx → Elt F .f32 :=
  (View.write (Elt F) ((hbM.slice (Rect.unit (s := S8x1472x1024) ![7, 1056, 0] S1x352x1024.size inb_S8x1472x1024_S1x352x1024_7_1056_0) (fun _ => rfl)).squeeze S352x1024 squeezes_S1x352x1024_S352x1024).view
    (View.write (Elt F) ((hbM.slice (Rect.unit (s := S8x1472x1024) ![6, 1056, 0] S1x352x1024.size inb_S8x1472x1024_S1x352x1024_6_1056_0) (fun _ => rfl)).squeeze S352x1024 squeezes_S1x352x1024_S352x1024).view
    (View.write (Elt F) ((hbM.slice (Rect.unit (s := S8x1472x1024) ![5, 1056, 0] S1x352x1024.size inb_S8x1472x1024_S1x352x1024_5_1056_0) (fun _ => rfl)).squeeze S352x1024 squeezes_S1x352x1024_S352x1024).view
    (View.write (Elt F) ((hbM.slice (Rect.unit (s := S8x1472x1024) ![4, 1056, 0] S1x352x1024.size inb_S8x1472x1024_S1x352x1024_4_1056_0) (fun _ => rfl)).squeeze S352x1024 squeezes_S1x352x1024_S352x1024).view
    (View.write (Elt F) ((hbM.slice (Rect.unit (s := S8x1472x1024) ![3, 1056, 0] S1x352x1024.size inb_S8x1472x1024_S1x352x1024_3_1056_0) (fun _ => rfl)).squeeze S352x1024 squeezes_S1x352x1024_S352x1024).view
    (View.write (Elt F) ((hbM.slice (Rect.unit (s := S8x1472x1024) ![2, 1056, 0] S1x352x1024.size inb_S8x1472x1024_S1x352x1024_2_1056_0) (fun _ => rfl)).squeeze S352x1024 squeezes_S1x352x1024_S352x1024).view
    (View.write (Elt F) ((hbM.slice (Rect.unit (s := S8x1472x1024) ![1, 1056, 0] S1x352x1024.size inb_S8x1472x1024_S1x352x1024_1_1056_0) (fun _ => rfl)).squeeze S352x1024 squeezes_S1x352x1024_S352x1024).view
    (View.write (Elt F) ((hbM.slice (Rect.unit (s := S8x1472x1024) ![0, 1056, 0] S1x352x1024.size inb_S8x1472x1024_S1x352x1024_0_1056_0) (fun _ => rfl)).squeeze S352x1024 squeezes_S1x352x1024_S352x1024).view
    f (accRows ![0, 0] inb_S2816x1024_S352x1024_0_0 A) Finset.univ) (accRows ![352, 0] inb_S2816x1024_S352x1024_352_0 A) Finset.univ) (accRows ![704, 0] inb_S2816x1024_S352x1024_704_0 A) Finset.univ) (accRows ![1056, 0] inb_S2816x1024_S352x1024_1056_0 A) Finset.univ) (accRows ![1408, 0] inb_S2816x1024_S352x1024_1408_0 A) Finset.univ) (accRows ![1760, 0] inb_S2816x1024_S352x1024_1760_0 A) Finset.univ) (accRows ![2112, 0] inb_S2816x1024_S352x1024_2112_0 A) Finset.univ) (accRows ![2464, 0] inb_S2816x1024_S352x1024_2464_0 A) Finset.univ)

theorem slabsW_eq (f : S8x1472x1024.Idx → Elt F .f32) (A : S2816x1024.Idx → Elt F .f32) : slabsW f A = slabsOf f A := by
  unfold slabsOf slabsW
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  refine (write_rows _ _ _ _ _ _).trans (congrArg (fun g : S8x1472x1024.Idx → Elt F .f32 => updateSlice g _ _ _) ?_)
  exact write_rows _ _ _ _ _ _

section run
variable (c : Dev nD) (i : grid0.Coords)
  (arg1 : Memref sig .tc .hbm S8x1472x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x2816 .bf16) (harg4 : arg4.IsWhole)
  (arg5 : Memref sig .tc .vmem S256x2816 .bf16) (harg5 : arg5.IsWhole)
  (arg6 : Memref sig .tc .vmem S256x2816 .bf16) (harg6 : arg6.IsWhole)
  (arg7 : Memref sig .tc .vmem S256x2816 .bf16) (harg7 : arg7.IsWhole)
  (arg8 : Memref sig .tc .vmem S16x2816 .bf16) (harg8 : arg8.IsWhole)
  (arg9 : Memref sig .tc .vmem S8x2816 .f32) (harg9 : arg9.IsWhole)
  (arg10 : Memref sig .tc .vmem S1024x2816 .bf16) (harg10 : arg10.IsWhole)
  (arg11 : Memref sig .tc .vmem S8x1024 .f32) (harg11 : arg11.IsWhole)
  (arg13 : Memref sig .tc .vmem S256x2816 .bf16) (harg13 : arg13.IsWhole)
  (arg14 : Memref sig .tc .vmem S256x2816 .bf16) (harg14 : arg14.IsWhole)
  (arg15 : Memref sig .tc .vmem S256x1024 .f32) (harg15 : arg15.IsWhole)
  (arg16 : Memref sig .tc .vmem S8x2816 .f32) (harg16 : arg16.IsWhole)
  (arg17 : Memref sig .tc .vmem S8x1024 .f32) (harg17 : arg17.IsWhole)
  (arg18 : Memref sig .tc .vmem S8x128 .f32) (harg18 : arg18.IsWhole)
  (X2 : Vec F S256x1024 .f32)
  (X3 : Vec F S256x1024 .f32)
  (X4 : Vec F S256x2816 .bf16)
  (X5 : Vec F S256x2816 .bf16)
  (X6 : Vec F S256x2816 .bf16)
  (X7 : Vec F S256x2816 .bf16)
  (X8 : Vec F S16x2816 .bf16)
  (X9 : Vec F S8x2816 .f32)
  (X10 : Vec F S1024x2816 .bf16)
  (X11 : Vec F S8x1024 .f32)
  (X16 : Vec F S8x2816 .f32) (X17 : Vec F S8x1024 .f32) (X18 : Vec F S8x128 .f32) (X20 : Vec F S264x2816 .f32) (X21 : Vec F S2816x1024 .f32)

set_option maxHeartbeats 40000000 in
theorem run_mid (h1 : ¬ isFirst i) (h2 : isLater i) (h3 : ¬ isLast i) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare X16
        ∗ owns (c : Thread nD τ) arg17 fullShare X17
        ∗ owns (c : Thread nD τ) arg18 fullShare X18
        ∗ (∃ d, owns (c : Thread nD τ) scU fullShare d)
        ∗ owns (c : Thread nD τ) scD fullShare X20
        ∗ owns (c : Thread nD τ) scW fullShare X21
        ∗ (iprop(owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11
          ∗ owns (c : Thread nD τ) arg13 fullShare (dugK X2 X3 X5 X7 X9 X10 X11 (carryK X20))
          ∗ owns (c : Thread nD τ) arg14 fullShare (duvK X2 X3 X6 X10 X11)
          ∗ owns (c : Thread nD τ) arg15 fullShare (dzK X2 X3 X11)
          ∗ owns (c : Thread nD τ) arg16 fullShare (dcfK (BitVec.ofNat 32 (i 0).val) X2 X3 X4 X5 X7 X8 X10 X11 X16)
          ∗ owns (c : Thread nD τ) arg17 fullShare (dv2K X2 X3 X11 X17)
          ∗ owns (c : Thread nD τ) arg18 fullShare (lossK X2 X3 X11 X18)
          ∗ (∃ d, owns (c : Thread nD τ) scU fullShare d)
          ∗ owns (c : Thread nD τ) scD fullShare (dgbK X2 X3 X5 X7 X10 X11 (carryK X20))
          ∗ owns (c : Thread nD τ) scW fullShare (dwdK X2 X3 X5 X6 X11 X21)) -∗ K ⟨⟩))
      ⊢ wp frame (wpE (defs₀ (F := F)) Variants.none c none) Set.univ
          (cc0_ffn_bwd_last i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 arg16 harg16 arg17 harg17 arg18 harg18
            scU (Memref.isWhole_whole _) scD (Memref.isWhole_whole _) scW (Memref.isWhole_whole _) cc0_scratch3) K := by
  simp only [cc0_ffn_bwd_last_eq_skeleton]; unfold cc0_ffn_bwd_last_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d13, %f13, -, H13⟩, ⟨%d14, %f14, -, H14⟩, ⟨%d15, %f15, -, H15⟩, ⟨%f16, %e16, H16⟩, ⟨%f17, %e17, H17⟩, ⟨%f18, %e18, H18⟩, ⟨%d19, %f19, -, H19⟩, ⟨%f20, %e20, H20⟩, ⟨%f21, %e21, H21⟩, Hk⟩
  subst e2
  subst e3
  subst e4
  subst e5
  subst e6
  subst e7
  subst e8
  subst e9
  subst e10
  subst e11
  subst e16
  subst e17
  subst e18
  subst e20
  subst e21
  sl_exec
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  isplitl [H13]; · iexists _; isplitr; swap; · iexact H13
                   ipureintro; exact (read_of_list (dug_cover _ _ _ _ _ _ _ _) (by sl_kernel_rfl))
  isplitl [H14]; · iexists _; isplitr; swap; · iexact H14
                   ipureintro; exact (read_of_list (duv_cover _ _ _ _ _) (by sl_kernel_rfl))
  isplitl [H15]; · iexists _; isplitr; swap; · iexact H15
                   ipureintro; exact View.read_writes_full _ _ _ _ _
  isplitl [H16]; · iexists _; isplitr; swap; · iexact H16
                   ipureintro; exact read_of_under (by sl_kernel_rfl)
  isplitl [H17]; · iexists _; isplitr; swap; · iexact H17
                   ipureintro; exact read_of_under (by sl_kernel_rfl)
  isplitl [H18]; · iexists _; isplitr; swap; · iexact H18
                   ipureintro; exact View.read_writes_full _ _ _ _ _
  isplitl [H19]; · iexists _; iexists _; isplitr; swap; · iexact H19
                   ipureintro; rfl
  isplitl [H20]; · iexists _; isplitr; swap; · iexact H20
                   ipureintro; exact (read_of_list (dgb_cover _ _ _ _ _ _ _) (by sl_kernel_rfl))
  iexists _; isplitr; swap; · iexact H21
  ipureintro; exact (read_of_list (dwd_cover _ _ _ _ _ _) (by sl_kernel_rfl))

set_option maxHeartbeats 40000000 in
theorem run_first (h1 : isFirst i) (h2 : ¬ isLater i) (h3 : ¬ isLast i) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) scU fullShare d)
        ∗ (∃ d, owns (c : Thread nD τ) scD fullShare d)
        ∗ (∃ d, owns (c : Thread nD τ) scW fullShare d)
        ∗ (iprop(owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11
          ∗ owns (c : Thread nD τ) arg13 fullShare (dugK X2 X3 X5 X7 X9 X10 X11 k0_pay6)
          ∗ owns (c : Thread nD τ) arg14 fullShare (duvK X2 X3 X6 X10 X11)
          ∗ owns (c : Thread nD τ) arg15 fullShare (dzK X2 X3 X11)
          ∗ owns (c : Thread nD τ) arg16 fullShare (dcfK (BitVec.ofNat 32 (i 0).val) X2 X3 X4 X5 X7 X8 X10 X11 k0_pay3)
          ∗ owns (c : Thread nD τ) arg17 fullShare (dv2K X2 X3 X11 k0_pay4)
          ∗ owns (c : Thread nD τ) arg18 fullShare (lossK X2 X3 X11 k0_pay5)
          ∗ (∃ d, owns (c : Thread nD τ) scU fullShare d)
          ∗ owns (c : Thread nD τ) scD fullShare (dgbK X2 X3 X5 X7 X10 X11 k0_pay6)
          ∗ owns (c : Thread nD τ) scW fullShare (dwdK X2 X3 X5 X6 X11 k0_pay2)) -∗ K ⟨⟩))
      ⊢ wp frame (wpE (defs₀ (F := F)) Variants.none c none) Set.univ
          (cc0_ffn_bwd_last i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 arg16 harg16 arg17 harg17 arg18 harg18
            scU (Memref.isWhole_whole _) scD (Memref.isWhole_whole _) scW (Memref.isWhole_whole _) cc0_scratch3) K := by
  simp only [cc0_ffn_bwd_last_eq_skeleton]; unfold cc0_ffn_bwd_last_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst e2
  subst e3
  subst e4
  subst e5
  subst e6
  subst e7
  subst e8
  subst e9
  subst e10
  subst e11
  sl_exec
  sl_step
  iapply Hk
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  have e_v34 : run_first.sl.v34 (F := F) c arg18 = View.ld k0_pay5 rL := readCov_drop _ _ _ _ inb_S8x128_S8x128_0_0 (by decide) (by sl_kernel_rfl) (by sl_kernel_rfl)
  have e_v129 : run_first.sl.v129 (F := F) c arg16 = View.ld k0_pay3 (rC 3 0) := readCov_drop _ _ _ _ inb_S8x2816_S8x2816_0_0 (by decide) (by sl_kernel_rfl) (by sl_kernel_rfl)
  have e_v135 : run_first.sl.v135 (F := F) c arg2 arg3 arg5 arg7 arg10 arg11 arg16 f2 f3 f5 f7 f10 f11 = View.ld k0_pay3 (rC 0 0) := readCov_drop _ _ _ _ inb_S8x2816_S8x2816_0_0 (by decide) (by sl_kernel_rfl) (by sl_kernel_rfl)
  have e_v142 : run_first.sl.v142 (F := F) c i arg2 arg3 arg4 arg5 arg7 arg8 arg10 arg11 arg16 f2 f3 f4 f5 f7 f8 f10 f11 = View.ld k0_pay3 (rC 1 0) := readCov_drop _ _ _ _ inb_S8x2816_S8x2816_0_0 (by decide) (by sl_kernel_rfl) (by sl_kernel_rfl)
  have e_v149 : run_first.sl.v149 (F := F) c i arg2 arg3 arg4 arg5 arg7 arg8 arg10 arg11 arg16 f2 f3 f4 f5 f7 f8 f10 f11 = View.ld k0_pay3 (rC 2 0) := readCov_drop _ _ _ _ inb_S8x2816_S8x2816_0_0 (by decide) (by sl_kernel_rfl) (by sl_kernel_rfl)
  have e_v205 : run_first.sl.v205 (F := F) c i arg2 arg3 arg4 arg5 arg7 arg8 arg10 arg11 arg16 f2 f3 f4 f5 f7 f8 f10 f11 = View.ld k0_pay3 (rC 3 1) := readCov_drop _ _ _ _ inb_S8x2816_S8x2816_0_0 (by decide) (by sl_kernel_rfl) (by sl_kernel_rfl)
  have e_v211 : run_first.sl.v211 (F := F) c i arg2 arg3 arg4 arg5 arg7 arg8 arg10 arg11 arg16 f2 f3 f4 f5 f7 f8 f10 f11 = View.ld k0_pay3 (rC 0 1) := readCov_drop _ _ _ _ inb_S8x2816_S8x2816_0_0 (by decide) (by sl_kernel_rfl) (by sl_kernel_rfl)
  have e_v218 : run_first.sl.v218 (F := F) c i arg2 arg3 arg4 arg5 arg7 arg8 arg10 arg11 arg16 f2 f3 f4 f5 f7 f8 f10 f11 = View.ld k0_pay3 (rC 1 1) := readCov_drop _ _ _ _ inb_S8x2816_S8x2816_0_0 (by decide) (by sl_kernel_rfl) (by sl_kernel_rfl)
  have e_v225 : run_first.sl.v225 (F := F) c i arg2 arg3 arg4 arg5 arg7 arg8 arg10 arg11 arg16 f2 f3 f4 f5 f7 f8 f10 f11 = View.ld k0_pay3 (rC 2 1) := readCov_drop _ _ _ _ inb_S8x2816_S8x2816_0_0 (by decide) (by sl_kernel_rfl) (by sl_kernel_rfl)
  have e_v281 : run_first.sl.v281 (F := F) c i arg2 arg3 arg4 arg5 arg7 arg8 arg10 arg11 arg16 f2 f3 f4 f5 f7 f8 f10 f11 = View.ld k0_pay3 (rC 3 2) := readCov_drop _ _ _ _ inb_S8x2816_S8x2816_0_0 (by decide) (by sl_kernel_rfl) (by sl_kernel_rfl)
  have e_v287 : run_first.sl.v287 (F := F) c i arg2 arg3 arg4 arg5 arg7 arg8 arg10 arg11 arg16 f2 f3 f4 f5 f7 f8 f10 f11 = View.ld k0_pay3 (rC 0 2) := readCov_drop _ _ _ _ inb_S8x2816_S8x2816_0_0 (by decide) (by sl_kernel_rfl) (by sl_kernel_rfl)
  have e_v294 : run_first.sl.v294 (F := F) c i arg2 arg3 arg4 arg5 arg7 arg8 arg10 arg11 arg16 f2 f3 f4 f5 f7 f8 f10 f11 = View.ld k0_pay3 (rC 1 2) := readCov_drop _ _ _ _ inb_S8x2816_S8x2816_0_0 (by decide) (by sl_kernel_rfl) (by sl_kernel_rfl)
  have e_v301 : run_first.sl.v301 (F := F) c i arg2 arg3 arg4 arg5 arg7 arg8 arg10 arg11 arg16 f2 f3 f4 f5 f7 f8 f10 f11 = View.ld k0_pay3 (rC 2 2) := readCov_drop _ _ _ _ inb_S8x2816_S8x2816_0_0 (by decide) (by sl_kernel_rfl) (by sl_kernel_rfl)
  have e_v357 : run_first.sl.v357 (F := F) c i arg2 arg3 arg4 arg5 arg7 arg8 arg10 arg11 arg16 f2 f3 f4 f5 f7 f8 f10 f11 = View.ld k0_pay3 (rC 3 3) := readCov_drop _ _ _ _ inb_S8x2816_S8x2816_0_0 (by decide) (by sl_kernel_rfl) (by sl_kernel_rfl)
  have e_v363 : run_first.sl.v363 (F := F) c i arg2 arg3 arg4 arg5 arg7 arg8 arg10 arg11 arg16 f2 f3 f4 f5 f7 f8 f10 f11 = View.ld k0_pay3 (rC 0 3) := readCov_drop _ _ _ _ inb_S8x2816_S8x2816_0_0 (by decide) (by sl_kernel_rfl) (by sl_kernel_rfl)
  have e_v370 : run_first.sl.v370 (F := F) c i arg2 arg3 arg4 arg5 arg7 arg8 arg10 arg11 arg16 f2 f3 f4 f5 f7 f8 f10 f11 = View.ld k0_pay3 (rC 1 3) := readCov_drop _ _ _ _ inb_S8x2816_S8x2816_0_0 (by decide) (by sl_kernel_rfl) (by sl_kernel_rfl)
  have e_v377 : run_first.sl.v377 (F := F) c i arg2 arg3 arg4 arg5 arg7 arg8 arg10 arg11 arg16 f2 f3 f4 f5 f7 f8 f10 f11 = View.ld k0_pay3 (rC 2 3) := readCov_drop _ _ _ _ inb_S8x2816_S8x2816_0_0 (by decide) (by sl_kernel_rfl) (by sl_kernel_rfl)
  have e_v433 : run_first.sl.v433 (F := F) c i arg2 arg3 arg4 arg5 arg7 arg8 arg10 arg11 arg16 f2 f3 f4 f5 f7 f8 f10 f11 = View.ld k0_pay3 (rC 3 4) := readCov_drop _ _ _ _ inb_S8x2816_S8x2816_0_0 (by decide) (by sl_kernel_rfl) (by sl_kernel_rfl)
  have e_v439 : run_first.sl.v439 (F := F) c i arg2 arg3 arg4 arg5 arg7 arg8 arg10 arg11 arg16 f2 f3 f4 f5 f7 f8 f10 f11 = View.ld k0_pay3 (rC 0 4) := readCov_drop _ _ _ _ inb_S8x2816_S8x2816_0_0 (by decide) (by sl_kernel_rfl) (by sl_kernel_rfl)
  have e_v446 : run_first.sl.v446 (F := F) c i arg2 arg3 arg4 arg5 arg7 arg8 arg10 arg11 arg16 f2 f3 f4 f5 f7 f8 f10 f11 = View.ld k0_pay3 (rC 1 4) := readCov_drop _ _ _ _ inb_S8x2816_S8x2816_0_0 (by decide) (by sl_kernel_rfl) (by sl_kernel_rfl)
  have e_v453 : run_first.sl.v453 (F := F) c i arg2 arg3 arg4 arg5 arg7 arg8 arg10 arg11 arg16 f2 f3 f4 f5 f7 f8 f10 f11 = View.ld k0_pay3 (rC 2 4) := readCov_drop _ _ _ _ inb_S8x2816_S8x2816_0_0 (by decide) (by sl_kernel_rfl) (by sl_kernel_rfl)
  have e_v509 : run_first.sl.v509 (F := F) c i arg2 arg3 arg4 arg5 arg7 arg8 arg10 arg11 arg16 f2 f3 f4 f5 f7 f8 f10 f11 = View.ld k0_pay3 (rC 3 5) := readCov_drop _ _ _ _ inb_S8x2816_S8x2816_0_0 (by decide) (by sl_kernel_rfl) (by sl_kernel_rfl)
  have e_v515 : run_first.sl.v515 (F := F) c i arg2 arg3 arg4 arg5 arg7 arg8 arg10 arg11 arg16 f2 f3 f4 f5 f7 f8 f10 f11 = View.ld k0_pay3 (rC 0 5) := readCov_drop _ _ _ _ inb_S8x2816_S8x2816_0_0 (by decide) (by sl_kernel_rfl) (by sl_kernel_rfl)
  have e_v522 : run_first.sl.v522 (F := F) c i arg2 arg3 arg4 arg5 arg7 arg8 arg10 arg11 arg16 f2 f3 f4 f5 f7 f8 f10 f11 = View.ld k0_pay3 (rC 1 5) := readCov_drop _ _ _ _ inb_S8x2816_S8x2816_0_0 (by decide) (by sl_kernel_rfl) (by sl_kernel_rfl)
  have e_v529 : run_first.sl.v529 (F := F) c i arg2 arg3 arg4 arg5 arg7 arg8 arg10 arg11 arg16 f2 f3 f4 f5 f7 f8 f10 f11 = View.ld k0_pay3 (rC 2 5) := readCov_drop _ _ _ _ inb_S8x2816_S8x2816_0_0 (by decide) (by sl_kernel_rfl) (by sl_kernel_rfl)
  have e_v585 : run_first.sl.v585 (F := F) c i arg2 arg3 arg4 arg5 arg7 arg8 arg10 arg11 arg16 f2 f3 f4 f5 f7 f8 f10 f11 = View.ld k0_pay3 (rC 3 6) := readCov_drop _ _ _ _ inb_S8x2816_S8x2816_0_0 (by decide) (by sl_kernel_rfl) (by sl_kernel_rfl)
  have e_v591 : run_first.sl.v591 (F := F) c i arg2 arg3 arg4 arg5 arg7 arg8 arg10 arg11 arg16 f2 f3 f4 f5 f7 f8 f10 f11 = View.ld k0_pay3 (rC 0 6) := readCov_drop _ _ _ _ inb_S8x2816_S8x2816_0_0 (by decide) (by sl_kernel_rfl) (by sl_kernel_rfl)
  have e_v598 : run_first.sl.v598 (F := F) c i arg2 arg3 arg4 arg5 arg7 arg8 arg10 arg11 arg16 f2 f3 f4 f5 f7 f8 f10 f11 = View.ld k0_pay3 (rC 1 6) := readCov_drop _ _ _ _ inb_S8x2816_S8x2816_0_0 (by decide) (by sl_kernel_rfl) (by sl_kernel_rfl)
  have e_v605 : run_first.sl.v605 (F := F) c i arg2 arg3 arg4 arg5 arg7 arg8 arg10 arg11 arg16 f2 f3 f4 f5 f7 f8 f10 f11 = View.ld k0_pay3 (rC 2 6) := readCov_drop _ _ _ _ inb_S8x2816_S8x2816_0_0 (by decide) (by sl_kernel_rfl) (by sl_kernel_rfl)
  have e_v661 : run_first.sl.v661 (F := F) c i arg2 arg3 arg4 arg5 arg7 arg8 arg10 arg11 arg16 f2 f3 f4 f5 f7 f8 f10 f11 = View.ld k0_pay3 (rC 3 7) := readCov_drop _ _ _ _ inb_S8x2816_S8x2816_0_0 (by decide) (by sl_kernel_rfl) (by sl_kernel_rfl)
  have e_v667 : run_first.sl.v667 (F := F) c i arg2 arg3 arg4 arg5 arg7 arg8 arg10 arg11 arg16 f2 f3 f4 f5 f7 f8 f10 f11 = View.ld k0_pay3 (rC 0 7) := readCov_drop _ _ _ _ inb_S8x2816_S8x2816_0_0 (by decide) (by sl_kernel_rfl) (by sl_kernel_rfl)
  have e_v674 : run_first.sl.v674 (F := F) c i arg2 arg3 arg4 arg5 arg7 arg8 arg10 arg11 arg16 f2 f3 f4 f5 f7 f8 f10 f11 = View.ld k0_pay3 (rC 1 7) := readCov_drop _ _ _ _ inb_S8x2816_S8x2816_0_0 (by decide) (by sl_kernel_rfl) (by sl_kernel_rfl)
  have e_v681 : run_first.sl.v681 (F := F) c i arg2 arg3 arg4 arg5 arg7 arg8 arg10 arg11 arg16 f2 f3 f4 f5 f7 f8 f10 f11 = View.ld k0_pay3 (rC 2 7) := readCov_drop _ _ _ _ inb_S8x2816_S8x2816_0_0 (by decide) (by sl_kernel_rfl) (by sl_kernel_rfl)
  have e_v737 : run_first.sl.v737 (F := F) c i arg2 arg3 arg4 arg5 arg7 arg8 arg10 arg11 arg16 f2 f3 f4 f5 f7 f8 f10 f11 = View.ld k0_pay3 (rC 3 8) := readCov_drop _ _ _ _ inb_S8x2816_S8x2816_0_0 (by decide) (by sl_kernel_rfl) (by sl_kernel_rfl)
  have e_v743 : run_first.sl.v743 (F := F) c i arg2 arg3 arg4 arg5 arg7 arg8 arg10 arg11 arg16 f2 f3 f4 f5 f7 f8 f10 f11 = View.ld k0_pay3 (rC 0 8) := readCov_drop _ _ _ _ inb_S8x2816_S8x2816_0_0 (by decide) (by sl_kernel_rfl) (by sl_kernel_rfl)
  have e_v750 : run_first.sl.v750 (F := F) c i arg2 arg3 arg4 arg5 arg7 arg8 arg10 arg11 arg16 f2 f3 f4 f5 f7 f8 f10 f11 = View.ld k0_pay3 (rC 1 8) := readCov_drop _ _ _ _ inb_S8x2816_S8x2816_0_0 (by decide) (by sl_kernel_rfl) (by sl_kernel_rfl)
  have e_v757 : run_first.sl.v757 (F := F) c i arg2 arg3 arg4 arg5 arg7 arg8 arg10 arg11 arg16 f2 f3 f4 f5 f7 f8 f10 f11 = View.ld k0_pay3 (rC 2 8) := readCov_drop _ _ _ _ inb_S8x2816_S8x2816_0_0 (by decide) (by sl_kernel_rfl) (by sl_kernel_rfl)
  have e_v813 : run_first.sl.v813 (F := F) c i arg2 arg3 arg4 arg5 arg7 arg8 arg10 arg11 arg16 f2 f3 f4 f5 f7 f8 f10 f11 = View.ld k0_pay3 (rC 3 9) := readCov_drop _ _ _ _ inb_S8x2816_S8x2816_0_0 (by decide) (by sl_kernel_rfl) (by sl_kernel_rfl)
  have e_v819 : run_first.sl.v819 (F := F) c i arg2 arg3 arg4 arg5 arg7 arg8 arg10 arg11 arg16 f2 f3 f4 f5 f7 f8 f10 f11 = View.ld k0_pay3 (rC 0 9) := readCov_drop _ _ _ _ inb_S8x2816_S8x2816_0_0 (by decide) (by sl_kernel_rfl) (by sl_kernel_rfl)
  have e_v826 : run_first.sl.v826 (F := F) c i arg2 arg3 arg4 arg5 arg7 arg8 arg10 arg11 arg16 f2 f3 f4 f5 f7 f8 f10 f11 = View.ld k0_pay3 (rC 1 9) := readCov_drop _ _ _ _ inb_S8x2816_S8x2816_0_0 (by decide) (by sl_kernel_rfl) (by sl_kernel_rfl)
  have e_v833 : run_first.sl.v833 (F := F) c i arg2 arg3 arg4 arg5 arg7 arg8 arg10 arg11 arg16 f2 f3 f4 f5 f7 f8 f10 f11 = View.ld k0_pay3 (rC 2 9) := readCov_drop _ _ _ _ inb_S8x2816_S8x2816_0_0 (by decide) (by sl_kernel_rfl) (by sl_kernel_rfl)
  have e_v889 : run_first.sl.v889 (F := F) c i arg2 arg3 arg4 arg5 arg7 arg8 arg10 arg11 arg16 f2 f3 f4 f5 f7 f8 f10 f11 = View.ld k0_pay3 (rC 3 10) := readCov_drop _ _ _ _ inb_S8x2816_S8x2816_0_0 (by decide) (by sl_kernel_rfl) (by sl_kernel_rfl)
  have e_v895 : run_first.sl.v895 (F := F) c i arg2 arg3 arg4 arg5 arg7 arg8 arg10 arg11 arg16 f2 f3 f4 f5 f7 f8 f10 f11 = View.ld k0_pay3 (rC 0 10) := readCov_drop _ _ _ _ inb_S8x2816_S8x2816_0_0 (by decide) (by sl_kernel_rfl) (by sl_kernel_rfl)
  have e_v902 : run_first.sl.v902 (F := F) c i arg2 arg3 arg4 arg5 arg7 arg8 arg10 arg11 arg16 f2 f3 f4 f5 f7 f8 f10 f11 = View.ld k0_pay3 (rC 1 10) := readCov_drop _ _ _ _ inb_S8x2816_S8x2816_0_0 (by decide) (by sl_kernel_rfl) (by sl_kernel_rfl)
  have e_v909 : run_first.sl.v909 (F := F) c i arg2 arg3 arg4 arg5 arg7 arg8 arg10 arg11 arg16 f2 f3 f4 f5 f7 f8 f10 f11 = View.ld k0_pay3 (rC 2 10) := readCov_drop _ _ _ _ inb_S8x2816_S8x2816_0_0 (by decide) (by sl_kernel_rfl) (by sl_kernel_rfl)
  have e_v47 : run_first.sl.v47 (F := F) c arg17 = View.ld k0_pay4 (rV 0) := readCov_drop _ _ _ _ inb_S8x1024_S8x1024_0_0 (by decide) (by sl_kernel_rfl) (by sl_kernel_rfl)
  have e_v54 : run_first.sl.v54 (F := F) c arg2 arg3 arg11 arg17 f2 f3 f11 = View.ld k0_pay4 (rV 1) := readCov_drop _ _ _ _ inb_S8x1024_S8x1024_0_0 (by decide) (by sl_kernel_rfl) (by sl_kernel_rfl)
  have e_v109 : run_first.sl.v109 (F := F) c = View.ld k0_pay2 (rW 0) := readCov_drop _ _ _ _ inb_S2816x1024_S2816x1024_0_0 (by decide) (by sl_kernel_rfl) (by sl_kernel_rfl)
  have e_v185 : run_first.sl.v185 (F := F) c arg2 arg3 arg5 arg6 arg11 f2 f3 f5 f6 f11 = View.ld k0_pay2 (rW 1) := readCov_drop _ _ _ _ inb_S2816x1024_S2816x1024_0_0 (by decide) (by sl_kernel_rfl) (by sl_kernel_rfl)
  have e_v261 : run_first.sl.v261 (F := F) c arg2 arg3 arg5 arg6 arg11 f2 f3 f5 f6 f11 = View.ld k0_pay2 (rW 2) := readCov_drop _ _ _ _ inb_S2816x1024_S2816x1024_0_0 (by decide) (by sl_kernel_rfl) (by sl_kernel_rfl)
  have e_v337 : run_first.sl.v337 (F := F) c arg2 arg3 arg5 arg6 arg11 f2 f3 f5 f6 f11 = View.ld k0_pay2 (rW 3) := readCov_drop _ _ _ _ inb_S2816x1024_S2816x1024_0_0 (by decide) (by sl_kernel_rfl) (by sl_kernel_rfl)
  have e_v413 : run_first.sl.v413 (F := F) c arg2 arg3 arg5 arg6 arg11 f2 f3 f5 f6 f11 = View.ld k0_pay2 (rW 4) := readCov_drop _ _ _ _ inb_S2816x1024_S2816x1024_0_0 (by decide) (by sl_kernel_rfl) (by sl_kernel_rfl)
  have e_v489 : run_first.sl.v489 (F := F) c arg2 arg3 arg5 arg6 arg11 f2 f3 f5 f6 f11 = View.ld k0_pay2 (rW 5) := readCov_drop _ _ _ _ inb_S2816x1024_S2816x1024_0_0 (by decide) (by sl_kernel_rfl) (by sl_kernel_rfl)
  have e_v565 : run_first.sl.v565 (F := F) c arg2 arg3 arg5 arg6 arg11 f2 f3 f5 f6 f11 = View.ld k0_pay2 (rW 6) := readCov_drop _ _ _ _ inb_S2816x1024_S2816x1024_0_0 (by decide) (by sl_kernel_rfl) (by sl_kernel_rfl)
  have e_v641 : run_first.sl.v641 (F := F) c arg2 arg3 arg5 arg6 arg11 f2 f3 f5 f6 f11 = View.ld k0_pay2 (rW 7) := readCov_drop _ _ _ _ inb_S2816x1024_S2816x1024_0_0 (by decide) (by sl_kernel_rfl) (by sl_kernel_rfl)
  have e_v717 : run_first.sl.v717 (F := F) c arg2 arg3 arg5 arg6 arg11 f2 f3 f5 f6 f11 = View.ld k0_pay2 (rW 8) := readCov_drop _ _ _ _ inb_S2816x1024_S2816x1024_0_0 (by decide) (by sl_kernel_rfl) (by sl_kernel_rfl)
  have e_v793 : run_first.sl.v793 (F := F) c arg2 arg3 arg5 arg6 arg11 f2 f3 f5 f6 f11 = View.ld k0_pay2 (rW 9) := readCov_drop _ _ _ _ inb_S2816x1024_S2816x1024_0_0 (by decide) (by sl_kernel_rfl) (by sl_kernel_rfl)
  have e_v869 : run_first.sl.v869 (F := F) c arg2 arg3 arg5 arg6 arg11 f2 f3 f5 f6 f11 = View.ld k0_pay2 (rW 10) := readCov_drop _ _ _ _ inb_S2816x1024_S2816x1024_0_0 (by decide) (by sl_kernel_rfl) (by sl_kernel_rfl)
  isplitl [H13]; · iexists _; isplitr; swap; · iexact H13
                   ipureintro; exact (read_of_list (dug_cover _ _ _ _ _ _ _ _) (by sl_kernel_rfl))
  isplitl [H14]; · iexists _; isplitr; swap; · iexact H14
                   ipureintro; exact (read_of_list (duv_cover _ _ _ _ _) (by sl_kernel_rfl))
  isplitl [H15]; · iexists _; isplitr; swap; · iexact H15
                   ipureintro; exact View.read_writes_full _ _ _ _ _
  isplitl [H16]; · iexists _; isplitr; swap; · iexact H16
                   ipureintro; refine (read_of_fill (L := (groups (dcfP (BitVec.ofNat 32 (i 0).val) (arg2.view.read (Elt F) f2) (arg3.view.read (Elt F) f3) (arg4.view.read (Elt F) f4) (arg5.view.read (Elt F) f5) (arg7.view.read (Elt F) f7) (arg8.view.read (Elt F) f8) (arg10.view.read (Elt F) f10) (arg11.view.read (Elt F) f11) ![![run_first.sl.v135 c arg2 arg3 arg5 arg7 arg10 arg11 arg16 f2 f3 f5 f7 f10 f11, run_first.sl.v142 c i arg2 arg3 arg4 arg5 arg7 arg8 arg10 arg11 arg16 f2 f3 f4 f5 f7 f8 f10 f11, run_first.sl.v149 c i arg2 arg3 arg4 arg5 arg7 arg8 arg10 arg11 arg16 f2 f3 f4 f5 f7 f8 f10 f11, run_first.sl.v129 c arg16], ![run_first.sl.v211 c i arg2 arg3 arg4 arg5 arg7 arg8 arg10 arg11 arg16 f2 f3 f4 f5 f7 f8 f10 f11, run_first.sl.v218 c i arg2 arg3 arg4 arg5 arg7 arg8 arg10 arg11 arg16 f2 f3 f4 f5 f7 f8 f10 f11, run_first.sl.v225 c i arg2 arg3 arg4 arg5 arg7 arg8 arg10 arg11 arg16 f2 f3 f4 f5 f7 f8 f10 f11, run_first.sl.v205 c i arg2 arg3 arg4 arg5 arg7 arg8 arg10 arg11 arg16 f2 f3 f4 f5 f7 f8 f10 f11], ![run_first.sl.v287 c i arg2 arg3 arg4 arg5 arg7 arg8 arg10 arg11 arg16 f2 f3 f4 f5 f7 f8 f10 f11, run_first.sl.v294 c i arg2 arg3 arg4 arg5 arg7 arg8 arg10 arg11 arg16 f2 f3 f4 f5 f7 f8 f10 f11, run_first.sl.v301 c i arg2 arg3 arg4 arg5 arg7 arg8 arg10 arg11 arg16 f2 f3 f4 f5 f7 f8 f10 f11, run_first.sl.v281 c i arg2 arg3 arg4 arg5 arg7 arg8 arg10 arg11 arg16 f2 f3 f4 f5 f7 f8 f10 f11], ![run_first.sl.v363 c i arg2 arg3 arg4 arg5 arg7 arg8 arg10 arg11 arg16 f2 f3 f4 f5 f7 f8 f10 f11, run_first.sl.v370 c i arg2 arg3 arg4 arg5 arg7 arg8 arg10 arg11 arg16 f2 f3 f4 f5 f7 f8 f10 f11, run_first.sl.v377 c i arg2 arg3 arg4 arg5 arg7 arg8 arg10 arg11 arg16 f2 f3 f4 f5 f7 f8 f10 f11, run_first.sl.v357 c i arg2 arg3 arg4 arg5 arg7 arg8 arg10 arg11 arg16 f2 f3 f4 f5 f7 f8 f10 f11], ![run_first.sl.v439 c i arg2 arg3 arg4 arg5 arg7 arg8 arg10 arg11 arg16 f2 f3 f4 f5 f7 f8 f10 f11, run_first.sl.v446 c i arg2 arg3 arg4 arg5 arg7 arg8 arg10 arg11 arg16 f2 f3 f4 f5 f7 f8 f10 f11, run_first.sl.v453 c i arg2 arg3 arg4 arg5 arg7 arg8 arg10 arg11 arg16 f2 f3 f4 f5 f7 f8 f10 f11, run_first.sl.v433 c i arg2 arg3 arg4 arg5 arg7 arg8 arg10 arg11 arg16 f2 f3 f4 f5 f7 f8 f10 f11], ![run_first.sl.v515 c i arg2 arg3 arg4 arg5 arg7 arg8 arg10 arg11 arg16 f2 f3 f4 f5 f7 f8 f10 f11, run_first.sl.v522 c i arg2 arg3 arg4 arg5 arg7 arg8 arg10 arg11 arg16 f2 f3 f4 f5 f7 f8 f10 f11, run_first.sl.v529 c i arg2 arg3 arg4 arg5 arg7 arg8 arg10 arg11 arg16 f2 f3 f4 f5 f7 f8 f10 f11, run_first.sl.v509 c i arg2 arg3 arg4 arg5 arg7 arg8 arg10 arg11 arg16 f2 f3 f4 f5 f7 f8 f10 f11], ![run_first.sl.v591 c i arg2 arg3 arg4 arg5 arg7 arg8 arg10 arg11 arg16 f2 f3 f4 f5 f7 f8 f10 f11, run_first.sl.v598 c i arg2 arg3 arg4 arg5 arg7 arg8 arg10 arg11 arg16 f2 f3 f4 f5 f7 f8 f10 f11, run_first.sl.v605 c i arg2 arg3 arg4 arg5 arg7 arg8 arg10 arg11 arg16 f2 f3 f4 f5 f7 f8 f10 f11, run_first.sl.v585 c i arg2 arg3 arg4 arg5 arg7 arg8 arg10 arg11 arg16 f2 f3 f4 f5 f7 f8 f10 f11], ![run_first.sl.v667 c i arg2 arg3 arg4 arg5 arg7 arg8 arg10 arg11 arg16 f2 f3 f4 f5 f7 f8 f10 f11, run_first.sl.v674 c i arg2 arg3 arg4 arg5 arg7 arg8 arg10 arg11 arg16 f2 f3 f4 f5 f7 f8 f10 f11, run_first.sl.v681 c i arg2 arg3 arg4 arg5 arg7 arg8 arg10 arg11 arg16 f2 f3 f4 f5 f7 f8 f10 f11, run_first.sl.v661 c i arg2 arg3 arg4 arg5 arg7 arg8 arg10 arg11 arg16 f2 f3 f4 f5 f7 f8 f10 f11], ![run_first.sl.v743 c i arg2 arg3 arg4 arg5 arg7 arg8 arg10 arg11 arg16 f2 f3 f4 f5 f7 f8 f10 f11, run_first.sl.v750 c i arg2 arg3 arg4 arg5 arg7 arg8 arg10 arg11 arg16 f2 f3 f4 f5 f7 f8 f10 f11, run_first.sl.v757 c i arg2 arg3 arg4 arg5 arg7 arg8 arg10 arg11 arg16 f2 f3 f4 f5 f7 f8 f10 f11, run_first.sl.v737 c i arg2 arg3 arg4 arg5 arg7 arg8 arg10 arg11 arg16 f2 f3 f4 f5 f7 f8 f10 f11], ![run_first.sl.v819 c i arg2 arg3 arg4 arg5 arg7 arg8 arg10 arg11 arg16 f2 f3 f4 f5 f7 f8 f10 f11, run_first.sl.v826 c i arg2 arg3 arg4 arg5 arg7 arg8 arg10 arg11 arg16 f2 f3 f4 f5 f7 f8 f10 f11, run_first.sl.v833 c i arg2 arg3 arg4 arg5 arg7 arg8 arg10 arg11 arg16 f2 f3 f4 f5 f7 f8 f10 f11, run_first.sl.v813 c i arg2 arg3 arg4 arg5 arg7 arg8 arg10 arg11 arg16 f2 f3 f4 f5 f7 f8 f10 f11], ![run_first.sl.v895 c i arg2 arg3 arg4 arg5 arg7 arg8 arg10 arg11 arg16 f2 f3 f4 f5 f7 f8 f10 f11, run_first.sl.v902 c i arg2 arg3 arg4 arg5 arg7 arg8 arg10 arg11 arg16 f2 f3 f4 f5 f7 f8 f10 f11, run_first.sl.v909 c i arg2 arg3 arg4 arg5 arg7 arg8 arg10 arg11 arg16 f2 f3 f4 f5 f7 f8 f10 f11, run_first.sl.v889 c i arg2 arg3 arg4 arg5 arg7 arg8 arg10 arg11 arg16 f2 f3 f4 f5 f7 f8 f10 f11]])).flatten) (X := k0_pay3) inb_S8x2816_S8x2816_0_0 (by decide) (by sl_kernel_rfl)).trans ?_
                   simp only [e_v129, e_v135, e_v142, e_v149, e_v205, e_v211, e_v218, e_v225, e_v281, e_v287, e_v294, e_v301, e_v357, e_v363, e_v370, e_v377, e_v433, e_v439, e_v446, e_v453, e_v509, e_v515, e_v522, e_v529, e_v585, e_v591, e_v598, e_v605, e_v661, e_v667, e_v674, e_v681, e_v737, e_v743, e_v750, e_v757, e_v813, e_v819, e_v826, e_v833, e_v889, e_v895, e_v902, e_v909]; exact congrArg View.canon (by sl_kernel_rfl)
  isplitl [H17]; · iexists _; isplitr; swap; · iexact H17
                   ipureintro; refine (read_of_fill (L := dv2P (arg2.view.read (Elt F) f2) (arg3.view.read (Elt F) f3) (arg11.view.read (Elt F) f11) ![run_first.sl.v47 c arg17, run_first.sl.v54 c arg2 arg3 arg11 arg17 f2 f3 f11]) (X := k0_pay4) inb_S8x1024_S8x1024_0_0 (by decide) (by sl_kernel_rfl)).trans ?_
                   simp only [e_v47, e_v54]; exact congrArg View.canon (by sl_kernel_rfl)
  isplitl [H18]; · iexists _; isplitr; swap; · iexact H18
                   ipureintro; rw [lossK, ← e_v34]; refine (View.read_writes_full _ _ _ _ _).trans ?_; sl_kernel_rfl
  isplitl [H19]; · iexists _; iexists _; isplitr; swap; · iexact H19
                   ipureintro; rfl
  isplitl [H20]; · iexists _; isplitr; swap; · iexact H20
                   ipureintro; exact (read_of_list (dgb_cover _ _ _ _ _ _ _) (by sl_kernel_rfl))
  iexists _; isplitr; swap; · iexact H21
  ipureintro; refine (read_of_fill (L := groups (dwdP (arg2.view.read (Elt F) f2) (arg3.view.read (Elt F) f3) (arg5.view.read (Elt F) f5) (arg6.view.read (Elt F) f6) (arg11.view.read (Elt F) f11) ![run_first.sl.v109 c, run_first.sl.v185 c arg2 arg3 arg5 arg6 arg11 f2 f3 f5 f6 f11, run_first.sl.v261 c arg2 arg3 arg5 arg6 arg11 f2 f3 f5 f6 f11, run_first.sl.v337 c arg2 arg3 arg5 arg6 arg11 f2 f3 f5 f6 f11, run_first.sl.v413 c arg2 arg3 arg5 arg6 arg11 f2 f3 f5 f6 f11, run_first.sl.v489 c arg2 arg3 arg5 arg6 arg11 f2 f3 f5 f6 f11, run_first.sl.v565 c arg2 arg3 arg5 arg6 arg11 f2 f3 f5 f6 f11, run_first.sl.v641 c arg2 arg3 arg5 arg6 arg11 f2 f3 f5 f6 f11, run_first.sl.v717 c arg2 arg3 arg5 arg6 arg11 f2 f3 f5 f6 f11, run_first.sl.v793 c arg2 arg3 arg5 arg6 arg11 f2 f3 f5 f6 f11, run_first.sl.v869 c arg2 arg3 arg5 arg6 arg11 f2 f3 f5 f6 f11])) (X := k0_pay2) inb_S2816x1024_S2816x1024_0_0 (by decide) (by sl_kernel_rfl)).trans ?_
  simp only [e_v109, e_v185, e_v261, e_v337, e_v413, e_v489, e_v565, e_v641, e_v717, e_v793, e_v869]; exact canon_covered (dwd_cover _ _ _ _ _ _) (by sl_kernel_rfl)

set_option sl_exec.dmaWindow true in
set_option maxHeartbeats 40000000 in
theorem run_last (h1 : ¬ isFirst i) (h2 : isLater i) (h3 : isLast i) (G : HbBuf (F := F) c hbM) (W : Waits sig Unit) (K : PUnit → sProp 𝕄) :
    iprop(owns (c : Thread nD τ) arg2 fullShare X2
        ∗ owns (c : Thread nD τ) arg3 fullShare X3
        ∗ owns (c : Thread nD τ) arg4 fullShare X4
        ∗ owns (c : Thread nD τ) arg5 fullShare X5
        ∗ owns (c : Thread nD τ) arg6 fullShare X6
        ∗ owns (c : Thread nD τ) arg7 fullShare X7
        ∗ owns (c : Thread nD τ) arg8 fullShare X8
        ∗ owns (c : Thread nD τ) arg9 fullShare X9
        ∗ owns (c : Thread nD τ) arg10 fullShare X10
        ∗ owns (c : Thread nD τ) arg11 fullShare X11
        ∗ (∃ d, owns (c : Thread nD τ) arg13 fullShare d)
        ∗ (∃ d, owns (c : Thread nD τ) arg14 fullShare d)
        ∗ (∃ d, owns (c : Thread nD τ) arg15 fullShare d)
        ∗ owns (c : Thread nD τ) arg16 fullShare X16
        ∗ owns (c : Thread nD τ) arg17 fullShare X17
        ∗ owns (c : Thread nD τ) arg18 fullShare X18
        ∗ (∃ d, owns (c : Thread nD τ) scU fullShare d)
        ∗ owns (c : Thread nD τ) scD fullShare X20
        ∗ owns (c : Thread nD τ) scW fullShare X21
        ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0
        ∗ hbPt c hbM G ∗ owes (c : Thread nD τ) 0 W
        ∗ (iprop(owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11
          ∗ owns (c : Thread nD τ) arg13 fullShare (dugK X2 X3 X5 X7 X9 X10 X11 (carryK X20))
          ∗ owns (c : Thread nD τ) arg14 fullShare (duvK X2 X3 X6 X10 X11)
          ∗ owns (c : Thread nD τ) arg15 fullShare (dzK X2 X3 X11)
          ∗ owns (c : Thread nD τ) arg16 fullShare (dcfK (BitVec.ofNat 32 (i 0).val) X2 X3 X4 X5 X7 X8 X10 X11 X16)
          ∗ owns (c : Thread nD τ) arg17 fullShare (dv2K X2 X3 X11 X17)
          ∗ owns (c : Thread nD τ) arg18 fullShare (lossK X2 X3 X11 X18)
          ∗ (∃ d, owns (c : Thread nD τ) scU fullShare d)
          ∗ owns (c : Thread nD τ) scD fullShare (dgbK X2 X3 X5 X7 X10 X11 (carryK X20))
          ∗ owns (c : Thread nD τ) scW fullShare (dwdK X2 X3 X5 X6 X11 X21)
          ∗ semVal ((c : Thread nD τ), SemLoc.dma 26) 0
          ∗ semVal ((c : Thread nD τ), SemLoc.dma 27) 0
          ∗ semVal ((c : Thread nD τ), SemLoc.dma 28) 0
          ∗ semVal ((c : Thread nD τ), SemLoc.dma 29) 0
          ∗ semVal ((c : Thread nD τ), SemLoc.dma 30) 0
          ∗ semVal ((c : Thread nD τ), SemLoc.dma 31) 0
          ∗ semVal ((c : Thread nD τ), SemLoc.dma 32) 0
          ∗ semVal ((c : Thread nD τ), SemLoc.dma 33) 0
          ∗ hbPt c hbM (slabsOf G (dwdK X2 X3 X5 X6 X11 X21))
          ∗ (∃ W', owes (c : Thread nD τ) 0 W')) -∗ K ⟨⟩))
      ⊢ wp frame (wpE (defs₀ (F := F)) Variants.none c none) Set.univ
          (cc0_ffn_bwd_last i arg1 harg1 arg2 harg2 arg3 harg3 arg4 harg4 arg5 harg5 arg6 harg6 arg7 harg7 arg8 harg8 arg9 harg9 arg10 harg10 arg11 harg11 hbM (Memref.isWhole_whole _) arg13 harg13 arg14 harg14 arg15 harg15 arg16 harg16 arg17 harg17 arg18 harg18
            scU (Memref.isWhole_whole _) scD (Memref.isWhole_whole _) scW (Memref.isWhole_whole _) cc0_scratch3) K := by
  simp only [cc0_ffn_bwd_last_eq_skeleton]; unfold cc0_ffn_bwd_last_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d13, %f13, -, H13⟩, ⟨%d14, %f14, -, H14⟩, ⟨%d15, %f15, -, H15⟩, ⟨%f16, %e16, H16⟩, ⟨%f17, %e17, H17⟩, ⟨%f18, %e18, H18⟩, ⟨%d19, %f19, -, H19⟩, ⟨%f20, %e20, H20⟩, ⟨%f21, %e21, H21⟩, Hs0, Hs1, Hs2, Hs3, Hs4, Hs5, Hs6, Hs7, HG, HW, Hk⟩
  subst e2
  subst e3
  subst e4
  subst e5
  subst e6
  subst e7
  subst e8
  subst e9
  subst e10
  subst e11
  subst e16
  subst e17
  subst e18
  subst e20
  subst e21
  sl_exec
  sl_step
  iapply Hk
  have eA : View.read (Elt F) scW.view (scW.view.writes (Elt F) f21 (run_last.sl.H21_11 c arg2 arg3 arg5 arg6 arg11 f2 f3 f5 f6 f11 f21)) = (dwdK (arg2.view.read (Elt F) f2) (arg3.view.read (Elt F) f3) (arg5.view.read (Elt F) f5) (arg6.view.read (Elt F) f6) (arg11.view.read (Elt F) f11) (scW.view.read (Elt F) f21)) := read_of_list (dwd_cover _ _ _ _ _ _) (by sl_kernel_rfl)
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  isplitl [H10]; · iexists _; isplitr; swap; · iexact H10
                   ipureintro; rfl
  isplitl [H11]; · iexists _; isplitr; swap; · iexact H11
                   ipureintro; rfl
  isplitl [H13]; · iexists _; isplitr; swap; · iexact H13
                   ipureintro; exact (read_of_list (dug_cover _ _ _ _ _ _ _ _) (by sl_kernel_rfl))
  isplitl [H14]; · iexists _; isplitr; swap; · iexact H14
                   ipureintro; exact (read_of_list (duv_cover _ _ _ _ _) (by sl_kernel_rfl))
  isplitl [H15]; · iexists _; isplitr; swap; · iexact H15
                   ipureintro; exact View.read_writes_full _ _ _ _ _
  isplitl [H16]; · iexists _; isplitr; swap; · iexact H16
                   ipureintro; exact read_of_under (by sl_kernel_rfl)
  isplitl [H17]; · iexists _; isplitr; swap; · iexact H17
                   ipureintro; exact read_of_under (by sl_kernel_rfl)
  isplitl [H18]; · iexists _; isplitr; swap; · iexact H18
                   ipureintro; exact View.read_writes_full _ _ _ _ _
  isplitl [H19]; · iexists _; iexists _; isplitr; swap; · iexact H19
                   ipureintro; rfl
  isplitl [H20]; · iexists _; isplitr; swap; · iexact H20
                   ipureintro; exact (read_of_list (dgb_cover _ _ _ _ _ _ _) (by sl_kernel_rfl))
  isplitl [H21]; · iexists _; isplitr; swap; · iexact H21
                   ipureintro; exact (read_of_list (dwd_cover _ _ _ _ _ _) (by sl_kernel_rfl))
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HG]
  · have q0 : run_last.sl.dma388 c arg2 arg3 arg5 arg6 arg11 f2 f3 f5 f6 f11 f21 = accRows ![0, 0] inb_S2816x1024_S352x1024_0_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388; exact read_rows _ _ _ _ _ eA
    have q1 : run_last.sl.dma388_1 c arg2 arg3 arg5 arg6 arg11 f2 f3 f5 f6 f11 f21 = accRows ![352, 0] inb_S2816x1024_S352x1024_352_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_1; exact read_rows _ _ _ _ _ eA
    have q2 : run_last.sl.dma388_2 c arg2 arg3 arg5 arg6 arg11 f2 f3 f5 f6 f11 f21 = accRows ![704, 0] inb_S2816x1024_S352x1024_704_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_2; exact read_rows _ _ _ _ _ eA
    have q3 : run_last.sl.dma388_3 c arg2 arg3 arg5 arg6 arg11 f2 f3 f5 f6 f11 f21 = accRows ![1056, 0] inb_S2816x1024_S352x1024_1056_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_3; exact read_rows _ _ _ _ _ eA
    have q4 : run_last.sl.dma388_4 c arg2 arg3 arg5 arg6 arg11 f2 f3 f5 f6 f11 f21 = accRows ![1408, 0] inb_S2816x1024_S352x1024_1408_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_4; exact read_rows _ _ _ _ _ eA
    have q5 : run_last.sl.dma388_5 c arg2 arg3 arg5 arg6 arg11 f2 f3 f5 f6 f11 f21 = accRows ![1760, 0] inb_S2816x1024_S352x1024_1760_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_5; exact read_rows _ _ _ _ _ eA
    have q6 : run_last.sl.dma388_6 c arg2 arg3 arg5 arg6 arg11 f2 f3 f5 f6 f11 f21 = accRows ![2112, 0] inb_S2816x1024_S352x1024_2112_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_6; exact read_rows _ _ _ _ _ eA
    have q7 : run_last.sl.dma388_7 c arg2 arg3 arg5 arg6 arg11 f2 f3 f5 f6 f11 f21 = accRows ![2464, 0] inb_S2816x1024_S352x1024_2464_0 (dwdK (arg2.view.read (Elt F) f2) (arg3.view.read (Elt F) f3) (arg5.view.read (Elt F) f5) (arg6.view.read (Elt F) f6) (arg11.view.read (Elt F) f11) (scW.view.read (Elt F) f21)) := by
      unfold run_last.sl.dma388_7; exact read_rows _ _ _ _ _ eA
    rw [q0, q1, q2, q3, q4, q5, q6, q7]
    iapply (hb_of_eq c (slabsW_eq G (dwdK (arg2.view.read (Elt F) f2) (arg3.view.read (Elt F) f3) (arg5.view.read (Elt F) f5) (arg6.view.read (Elt F) f6) (arg11.view.read (Elt F) f11) (scW.view.read (Elt F) f21))))
    iexact HG
  iexists _; iexact HW

end run
end Cert.Kernel6Ideal.Hand

end
-- ==== Proof.FfnLastRun.lean ====
module

public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Frame
public import proofs.«01_k».proof.Proof.FfnLastBody
public import Idealize.ShloMosaic.Lib.Pipeline.FrameBody
public import Idealize.ShloMosaic.Lib.Pipeline.FrameValue
public import Idealize.ShloMosaic.Lib.VecWindow
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Kernel6Ideal.Hand

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over this algebra -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (Pipeline.UD sig nD τ) ℕ cfg0 c) (t : Fin cfg0.N) (ht : t.val ≠ 0) (d) :
    dat.before 13 t d = dat.after 13 ⟨t.val - 1, Nat.lt_of_le_of_lt (Nat.sub_le _ _) t.isLt⟩ :=
  dat.before_out_kept 13 rfl t ht (Bool.eq_false_iff.mpr fun h => by
    have h1 := (flush0_13 _).mp h
    have h2 : t.val < 64 := t.isLt
    dsimp only at h1
    omega) (fun _ => rfl) (fun _ _ => rfl) d
theorem before14_of {c : Dev nD} (dat : Dat τ (Elt F) Unit ℕ (Pipeline.UD sig nD τ) ℕ cfg0 c) (t : Fin cfg0.N) (ht : t.val ≠ 0) (d) :
    dat.before 14 t d = dat.after 14 ⟨t.val - 1, Nat.lt_of_le_of_lt (Nat.sub_le _ _) t.isLt⟩ :=
  dat.before_out_kept 14 rfl t ht (Bool.eq_false_iff.mpr fun h => by
    have h1 := (flush0_14 _).mp h
    have h2 : t.val < 64 := t.isLt
    dsimp only at h1
    omega) (fun _ => rfl) (fun _ _ => rfl) d

theorem before15_of {c : Dev nD} (dat : Dat τ (Elt F) Unit ℕ (Pipeline.UD sig nD τ) ℕ cfg0 c) (t : Fin cfg0.N) (ht : t.val ≠ 0) (d) :
    dat.before 15 t d = dat.after 15 ⟨t.val - 1, Nat.lt_of_le_of_lt (Nat.sub_le _ _) t.isLt⟩ :=
  dat.before_out_kept 15 rfl t ht (Bool.eq_false_iff.mpr fun h => by
    have h1 := (flush0_15 _).mp h
    have h2 : t.val < 64 := t.isLt
    dsimp only at h1
    omega) (fun _ => rfl) (fun _ _ => rfl) d

/-! ## The buffers the body owns -/

abbrev osem0 : Fin 8 → SemLoc sig := fun j => (![SemLoc.dma 26, SemLoc.dma 27, SemLoc.dma 28, SemLoc.dma 29, SemLoc.dma 30, SemLoc.dma 31, SemLoc.dma 32, SemLoc.dma 33] : Fin 8 → SemLoc sig) j
theorem ownSemFacts0 : Pipeline.OwnSemFacts spec0 osem0 := by decide
abbrev cells (c : Dev nD) : sProp 𝕄 :=
  iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0)
theorem ownSems00_eq (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7] (by decide) (by decide)]; rfl
def R0 : Finset (Ref sig .tc) := {main_v58_0}
theorem R0_sub : R0 ⊆ Pipeline.restRefs sig spec0 \ ∅ := by decide

/-! ## What the points add up to -/

/-- The rows of the gate's gradient handed on by the first `n` points, with the buffer they are read from. -/
def dgS (c : Dev nD) : ℕ → Vec F S264x2816 .f32
  | 0 => View.canon []
  | n + 1 => if h : n < cfg0.N then dgbK (iblk m c 0 ⟨n, h⟩) (iblk m c 1 ⟨n, h⟩) (iblk m c 3 ⟨n, h⟩) (iblk m c 5 ⟨n, h⟩) (iblk m c 8 ⟨n, h⟩) (iblk m c 9 ⟨n, h⟩)
      (if n = 0 then k0_pay6 else carryK (dgS c n)) else dgS c n
def crS (c : Dev nD) (n : ℕ) : FVec F S8x2816 .f32 := if n = 0 then k0_pay6 else carryK (dgS m c n)
/-- The sum for the weight after the first `n` points. -/
def dwS (c : Dev nD) : ℕ → Vec F S2816x1024 .f32
  | 0 => k0_pay2
  | n + 1 => if h : n < cfg0.N then dwdK (iblk m c 0 ⟨n, h⟩) (iblk m c 1 ⟨n, h⟩) (iblk m c 3 ⟨n, h⟩) (iblk m c 4 ⟨n, h⟩) (iblk m c 9 ⟨n, h⟩) (dwS c n) else dwS c n
/-- The sums for the convolution after the first `n` points. -/
def cfS (c : Dev nD) : ℕ → Vec F S8x2816 .f32
  | 0 => k0_pay3
  | n + 1 => if h : n < cfg0.N then dcfK (BitVec.ofNat 32 (grid0.coords ⟨n, h⟩ 0).val) (iblk m c 0 ⟨n, h⟩) (iblk m c 1 ⟨n, h⟩) (iblk m c 2 ⟨n, h⟩) (iblk m c 3 ⟨n, h⟩)
      (iblk m c 5 ⟨n, h⟩) (iblk m c 6 ⟨n, h⟩) (iblk m c 8 ⟨n, h⟩) (iblk m c 9 ⟨n, h⟩) (cfS c n) else cfS c n
/-- The sums for the normalisation after the first `n` points. -/
def v2S (c : Dev nD) : ℕ → Vec F S8x1024 .f32
  | 0 => k0_pay4
  | n + 1 => if h : n < cfg0.N then dv2K (iblk m c 0 ⟨n, h⟩) (iblk m c 1 ⟨n, h⟩) (iblk m c 9 ⟨n, h⟩) (v2S c n) else v2S c n
/-- The loss after the first `n` points. -/
def lossS (c : Dev nD) : ℕ → Vec F S8x128 .f32
  | 0 => k0_pay5
  | n + 1 => if h : n < cfg0.N then lossK (iblk m c 0 ⟨n, h⟩) (iblk m c 1 ⟨n, h⟩) (iblk m c 9 ⟨n, h⟩) (lossS c n) else lossS c n

theorem dgS_succ (c : Dev nD) (t : Fin cfg0.N) : dgS m c (t.val + 1) = dgbK (iblk m c 0 t) (iblk m c 1 t) (iblk m c 3 t) (iblk m c 5 t) (iblk m c 8 t) (iblk m c 9 t) (crS m c t.val) := by
  rw [dgS, dif_pos t.isLt]; rfl
theorem dwS_succ (c : Dev nD) (t : Fin cfg0.N) : dwS m c (t.val + 1) = dwdK (iblk m c 0 t) (iblk m c 1 t) (iblk m c 3 t) (iblk m c 4 t) (iblk m c 9 t) (dwS m c t.val) := by
  rw [dwS, dif_pos t.isLt]
theorem cfS_succ (c : Dev nD) (t : Fin cfg0.N) : cfS m c (t.val + 1) = dcfK (BitVec.ofNat 32 (grid0.coords t 0).val) (iblk m c 0 t) (iblk m c 1 t) (iblk m c 2 t) (iblk m c 3 t)
      (iblk m c 5 t) (iblk m c 6 t) (iblk m c 8 t) (iblk m c 9 t) (cfS m c t.val) := by
  rw [cfS, dif_pos t.isLt]
theorem v2S_succ (c : Dev nD) (t : Fin cfg0.N) : v2S m c (t.val + 1) = dv2K (iblk m c 0 t) (iblk m c 1 t) (iblk m c 9 t) (v2S m c t.val) := by
  rw [v2S, dif_pos t.isLt]
theorem lossS_succ (c : Dev nD) (t : Fin cfg0.N) : lossS m c (t.val + 1) = lossK (iblk m c 0 t) (iblk m c 1 t) (iblk m c 9 t) (lossS m c t.val) := by
  rw [lossS, dif_pos t.isLt]

/-- The result left in HBM after the last point. -/
def slabsEnd (c : Dev nD) : HbBuf (F := F) c hbM := slabsOf (V m c main_v58_0) (dwS m c cfg0.N)

/-- The contents named for the buffers the body writes. -/
def G (c : Dev nD) : (b : Ref sig .tc) → Buf (Elt F) ((c : Thread nD τ).loc b) := Function.update (V m c) main_v58_0 (slabsEnd m c)

theorem routed_eq (c : Dev nD) (W : (b : Ref sig .tc) → Buf (Elt F) ((c : Thread nD τ).loc b)) :
    (Pipeline.routed R0 c W : sProp 𝕄) = hbPt c hbM (W main_v58_0) := by
  unfold Pipeline.routed; rw [BI.bigSep_eq_bigSepL_of_eq [main_v58_0] (by decide) (by decide)]; rfl

theorem PhiDRG_eq (c : Dev nD) (W : (c : Dev nD) → (b : Ref sig .tc) → Buf (Elt F) ((c : Thread nD τ).loc b)) :
    (Pipeline.ΦDRG osem0 spec0 ∅ R0 (V m) W c : sProp 𝕄)
      = iprop(((∃ d, owns (c : Thread nD τ) scU fullShare d) ∗ (∃ d, owns (c : Thread nD τ) scD fullShare d) ∗ (∃ d, owns (c : Thread nD τ) scW fullShare d)) ∗ (∃ r, prngReg c r) ∗ cells c
          ∗ (bigSep ∅ fun b => ((c : Thread nD τ).loc b) ↦{fullShare} V m c b) ∗ hbPt c hbM (W c main_v58_0)) := by
  rw [Pipeline.ΦDRG_eq, scopedRest0_eq, ownSems00_eq, routed_eq]
  simp only [scU, scD, scW, owns_whole]; try rfl

/-- The three scratch buffers between points: anything before the first; then the gate's gradient and the sum so far. -/
def scrHeld (c : Dev nD) (n : ℕ) : sProp 𝕄 :=
  if n = 0 then iprop((∃ d, owns (c : Thread nD τ) scU fullShare d) ∗ (∃ d, owns (c : Thread nD τ) scD fullShare d) ∗ (∃ d, owns (c : Thread nD τ) scW fullShare d))
  else iprop((∃ d, owns (c : Thread nD τ) scU fullShare d) ∗ owns (c : Thread nD τ) scD fullShare (dgS m c n) ∗ owns (c : Thread nD τ) scW fullShare (dwS m c n))
/-- The result left in HBM between points: as found, and at the end the copied rows. -/
def slabsHeld (c : Dev nD) (n : ℕ) : HbBuf (F := F) c hbM := if n = cfg0.N then slabsEnd m c else V m c main_v58_0

def inv (c : Dev nD) (n : ℕ) : sProp 𝕄 :=
  iprop(scrHeld m c n ∗ (∃ r, prngReg c r) ∗ cells c
    ∗ (bigSep ∅ fun b => ((c : Thread nD τ).loc b) ↦{fullShare} V m c b) ∗ hbPt c hbM (slabsHeld m c n))

def dugAt (c : Dev nD) (t : Fin cfg0.N) : Vec F S256x2816 .bf16 :=
  dugK (iblk m c 0 t) (iblk m c 1 t) (iblk m c 3 t) (iblk m c 5 t) (iblk m c 7 t) (iblk m c 8 t) (iblk m c 9 t) (crS m c t.val)
def duvAt (c : Dev nD) (t : Fin cfg0.N) : Vec F S256x2816 .bf16 := duvK (iblk m c 0 t) (iblk m c 1 t) (iblk m c 4 t) (iblk m c 8 t) (iblk m c 9 t)
def dzAt (c : Dev nD) (t : Fin cfg0.N) : Vec F S256x1024 .f32 := dzK (iblk m c 0 t) (iblk m c 1 t) (iblk m c 9 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dugAt m c t
    | ⟨11, _⟩ => duvAt m c t
    | ⟨12, _⟩ => dzAt m c t
    | ⟨13, _⟩ => cfS m c (t.val + 1)
    | ⟨14, _⟩ => v2S m c (t.val + 1)
    | ⟨15, _⟩ => lossS m c (t.val + 1)
    | ⟨_ + 16, h⟩ => absurd h (Nat.not_lt.2 (Nat.le_add_left _ _))
  Φ t := inv m c t.val
  q w := Pipeline.shareOf spec0 w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = dugAt m c t := by dsimp only [dats]
theorem after11 (c : Dev nD) (t : Fin cfg0.N) : (dats m 0 c).after 11 t = duvAt m c t := by dsimp only [dats]
theorem after12 (c : Dev nD) (t : Fin cfg0.N) : (dats m 0 c).after 12 t = dzAt m c t := by dsimp only [dats]
theorem after13 (c : Dev nD) (t : Fin cfg0.N) : (dats m 0 c).after 13 t = cfS m c (t.val + 1) := by dsimp only [dats]
theorem after14 (c : Dev nD) (t : Fin cfg0.N) : (dats m 0 c).after 14 t = v2S m c (t.val + 1) := by dsimp only [dats]
theorem after15 (c : Dev nD) (t : Fin cfg0.N) : (dats m 0 c).after 15 t = lossS m c (t.val + 1) := by dsimp only [dats]

/-! ## The body at a point -/

theorem isFirst_iff : ∀ t : Fin cfg0.N, isFirst (grid0.coords t) ↔ t.val = 0 := by decide +kernel
theorem isLater_iff : ∀ t : Fin cfg0.N, isLater (grid0.coords t) ↔ t.val ≠ 0 := by decide +kernel
theorem isLast_iff : ∀ t : Fin cfg0.N, isLast (grid0.coords t) ↔ t.val = 63 := by decide +kernel

abbrev ms0 (t : Fin cfg0.N) : Memref sig .tc .vmem S256x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S256x2816 .bf16 := win0_2.stage (cfg0.slots t 2)
abbrev ms3 (t : Fin cfg0.N) : Memref sig .tc .vmem S256x2816 .bf16 := win0_3.stage (cfg0.slots t 3)
abbrev ms4 (t : Fin cfg0.N) : Memref sig .tc .vmem S256x2816 .bf16 := win0_4.stage (cfg0.slots t 4)
abbrev ms5 (t : Fin cfg0.N) : Memref sig .tc .vmem S256x2816 .bf16 := win0_5.stage (cfg0.slots t 5)
abbrev ms6 (t : Fin cfg0.N) : Memref sig .tc .vmem S16x2816 .bf16 := win0_6.stage (cfg0.slots t 6)
abbrev ms7 (t : Fin cfg0.N) : Memref sig .tc .vmem S8x2816 .f32 := win0_7.stage (cfg0.slots t 7)
abbrev ms8 (t : Fin cfg0.N) : Memref sig .tc .vmem S1024x2816 .bf16 := win0_8.stage (cfg0.slots t 8)
abbrev ms9 (t : Fin cfg0.N) : Memref sig .tc .vmem S8x1024 .f32 := win0_9.stage (cfg0.slots t 9)
abbrev ms10 (t : Fin cfg0.N) : Memref sig .tc .vmem S256x2816 .bf16 := win0_10.stage (cfg0.slots t 10)
abbrev ms11 (t : Fin cfg0.N) : Memref sig .tc .vmem S256x2816 .bf16 := win0_11.stage (cfg0.slots t 11)
abbrev ms12 (t : Fin cfg0.N) : Memref sig .tc .vmem S256x1024 .f32 := win0_12.stage (cfg0.slots t 12)
abbrev ms13 (t : Fin cfg0.N) : Memref sig .tc .vmem S8x2816 .f32 := win0_13.stage (cfg0.slots t 13)
abbrev ms14 (t : Fin cfg0.N) : Memref sig .tc .vmem S8x1024 .f32 := win0_14.stage (cfg0.slots t 14)
abbrev ms15 (t : Fin cfg0.N) : Memref sig .tc .vmem S8x128 .f32 := win0_15.stage (cfg0.slots t 15)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have hN : cfg0.N = 64 := N_0
  have ht := t.isLt
  unfold bodyPre bodyPost bodyAt0
  simp only [before0_of m (dats m 0 c) (A_eq m c 0) (after0 m c), before1_of m (dats m 0 c) (A_eq m c 1) (after1 m c), before2_of m (dats m 0 c) (A_eq m c 2) (after2 m c), before3_of m (dats m 0 c) (A_eq m c 3) (after3 m c), before4_of m (dats m 0 c) (A_eq m c 4) (after4 m c), before5_of m (dats m 0 c) (A_eq m c 5) (after5 m c), before6_of m (dats m 0 c) (A_eq m c 6) (after6 m c), before7_of m (dats m 0 c) (A_eq m c 7) (after7 m c), before8_of m (dats m 0 c) (A_eq m c 8) (after8 m c), before9_of m (dats m 0 c) (A_eq m c 9) (after9 m c)]
  rw [after0, after1, after2, after3, after4, after5, after6, after7, after8, after9, after10, after11, after12, after13, after14, after15]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have es : scrHeld m c (t.val + 1) = iprop((∃ d, owns (c : Thread nD τ) scU fullShare d) ∗ owns (c : Thread nD τ) scD fullShare (dgS m c (t.val + 1)) ∗ owns (c : Thread nD τ) scW fullShare (dwS m c (t.val + 1))) := by
    unfold scrHeld; rw [if_neg (by omega)]
  rw [es, dgS_succ, dwS_succ, cfS_succ, v2S_succ, lossS_succ]
  unfold dugAt duvAt dzAt
  by_cases h0 : t.val = 0
  · have eh : slabsHeld m c t.val = slabsHeld m c (t.val + 1) := by
      unfold slabsHeld; rw [if_neg (by omega), if_neg (by omega)]
    have ea : scrHeld m c t.val = iprop((∃ d, owns (c : Thread nD τ) scU fullShare d) ∗ (∃ d, owns (c : Thread nD τ) scD fullShare d) ∗ (∃ d, owns (c : Thread nD τ) scW fullShare d)) := by unfold scrHeld; rw [if_pos h0]
    rw [eh, ea, show crS m c t.val = k0_pay6 by rw [crS, if_pos h0], show dwS m c t.val = k0_pay2 by rw [h0, dwS], show cfS m c t.val = k0_pay3 by rw [h0, cfS], show v2S m c t.val = k0_pay4 by rw [h0, v2S], show lossS m c t.val = k0_pay5 by rw [h0, lossS]]
    iintro ⟨⟨⟨HU, HD, HS⟩, Hg, Hq, HE, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_first c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)
      ((isFirst_iff t).mpr h0) (fun h => (isLater_iff t).mp h h0) (fun h => by have := (isLast_iff t).mp h; omega))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HU]; · iexact HU
    isplitl [HD]; · iexact HD
    isplitl [HS]; · iexact HS
    iintro ⟨H0, H1, H2, H3, H4, H5, H6, H7, H8, H9, H10, H11, H12, H13, H14, H15, HU, HD, HS⟩
    isplitl [HU HD HS Hg Hq HE HG]
    · isplitl [HU HD HS]
      · isplitl [HU]; · iexact HU
        isplitl [HD]; · iexact HD
        iexact HS
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  have ea : scrHeld m c t.val = iprop((∃ d, owns (c : Thread nD τ) scU fullShare d) ∗ owns (c : Thread nD τ) scD fullShare (dgS m c t.val) ∗ owns (c : Thread nD τ) scW fullShare (dwS m c t.val)) := by unfold scrHeld; rw [if_neg h0]
  have en : t.val - 1 + 1 = t.val := by omega
  simp only [before13_of (dats m 0 c) t h0, before14_of (dats m 0 c) t h0, before15_of (dats m 0 c) t h0, after13, after14, after15, en]
  rw [ea, show crS m c t.val = carryK (dgS m c t.val) by rw [crS, if_neg h0]]
  by_cases h1 : t.val = 63
  · have eh : slabsHeld m c t.val = V m c main_v58_0 := by unfold slabsHeld; rw [if_neg (by omega)]
    have eh' : slabsHeld m c (t.val + 1) = slabsOf (V m c main_v58_0) (dwdK (iblk m c 0 t) (iblk m c 1 t) (iblk m c 3 t) (iblk m c 4 t) (iblk m c 9 t) (dwS m c t.val)) := by
      unfold slabsHeld; rw [if_pos (by omega), slabsEnd, ← dwS_succ]; exact congrArg (fun n => slabsOf (V m c main_v58_0) (dwS m c n)) (by omega)
    rw [eh, eh']
    iintro ⟨⟨⟨HU, HD, HS⟩, Hg, Hq, HE, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_last c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (cfS m c t.val) (v2S m c t.val) (lossS m c t.val) (dgS m c t.val) (dwS m c t.val)
      (fun h => h0 ((isFirst_iff t).mp h)) ((isLater_iff t).mpr h0) ((isLast_iff t).mpr h1) (V m c main_v58_0) W)
    icases Hq with ⟨Hq0, Hq1, Hq2, Hq3, Hq4, Hq5, Hq6, Hq7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HU]; · iexact HU
    isplitl [HD]; · iexact HD
    isplitl [HS]; · iexact HS
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [HG]; · iexact HG
    isplitl [HW]; · iexact HW
    iintro ⟨H0, H1, H2, H3, H4, H5, H6, H7, H8, H9, H10, H11, H12, H13, H14, H15, HU, HD, HS, Hq0, Hq1, Hq2, Hq3, Hq4, Hq5, Hq6, Hq7, HG, ⟨%W', HW⟩⟩
    isplitl [HU HD HS Hg Hq0 Hq1 Hq2 Hq3 Hq4 Hq5 Hq6 Hq7 HE HG]
    · isplitl [HU HD HS]
      · isplitl [HU]; · iexact HU
        isplitl [HD]; · iexact HD
        iexact HS
      isplitl [Hg]; · iexact Hg
      isplitl [Hq0 Hq1 Hq2 Hq3 Hq4 Hq5 Hq6 Hq7]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        iexact Hq7
      isplitl [HE]; · iexact HE
      iexact HG
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · have eh : slabsHeld m c t.val = slabsHeld m c (t.val + 1) := by
      unfold slabsHeld; rw [if_neg (by omega), if_neg (by omega)]
    rw [eh]
    iintro ⟨⟨⟨HU, HD, HS⟩, Hg, Hq, HE, HG⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run_mid c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (cfS m c t.val) (v2S m c t.val) (lossS m c t.val) (dgS m c t.val) (dwS m c t.val)
      (fun h => h0 ((isFirst_iff t).mp h)) ((isLater_iff t).mpr h0) (fun h => h1 ((isLast_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HU]; · iexact HU
    isplitl [HD]; · iexact HD
    isplitl [HS]; · iexact HS
    iintro ⟨H0, H1, H2, H3, H4, H5, H6, H7, H8, H9, H10, H11, H12, H13, H14, H15, HU, HD, HS⟩
    isplitl [HU HD HS Hg Hq HE HG]
    · isplitl [HU HD HS]
      · isplitl [HU]; · iexact HU
        isplitl [HD]; · iexact HD
        iexact HS
      isplitl [Hg]; · iexact Hg
      isplitl [Hq]; · iexact Hq
      isplitl [HE]; · iexact HE
      iexact HG
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : Pipeline.ΦDRG osem0 spec0 ∅ R0 (V m) (V m) c ⊢ (dats m 0 c).Φ 0 := by
  rw [PhiDRG_eq, show (dats m 0 c).Φ 0 = inv m c 0 from rfl]
  unfold inv scrHeld slabsHeld
  rw [if_pos rfl, if_neg (by rw [show cfg0.N = 64 from N_0]; decide)]
theorem inv_out (c : Dev nD) : (dats m 0 c).Φ (Fin.last cfg0.N) ⊢ Pipeline.ΦDRG osem0 spec0 ∅ R0 (V m) (G m) c := by
  rw [PhiDRG_eq, show (dats m 0 c).Φ (Fin.last cfg0.N) = inv m c cfg0.N from rfl]
  unfold inv scrHeld slabsHeld G
  rw [if_neg (by rw [show cfg0.N = 64 from N_0]; decide), if_pos rfl, Function.update_self]
  iintro ⟨⟨HU, HD, HS⟩, Hg, Hq, HE, HG⟩
  isplitl [HU HD HS]
  · isplitl [HU]; · iexact HU
    isplitl [HD]; · iexists _; iexact HD
    iexists _; iexact HS
  isplitl [Hg]; · iexact Hg
  isplitl [Hq]; · iexact Hq
  isplitl [HE]; · iexact HE
  iexact HG

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG_shared (Q' := _) cfgs (dats m) (0 : Fin 1) launch₀0 osem0 defs₀ Variants.none ownSemFacts0 ∅ R0 (by simp) R0_sub m ρ main
    (hbody := fun c => (body_obligation m c).loose) (hq := fun _ _ _ => rfl)
    (howed := fun _ _ => rfl) (V := V m) (hmain := hmain m Variants.none) (hA := A_eq m) (G := G m)
    (hin := inv_in m) (hout := inv_out m)

/-- What the run ends with: the seven results and the arguments. -/
theorem ends : θ_run defs (onTc (τ := τ) (main (F := F))) ⟨m, fun _ => 0, ρ⟩ (fun r => (∀ c : Dev nD,
      (r.2.mem ((c : Thread nD τ).loc main_v58_0) = slabsEnd m c
      ∧ r.2.mem ((c : Thread nD τ).loc main_v58_1) = (dats m 0 c).arrAt 10 cfg0.N
      ∧ r.2.mem ((c : Thread nD τ).loc main_v58_2) = (dats m 0 c).arrAt 11 cfg0.N
      ∧ r.2.mem ((c : Thread nD τ).loc main_v58_3) = (dats m 0 c).arrAt 12 cfg0.N
      ∧ r.2.mem ((c : Thread nD τ).loc main_v58_4) = (dats m 0 c).arrAt 13 cfg0.N
      ∧ r.2.mem ((c : Thread nD τ).loc main_v58_5) = (dats m 0 c).arrAt 14 cfg0.N
      ∧ r.2.mem ((c : Thread nD τ).loc main_v58_6) = (dats m 0 c).arrAt 15 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨⟨(h.1.written c (by decide : main_v58_0 ∈ R0)).trans (by unfold G; rw [Function.update_self]),
      (h.1.toR c).1 10, (h.1.toR c).1 11, (h.1.toR c).1 12, (h.1.toR c).1 13, (h.1.toR c).1 14, (h.1.toR c).1 15⟩,
      ((h.1.toR c).2 main_arg0 (Finset.mem_sdiff.mpr ⟨Pipeline.mem_restRefs_of main_arg0 (by decide) (by decide), by decide⟩)).trans (V_main_arg0 m c),
      ((h.1.toR c).1 0).trans (((dats m 0 c).arrAt_in 0 rfl _).trans ((A_eq m c 0).trans (V_main_arg1 m c))),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c),
      ((h.1.toR c).2 main_arg5 (Finset.mem_sdiff.mpr ⟨Pipeline.mem_restRefs_of main_arg5 (by decide) (by decide), by decide⟩)).trans (V_main_arg5 m c),
      ((h.1.toR c).2 main_arg6 (Finset.mem_sdiff.mpr ⟨Pipeline.mem_restRefs_of main_arg6 (by decide) (by decide), by decide⟩)).trans (V_main_arg6 m c),
      ((h.1.toR c).2 main_arg7 (Finset.mem_sdiff.mpr ⟨Pipeline.mem_restRefs_of main_arg7 (by decide) (by decide), by decide⟩)).trans (V_main_arg7 m c),
      ((h.1.toR c).2 main_arg8 (Finset.mem_sdiff.mpr ⟨Pipeline.mem_restRefs_of main_arg8 (by decide) (by decide), by decide⟩)).trans (V_main_arg8 m c),
      ((h.1.toR c).2 main_arg9 (Finset.mem_sdiff.mpr ⟨Pipeline.mem_restRefs_of main_arg9 (by decide) (by decide), by decide⟩)).trans (V_main_arg9 m c)⟩, h.2⟩) (run_main m ρ)

/-- The same run with the arguments and the counters only. -/
theorem ends_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (ends m ρ)

end Cert.Kernel6Ideal.Hand

end
-- ==== Proof.FfnLastRef.lean ====
module

public import proofs.«01_k».proof.Proof.FfnMath
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.FfnLast

open Cert.Ffn Cert.Reference6Ideal Cert.Reference6Ideal.Gen Cert.Reference6Ideal.Value
open Idealize.ShloMosaic

/-- What the reference's arguments hold. -/
abbrev Args := Valuation Cert.Reference6Ideal.τ Cert.Reference6Ideal.sig (Elt Ideal)
abbrev cL : EReal := Ideal.ofBits .f32 973078528#32
abbrev cD : EReal := Ideal.ofBits .f32 981467136#32
abbrev cH : EReal := Ideal.ofBits .f32 1056964608#32

theorem cL_eq : cL = ((1 / 2048 : ℝ) : EReal) := by
  unfold cL; simp [Ideal.ofBits, Ideal.ieee, -EReal.coe_mul, -EReal.coe_neg]; norm_num
theorem cD_eq : cD = ((1 / 1024 : ℝ) : EReal) := by
  unfold cD; simp [Ideal.ofBits, Ideal.ieee, -EReal.coe_mul, -EReal.coe_neg]; norm_num
theorem cH_eq : cH = ((1 / 2 : ℝ) : EReal) := by
  unfold cH; simp [Ideal.ofBits, Ideal.ieee, -EReal.coe_mul, -EReal.coe_neg]; norm_num

/-- The gradient of half the mean of the squares. -/
theorem sq_eq {x : EReal} (hx : IsR x) : Ideal.div (cH * 1) c1024 * (cTwo * x) = x * cD := by
  obtain ⟨x, rfl⟩ := hx
  rw [cH_eq, c1024_eq, cTwo_eq, cD_eq, mul_one, div_coe _ (by norm_num)]
  simp only [← EReal.coe_mul]
  exact congrArg _ (by ring)

/-- Half the sum of the rows' means is the rows' sums over twice the length. -/
theorem loss_eq {n : ℕ} {q : Fin n → EReal} (hq : ∀ s, IsR (q s)) : cH * ∑ s, Ideal.div (q s) c1024 = ∑ s, q s * cL := by
  choose q hq using hq
  simp only [hq, cH_eq, c1024_eq, cL_eq, div_coe _ (show (1024 : ℝ) ≠ 0 by norm_num), ← EReal.coe_mul, coe_sum]
  rw [Finset.mul_sum]
  exact congrArg _ (Finset.sum_congr rfl fun s _ => by ring)

theorem part_eq {n : ℕ} {q : Fin n → EReal} (hq : ∀ s, IsR (q s)) : (∑ s, q s) * cL = ∑ s, q s * cL := by
  choose q hq using hq
  simp only [hq, cL_eq, ← EReal.coe_mul, coe_sum, Finset.sum_mul]

/-- What the norm divides by is real. -/
theorem isR_rs {Z : Fin 1024 → EReal} (hZ : ∀ x, IsR (Z x)) : (∀ x, IsR (zc Z x)) ∧ IsR (Ideal.rsqrt (vr Z)) := by
  choose z hz using hZ
  obtain rfl : Z = fun x => (z x : EReal) := funext hz
  obtain ⟨e, he, hE⟩ := cEps_eq
  have k : (1024 : ℝ) ≠ 0 := by norm_num
  have hzc : ∀ x, zc (fun x => (z x : EReal)) x = ((z x - (∑ x, z x) / 1024 : ℝ) : EReal) := fun x => by
    rw [zc, mu, coe_sum, c1024_eq, div_coe _ k, EReal.coe_sub]
  refine ⟨fun x => ⟨_, hzc x⟩, ?_⟩
  have hv : vr (fun x => (z x : EReal)) = (((∑ x, (z x - (∑ x, z x) / 1024) * (z x - (∑ x, z x) / 1024)) / 1024 + e : ℝ) : EReal) := by
    simp only [vr, hzc, ← EReal.coe_mul, coe_sum]
    rw [hE, c1024_eq, div_coe _ k, EReal.coe_add]
  rw [hv, rsqrt_coe (add_pos_of_nonneg_of_pos (div_nonneg (Finset.sum_nonneg fun x _ => mul_self_nonneg _) (by norm_num)) he)]
  exact isR_coe _

variable (V0 : Args)
abbrev aT : FVec Ideal S16384x1024 .f32 := V0 (Proc.devRef .tc main_arg1)
abbrev aX1 : FVec Ideal S16384x1024 .f32 := V0 (Proc.devRef .tc main_arg2)
abbrev aUg : FVec Ideal S16384x2816 .f32 := V0 (Proc.devRef .tc main_arg3)
abbrev aUv : FVec Ideal S16384x2816 .f32 := V0 (Proc.devRef .tc main_arg4)
abbrev aCw : FVec Ideal S3x2816 .f32 := V0 (Proc.devRef .tc main_arg5)
abbrev aCb : FVec Ideal S2816 .f32 := V0 (Proc.devRef .tc main_arg6)
abbrev aWd : FVec Ideal S2816x1024 .f32 := V0 (Proc.devRef .tc main_arg7)
abbrev aG : FVec Ideal S1024 .f32 := V0 (Proc.devRef .tc main_arg8)
abbrev aB : FVec Ideal S1024 .f32 := V0 (Proc.devRef .tc main_arg9)
/-- The layer's output less the target, and the loss's gradient at the output. -/
abbrev df : FVec Ideal S16384x1024 .f32 := res_main_v63 V0
abbrev dC : FVec Ideal S16384x1024 .f32 := res_main_v77 V0
abbrev gt : FVec Ideal S16384x2816 .f32 := res_main_v29 V0
abbrev sg : FVec Ideal S16384x2816 .f32 := res_main_v30_2 V0
abbrev sl : FVec Ideal S16384x2816 .f32 := res_main_v30_0 V0
abbrev z2 : FVec Ideal S16384x1024 .f32 := res_main_v33 V0
abbrev dz : FVec Ideal S16384x1024 .f32 := res_main_v110 V0
abbrev dg : FVec Ideal S16384x2816 .f32 := res_main_v116 V0

abbrev up : FVec Ideal S16384x2816 .f32 := res_main_v31 V0
/-- The results. -/
def resSlabs : FVec Ideal S8x1472x1024 .f32 := Host.dynamicUpdateSlice (V0 (Proc.devRef .tc main_arg0)) (shapeCast _ (transpose S2816x1024 [1, 0] (Host.dotGeneral (F := Ideal) (φ₁ := .f32) (φ₂ := .f32) dot_S16384x1024_S16384x2816_S1024x2816_0_0_1_1_n_n none (dz V0) (up V0)) transposes_S1024x2816_S2816x1024_1_0) shapeCasts_S2816x1024_S8x352x1024) (fun k => (((![constantI S_ 32 0#32, constantI S_ 32 1056#32, constantI S_ 32 0#32] : Fin 3 → (⟨S_, .i32⟩ : BufTy).Contents (Elt Ideal))) k (Shape.Idx.first h_S_)).toInt) updateFits_S8x1472x1024_S8x352x1024
def resDug : FVec Ideal S16384x2816 .bf16 := truncf .bf16 (extractStridedSlice S16384x2816 ![2, 0] (res_main_v147 V0) slices_S16386x2816_S16384x2816_2_0) bitsLt_bf16_f32
def resDuv : FVec Ideal S16384x2816 .bf16 := truncf .bf16 (mulf (res_main_v30_0 V0) (res_main_v113 V0)) bitsLt_bf16_f32
def resDcf : FVec Ideal S8x2816 .f32 := (concatenate S8x2816 0 [⟨S3x2816, ((addf (addf (pad S3x2816 ![2, 0] ![0, 0] ![0, 0] (broadcastInDim S1x2816 ![1] bcast_S2816_S1x2816_1 (Host.reduceAdd (shapeCast _ (Host.reduceAdd (mulf (res_main_v116 V0) (res_main_v22 V0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_200_000 h_S_) (pad S3x2816 ![1, 0] ![1, 0] ![0, 0] (broadcastInDim S1x2816 ![1] bcast_S2816_S1x2816_1 (Host.reduceAdd (shapeCast _ (Host.reduceAdd (mulf (res_main_v116 V0) (res_main_v15 V0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_110_000 h_S_)) (pad S3x2816 ![0, 0] ![2, 0] ![0, 0] (broadcastInDim S1x2816 ![1] bcast_S2816_S1x2816_1 (Host.reduceAdd (shapeCast _ (Host.reduceAdd (mulf (res_main_v116 V0) (res_main_v7 V0)) (constant (F := Ideal) S_ .f32 0x00000000#32) reducesTo_S16384x2816_S2816_d0 h_S_) shapeCasts_S2816_S1x2816) (constant (F := Ideal) S_ .f32 0x00000000#32) reducesTo_S1x2816_S2816_d0 h_S_)) (constant (F := Ideal) S_ .f32 0x00000000#32) pads_S1x2816_S3x2816_020_000 h_S_)) : (⟨S3x2816, .f32⟩ : BufTy).Contents (Elt Ideal))⟩, ⟨S1x2816, ((broadcastInDim S1x2816 ![1] bcast_S2816_S1x2816_1 (Host.reduceAdd (shapeCast _ (Host.reduceAdd (res_main_v116 V0) (constant (F := Ideal) S_ .f32 0x00000000#32) reducesTo_S16384x2816_S2816_d0 h_S_) shapeCasts_S2816_S1x2816) (constant (F := Ideal) S_ .f32 0x00000000#32) reducesTo_S1x2816_S2816_d0 h_S_)) : (⟨S1x2816, .f32⟩ : BufTy).Contents (Elt Ideal))⟩, ⟨S4x2816, ((broadcastInDim S4x2816 ![] bcast_S_S4x2816 (constant (F := Ideal) S_ .f32 0x00000000#32)) : (⟨S4x2816, .f32⟩ : BufTy).Contents (Elt Ideal))⟩] concatenates_S3x2816_S1x2816_S4x2816_S8x2816_d0 : (⟨S8x2816, .f32⟩ : BufTy).Contents (Elt Ideal))
def resDv2 : FVec Ideal S8x1024 .f32 := (concatenate S8x1024 0 [⟨S1x1024, ((broadcastInDim S1x1024 ![1] bcast_S1024_S1x1024_1 (Host.reduceAdd (shapeCast _ (Host.reduceAdd (mulf (res_main_v56 V0) (res_main_v77 V0)) (constant (F := Ideal) S_ .f32 0x00000000#32) reducesTo_S16384x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S1x1024, ((broadcastInDim S1x1024 ![1] bcast_S1024_S1x1024_1 (Host.reduceAdd (shapeCast _ (Host.reduceAdd (res_main_v77 V0) (constant (F := Ideal) S_ .f32 0x00000000#32) reducesTo_S16384x1024_S1024_d0 h_S_) shapeCasts_S1024_S1x1024) (constant (F := Ideal) S_ .f32 0x00000000#32) reducesTo_S1x1024_S1024_d0 h_S_)) : (⟨S1x1024, .f32⟩ : BufTy).Contents (Elt Ideal))⟩, ⟨S6x1024, ((broadcastInDim S6x1024 ![] bcast_S_S6x1024 (constant (F := Ideal) S_ .f32 0x00000000#32)) : (⟨S6x1024, .f32⟩ : BufTy).Contents (Elt Ideal))⟩] concatenates_S1x1024_S1x1024_S6x1024_S8x1024_d0 : (⟨S8x1024, .f32⟩ : BufTy).Contents (Elt Ideal))
/-- The loss, in every entry. -/
def resLoss : FVec Ideal S8x128 .f32 := broadcastInDim S8x128 ![] bcast_S_S8x128 (mulf (constant (F := Ideal) S_ .f32 0x3F000000#32) (Host.reduceAdd (Host.divf (Host.reduceAdd (mulf (res_main_v63 V0) (res_main_v63 V0)) (constant (F := Ideal) S_ .f32 0x00000000#32) reducesTo_S16384x1024_S16384_d1 h_S_) (broadcastInDim S16384 ![] bcast_S_S16384 (constant (F := Ideal) S_ .f32 0x44800000#32))) (constant (F := Ideal) S_ .f32 0x00000000#32) reducesTo_S16384_S_d0 h_S_))
/-- The gradient of the second projection's weight. -/
def resDwd : FVec Ideal S2816x1024 .f32 := transpose S2816x1024 [1, 0] (Host.dotGeneral (F := Ideal) (φ₁ := .f32) (φ₂ := .f32) dot_S16384x1024_S16384x2816_S1024x2816_0_0_1_1_n_n none (dz V0) (up V0)) transposes_S1024x2816_S2816x1024_1_0

/-- The gate's input with eight zero rows before it. -/
def ux (s : ℕ) (f : Fin 2816) : EReal := if h : 8 ≤ s ∧ s < 16392 then aUg V0 (ix2 ⟨s - 8, by omega⟩ f) else 0
/-- The gate's gradient with zero rows after it. -/
def dgx (s : ℕ) (f : Fin 2816) : EReal := if h : s < 16384 then dg V0 (ix2 ⟨s, h⟩ f) else 0

theorem ux_low {s : ℕ} (h : s < 8) (f : Fin 2816) : ux V0 s f = 0 := dif_neg (by omega)
theorem ux_of {s : ℕ} (a : Fin 16384) (h : s = a.val + 8) (f : Fin 2816) : ux V0 s f = aUg V0 (ix2 a f) := by
  subst h
  exact (dif_pos ⟨by omega, by omega⟩).trans (by congr 2)
theorem dgx_high {s : ℕ} (h : 16384 ≤ s) (f : Fin 2816) : dgx V0 s f = 0 := dif_neg (by omega)
theorem dgx_of {s : ℕ} (a : Fin 16384) (h : s = a.val) (f : Fin 2816) : dgx V0 s f = dg V0 (ix2 a f) := by
  subst h; exact dif_pos a.isLt

theorem v7_at (a : Fin 16384) (f : Fin 2816) : res_main_v7 V0 (ix2 a f) = ux V0 (a.val + 6) f := by
  pointwise [res_main_v7, res_main_v3]
  split_ifs with h
  · exact (ux_low V0 (by omega) f).symm
  · exact (ux_of V0 ⟨a.val - 2, by omega⟩ (by show _ = a.val - 2 + 8; omega) f).symm
  · rename_i hh; exact absurd rfl hh
theorem v15_at (a : Fin 16384) (f : Fin 2816) : res_main_v15 V0 (ix2 a f) = ux V0 (a.val + 7) f := by
  pointwise [res_main_v15, res_main_v3]
  split_ifs with h
  · exact (ux_low V0 (by omega) f).symm
  · exact (ux_of V0 ⟨1 + a.val - 2, by omega⟩ (by show _ = 1 + a.val - 2 + 8; omega) f).symm
  · rename_i hh; exact absurd rfl hh
theorem v22_at (a : Fin 16384) (f : Fin 2816) : res_main_v22 V0 (ix2 a f) = ux V0 (a.val + 8) f := by
  pointwise [res_main_v22, res_main_v3]
  exact (ux_of V0 a rfl f).symm
theorem dug_at (a : Fin 16384) (f : Fin 2816) : resDug V0 (ix2 a f) = aCw V0 (ix2 2 f) * dgx V0 a.val f + aCw V0 (ix2 1 f) * dgx V0 (a.val + 1) f + aCw V0 (ix2 0 f) * dgx V0 (a.val + 2) f := by
  pointwise [resDug, res_main_v147, res_main_v23, res_main_v16, res_main_v8]
  rw [dgx_of V0 a rfl]
  refine congrArg₂ (· + ·) (congrArg₂ (· + ·) rfl ?_) ?_
  · split_ifs with h
    · rw [dgx_of V0 ⟨2 + a.val - 1, h.2⟩ (by show _ = 2 + a.val - 1; omega)]
    · rw [dgx_high V0 (by omega), mul_zero]
  · split_ifs with h
    · rw [dgx_of V0 ⟨2 + a.val, h⟩ (by show _ = 2 + a.val; omega)]
    · rw [dgx_high V0 (by omega), mul_zero]
/-- One row's part of the gradients of the convolution's weights and bias. -/
def cfT (r : ℕ) (s : Fin 16384) (f : Fin 2816) : EReal := if r < 3 then dg V0 (ix2 s f) * ux V0 (s.val + 6 + r) f else if r = 3 then dg V0 (ix2 s f) else 0
/-- A row before the layer norm's scale. -/
def zh (Z : Fin 1024 → EReal) (d : Fin 1024) : EReal := zc Z d * Ideal.rsqrt (vr Z)
/-- One row's part of the gradients of the layer norm's scale and bias. -/
def v2T (r : ℕ) (s : Fin 16384) (d : Fin 1024) : EReal :=
  if r = 0 then zh (fun x => z2 V0 (ix2 s x)) d * dC V0 (ix2 s d) else if r = 1 then dC V0 (ix2 s d) else 0

theorem dcf_at (a : Fin 8) (f : Fin 2816) : resDcf V0 (ix2 a f) = ∑ s, cfT V0 a.val s f := by
  pointwise [resDcf]
  simp only [Finset.univ_unique, Finset.sum_singleton, v7_at, v15_at, v22_at]
  obtain ⟨a, ha⟩ := a
  interval_cases a <;> simp [cfT]

theorem v37_at (s : Fin 16384) : res_main_v37 V0 (ix2 s 0) = mu (fun x => z2 V0 (ix2 s x)) := by
  pointwise [res_main_v37, mu]
theorem v39_at (s : Fin 16384) (d : Fin 1024) : res_main_v39 V0 (ix2 s d) = zc (fun x => z2 V0 (ix2 s x)) d := by
  pointwise [res_main_v39]; rw [v37_at]; rfl
theorem v48_at (s : Fin 16384) (d : Fin 1024) : res_main_v48 V0 (ix2 s d) = zc (fun x => z2 V0 (ix2 s x)) d := by
  pointwise [res_main_v48]; rw [v37_at]; rfl
theorem v50_at (s : Fin 16384) : res_main_v50 V0 (ix2 s 0) = vr (fun x => z2 V0 (ix2 s x)) := by
  pointwise [res_main_v50]; simp only [v39_at]; rfl
theorem v51_at (s : Fin 16384) : res_main_v51 V0 (ix2 s 0) = Ideal.rsqrt (vr (fun x => z2 V0 (ix2 s x))) := by
  pointwise [res_main_v51]; rw [v50_at]
theorem v56_at (s : Fin 16384) (d : Fin 1024) : res_main_v56 V0 (ix2 s d) = zh (fun x => z2 V0 (ix2 s x)) d := by
  pointwise [res_main_v56]; rw [v48_at, v51_at]; rfl

theorem dv2_at (a : Fin 8) (d : Fin 1024) : resDv2 V0 (ix2 a d) = ∑ s, v2T V0 a.val s d := by
  pointwise [resDv2]
  simp only [Finset.univ_unique, Finset.sum_singleton, v56_at]
  obtain ⟨a, ha⟩ := a
  interval_cases a <;> simp [v2T]
theorem dwd_at (f : Fin 2816) (d : Fin 1024) : resDwd V0 (ix2 f d) = ∑ s : Fin 16384, dz V0 (ix2 s d) * (sl V0 (ix2 s f) * aUv V0 (ix2 s f)) := by
  pointwise [resDwd, up, res_main_v31]
theorem duv_at (s : Fin 16384) (f : Fin 2816) : resDuv V0 (ix2 s f) = sl V0 (ix2 s f) * ∑ d : Fin 1024, dz V0 (ix2 s d) * aWd V0 (ix2 f d) := by
  pointwise [resDuv, res_main_v113]

/-! ## Real arguments have real values everywhere -/

/-- Every argument but the slabs holds real numbers. -/
def Reals : Prop := (∀ i, IsR (aT V0 i)) ∧ (∀ i, IsR (aX1 V0 i)) ∧ (∀ i, IsR (aUg V0 i)) ∧ (∀ i, IsR (aUv V0 i)) ∧ (∀ i, IsR (aCw V0 i))
  ∧ (∀ i, IsR (aCb V0 i)) ∧ (∀ i, IsR (aWd V0 i)) ∧ (∀ i, IsR (aG V0 i)) ∧ (∀ i, IsR (aB V0 i))

variable {V0} (h : Reals V0)
include h

theorem isR_ux (s : ℕ) (f : Fin 2816) : IsR (ux V0 s f) := by
  unfold ux
  split_ifs
  · exact h.2.2.1 _
  · exact isR_zero

theorem isR_gt (s : Fin 16384) (f : Fin 2816) : IsR (gt V0 (ix2 s f)) := by
  pointwise [gt, res_main_v29, res_main_v8, res_main_v16, res_main_v23]
  rw [v7_at, v15_at, v22_at]
  exact ((((h.2.2.2.2.1 _).mul (isR_ux h _ _)).add ((h.2.2.2.2.1 _).mul (isR_ux h _ _))).add ((h.2.2.2.2.1 _).mul (isR_ux h _ _))).add (h.2.2.2.2.2.1 _)

theorem isR_sg (s : Fin 16384) (f : Fin 2816) : IsR (sg V0 (ix2 s f)) := by
  pointwise [sg, res_main_v30_2]
  exact isR_sigmoid (isR_gt h s f)

theorem isR_z2 (s : Fin 16384) (d : Fin 1024) : IsR (z2 V0 (ix2 s d)) := by
  pointwise [z2, res_main_v33, res_main_v31, res_main_v30_0]
  exact (isR_alpha.mul (h.2.1 _)).add (isR_sum fun f => (((isR_gt h s f).mul (isR_sg h s f)).mul (h.2.2.2.1 _)).mul (h.2.2.2.2.2.2.1 _))

omit h in
theorem dz_at (s : Fin 16384) (d : Fin 1024) : dz V0 (ix2 s d) = lnR (fun x => z2 V0 (ix2 s x)) (fun x => dC V0 (ix2 s x)) (fun x => aG V0 (ix1 x)) d := by
  pointwise [dz, res_main_v110, res_main_v100, res_main_v91, res_main_v85, res_main_v57]
  simp only [Fin.sum_univ_one, Finset.univ_unique, Finset.sum_singleton, Fin.default_eq_zero, v39_at, v48_at, v50_at, v51_at]
  rfl

omit h in
theorem df_at (s : Fin 16384) (d : Fin 1024) : df V0 (ix2 s d) = zh (fun x => z2 V0 (ix2 s x)) d * aG V0 (ix1 d) + aB V0 (ix1 d) - aT V0 (ix2 s d) := by
  pointwise [df, res_main_v63, res_main_v57]
  rw [v56_at]

theorem isR_df (s : Fin 16384) (d : Fin 1024) : IsR (df V0 (ix2 s d)) := by
  have hz := isR_rs (fun x => isR_z2 h s x)
  rw [df_at]
  exact ((((hz.1 d).mul hz.2).mul (h.2.2.2.2.2.2.2.1 _)).add (h.2.2.2.2.2.2.2.2 _)).sub (h.1 _)

theorem dC_at (s : Fin 16384) (d : Fin 1024) : dC V0 (ix2 s d) = df V0 (ix2 s d) * cD := by
  rw [← sq_eq (isR_df h s d)]
  pointwise [dC, res_main_v77]

theorem isR_dC (s : Fin 16384) (d : Fin 1024) : IsR (dC V0 (ix2 s d)) := by
  rw [dC_at h, cD_eq]
  exact (isR_df h s d).mul (isR_coe _)

/-- One row's part of the loss. -/
theorem loss_at (r : Fin 8) (b : Fin 128) : resLoss V0 (ix2 r b) = ∑ s : Fin 16384, (∑ d : Fin 1024, df V0 (ix2 s d) * df V0 (ix2 s d)) * cL := by
  rw [← loss_eq fun s => isR_sum fun d => (isR_df h s d).mul (isR_df h s d)]
  pointwise [resLoss]

theorem dz_eq (s : Fin 16384) (d : Fin 1024) : lnK (fun x => z2 V0 (ix2 s x)) (fun x => dC V0 (ix2 s x)) (fun x => aG V0 (ix1 x)) d = dz V0 (ix2 s d) ∧ IsR (dz V0 (ix2 s d)) := by
  rw [dz_at]
  exact ln_eq _ _ _ (fun x => isR_z2 h s x) (fun x => isR_dC h s x) (fun x => h.2.2.2.2.2.2.2.1 _) d

theorem dg_eq (s : Fin 16384) (f : Fin 2816) : (∑ x : Fin 1024, dz V0 (ix2 s x) * aWd V0 (ix2 f x)) * aUv V0 (ix2 s f)
    * (sg V0 (ix2 s f) * (1 + gt V0 (ix2 s f) * (1 - sg V0 (ix2 s f)))) = dg V0 (ix2 s f) := by
  pointwise [dg, res_main_v116, res_main_v115, res_main_v113]
  exact gate_eq (isR_sum fun x => (dz_eq h s x).2.mul (h.2.2.2.2.2.2.1 _)) (h.2.2.2.1 _) (isR_sg h s f) (isR_gt h s f)

end Cert.FfnLast

end
-- ==== Proof.FfnLastForm.lean ====
module

public import proofs.«01_k».proof.Proof.FfnLastBody
public import proofs.«01_k».proof.Proof.FfnLastRef
public import Idealize.ShloMosaic.Lib.Pipeline.CanonAppend

@[expose] public section

set_option maxRecDepth 16384
set_option maxHeartbeats 4000000

noncomputable section

namespace Cert.Kernel6Ideal.Hand

open Cert.Kernel6Ideal Cert.Kernel6Ideal.Gen
open Idealize.ShloMosaic Idealize.ShloMosaic.TcCoe Idealize.SL.Sem
open Cert.Ffn (zc mu vr lnK)

/-- Column `b` of group `q`. -/
def col (q : Fin 11) (b : Fin 256) : Fin 2816 := ⟨256 * q.val + b.val, by omega⟩

theorem col_surj (f : Fin 2816) : ∃ q b, col q b = f :=
  ⟨⟨f.val / 256, by omega⟩, ⟨f.val % 256, by omega⟩, Fin.ext (by simp only [col]; omega)⟩

theorem mem_groups {α : Type} {f : Fin 11 → α} {p : α} (h : p ∈ groups f) : ∃ q, p = f q := by
  simp only [groups, List.mem_cons, List.not_mem_nil, or_false] at h
  rcases h with h | h | h | h | h | h | h | h | h | h | h <;> exact ⟨_, h⟩

theorem groups_mem {α : Type} (f : Fin 11 → α) (q : Fin 11) : f q ∈ groups f := by
  fin_cases q <;> simp [groups]

section
variable (a0 : BitVec 32) (X2 X3 : Vec Ideal S256x1024 .f32) (X4 X5 X6 X7 : Vec Ideal S256x2816 .bf16) (X8 : Vec Ideal S16x2816 .bf16) (X9 : Vec Ideal S8x2816 .f32)
  (X10 : Vec Ideal S1024x2816 .bf16) (X11 : Vec Ideal S8x1024 .f32) (X16 : Vec Ideal S8x2816 .f32) (X17 : Vec Ideal S8x1024 .f32) (X20 : Vec Ideal S264x2816 .f32) (X21 : Vec Ideal S2816x1024 .f32)
  (cr : FVec Ideal S8x2816 .f32)

theorem embT (q : Fin 11) (a b : Fin 256) : (rT q).emb (ix2 a b) = ix2 a (col q b) := by blk_ext [col]
theorem embP (q : Fin 11) (a : Fin 1024) (b : Fin 256) : (rP q).emb (ix2 a b) = ix2 a (col q b) := by blk_ext [col]
theorem embW (q : Fin 11) (b : Fin 256) (d : Fin 1024) : (rW q).emb (ix2 b d) = ix2 (col q b) d := by blk_ext [col]
theorem embC (k : Fin 4) (q : Fin 11) (b : Fin 256) : (rC k q).emb (ix2 0 b) = ix2 ⟨k.val, by omega⟩ (col q b) := by blk_ext [col]
theorem embV (k : Fin 2) (d : Fin 1024) : (rV k).emb (ix2 0 d) = ix2 ⟨k.val, by omega⟩ d := by blk_ext
theorem embS (k : Fin 9) (q : Fin 11) (a b : Fin 256) : (rS k q).emb (ix2 a b) = ix2 ⟨k.val + a.val, by omega⟩ (col q b) := by blk_ext [col]
theorem ldT (X : Vec Ideal S256x2816 .bf16) (q : Fin 11) (a b : Fin 256) : View.ld X (rT q) (ix2 a b) = X (ix2 a (col q b)) := congrArg X (embT q a b)
theorem ldP (X : Vec Ideal S1024x2816 .bf16) (q : Fin 11) (a : Fin 1024) (b : Fin 256) : View.ld X (rP q) (ix2 a b) = X (ix2 a (col q b)) := congrArg X (embP q a b)
theorem ldW (X : Vec Ideal S2816x1024 .f32) (q : Fin 11) (b : Fin 256) (d : Fin 1024) : View.ld X (rW q) (ix2 b d) = X (ix2 (col q b) d) := congrArg X (embW q b d)
theorem ldC (X : Vec Ideal S8x2816 .f32) (k : Fin 4) (q : Fin 11) (b : Fin 256) : View.ld X (rC k q) (ix2 0 b) = X (ix2 ⟨k.val, by omega⟩ (col q b)) := congrArg X (embC k q b)
theorem ldV (X : Vec Ideal S8x1024 .f32) (k : Fin 2) (d : Fin 1024) : View.ld X (rV k) (ix2 0 d) = X (ix2 ⟨k.val, by omega⟩ d) := congrArg X (embV k d)

/-- The layer's output less the target. -/
theorem diK_at {Z T : Fin 256 → Fin 1024 → EReal} {G B : Fin 1024 → EReal} (h3 : ∀ a d, X3 (ix2 a d) = Z a d) (h2 : ∀ a d, X2 (ix2 a d) = T a d)
    (h11 : ∀ d, X11 (ix2 0 d) = G d) (hb : ∀ d, X11 (ix2 1 d) = B d) (a : Fin 256) (d : Fin 1024) :
    diK X2 X3 X11 (ix2 a d) = Cert.FfnLast.zh (Z a) d * G d + B d - T a d := by
  rw [← h11 d, ← hb d, ← h2 a d, ← funext (h3 a)]
  have e0 := ldV X11 0 d
  have e1 := ldV X11 1 d
  pointwise [diK, k0_pay11, k0_pay10, k0_pay9, k0_pay8]
  rfl

/-- The loss's gradient at the output. -/
theorem pay15_at {E : Fin 256 → Fin 1024 → EReal} (hd : ∀ a d, diK X2 X3 X11 (ix2 a d) = E a d) (a : Fin 256) (d : Fin 1024) :
    k0_pay15 (diK X2 X3 X11) (ix2 a d) = E a d * Cert.FfnLast.cD := by
  rw [← hd a d]
  pointwise [k0_pay15]

/-- What a point adds to the loss. -/
theorem lossK_at {E : Fin 256 → Fin 1024 → EReal} (hd : ∀ a d, diK X2 X3 X11 (ix2 a d) = E a d) (X18 : Vec Ideal S8x128 .f32) (r : Fin 8) (b : Fin 128) :
    lossK X2 X3 X11 X18 (ix2 r b) = X18 (ix2 r b) + (∑ a, ∑ d, E a d * E a d) * Cert.FfnLast.cL := by
  simp only [← hd]
  pointwise [lossK, diK, k0_pay14, k0_pay12, k0_pay13]

theorem dzK_at {Z C : Fin 256 → Fin 1024 → EReal} {G : Fin 1024 → EReal} (h3 : ∀ a d, X3 (ix2 a d) = Z a d) (hc : ∀ a d, k0_pay15 (diK X2 X3 X11) (ix2 a d) = C a d) (h11 : ∀ d, X11 (ix2 0 d) = G d)
    (a : Fin 256) (d : Fin 1024) : dzK X2 X3 X11 (ix2 a d) = lnK (Z a) (C a) G d := by
  rw [← funext (h3 a), ← funext (hc a), ← funext h11]
  pointwise [dzK, k0_pay21, k0_pay20, k0_pay19, k0_pay18, k0_pay9, k0_pay10, k0_pay8]
  rfl

variable {DZ : Fin 256 → Fin 1024 → EReal} (hz : ∀ a d, dzK X2 X3 X11 (ix2 a d) = DZ a d)
include hz
theorem dyK_at (a : Fin 256) (d : Fin 1024) : dyK X2 X3 X11 (ix2 a d) = DZ a d := (hz a d).symm ▸ rfl

variable {W : Fin 2816 → Fin 1024 → EReal} (h10 : ∀ d f, X10 (ix2 d f) = W f d)
include h10
theorem dgK_at {U D : Fin 256 → Fin 2816 → EReal} (h5 : ∀ a f, X5 (ix2 a f) = U a f) (h7 : ∀ a f, X7 (ix2 a f) = D a f) (q : Fin 11) (a b : Fin 256) :
    dgK X2 X3 X5 X7 X10 X11 q (ix2 a b) = (∑ x, DZ a x * W (col q b) x) * U a (col q b) * D a (col q b) := by
  rw [← h5 a, ← h7 a, ← ldT X5 q a b, ← ldT X7 q a b]
  simp only [← h10, ← ldP X10 q, ← dyK_at X2 X3 X11 hz]
  pointwise [dgK, k0_pay31, k0_pay29, k0_pay26]
end

section
variable (a0 : BitVec 32) (X2 X3 : Vec Ideal S256x1024 .f32) (X4 X5 X6 X7 : Vec Ideal S256x2816 .bf16) (X8 : Vec Ideal S16x2816 .bf16) (X9 : Vec Ideal S8x2816 .f32)
  (X10 : Vec Ideal S1024x2816 .bf16) (X11 : Vec Ideal S8x1024 .f32) (X16 : Vec Ideal S8x2816 .f32) (X17 : Vec Ideal S8x1024 .f32) (X20 : Vec Ideal S264x2816 .f32) (X21 : Vec Ideal S2816x1024 .f32)
  (cr : FVec Ideal S8x2816 .f32)

theorem uL_cover : ∀ y, ∃ p ∈ uL a0 X4 X8, y ∈ p.1.set := View.cover_of_tiledBy _ ![8, 2816] (by sl_kernel_rfl)

theorem pay23_at (r : Fin 8) (f : Fin 2816) : k0_pay23 a0 (View.ld X8 rG) (ix2 r f) = if a0 = 63#32 then (0 : EReal) else X8 (ix2 ⟨8 + r.val, by omega⟩ f) := by
  have h : k0_pay23 a0 (View.ld X8 rG) (ix2 r f) = Scalar.select (Scalar.cmpi CmpIPredicate.eq a0 63#32) (0 : EReal) (X8 (ix2 ⟨8 + r.val, by omega⟩ f)) := by
    pointwise [k0_pay23]
  rw [h]
  by_cases h0 : a0 = 63#32
  · subst h0; rfl
  · rw [if_neg h0]
    have : Scalar.cmpi CmpIPredicate.eq a0 63#32 = 0#1 := by
      show BitVec.ofBool (a0 == 63#32) = 0#1
      rw [beq_false_of_ne h0]; rfl
    rw [this]; rfl

/-- The function of a row and a column as a function of the index. -/
def two {n : ℕ} (U : ℕ → Fin 2816 → EReal) (y : (⟨2, ![n, 2816]⟩ : Shape).Idx) : EReal := U (y 0).val (y 1)

theorem emb8 (a : Fin 256) (f : Fin 2816) : (Rect.unit (s := S264x2816) ![8, 0] S256x2816.size inb_S264x2816_S256x2816_8_0).emb (ix2 a f) = ix2 ⟨8 + a.val, by omega⟩ f := by blk_ext
theorem emb0 (a : Fin 8) (f : Fin 2816) : (Rect.unit (s := S264x2816) ![0, 0] S8x2816.size inb_S264x2816_S8x2816_0_0).emb (ix2 a f) = ix2 ⟨a.val, by omega⟩ f := by blk_ext
theorem emb256 (a : Fin 8) (f : Fin 2816) : (Rect.unit (s := S264x2816) ![256, 0] S8x2816.size inb_S264x2816_S8x2816_256_0).emb (ix2 a f) = ix2 ⟨256 + a.val, by omega⟩ f := by blk_ext

/-- A block of the gate rows shifted by `k`, read off a function of the row with the eight before. -/
theorem tapK_at {U : ℕ → Fin 2816 → EReal} (h4 : ∀ (a : Fin 256) f, X4 (ix2 a f) = U (8 + a.val) f)
    (h8 : ∀ (r : Fin 8) f, k0_pay23 a0 (View.ld X8 rG) (ix2 r f) = U r.val f) (k : Fin 9) (q : Fin 11) (a b : Fin 256) :
    tapK a0 X4 X8 k q (ix2 a b) = U (k.val + a.val) (col q b) := by
  unfold tapK
  rw [View.readCov_eq_canon']
  refine (View.canon_apply_of_pieces (two (n := 264) U : S264x2816.Idx → Elt Ideal .f32) _ ?_ _ (uL_cover a0 X4 X8 _)).trans (congrArg (two (n := 264) U) (embS k q a b))
  intro p hp x
  simp only [uL, List.mem_cons, List.not_mem_nil, or_false] at hp
  rcases hp with rfl | rfl
  · obtain ⟨a, f, rfl⟩ : ∃ (a : Fin 256) (f : Fin 2816), x = ix2 a f := ⟨x 0, x 1, eq_ix2 x⟩
    refine Eq.trans (?_ : _ = X4 (ix2 a f)) ((h4 a f).trans (congrArg (two (n := 264) U) (emb8 a f)).symm)
    pointwise [k0_pay24]
  · obtain ⟨a, f, rfl⟩ : ∃ (a : Fin 8) (f : Fin 2816), x = ix2 a f := ⟨x 0, x 1, eq_ix2 x⟩
    exact (h8 a f).trans (congrArg (two (n := 264) U) (emb0 a f)).symm

section next
variable {D : ℕ → Fin 2816 → EReal} (hd : ∀ (q : Fin 11) (a b : Fin 256), dgK X2 X3 X5 X7 X10 X11 q (ix2 a b) = D a.val (col q b))
  (hcr : ∀ (r : Fin 8) f, cr (ix2 r f) = D (256 + r.val) f)
include hd hcr
theorem dgL_pieces : ∀ n ≤ 11, ∀ p ∈ dgL X2 X3 X5 X7 X10 X11 cr n, ∀ x : p.1.shape.Idx, p.2 x = two (n := 264) D (p.1.emb x)
  | 0, _, p, hp, x => by
    simp only [dgL, List.mem_cons, List.not_mem_nil, or_false] at hp
    subst hp
    obtain ⟨a, f, rfl⟩ : ∃ (a : Fin 8) (f : Fin 2816), x = ix2 a f := ⟨x 0, x 1, eq_ix2 x⟩
    exact (hcr a f).trans (congrArg (two (n := 264) D) (emb256 a f)).symm
  | n + 1, hn, p, hp, x => by
    rw [dgL, List.mem_cons] at hp
    rcases hp with rfl | hp
    · obtain ⟨a, b, rfl⟩ : ∃ (a b : Fin 256), x = ix2 a b := ⟨x 0, x 1, eq_ix2 x⟩
      refine Eq.trans (?_ : _ = dgK X2 X3 X5 X7 X10 X11 (Fin.ofNat 11 n) (ix2 a b)) ((hd _ a b).trans ?_)
      · pointwise [k0_pay32, dgK]
      · refine (congrArg (fun k => D k (col (Fin.ofNat 11 n) b)) ?_).trans (congrArg (two (n := 264) D) (embS 0 (Fin.ofNat 11 n) a b)).symm
        exact (Nat.zero_add _).symm
    · exact dgL_pieces n (Nat.le_of_succ_le hn) p hp x

theorem dgbK_at (r : Fin 264) (f : Fin 2816) : dgbK X2 X3 X5 X7 X10 X11 cr (ix2 r f) = D r.val f := by
  unfold dgbK
  exact View.canon_apply_of_pieces (two (n := 264) D : S264x2816.Idx → Elt Ideal .f32) _ (dgL_pieces X2 X3 X5 X7 X10 X11 cr hd hcr 11 le_rfl) _ (dgb_cover X2 X3 X5 X7 X10 X11 cr _)

omit hd hcr in
theorem dgL_last : ∀ n, ⟨Rect.unit ![256, 0] S8x2816.size inb_S264x2816_S8x2816_256_0, cr⟩ ∈ dgL X2 X3 X5 X7 X10 X11 cr n
  | 0 => by rw [dgL]; exact List.mem_singleton.mpr rfl
  | n + 1 => by rw [dgL]; exact List.mem_cons_of_mem _ (dgL_last n)

theorem shK_at (k : Fin 9) (q : Fin 11) (a b : Fin 256) : shK X2 X3 X5 X7 X10 X11 cr k q (ix2 a b) = D (k.val + a.val) (col q b) := by
  unfold shK
  rw [View.readCov_eq_canon']
  refine (View.canon_apply_of_pieces (two (n := 264) D : S264x2816.Idx → Elt Ideal .f32) _ (dgL_pieces X2 X3 X5 X7 X10 X11 cr hd hcr _ (by omega)) _ ?_).trans (congrArg (two (n := 264) D) (embS k q a b))
  show ∃ p ∈ dgL X2 X3 X5 X7 X10 X11 cr (q.val + 1), (rS k q).emb (ix2 a b) ∈ p.1.set
  rw [embS k q a b]
  by_cases h : k.val + a.val < 256
  · refine ⟨_, by rw [dgL]; exact List.mem_cons_self, ?_⟩
    have e : Fin.ofNat 11 q.val = q := Fin.ext (Nat.mod_eq_of_lt q.isLt)
    show _ ∈ (rS 0 (Fin.ofNat 11 q.val)).set
    rw [e]
    refine Rect.mem_set_unit.mpr fun i => ?_
    fin_cases i
    · show 0 ≤ k.val + a.val ∧ k.val + a.val < 0 + 256
      omega
    · show 256 * q.val ≤ 256 * q.val + b.val ∧ 256 * q.val + b.val < 256 * q.val + 256
      omega
  · refine ⟨_, dgL_last X2 X3 X5 X7 X10 X11 cr (q.val + 1), ?_⟩
    show _ ∈ (Rect.unit (s := S264x2816) ![256, 0] S8x2816.size inb_S264x2816_S8x2816_256_0).set
    refine Rect.mem_set_unit.mpr fun i => ?_
    fin_cases i
    · show 256 ≤ k.val + a.val ∧ k.val + a.val < 256 + 8
      omega
    · show 0 ≤ 256 * q.val + b.val ∧ 256 * q.val + b.val < 0 + 2816
      omega

def dugG (a : Fin 256) (f : Fin 2816) : EReal :=
  (fun x y z : EReal => x * D a.val f + y * D (a.val + 1) f + z * D (a.val + 2) f) (X9 (ix2 2 f)) (X9 (ix2 1 f)) (X9 (ix2 0 f))

theorem dugK_at (a : Fin 256) (f : Fin 2816) : dugK X2 X3 X5 X7 X9 X10 X11 cr (ix2 a f) = dugG X9 (D := D) a f := by
  refine View.canon_apply_of_pieces (fun y : S256x2816.Idx => (dugG X9 (D := D) (y 0) (y 1) : Elt Ideal .bf16)) _ ?_ _ (dug_cover X2 X3 X5 X7 X9 X10 X11 cr _)
  intro p hp x
  obtain ⟨q, rfl⟩ := mem_groups hp
  obtain ⟨a, b, rfl⟩ : ∃ (a b : Fin 256), x = ix2 a b := ⟨x 0, x 1, eq_ix2 x⟩
  have e1 := shK_at X2 X3 X5 X7 X10 X11 cr hd hcr 1 q a b
  have e2 := shK_at X2 X3 X5 X7 X10 X11 cr hd hcr 2 q a b
  have e0 := hd q a b
  have c0 := ldC X9 0 q b
  have c1 := ldC X9 1 q b
  have c2 := ldC X9 2 q b
  have L : (dugP X2 X3 X5 X7 X9 X10 X11 cr q).2 (ix2 a b) = (fun u v w x y z : EReal => u * x + v * y + w * z) (View.ld X9 (rC 2 q) (ix2 0 b)) (View.ld X9 (rC 1 q) (ix2 0 b)) (View.ld X9 (rC 0 q) (ix2 0 b))
      (dgK X2 X3 X5 X7 X10 X11 q (ix2 a b)) (shK X2 X3 X5 X7 X10 X11 cr 1 q (ix2 a b)) (shK X2 X3 X5 X7 X10 X11 cr 2 q (ix2 a b)) := by
    pointwise [dugP, k0_pay37]
  rw [L, c0, c1, c2, e0, e1, e2]
  refine Eq.trans ?_ (congrArg (fun y : S256x2816.Idx => dugG X9 (D := D) (y 0) (y 1)) (embT q a b)).symm
  show _ = dugG X9 (D := D) a (col q b)
  unfold dugG
  rw [Nat.add_comm a.val 1, Nat.add_comm a.val 2]
  rfl
end next

section prods
variable {DZ : Fin 256 → Fin 1024 → EReal} (hz : ∀ a d, dzK X2 X3 X11 (ix2 a d) = DZ a d)
include hz

theorem duvK_at {W : Fin 2816 → Fin 1024 → EReal} (h10 : ∀ d f, X10 (ix2 d f) = W f d) {S : Fin 256 → Fin 2816 → EReal} (h6 : ∀ a f, X6 (ix2 a f) = S a f)
    (a : Fin 256) (f : Fin 2816) : duvK X2 X3 X6 X10 X11 (ix2 a f) = (∑ x, DZ a x * W f x) * S a f := by
  refine View.canon_apply_of_pieces (fun y : S256x2816.Idx => ((∑ x, DZ (y 0) x * W (y 1) x) * S (y 0) (y 1) : Elt Ideal .bf16)) _ ?_ _ (duv_cover X2 X3 X6 X10 X11 _)
  intro p hp x
  obtain ⟨q, rfl⟩ := mem_groups hp
  obtain ⟨a, b, rfl⟩ : ∃ (a b : Fin 256), x = ix2 a b := ⟨x 0, x 1, eq_ix2 x⟩
  refine Eq.trans ?_ (congrArg (fun y : S256x2816.Idx => (∑ x, DZ (y 0) x * W (y 1) x) * S (y 0) (y 1)) (embT q a b)).symm
  show _ = (∑ x, DZ a x * W (col q b) x) * S a (col q b)
  rw [← h6 a, ← ldT X6 q a b]
  simp only [← h10, ← ldP X10 q, ← dyK_at X2 X3 X11 hz]
  pointwise [duvP, k0_pay30, k0_pay29, k0_pay25]

theorem dwdK_at {U S : Fin 256 → Fin 2816 → EReal} (h5 : ∀ a f, X5 (ix2 a f) = U a f) (h6 : ∀ a f, X6 (ix2 a f) = S a f)
    {A : Fin 2816 → Fin 1024 → EReal} (h21 : ∀ f d, X21 (ix2 f d) = A f d) (f : Fin 2816) (d : Fin 1024) :
    dwdK X2 X3 X5 X6 X11 X21 (ix2 f d) = A f d + ∑ a, DZ a d * (S a f * U a f) := by
  refine View.canon_apply_of_pieces (fun y : S2816x1024.Idx => (A (y 0) (y 1) + ∑ a, DZ a (y 1) * (S a (y 0) * U a (y 0)) : Elt Ideal .f32)) _ ?_ _ (dwd_cover X2 X3 X5 X6 X11 _ _)
  intro p hp x
  obtain ⟨q, rfl⟩ := mem_groups hp
  obtain ⟨b, d, rfl⟩ : ∃ (b : Fin 256) (d : Fin 1024), x = ix2 b d := ⟨x 0, x 1, eq_ix2 x⟩
  refine Eq.trans ?_ (congrArg (fun y : S2816x1024.Idx => A (y 0) (y 1) + ∑ a, DZ a (y 1) * (S a (y 0) * U a (y 0))) (embW q b d)).symm
  show _ = A (col q b) d + ∑ a, DZ a d * (S a (col q b) * U a (col q b))
  rw [← h21 (col q b), ← ldW X21 q b d]
  simp only [mul_comm (DZ _ _)]
  simp only [← h5, ← h6, ← ldT X6 q, ← ldT X5 q, ← dyK_at X2 X3 X11 hz]
  pointwise [dwdP, k0_pay28, k0_pay27, k0_pay26, k0_pay25]
end prods

/-- The rows from `k` on of a matrix of eight. -/
abbrev rBelow : Rect S8x2816 := Rect.unit ![4, 0] ![4, 2816] (by decide)
abbrev rBelowV : Rect S8x1024 := Rect.unit ![2, 0] ![6, 1024] (by decide)

theorem dcf_skip (w : Fin 11 → Fin 4 → Vec Ideal S1x256 .f32) : ((groups (dcfP a0 X2 X3 X4 X5 X7 X8 X10 X11 w)).flatten.all fun p => LoadRect.disj p.1 rBelow.toLoadRect) = true := by
  sl_kernel_rfl
theorem dv2_skip (w : Fin 2 → Vec Ideal S1x1024 .f32) : ((dv2P X2 X3 X11 w).all fun p => LoadRect.disj p.1 rBelowV.toLoadRect) = true := by
  sl_kernel_rfl

/-- What a point adds to the convolution's sums. -/
def cfAdd (T : ℕ → Fin 256 → Fin 2816 → EReal) (D : Fin 256 → Fin 2816 → EReal) (r : ℕ) (f : Fin 2816) : EReal :=
  if r < 3 then ∑ a, D a f * T r a f else if r = 3 then ∑ a, D a f else 0

theorem dcfK_at {T : ℕ → Fin 256 → Fin 2816 → EReal} {D : Fin 256 → Fin 2816 → EReal} (hd : ∀ (q : Fin 11) (a b : Fin 256), dgK X2 X3 X5 X7 X10 X11 q (ix2 a b) = D a (col q b))
    (ht : ∀ (k : Fin 3) (q : Fin 11) (a b : Fin 256), tapK a0 X4 X8 ⟨6 + k.val, by omega⟩ q (ix2 a b) = T k.val a (col q b))
    {A : Fin 8 → Fin 2816 → EReal} (h16 : ∀ r f, X16 (ix2 r f) = A r f) (r : Fin 8) (f : Fin 2816) :
    dcfK a0 X2 X3 X4 X5 X7 X8 X10 X11 X16 (ix2 r f) = A r f + cfAdd T D r.val f := by
  unfold dcfK
  by_cases hr : 4 ≤ r.val
  · have hy : ix2 r f = rBelow.toLoadRect.idx (ix2 ⟨r.val - 4, by omega⟩ f) := by
      show ix2 r f = rBelow.emb (ix2 ⟨r.val - 4, by omega⟩ f)
      blk_ext
    rw [hy, canon_skip _ _ _ (dcf_skip a0 X2 X3 X4 X5 X7 X8 X10 X11 _), ← hy, h16, cfAdd, if_neg (by omega), if_neg (by omega), add_zero]
  · refine View.canon_append_of_pieces (Val := Elt Ideal) (e := .f32) (fun y : S8x2816.Idx => (A (y 0) (y 1) + cfAdd T D (y 0).val (y 1) : Elt Ideal .f32)) _ _ ?_ _ ?_
    · intro p hp x
      obtain ⟨L, hL, hp⟩ := List.mem_flatten.mp hp
      obtain ⟨q, rfl⟩ := mem_groups hL
      simp only [dcfP, List.mem_cons, List.not_mem_nil, or_false] at hp
      have key : ∀ (k : Fin 4) (b : Fin 256) (v : EReal), v = A ⟨k.val, by omega⟩ (col q b) + cfAdd T D k.val (col q b) →
          v = (fun y : S8x2816.Idx => A (y 0) (y 1) + cfAdd T D (y 0).val (y 1)) ((rC k q).emb (ix2 0 b)) := fun k b v h => by
        rw [embC k q b]; exact h
      rcases hp with rfl | rfl | rfl | rfl
      · obtain ⟨z, b, rfl⟩ : ∃ (z : Fin 1) (b : Fin 256), x = ix2 z b := ⟨x 0, x 1, eq_ix2 x⟩
        obtain rfl : z = 0 := Subsingleton.elim _ _
        refine key 2 b _ ?_
        have e : cfAdd T D ((2 : Fin 4) : ℕ) (col q b) = ∑ a, D a (col q b) * T ((2 : Fin 3) : ℕ) a (col q b) := if_pos (by decide)
        rw [e, ← h16, ← ldC X16 2 q b]
        simp only [← hd q, ← ht 2 q]
        pointwise [k0_pay48]
      · obtain ⟨z, b, rfl⟩ : ∃ (z : Fin 1) (b : Fin 256), x = ix2 z b := ⟨x 0, x 1, eq_ix2 x⟩
        obtain rfl : z = 0 := Subsingleton.elim _ _
        refine key 1 b _ ?_
        have e : cfAdd T D ((1 : Fin 4) : ℕ) (col q b) = ∑ a, D a (col q b) * T ((1 : Fin 3) : ℕ) a (col q b) := if_pos (by decide)
        rw [e, ← h16, ← ldC X16 1 q b]
        simp only [← hd q, ← ht 1 q]
        pointwise [k0_pay47]
      · obtain ⟨z, b, rfl⟩ : ∃ (z : Fin 1) (b : Fin 256), x = ix2 z b := ⟨x 0, x 1, eq_ix2 x⟩
        obtain rfl : z = 0 := Subsingleton.elim _ _
        refine key 0 b _ ?_
        have e : cfAdd T D ((0 : Fin 4) : ℕ) (col q b) = ∑ a, D a (col q b) * T ((0 : Fin 3) : ℕ) a (col q b) := if_pos (by decide)
        rw [e, ← h16, ← ldC X16 0 q b]
        simp only [← hd q, ← ht 0 q]
        pointwise [k0_pay46]
      · obtain ⟨z, b, rfl⟩ : ∃ (z : Fin 1) (b : Fin 256), x = ix2 z b := ⟨x 0, x 1, eq_ix2 x⟩
        obtain rfl : z = 0 := Subsingleton.elim _ _
        refine key 3 b _ ?_
        have e : cfAdd T D ((3 : Fin 4) : ℕ) (col q b) = ∑ a, D a (col q b) := (if_neg (by decide)).trans (if_pos rfl)
        rw [e, ← h16, ← ldC X16 3 q b]
        simp only [← hd q]
        pointwise [k0_pay45]
    · obtain ⟨q, b, rfl⟩ := col_surj f
      have hm : ∀ k : Fin 4, k.val = r.val → ix2 r (col q b) ∈ (rC k q).set := fun k hk => by
        rw [show ix2 r (col q b) = (rC k q).emb (ix2 0 b) from (congrArg (fun r => ix2 r (col q b)) (Fin.ext hk.symm)).trans (embC k q b).symm]
        exact LoadRect.idx_mem _ _
      have hl : ∀ p ∈ dcfP a0 X2 X3 X4 X5 X7 X8 X10 X11 (fun q k => View.ld X16 (rC k q)) q, p ∈ (groups (dcfP a0 X2 X3 X4 X5 X7 X8 X10 X11 fun q k => View.ld X16 (rC k q))).flatten :=
        fun p hp => List.mem_flatten.mpr ⟨_, groups_mem _ q, hp⟩
      obtain h | h | h | h : r.val = 2 ∨ r.val = 1 ∨ r.val = 0 ∨ r.val = 3 := by omega
      · exact ⟨_, hl _ List.mem_cons_self, hm 2 h.symm⟩
      · exact ⟨_, hl _ (List.mem_cons_of_mem _ List.mem_cons_self), hm 1 h.symm⟩
      · exact ⟨_, hl _ (List.mem_cons_of_mem _ (List.mem_cons_of_mem _ List.mem_cons_self)), hm 0 h.symm⟩
      · exact ⟨_, hl _ (List.mem_cons_of_mem _ (List.mem_cons_of_mem _ (List.mem_cons_of_mem _ List.mem_cons_self))), hm 3 h.symm⟩

/-- What a point adds to the normalisation's sums. -/
def v2Add (Z C : Fin 256 → Fin 1024 → EReal) (r : ℕ) (d : Fin 1024) : EReal :=
  if r = 0 then ∑ a, Cert.FfnLast.zh (Z a) d * C a d else if r = 1 then ∑ a, C a d else 0

theorem dv2K_at {Z C : Fin 256 → Fin 1024 → EReal} (h3 : ∀ a d, X3 (ix2 a d) = Z a d) (hc : ∀ a d, k0_pay15 (diK X2 X3 X11) (ix2 a d) = C a d)
    {A : Fin 8 → Fin 1024 → EReal} (h17 : ∀ r d, X17 (ix2 r d) = A r d) (r : Fin 8) (d : Fin 1024) :
    dv2K X2 X3 X11 X17 (ix2 r d) = A r d + v2Add Z C r.val d := by
  unfold dv2K
  by_cases hr : 2 ≤ r.val
  · have hy : ix2 r d = rBelowV.toLoadRect.idx (ix2 ⟨r.val - 2, by omega⟩ d) := by
      show ix2 r d = rBelowV.emb (ix2 ⟨r.val - 2, by omega⟩ d)
      blk_ext
    rw [hy, canon_skip _ _ _ (dv2_skip X2 X3 X11 _), ← hy, h17, v2Add, if_neg (by omega), if_neg (by omega), add_zero]
  · refine View.canon_append_of_pieces (Val := Elt Ideal) (e := .f32) (fun y : S8x1024.Idx => (A (y 0) (y 1) + v2Add Z C (y 0).val (y 1) : Elt Ideal .f32)) _ _ ?_ _ ?_
    · intro p hp x
      simp only [dv2P, List.mem_cons, List.not_mem_nil, or_false] at hp
      have key : ∀ (k : Fin 2) (d : Fin 1024) (v : EReal), v = A ⟨k.val, by omega⟩ d + v2Add Z C k.val d →
          v = (fun y : S8x1024.Idx => A (y 0) (y 1) + v2Add Z C (y 0).val (y 1)) ((rV k).emb (ix2 0 d)) := fun k b v h => by
        rw [embV k b]; exact h
      rcases hp with rfl | rfl
      · obtain ⟨z, b, rfl⟩ : ∃ (z : Fin 1) (b : Fin 1024), x = ix2 z b := ⟨x 0, x 1, eq_ix2 x⟩
        obtain rfl : z = 0 := Subsingleton.elim _ _
        refine key 1 b _ ?_
        have e : v2Add Z C ((1 : Fin 2) : ℕ) b = ∑ a, C a b := (if_neg (by decide)).trans (if_pos rfl)
        rw [e, ← h17, ← ldV X17 1 b]
        simp only [← hc]
        pointwise [k0_pay17]
      · obtain ⟨z, b, rfl⟩ : ∃ (z : Fin 1) (b : Fin 1024), x = ix2 z b := ⟨x 0, x 1, eq_ix2 x⟩
        obtain rfl : z = 0 := Subsingleton.elim _ _
        refine key 0 b _ ?_
        have e : v2Add Z C ((0 : Fin 2) : ℕ) b = ∑ a, Cert.FfnLast.zh (Z a) b * C a b := if_pos rfl
        rw [e, ← h17, ← ldV X17 0 b]
        simp only [← hc, ← funext (h3 _)]
        pointwise [k0_pay16, k0_pay9, k0_pay10, k0_pay8]
        simp only [mul_comm (Cert.FfnLast.zh _ _)]
        rfl
    · have hm : ∀ k : Fin 2, k.val = r.val → ix2 r d ∈ (rV k).set := fun k hk => by
        rw [show ix2 r d = (rV k).emb (ix2 0 d) from (congrArg (fun r => ix2 r d) (Fin.ext hk.symm)).trans (embV k d).symm]
        exact LoadRect.idx_mem _ _
      obtain h | h : r.val = 1 ∨ r.val = 0 := by omega
      · exact ⟨_, List.mem_cons_self, hm 1 h.symm⟩
      · exact ⟨_, List.mem_cons_of_mem _ List.mem_cons_self, hm 0 h.symm⟩

theorem carryK_at (r : Fin 8) (f : Fin 2816) : carryK X20 (ix2 r f) = X20 (ix2 ⟨r.val, by omega⟩ f) := by
  rw [← emb0 r f]
  unfold carryK
  pointwise [k0_pay7]
  rw [emb0 r f]
end

end Cert.Kernel6Ideal.Hand

end
-- ==== Proof.FfnLastValue.lean ====
module

public import proofs.«01_k».proof.Proof.FfnLastRun
public import proofs.«01_k».proof.Proof.FfnLastRef
public import proofs.«01_k».proof.Proof.FfnLastForm

@[expose] public section

set_option maxRecDepth 16384
set_option maxHeartbeats 4000000

noncomputable section

namespace Cert.Kernel6Ideal.Hand

open Cert.Kernel6Ideal Cert.Kernel6Ideal.Gen
open Idealize.ShloMosaic Idealize.ShloMosaic.TcCoe Idealize.SL.Sem
open Idealize.ShloMosaic.Pipeline (Dat)
open Cert.Ffn (zc mu vr lnK)
open Cert.FfnLast (Args aT aX1 aUg aUv aCw aCb aWd aG aB df dC gt sg sl z2 dz dg up ux dgx cfT v2T zh cL cD Reals)

variable (m : (ℓ : Loc nD τ sig) → Buf (Elt Ideal) ℓ)

/-- The reference's arguments are the kernel's. -/
def Agree (c : Dev nD) (V0 : Args) : Prop :=
  (V0 (Proc.devRef .tc Cert.Reference6Ideal.main_arg0) = m ((c : Thread nD τ).loc main_arg0)) ∧ aT V0 = m ((c : Thread nD τ).loc main_arg1)
  ∧ aX1 V0 = m ((c : Thread nD τ).loc main_arg2) ∧ aUg V0 = m ((c : Thread nD τ).loc main_arg3) ∧ aUv V0 = m ((c : Thread nD τ).loc main_arg4)
  ∧ aCw V0 = m ((c : Thread nD τ).loc main_arg5) ∧ aCb V0 = m ((c : Thread nD τ).loc main_arg6) ∧ aWd V0 = m ((c : Thread nD τ).loc main_arg7)
  ∧ aG V0 = m ((c : Thread nD τ).loc main_arg8) ∧ aB V0 = m ((c : Thread nD τ).loc main_arg9)

section host
variable (c : Dev nD)

theorem V_53 : (V m c main_v53 : FVec Ideal S8x1024 .f32) = concatenate S8x1024 0 [⟨S1x1024, (broadcastInDim S1x1024 ![1] bcast_S1024_S1x1024_1 (m ((c : Thread nD τ).loc main_arg8) : FVec Ideal S1024 .f32) : FVec Ideal S1x1024 .f32)⟩,
    ⟨S1x1024, (broadcastInDim S1x1024 ![1] bcast_S1024_S1x1024_1 (m ((c : Thread nD τ).loc main_arg9) : FVec Ideal S1024 .f32) : FVec Ideal S1x1024 .f32)⟩,
    ⟨S6x1024, (broadcastInDim S6x1024 ![] bcast_S_S6x1024 (constant (F := Ideal) S_ .f32 0x00000000#32) : FVec Ideal S6x1024 .f32)⟩] concatenates_S1x1024_S1x1024_S6x1024_S8x1024_d0 := by
  sl_kernel_rfl
theorem V_47 : (V m c main_v47 : FVec Ideal S8x2816 .f32) = concatenate S8x2816 0 [⟨S3x2816, (m ((c : Thread nD τ).loc main_arg5) : FVec Ideal S3x2816 .f32)⟩,
    ⟨S1x2816, (broadcastInDim S1x2816 ![1] bcast_S2816_S1x2816_1 (m ((c : Thread nD τ).loc main_arg6) : FVec Ideal S2816 .f32) : FVec Ideal S1x2816 .f32)⟩,
    ⟨S4x2816, (broadcastInDim S4x2816 ![] bcast_S_S4x2816 (constant (F := Ideal) S_ .f32 0x00000000#32) : FVec Ideal S4x2816 .f32)⟩] concatenates_S3x2816_S1x2816_S4x2816_S8x2816_d0 := by
  sl_kernel_rfl
theorem V_32 : V m c main_v32 = (fun (G : FVec Ideal S16384x2816 .f32) => Host.divf (broadcastInDim S16384x2816 ![] bcast_S_S16384x2816 (constant (F := Ideal) S_ .f32 0x3F800000#32))
    (addf (broadcastInDim S16384x2816 ![] bcast_S_S16384x2816 (constant (F := Ideal) S_ .f32 0x3F800000#32)) (Host.exp (Host.negf G)))) (V m c main_v26) := by
  sl_kernel_rfl
theorem V_33 : V m c main_v33 = (fun (G S : FVec Ideal S16384x2816 .f32) => mulf G S) (V m c main_v26) (V m c main_v32) := by
  sl_kernel_rfl
theorem V_56 : V m c main_v56 = (fun (G : FVec Ideal S16384x2816 .f32) => G) (V m c main_v33) := by
  sl_kernel_rfl
theorem V_57 : V m c main_v57 = (fun (G S : FVec Ideal S16384x2816 .f32) => mulf S (addf (broadcastInDim S16384x2816 ![] bcast_S_S16384x2816 (constant (F := Ideal) S_ .f32 0x3F800000#32))
    (mulf G (subf (broadcastInDim S16384x2816 ![] bcast_S_S16384x2816 (constant (F := Ideal) S_ .f32 0x3F800000#32)) S)))) (V m c main_v26) (V m c main_v32) := by
  sl_kernel_rfl
theorem V_49 : V m c main_v49 = (fun (W : FVec Ideal S2816x1024 .f32) => transpose S1024x2816 [1, 0] W transposes_S2816x1024_S1024x2816_1_0) (m ((c : Thread nD τ).loc main_arg7)) := by
  sl_kernel_rfl
theorem V_44 : V m c main_v44 = (fun (S U : FVec Ideal S16384x2816 .f32) (X : FVec Ideal S16384x1024 .f32) (W : FVec Ideal S2816x1024 .f32) =>
      addf (mulf (broadcastInDim S16384x1024 ![] bcast_S_S16384x1024 (constant (F := Ideal) S_ .f32 0x3FB504F3#32)) X) (Host.dotGeneral (F := Ideal) (φ₁ := .f32) (φ₂ := .f32) dot_S16384x2816_S2816x1024_S16384x1024_1_0_0_1_n_n none (mulf S U) W))
    (V m c main_v33) (m ((c : Thread nD τ).loc main_arg4)) (m ((c : Thread nD τ).loc main_arg2)) (m ((c : Thread nD τ).loc main_arg7)) := by
  sl_kernel_rfl
theorem V_54 : V m c main_v54 = m ((c : Thread nD τ).loc main_arg3) := by sl_kernel_rfl
theorem V_55 : V m c main_v55 = m ((c : Thread nD τ).loc main_arg4) := by sl_kernel_rfl
theorem V_slabs : V m c main_v58_0 = m ((c : Thread nD τ).loc main_arg0) := by sl_kernel_rfl
theorem V_dx : V m c main_arg1 = m ((c : Thread nD τ).loc main_arg1) := by sl_kernel_rfl
end host

section agree
variable {m} {c : Dev nD} {V0 : Args} (e : Agree m c V0)
include e

theorem V_gate : V m c main_v26 = gt V0 := by
  have e5 := e.2.2.2.2.2.1; have e6 := e.2.2.2.2.2.2.1; have e3 := e.2.2.2.1
  unfold aCw at e5; unfold aCb at e6; unfold aUg at e3
  entry_read
  unfold gt Cert.Reference6Ideal.Value.res_main_v29 Cert.Reference6Ideal.Value.res_main_v8 Cert.Reference6Ideal.Value.res_main_v16 Cert.Reference6Ideal.Value.res_main_v23 Cert.Reference6Ideal.Value.res_main_v7 Cert.Reference6Ideal.Value.res_main_v15 Cert.Reference6Ideal.Value.res_main_v22 Cert.Reference6Ideal.Value.res_main_v3
  rw [e5, e6, e3]
  rfl
theorem V_sg : V m c main_v32 = sg V0 := by rw [V_32, V_gate e]; rfl
theorem V_sl : V m c main_v33 = sl V0 := by rw [V_33, V_gate e, V_sg e]; rfl
theorem V_z2 : V m c main_v44 = z2 V0 := by rw [V_44, V_sl e, ← e.2.2.2.2.1, ← e.2.2.1, ← e.2.2.2.2.2.2.2.1]; rfl
theorem V_ds (s : Fin 16384) (f : Fin 2816) : (fun X : FVec Ideal S16384x2816 .bf16 => X) (V m c main_v57) (ix2 s f) = sg V0 (ix2 s f) * (1 + gt V0 (ix2 s f) * (1 - sg V0 (ix2 s f))) := by
  rw [V_57, V_gate e, V_sg e]; pointwise []
theorem V_wt (d : Fin 1024) (f : Fin 2816) : (fun X : FVec Ideal S1024x2816 .bf16 => X) (V m c main_v49) (ix2 d f) = aWd V0 (ix2 f d) := by
  rw [V_49, ← e.2.2.2.2.2.2.2.1]; pointwise []
theorem V_g (d : Fin 1024) : (fun X : FVec Ideal S8x1024 .f32 => X) (V m c main_v53) (ix2 0 d) = aG V0 (ix1 d) := by
  rw [V_53, ← e.2.2.2.2.2.2.2.2.1]; pointwise []
theorem V_b (d : Fin 1024) : (fun X : FVec Ideal S8x1024 .f32 => X) (V m c main_v53) (ix2 1 d) = aB V0 (ix1 d) := by
  rw [V_53, ← e.2.2.2.2.2.2.2.2.2]; pointwise []
theorem V_cw (r : Fin 8) (k : Fin 3) (h : r.val = k.val) (f : Fin 2816) : (fun X : FVec Ideal S8x2816 .f32 => X) (V m c main_v47) (ix2 r f) = aCw V0 (ix2 k f) := by
  obtain ⟨k, hk⟩ := k; obtain ⟨r, hr⟩ := r; obtain rfl : r = k := h
  rw [V_47, ← e.2.2.2.2.2.1]; pointwise []
  rw [dif_pos hk]

omit e in
theorem idx : ∀ t : Fin cfg0.N, (win0_0.index t = ![63 - t.val, 0] ∧ win0_1.index t = ![63 - t.val, 0] ∧ win0_2.index t = ![63 - t.val, 0] ∧ win0_3.index t = ![63 - t.val, 0]
    ∧ win0_4.index t = ![63 - t.val, 0] ∧ win0_5.index t = ![63 - t.val, 0] ∧ win0_6.index t = ![16 * (63 - t.val) - 1, 0])
    ∧ (win0_7.index t = ![0, 0] ∧ win0_8.index t = ![0, 0] ∧ win0_9.index t = ![0, 0] ∧ win0_13.index t = ![0, 0] ∧ win0_14.index t = ![0, 0] ∧ win0_15.index t = ![0, 0])
    ∧ (win0_10.index t = ![63 - t.val, 0] ∧ win0_11.index t = ![63 - t.val, 0] ∧ win0_12.index t = ![63 - t.val, 0]) :=
  (by decide +kernel : ∀ t : Fin grid0.N, _)

/-- The row of the sequence that row `a` of point `t`'s block is. -/
def R (t : Fin cfg0.N) (a : Fin 256) : Fin 16384 := ⟨256 * (63 - t.val) + a.val, by omega⟩

theorem b0 (t : Fin cfg0.N) (a : Fin 256) (d : Fin 1024) : (fun X : FVec Ideal S256x1024 .f32 => X) (iblk m c 0 t) (ix2 a d) = aT V0 (ix2 (R t a) d) := by
  have h : V m c main_arg1 = aT V0 := by rw [V_dx, e.2.1]
  refine (congrArg (fun f => ((cfg0.win 0).blk t).view.read (Elt Ideal) f (ix2 a d)) h).trans (congrArg (aT V0) ?_)
  blk_ext [idx t, R]
theorem b1 (t : Fin cfg0.N) (a : Fin 256) (d : Fin 1024) : (fun X : FVec Ideal S256x1024 .f32 => X) (iblk m c 1 t) (ix2 a d) = z2 V0 (ix2 (R t a) d) := by
  refine (congrArg (fun f => ((cfg0.win 1).blk t).view.read (Elt Ideal) f (ix2 a d)) (V_z2 e)).trans (congrArg (z2 V0) ?_)
  blk_ext [idx t, R]
theorem b2 (t : Fin cfg0.N) (a : Fin 256) (d : Fin 2816) : (fun X : FVec Ideal S256x2816 .bf16 => X) (iblk m c 2 t) (ix2 a d) = aUg V0 (ix2 (R t a) d) := by
  have h : V m c main_v54 = aUg V0 := by rw [V_54, e.2.2.2.1]
  refine (congrArg (fun f => ((cfg0.win 2).blk t).view.read (Elt Ideal) f (ix2 a d)) h).trans (congrArg (aUg V0) ?_)
  blk_ext [idx t, R]
theorem b3 (t : Fin cfg0.N) (a : Fin 256) (d : Fin 2816) : (fun X : FVec Ideal S256x2816 .bf16 => X) (iblk m c 3 t) (ix2 a d) = aUv V0 (ix2 (R t a) d) := by
  have h : V m c main_v55 = aUv V0 := by rw [V_55, e.2.2.2.2.1]
  refine (congrArg (fun f => ((cfg0.win 3).blk t).view.read (Elt Ideal) f (ix2 a d)) h).trans (congrArg (aUv V0) ?_)
  blk_ext [idx t, R]
theorem b4 (t : Fin cfg0.N) (a : Fin 256) (d : Fin 2816) : (fun X : FVec Ideal S256x2816 .bf16 => X) (iblk m c 4 t) (ix2 a d) = sl V0 (ix2 (R t a) d) := by
  have h : V m c main_v56 = sl V0 := by rw [V_56, V_sl e]
  refine (congrArg (fun f => ((cfg0.win 4).blk t).view.read (Elt Ideal) f (ix2 a d)) h).trans (congrArg (sl V0) ?_)
  blk_ext [idx t, R]
theorem b5 (t : Fin cfg0.N) (a : Fin 256) (d : Fin 2816) : (fun X : FVec Ideal S256x2816 .bf16 => X) (iblk m c 5 t) (ix2 a d)
    = sg V0 (ix2 (R t a) d) * (1 + gt V0 (ix2 (R t a) d) * (1 - sg V0 (ix2 (R t a) d))) := by
  refine Eq.trans (congrArg ((fun X : FVec Ideal S16384x2816 .bf16 => X) (V m c main_v57)) ?_) (V_ds e (R t a) d)
  blk_ext [idx t, R]
theorem b6 (t : Fin cfg0.N) (ht : t.val < 63) (a : Fin 16) (d : Fin 2816) : (fun X : FVec Ideal S16x2816 .bf16 => X) (iblk m c 6 t) (ix2 a d)
    = aUg V0 (ix2 ⟨256 * (63 - t.val) - 16 + a.val, by omega⟩ d) := by
  have h : V m c main_v54 = aUg V0 := by rw [V_54, e.2.2.2.1]
  refine (congrArg (fun f => ((cfg0.win 6).blk t).view.read (Elt Ideal) f (ix2 a d)) h).trans (congrArg (aUg V0) ?_)
  blk_ext [idx t]
theorem b7 (t : Fin cfg0.N) (r : Fin 8) (k : Fin 3) (h : r.val = k.val) (f : Fin 2816) : (fun X : FVec Ideal S8x2816 .f32 => X) (iblk m c 7 t) (ix2 r f) = aCw V0 (ix2 k f) := by
  refine Eq.trans (congrArg ((fun X : FVec Ideal S8x2816 .f32 => X) (V m c main_v47)) ?_) (V_cw e r k h f)
  blk_ext [idx t]
theorem b8 (t : Fin cfg0.N) (d : Fin 1024) (f : Fin 2816) : (fun X : FVec Ideal S1024x2816 .bf16 => X) (iblk m c 8 t) (ix2 d f) = aWd V0 (ix2 f d) := by
  refine Eq.trans (congrArg ((fun X : FVec Ideal S1024x2816 .bf16 => X) (V m c main_v49)) ?_) (V_wt e d f)
  blk_ext [idx t]
theorem b9 (t : Fin cfg0.N) (d : Fin 1024) : (fun X : FVec Ideal S8x1024 .f32 => X) (iblk m c 9 t) (ix2 0 d) = aG V0 (ix1 d) := by
  refine Eq.trans (congrArg ((fun X : FVec Ideal S8x1024 .f32 => X) (V m c main_v53)) ?_) (V_g e d)
  blk_ext [idx t]

theorem b9b (t : Fin cfg0.N) (d : Fin 1024) : (fun X : FVec Ideal S8x1024 .f32 => X) (iblk m c 9 t) (ix2 1 d) = aB V0 (ix1 d) := by
  refine Eq.trans (congrArg ((fun X : FVec Ideal S8x1024 .f32 => X) (V m c main_v53)) ?_) (V_b e d)
  blk_ext [idx t]

/-! ## A point's parts -/

theorem di_at (t : Fin cfg0.N) (a : Fin 256) (d : Fin 1024) : diK (iblk m c 0 t) (iblk m c 1 t) (iblk m c 9 t) (ix2 a d) = df V0 (ix2 (R t a) d) :=
  (diK_at _ _ _ (b1 e t) (b0 e t) (b9 e t) (b9b e t) a d).trans (Cert.FfnLast.df_at (R t a) d).symm

theorem dc_at (h : Reals V0) (t : Fin cfg0.N) (a : Fin 256) (d : Fin 1024) :
    k0_pay15 (diK (iblk m c 0 t) (iblk m c 1 t) (iblk m c 9 t)) (ix2 a d) = dC V0 (ix2 (R t a) d) :=
  (pay15_at _ _ _ (di_at e t) a d).trans (Cert.FfnLast.dC_at h (R t a) d).symm

theorem dz_at (h : Reals V0) (t : Fin cfg0.N) (a : Fin 256) (d : Fin 1024) :
    dzK (iblk m c 0 t) (iblk m c 1 t) (iblk m c 9 t) (ix2 a d) = dz V0 (ix2 (R t a) d) :=
  (dzK_at _ _ _ (b1 e t) (dc_at e h t) (b9 e t) a d).trans (Cert.FfnLast.dz_eq h (R t a) d).1

theorem dg_at (h : Reals V0) (t : Fin cfg0.N) (q : Fin 11) (a b : Fin 256) :
    dgK (iblk m c 0 t) (iblk m c 1 t) (iblk m c 3 t) (iblk m c 5 t) (iblk m c 8 t) (iblk m c 9 t) q (ix2 a b) = dg V0 (ix2 (R t a) (col q b)) :=
  (dgK_at _ _ _ _ _ _ (dz_at e h t) (b8 e t) (b3 e t) (b5 e t) q a b).trans (Cert.FfnLast.dg_eq h (R t a) (col q b))

theorem dgx_at (h : Reals V0) (t : Fin cfg0.N) (q : Fin 11) (a b : Fin 256) :
    dgK (iblk m c 0 t) (iblk m c 1 t) (iblk m c 3 t) (iblk m c 5 t) (iblk m c 8 t) (iblk m c 9 t) q (ix2 a b)
    = (fun (r : ℕ) f => dgx V0 (256 * (63 - t.val) + r) f) a.val (col q b) :=
  (dg_at e h t q a b).trans (Cert.FfnLast.dgx_of V0 (R t a) rfl _).symm

theorem cr_at (h : Reals V0) : ∀ (n : ℕ) (hn : n < cfg0.N) (r : Fin 8) (f : Fin 2816),
    crS m c n (ix2 r f) = (fun (r : ℕ) f => dgx V0 (256 * (63 - n) + r) f) (256 + r.val) f
  | 0, hn, r, f => by
    show _ = dgx V0 (256 * (63 - 0) + (256 + r.val)) f
    rw [Cert.FfnLast.dgx_high V0 (by omega)]
    show k0_pay6 (ix2 r f) = 0
    pointwise [k0_pay6]
  | n + 1, hn, r, f => by
    have hN : cfg0.N = 64 := N_0
    rw [crS, if_neg (Nat.succ_ne_zero n), carryK_at, dgS_succ m c ⟨n, by omega⟩,
      dgbK_at _ _ _ _ _ _ _ (D := fun (r : ℕ) f => dgx V0 (256 * (63 - n) + r) f) (dgx_at e h ⟨n, by omega⟩) (cr_at h n (by omega))]
    refine congrArg (fun s => dgx V0 s f) ?_
    show 256 * (63 - n) + r.val = 256 * (63 - (n + 1)) + (256 + r.val)
    omega

omit e in
theorem coord : ∀ t : Fin cfg0.N, BitVec.ofNat 32 (grid0.coords t 0).val = 63#32 ↔ t.val = 63 := (by decide +kernel : ∀ t : Fin grid0.N, _)

theorem tap_at (t : Fin cfg0.N) (k : Fin 3) (q : Fin 11) (a b : Fin 256) :
    tapK (BitVec.ofNat 32 (grid0.coords t 0).val) (iblk m c 2 t) (iblk m c 6 t) ⟨6 + k.val, by omega⟩ q (ix2 a b) = ux V0 ((R t a).val + 6 + k.val) (col q b) := by
  have hN : cfg0.N = 64 := N_0
  have h4 : ∀ (a : Fin 256) (f : Fin 2816), (fun X : FVec Ideal S256x2816 .bf16 => X) (iblk m c 2 t) (ix2 a f) = (fun (r : ℕ) f => ux V0 (256 * (63 - t.val) + r) f) (8 + a.val) f := fun a f =>
    (b2 e t a f).trans (Cert.FfnLast.ux_of V0 (R t a) (by simp only [R]; omega) f).symm
  have h8 : ∀ (r : Fin 8) (f : Fin 2816), k0_pay23 (BitVec.ofNat 32 (grid0.coords t 0).val) (View.ld (iblk m c 6 t) rG) (ix2 r f) = (fun (r : ℕ) f => ux V0 (256 * (63 - t.val) + r) f) r.val f := fun r f => by
    rw [pay23_at]
    by_cases ht : t.val = 63
    · rw [if_pos ((coord t).mpr ht)]
      show 0 = ux V0 (256 * (63 - t.val) + r.val) f
      rw [ht, Cert.FfnLast.ux_low V0 (by omega)]
    · rw [if_neg fun h => ht ((coord t).mp h)]
      refine (b6 e t (by omega) _ f).trans (Cert.FfnLast.ux_of V0 _ ?_ f).symm
      show 256 * (63 - t.val) + r.val = 256 * (63 - t.val) - 16 + (8 + r.val) + 8
      omega
  refine (tapK_at _ _ _ (U := fun (r : ℕ) f => ux V0 (256 * (63 - t.val) + r) f) h4 h8 ⟨6 + k.val, by omega⟩ q a b).trans (congrArg (fun s => ux V0 s (col q b)) ?_)
  show 256 * (63 - t.val) + (6 + k.val + a.val) = 256 * (63 - t.val) + a.val + 6 + k.val
  omega

/-! ## The sums -/

omit e in
/-- The points' blocks of rows are all the rows, last block first. -/
theorem sum_rows (g : Fin 16384 → EReal) : ∑ s : Fin cfg0.N, ∑ a : Fin 256, g (R ⟨s.val, lt_of_lt_of_le s.isLt le_rfl⟩ a) = ∑ s, g s := by
  rw [Fin.sum_univ_tiles 64 256 rfl g]
  refine (Equiv.sum_comp Fin.revPerm (fun s : Fin 64 => ∑ a : Fin 256, g (R ⟨s.val, s.isLt⟩ a))).symm.trans ?_
  refine Finset.sum_congr rfl fun s _ => Finset.sum_congr rfl fun a _ => congrArg g (Fin.ext ?_)
  show 256 * (63 - (Fin.rev s).val) + a.val = s.val * 256 + a.val
  rw [Fin.val_rev]
  omega

theorem dw_at (h : Reals V0) (f : Fin 2816) (d : Fin 1024) : ∀ n (hn : n ≤ cfg0.N), dwS m c n (ix2 f d)
    = ∑ s : Fin n, ∑ a : Fin 256, (fun r : Fin 16384 => dz V0 (ix2 r d) * (sl V0 (ix2 r f) * aUv V0 (ix2 r f))) (R ⟨s.val, lt_of_lt_of_le s.isLt hn⟩ a)
  | 0, _ => by
    rw [Finset.univ_eq_empty, Finset.sum_empty]
    change k0_pay2 (ix2 f d) = 0
    pointwise [k0_pay2]
  | n + 1, hn => by
    rw [dwS_succ m c ⟨n, hn⟩, dwdK_at _ _ _ _ _ _ (dz_at e h ⟨n, hn⟩) (b3 e ⟨n, hn⟩) (b4 e ⟨n, hn⟩) (A := fun f d => dwS m c n (ix2 f d)) (fun _ _ => rfl), Fin.sum_univ_castSucc (n := n)]
    exact congrArg₂ (fun x y : EReal => x + y) (dw_at h f d n (Nat.le_of_succ_le hn)) rfl

theorem cf_at (h : Reals V0) (r : Fin 8) (f : Fin 2816) : ∀ n (hn : n ≤ cfg0.N), cfS m c n (ix2 r f)
    = ∑ s : Fin n, ∑ a : Fin 256, (fun i : Fin 16384 => cfT V0 r.val i f) (R ⟨s.val, lt_of_lt_of_le s.isLt hn⟩ a)
  | 0, _ => by
    rw [Finset.univ_eq_empty, Finset.sum_empty]
    change k0_pay3 (ix2 r f) = 0
    pointwise [k0_pay3]
  | n + 1, hn => by
    rw [cfS_succ m c ⟨n, hn⟩, dcfK_at _ _ _ _ _ _ _ _ _ _ (D := fun a f => dg V0 (ix2 (R ⟨n, hn⟩ a) f)) (T := fun k a f => ux V0 ((R ⟨n, hn⟩ a).val + 6 + k) f) (dg_at e h ⟨n, hn⟩) (tap_at e ⟨n, hn⟩) (A := fun r f => cfS m c n (ix2 r f)) (fun _ _ => rfl),
      Fin.sum_univ_castSucc (n := n)]
    refine congrArg₂ (fun x y : EReal => x + y) (cf_at h r f n (Nat.le_of_succ_le hn)) ?_
    show cfAdd _ _ r.val f = ∑ a : Fin 256, cfT V0 r.val (R ⟨n, hn⟩ a) f
    unfold cfAdd cfT
    split_ifs
    · rfl
    · rfl
    · rw [Finset.sum_const_zero]

theorem v2_at (h : Reals V0) (r : Fin 8) (d : Fin 1024) : ∀ n (hn : n ≤ cfg0.N), v2S m c n (ix2 r d)
    = ∑ s : Fin n, ∑ a : Fin 256, (fun i : Fin 16384 => v2T V0 r.val i d) (R ⟨s.val, lt_of_lt_of_le s.isLt hn⟩ a)
  | 0, _ => by
    rw [Finset.univ_eq_empty, Finset.sum_empty]
    change k0_pay4 (ix2 r d) = 0
    pointwise [k0_pay4]
  | n + 1, hn => by
    rw [v2S_succ m c ⟨n, hn⟩, dv2K_at _ _ _ _ (b1 e ⟨n, hn⟩) (dc_at e h ⟨n, hn⟩) (A := fun r d => v2S m c n (ix2 r d)) (fun _ _ => rfl), Fin.sum_univ_castSucc (n := n)]
    refine congrArg₂ (fun x y : EReal => x + y) (v2_at h r d n (Nat.le_of_succ_le hn)) ?_
    show v2Add _ _ r.val d = ∑ a : Fin 256, v2T V0 r.val (R ⟨n, hn⟩ a) d
    unfold v2Add v2T
    split_ifs
    · rfl
    · rfl
    · rw [Finset.sum_const_zero]

theorem ls_at (h : Reals V0) (r : Fin 8) (b : Fin 128) : ∀ n (hn : n ≤ cfg0.N), lossS m c n (ix2 r b)
    = ∑ s : Fin n, ∑ a : Fin 256, (fun i : Fin 16384 => (∑ d : Fin 1024, df V0 (ix2 i d) * df V0 (ix2 i d)) * cL) (R ⟨s.val, lt_of_lt_of_le s.isLt hn⟩ a)
  | 0, _ => by
    rw [Finset.univ_eq_empty, Finset.sum_empty]
    change k0_pay5 (ix2 r b) = 0
    pointwise [k0_pay5]
  | n + 1, hn => by
    rw [lossS_succ m c ⟨n, hn⟩, lossK_at _ _ _ (E := fun a d => df V0 (ix2 (R ⟨n, hn⟩ a) d)) (di_at e ⟨n, hn⟩), Fin.sum_univ_castSucc (n := n)]
    refine congrArg₂ (fun x y : EReal => x + y) (ls_at h r b n (Nat.le_of_succ_le hn)) ?_
    exact Cert.FfnLast.part_eq fun a => Cert.Ffn.isR_sum fun d => (Cert.FfnLast.isR_df h (R ⟨n, hn⟩ a) d).mul (Cert.FfnLast.isR_df h (R ⟨n, hn⟩ a) d)

theorem dw_eq (h : Reals V0) : dwS m c cfg0.N = Cert.FfnLast.resDwd V0 := by
  funext j
  idx_vars j
  exact (dw_at e h _ _ _ le_rfl).trans ((sum_rows _).trans (Cert.FfnLast.dwd_at V0 _ _).symm)
theorem cf_eq (h : Reals V0) : cfS m c cfg0.N = Cert.FfnLast.resDcf V0 := by
  funext j
  idx_vars j
  exact (cf_at e h _ _ _ le_rfl).trans ((sum_rows _).trans (Cert.FfnLast.dcf_at V0 _ _).symm)
theorem v2_eq (h : Reals V0) : v2S m c cfg0.N = Cert.FfnLast.resDv2 V0 := by
  funext j
  idx_vars j
  exact (v2_at e h _ _ _ le_rfl).trans ((sum_rows _).trans (Cert.FfnLast.dv2_at V0 _ _).symm)

theorem ls_eq (h : Reals V0) : lossS m c cfg0.N = Cert.FfnLast.resLoss V0 := by
  funext j
  idx_vars j
  exact (ls_at e h _ _ _ le_rfl).trans ((sum_rows _).trans (Cert.FfnLast.loss_at h _ _).symm)

/-! ## The results -/

omit e in
theorem emb10 (t : Fin cfg0.N) (a : Fin 256) (f : Fin 2816) : ((cfg0.win 10).blk t).view.emb (ix2 a f) = ix2 (R t a) f := by blk_ext [idx t, R]
omit e in
theorem emb11 (t : Fin cfg0.N) (a : Fin 256) (f : Fin 2816) : ((cfg0.win 11).blk t).view.emb (ix2 a f) = ix2 (R t a) f := by blk_ext [idx t, R]
omit e in
theorem emb12 (t : Fin cfg0.N) (a : Fin 256) (d : Fin 1024) : ((cfg0.win 12).blk t).view.emb (ix2 a d) = ix2 (R t a) d := by blk_ext [idx t, R]
omit e in
theorem emb13 (t : Fin cfg0.N) (a : Fin 8) (f : Fin 2816) : ((cfg0.win 13).blk t).view.emb (ix2 a f) = ix2 a f := by blk_ext [idx t]
omit e in
theorem emb14 (t : Fin cfg0.N) (a : Fin 8) (d : Fin 1024) : ((cfg0.win 14).blk t).view.emb (ix2 a d) = ix2 a d := by blk_ext [idx t]

omit e in
theorem emb15 (t : Fin cfg0.N) (a : Fin 8) (b : Fin 128) : ((cfg0.win 15).blk t).view.emb (ix2 a b) = ix2 a b := by blk_ext [idx t]

theorem final10 (h : Reals V0) : (dats m 0 c).arrAt 10 cfg0.N = Cert.FfnLast.resDug V0 := by
  refine (dats m 0 c).arrAt_eq_of_covers 10 _ (by decide +kernel) fun t _ y => ?_
  blk_simp
  rw [after10]
  obtain ⟨a, f, rfl⟩ : ∃ (a : Fin 256) (f : Fin 2816), y = ix2 a f := ⟨y 0, y 1, eq_ix2 y⟩
  refine Eq.trans ?_ (congrArg (Cert.FfnLast.resDug V0) (emb10 t a f)).symm
  refine (dugK_at _ _ _ _ _ _ _ _ (D := fun (r : ℕ) f => dgx V0 (256 * (63 - t.val) + r) f) (dgx_at e h t) (cr_at e h t.val t.isLt) a f).trans ?_
  rw [Cert.FfnLast.dug_at, ← b7 e t 2 2 rfl f, ← b7 e t 1 1 rfl f, ← b7 e t 0 0 rfl f]
  rfl

theorem final11 (h : Reals V0) : (dats m 0 c).arrAt 11 cfg0.N = Cert.FfnLast.resDuv V0 := by
  refine (dats m 0 c).arrAt_eq_of_covers 11 _ (by decide +kernel) fun t _ y => ?_
  blk_simp
  rw [after11]
  obtain ⟨a, f, rfl⟩ : ∃ (a : Fin 256) (f : Fin 2816), y = ix2 a f := ⟨y 0, y 1, eq_ix2 y⟩
  refine Eq.trans ?_ (congrArg (Cert.FfnLast.resDuv V0) (emb11 t a f)).symm
  refine (duvK_at _ _ _ _ _ (dz_at e h t) (b8 e t) (b4 e t) a f).trans ?_
  rw [Cert.FfnLast.duv_at]
  exact mul_comm _ _

theorem final12 (h : Reals V0) : (dats m 0 c).arrAt 12 cfg0.N = dz V0 := by
  refine (dats m 0 c).arrAt_eq_of_covers 12 _ (by decide +kernel) fun t _ y => ?_
  blk_simp
  rw [after12]
  obtain ⟨a, d, rfl⟩ : ∃ (a : Fin 256) (d : Fin 1024), y = ix2 a d := ⟨y 0, y 1, eq_ix2 y⟩
  exact (dz_at e h t a d).trans (congrArg (dz V0) (emb12 t a d)).symm

theorem final13 (h : Reals V0) : (dats m 0 c).arrAt 13 cfg0.N = Cert.FfnLast.resDcf V0 := by
  refine (dats m 0 c).arrAt_eq_of_covers 13 _ (by decide +kernel) fun t ht y => ?_
  blk_simp
  rw [after13]
  have hN : cfg0.N = 64 := N_0
  have h1 := (flush0_13 t).mp ht
  rw [show t.val + 1 = cfg0.N by omega, cf_eq e h]
  obtain ⟨a, f, rfl⟩ : ∃ (a : Fin 8) (f : Fin 2816), y = ix2 a f := ⟨y 0, y 1, eq_ix2 y⟩
  exact (congrArg (Cert.FfnLast.resDcf V0) (emb13 t a f)).symm

theorem final14 (h : Reals V0) : (dats m 0 c).arrAt 14 cfg0.N = Cert.FfnLast.resDv2 V0 := by
  refine (dats m 0 c).arrAt_eq_of_covers 14 _ (by decide +kernel) fun t ht y => ?_
  blk_simp
  rw [after14]
  have hN : cfg0.N = 64 := N_0
  have h1 := (flush0_14 t).mp ht
  rw [show t.val + 1 = cfg0.N by omega, v2_eq e h]
  obtain ⟨a, d, rfl⟩ : ∃ (a : Fin 8) (d : Fin 1024), y = ix2 a d := ⟨y 0, y 1, eq_ix2 y⟩
  exact (congrArg (Cert.FfnLast.resDv2 V0) (emb14 t a d)).symm

theorem final15 (h : Reals V0) : (dats m 0 c).arrAt 15 cfg0.N = Cert.FfnLast.resLoss V0 := by
  refine (dats m 0 c).arrAt_eq_of_covers 15 _ (by decide +kernel) fun t ht y => ?_
  blk_simp
  rw [after15]
  have hN : cfg0.N = 64 := N_0
  have h1 := (flush0_15 t).mp ht
  rw [show t.val + 1 = cfg0.N by omega, ls_eq e h]
  obtain ⟨a, b, rfl⟩ : ∃ (a : Fin 8) (b : Fin 128), y = ix2 a b := ⟨y 0, y 1, eq_ix2 y⟩
  exact (congrArg (Cert.FfnLast.resLoss V0) (emb15 t a b)).symm
end agree

/-- The reference's first result: the weight's gradient laid into the slabs. -/
def SLABS (A : FVec Ideal S8x1472x1024 .f32) (G : FVec Ideal S2816x1024 .f32) : FVec Ideal S8x1472x1024 .f32 :=
  Host.dynamicUpdateSlice A (shapeCast _ G Cert.Reference6Ideal.Gen.shapeCasts_S2816x1024_S8x352x1024)
    (fun k => (((![constantI Cert.Reference6Ideal.S_ 32 0#32, constantI Cert.Reference6Ideal.S_ 32 1056#32, constantI Cert.Reference6Ideal.S_ 32 0#32] : Fin 3 → (⟨Cert.Reference6Ideal.S_, .i32⟩ : BufTy).Contents (Elt Ideal)) k (Shape.Idx.first Cert.Reference6Ideal.Gen.h_S_))).toInt)
    Cert.Reference6Ideal.Gen.updateFits_S8x1472x1024_S8x352x1024

theorem start0 : Host.clampedStart S8x1472x1024 Cert.Reference6Ideal.S8x352x1024 rfl (fun k => (((![constantI Cert.Reference6Ideal.S_ 32 0#32, constantI Cert.Reference6Ideal.S_ 32 1056#32, constantI Cert.Reference6Ideal.S_ 32 0#32] : Fin 3 → (⟨Cert.Reference6Ideal.S_, .i32⟩ : BufTy).Contents (Elt Ideal)) k (Shape.Idx.first Cert.Reference6Ideal.Gen.h_S_))).toInt) 0 = 0 := rfl
theorem start1 : Host.clampedStart S8x1472x1024 Cert.Reference6Ideal.S8x352x1024 rfl (fun k => (((![constantI Cert.Reference6Ideal.S_ 32 0#32, constantI Cert.Reference6Ideal.S_ 32 1056#32, constantI Cert.Reference6Ideal.S_ 32 0#32] : Fin 3 → (⟨Cert.Reference6Ideal.S_, .i32⟩ : BufTy).Contents (Elt Ideal)) k (Shape.Idx.first Cert.Reference6Ideal.Gen.h_S_))).toInt) 1 = 1056 := rfl
theorem start2 : Host.clampedStart S8x1472x1024 Cert.Reference6Ideal.S8x352x1024 rfl (fun k => (((![constantI Cert.Reference6Ideal.S_ 32 0#32, constantI Cert.Reference6Ideal.S_ 32 1056#32, constantI Cert.Reference6Ideal.S_ 32 0#32] : Fin 3 → (⟨Cert.Reference6Ideal.S_, .i32⟩ : BufTy).Contents (Elt Ideal)) k (Shape.Idx.first Cert.Reference6Ideal.Gen.h_S_))).toInt) 2 = 0 := rfl

theorem slabs_eq (A : FVec Ideal S8x1472x1024 .f32) (G : FVec Ideal S2816x1024 .f32) : slabsOf (F := Ideal) A G = SLABS A G := by
  funext j
  idx_vars j
  pointwise [slabsOf, accRows, SLABS]
  have s0 := start0; have s1 := start1; have s2 := start2
  simp only [s0, s1, s2]
  by_cases hr : 1056 ≤ j1.val ∧ j1.val < 1408
  · rw [dif_pos (show 0 ≤ j0.val ∧ (1056 ≤ j1.val ∧ j1.val < 1056 + 352) ∧ 0 ≤ j2.val by omega)]
    split_ifs <;> first | omega | skip
    all_goals (refine congrArg G ?_; blk_ext; all_goals omega)
  · rw [dif_neg (by omega), dif_neg (by omega), dif_neg (by omega), dif_neg (by omega), dif_neg (by omega), dif_neg (by omega), dif_neg (by omega), dif_neg (by omega), dif_neg (by omega)]

theorem slabs_at {c : Dev nD} {V0 : Args} (e : Agree m c V0) (h : Reals V0) : slabsEnd m c = Cert.FfnLast.resSlabs V0 := by
  unfold slabsEnd
  rw [slabs_eq, V_slabs, dw_eq e h, ← e.1]
  rfl

theorem ends_value (ρ : Dev nD → PrngReg) (W : Dev nD → Args) (e : ∀ c, Agree m c (W c)) (h : ∀ c, Reals (W c)) :
    θ_run defs (onTc (τ := τ) (main (F := Ideal))) ⟨m, fun _ => 0, ρ⟩ (fun r => ∀ c : Dev nD,
      r.2.mem ((c.tc : Thread nD τ).loc main_v58_0) = Cert.FfnLast.resSlabs (W c)
      ∧ r.2.mem ((c.tc : Thread nD τ).loc main_v58_1) = Cert.FfnLast.resDug (W c)
      ∧ r.2.mem ((c.tc : Thread nD τ).loc main_v58_2) = Cert.FfnLast.resDuv (W c)
      ∧ r.2.mem ((c.tc : Thread nD τ).loc main_v58_3) = dz (W c)
      ∧ r.2.mem ((c.tc : Thread nD τ).loc main_v58_4) = Cert.FfnLast.resDcf (W c)
      ∧ r.2.mem ((c.tc : Thread nD τ).loc main_v58_5) = Cert.FfnLast.resDv2 (W c)
      ∧ r.2.mem ((c.tc : Thread nD τ).loc main_v58_6) = Cert.FfnLast.resLoss (W c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ k c => ⟨(k.1 c).1.1.trans (slabs_at m (e c) (h c)), (k.1 c).1.2.1.trans (final10 (e c) (h c)),
    (k.1 c).1.2.2.1.trans (final11 (e c) (h c)), (k.1 c).1.2.2.2.1.trans (final12 (e c) (h c)), (k.1 c).1.2.2.2.2.1.trans (final13 (e c) (h c)),
    (k.1 c).1.2.2.2.2.2.1.trans (final14 (e c) (h c)), (k.1 c).1.2.2.2.2.2.2.trans (final15 (e c) (h c)), (k.1 c).2⟩) (ends m ρ)

end Cert.Kernel6Ideal.Hand

end
-- ==== Proof.lean ====
/- The claims of proofs.«01_k».proof.Defs. The frames and the values of the three kernels come from the one run of each (Proof/ProjRun, Proof/ValRun, Proof/FfnRun); the values are Proof/ProjValue, Proof/ValValue and Proof/FfnValue. -/
module

public import proofs.«01_k».proof.Defs
public import proofs.«01_k».proof.Proof.FfnPre
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.ProjValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.ValValue
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.FfnValue
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal.Run
public import proofs.«01_k».proof.Proof.StepValue
public import Idealize.ShloMosaic.Lib.Quiescent
public import Idealize.ShloMosaic.Adequacy
public import Idealize.ShloMosaic.Init
public import proofs.«01_k».proof.Proof.FwdValue
public import proofs.«01_k».proof.Proof.FwdLastValue
public import proofs.«01_k».proof.Proof.FfnLastValue

@[expose] public section

noncomputable section

namespace Cert.Proof

open Idealize.ShloMosaic Idealize.SL.Sem Cert.Kernel

/-- The two printings of the kernel have one table of bodies. -/
theorem defs₀_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

theorem frame_kernel : quiescent_Kernel (hKernel := Cert.Kernel.Gen.facts) := fun m ρ _ => by
  have h := Cert.KernelIdeal.Hand.ends_args (F := Bits) m ρ
  rw [← defs_eq] at h
  exact h

theorem frame_ideal : quiescent_KernelIdeal (hKernelIdeal := Cert.KernelIdeal.Gen.facts) := fun m ρ _ => Cert.KernelIdeal.Hand.ends_args (F := Ideal) m ρ

theorem frame_reference : quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run m ρ)

theorem value : algebraic_KernelIdeal_ReferenceIdeal (hKernelIdeal := Cert.KernelIdeal.Gen.facts) (hReferenceIdeal := Cert.ReferenceIdeal.Gen.facts) :=
  fun m ρ m' ρ' _ e => ⟨_, _, Cert.KernelIdeal.Hand.ends_value m ρ,
    (θ_run Cert.ReferenceIdeal.defs _ _).mono (fun _ h c =>
      ⟨(h c).1.trans (by rw [(e c).1, (e c).2.1, (e c).2.2.2.1]; rfl), (h c).2.1.trans (by rw [(e c).2.1, (e c).2.2.1, (e c).2.2.2.2]; rfl), (h c).2.2⟩)
      (Cert.ReferenceIdeal.Value.run m' ρ')⟩

/-- The two printings of the kernel 2 have one table of bodies. -/
theorem defs₀_eq2 : Cert.Kernel2.defs₀ (F := Bits) = Cert.Kernel2Ideal.defs₀ (F := Bits) := by
  unfold Cert.Kernel2.defs₀ Cert.Kernel2Ideal.defs₀
  congr 1
  funext l a
  match l, a with
  | 0, (t, s) => rfl
  | ⟨_ + 1, h⟩, _ => exact absurd h (Nat.not_lt.2 (Nat.le_add_left _ _))

theorem defs_eq2 : Cert.Kernel2.defs (F := Bits) = Cert.Kernel2Ideal.defs (F := Bits) :=
  congrArg (Pipeline.defs (Cert.Kernel2Ideal.pcfgs (F := Bits))) defs₀_eq2

theorem frame_kernel2 : quiescent_Kernel2 (hKernel2 := Cert.Kernel2.Gen.facts) := fun m ρ _ => by
  have h := Cert.Kernel2Ideal.Hand.ends_args (F := Bits) m ρ
  rw [← defs_eq2] at h
  exact h

theorem frame_ideal2 : quiescent_Kernel2Ideal (hKernel2Ideal := Cert.Kernel2Ideal.Gen.facts) := fun m ρ _ => Cert.Kernel2Ideal.Hand.ends_args (F := Ideal) m ρ

theorem frame_reference2 : quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩) (Cert.Reference2Ideal.Value.run m ρ)

theorem value2 : algebraic_Kernel2Ideal_Reference2Ideal (hKernel2Ideal := Cert.Kernel2Ideal.Gen.facts) (hReference2Ideal := Cert.Reference2Ideal.Gen.facts) :=
  fun m ρ m' ρ' _ e => ⟨_, _, Cert.Kernel2Ideal.Hand.ends_value m ρ,
    (θ_run Cert.Reference2Ideal.defs _ _).mono (fun _ h c =>
      ⟨(h c).1.trans (by rw [(e c).1, (e c).2.1, (e c).2.2.2.1]; rfl), (h c).2.1.trans (by rw [(e c).2.1, (e c).2.2.1, (e c).2.2.2.2]; rfl), (h c).2.2⟩)
      (Cert.Reference2Ideal.Value.run m' ρ')⟩

set_option maxHeartbeats 4000000 in
theorem frame_kernel3 : quiescent_Kernel3 (hKernel3 := Cert.Kernel3.Gen.facts) := fun m ρ _ => by
  refine cast ?_ (Cert.Kernel3Ideal.Hand.ends_args (F := Bits) m ρ)
  sl_kernel_rfl

theorem frame_ideal3 : quiescent_Kernel3Ideal (hKernel3Ideal := Cert.Kernel3Ideal.Gen.facts) := fun m ρ _ => Cert.Kernel3Ideal.Hand.ends_args (F := Ideal) m ρ

theorem frame_ideal_finite3 : quiescent_Kernel3Ideal_pre_finite (hKernel3Ideal := Cert.Kernel3Ideal.Gen.facts) (hPre_finite := Cert.Pre_finite.facts) := fun m ρ _ => Cert.Kernel3Ideal.Hand.ends_args (F := Ideal) m ρ

theorem frame_reference3 : quiescent_Reference3Ideal (hReference3Ideal := Cert.Reference3Ideal.Gen.facts) := fun m ρ _ =>
  (θ_run Cert.Reference3Ideal.defs _ _).mono (fun r h => ⟨fun c => (h c).2.2.2.2.2.2, sem_eq_zero_of_no_sems (by decide) r.2⟩) (Cert.Reference3Ideal.Value.run m ρ)

theorem frame_reference_finite3 : quiescent_Reference3Ideal_pre_finite (hReference3Ideal := Cert.Reference3Ideal.Gen.facts) (hPre_finite := Cert.Pre_finite.facts) := fun m ρ _ =>
  frame_reference3 m ρ trivial

/-- Arrays of which the predicate holds are arrays of real numbers. -/
theorem reals_of_pre {m : (ℓ : Loc Cert.Kernel3Ideal.nD Cert.Kernel3Ideal.τ Cert.Kernel3Ideal.sig) → Buf (Elt Ideal) ℓ} {W : Dev Cert.Kernel3Ideal.nD → Cert.Ffn.Args} (p : Pre_Kernel3Ideal_finite (hPre_finite := Cert.Pre_finite.facts) m)
    (e : ∀ c, Cert.Kernel3Ideal.Hand.Agree m c (W c)) (c : Dev Cert.Kernel3Ideal.nD) : Cert.Ffn.Reals (W c) := by
  obtain ⟨-, e1, e2, e3, e4, e5, e6, e7, e8⟩ := e c
  obtain ⟨p1, p2, p3, p4, p5, p6, p7, p8⟩ := p c
  refine ⟨?_, ?_, ?_, ?_, ?_, ?_, ?_, ?_⟩
  · rw [e1]; exact Cert.Pre_finite.isR_of_one Cert.Pre_finite.facts.bcast_S_S16384x1024 _ p1
  · rw [e2]; exact Cert.Pre_finite.isR_of_one Cert.Pre_finite.facts.bcast_S_S16384x1024 _ p2
  · rw [e3]; exact Cert.Pre_finite.isR_of_one Cert.Pre_finite.facts.bcast_S_S16384x2816 _ p3
  · rw [e4]; exact Cert.Pre_finite.isR_of_one Cert.Pre_finite.facts.bcast_S_S16384x2816 _ p4
  · rw [e5]; exact Cert.Pre_finite.isR_of_one Cert.Pre_finite.facts.bcast_S_S3x2816 _ p5
  · rw [e6]; exact Cert.Pre_finite.isR_of_one Cert.Pre_finite.facts.bcast_S_S2816 _ p6
  · rw [e7]; exact Cert.Pre_finite.isR_of_one Cert.Pre_finite.facts.bcast_S_S2816x1024 _ p7
  · rw [e8]; exact Cert.Pre_finite.isR_of_one Cert.Pre_finite.facts.bcast_S_S1024 _ p8

theorem value3 : algebraic_Kernel3Ideal_Reference3Ideal_pre_finite (hKernel3Ideal := Cert.Kernel3Ideal.Gen.facts) (hReference3Ideal := Cert.Reference3Ideal.Gen.facts) (hPre_finite := Cert.Pre_finite.facts) :=
  fun m ρ m' ρ' p e =>
    have a : ∀ c, Cert.Kernel3Ideal.Hand.Agree m c (StableHlo.launchContents m' c) := fun c =>
      ⟨(e c).1, (e c).2.1, (e c).2.2.1, (e c).2.2.2.1, (e c).2.2.2.2.1, (e c).2.2.2.2.2.1, (e c).2.2.2.2.2.2.1, (e c).2.2.2.2.2.2.2.1, (e c).2.2.2.2.2.2.2.2.1⟩
    ⟨_, _, _, _, _, _, Cert.Kernel3Ideal.Hand.ends_value m ρ (fun c => StableHlo.launchContents m' c) a (reals_of_pre p a),
      (θ_run Cert.Reference3Ideal.defs _ _).mono (fun _ h c => h c) (Cert.Reference3Ideal.Value.run m' ρ')⟩

theorem frame_kernel4 : quiescent_Kernel4 (hKernel4 := Cert.Kernel4.Gen.facts) := fun m ρ _ => Cert.Kernel4.Gen.frame m ρ

theorem frame_ideal4 : quiescent_Kernel4Ideal (hKernel4Ideal := Cert.Kernel4Ideal.Gen.facts) := fun m ρ _ => Cert.Kernel4Ideal.Gen.frame m ρ

theorem frame_reference4 : quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩) (Cert.Reference4Ideal.Value.run m ρ)

theorem value4 : algebraic_Kernel4Ideal_Reference4Ideal (hKernel4Ideal := Cert.Kernel4Ideal.Gen.facts) (hReference4Ideal := Cert.Reference4Ideal.Gen.facts) :=
  fun m ρ m' ρ' _ e => ⟨_, _, _, _, _, _, Cert.Kernel4Ideal.Hand.ends_value m m' ρ e,
    (θ_run Cert.Reference4Ideal.defs _ _).mono (fun _ h c => h c) (Cert.Reference4Ideal.Value.run m' ρ')⟩

theorem frame_kernel5 : quiescent_Kernel5 (hKernel5 := Cert.Kernel5.Gen.facts) := fun m ρ _ => Cert.Kernel5.Gen.frame m ρ

theorem frame_ideal5 : quiescent_Kernel5Ideal (hKernel5Ideal := Cert.Kernel5Ideal.Gen.facts) := fun m ρ _ => Cert.Kernel5Ideal.Gen.frame m ρ

theorem frame_reference5 : quiescent_Reference5Ideal (hReference5Ideal := Cert.Reference5Ideal.Gen.facts) := fun m ρ _ =>
  (θ_run Cert.Reference5Ideal.defs _ _).mono (fun r h => ⟨fun c => (h c).2.2.2.2.2, sem_eq_zero_of_no_sems (by decide) r.2⟩) (Cert.Reference5Ideal.Value.run m ρ)

theorem value5 : algebraic_Kernel5Ideal_Reference5Ideal (hKernel5Ideal := Cert.Kernel5Ideal.Gen.facts) (hReference5Ideal := Cert.Reference5Ideal.Gen.facts) :=
  fun m ρ m' ρ' _ e => ⟨_, _, _, _, _, Cert.Kernel5Ideal.Hand.ends_value m m' ρ e,
    (θ_run Cert.Reference5Ideal.defs _ _).mono (fun _ h c => h c) (Cert.Reference5Ideal.Value.run m' ρ')⟩

/-- The shapes of the second predicate's comparisons. -/
theorem finite_loss_facts : Cert.Pre_finite_loss.Facts := by
  constructor <;> decide

theorem frame_kernel6 : quiescent_Kernel6 (hKernel6 := Cert.Kernel6.Gen.facts) := fun m ρ _ => by
  refine cast ?_ (Cert.Kernel6Ideal.Hand.ends_args (F := Bits) m ρ)
  sl_kernel_rfl

theorem frame_ideal6 : quiescent_Kernel6Ideal (hKernel6Ideal := Cert.Kernel6Ideal.Gen.facts) := fun m ρ _ => Cert.Kernel6Ideal.Hand.ends_args (F := Ideal) m ρ

theorem frame_ideal_finite_loss6 : quiescent_Kernel6Ideal_pre_finite_loss (hKernel6Ideal := Cert.Kernel6Ideal.Gen.facts) (hPre_finite_loss := finite_loss_facts) := fun m ρ _ => Cert.Kernel6Ideal.Hand.ends_args (F := Ideal) m ρ

theorem frame_reference6 : quiescent_Reference6Ideal (hReference6Ideal := Cert.Reference6Ideal.Gen.facts) := fun m ρ _ =>
  (θ_run Cert.Reference6Ideal.defs _ _).mono (fun r h => ⟨fun c => (h c).2.2.2.2.2.2.2, sem_eq_zero_of_no_sems (by decide) r.2⟩) (Cert.Reference6Ideal.Value.run m ρ)

theorem frame_reference_finite_loss6 : quiescent_Reference6Ideal_pre_finite_loss (hReference6Ideal := Cert.Reference6Ideal.Gen.facts) (hPre_finite_loss := finite_loss_facts) := fun m ρ _ =>
  frame_reference6 m ρ trivial

/-- Arrays of which the predicate holds are arrays of real numbers. -/
theorem reals_of_pre_loss {m : (ℓ : Loc Cert.Kernel6Ideal.nD Cert.Kernel6Ideal.τ Cert.Kernel6Ideal.sig) → Buf (Elt Ideal) ℓ} {W : Dev Cert.Kernel6Ideal.nD → Cert.FfnLast.Args} (p : Pre_Kernel6Ideal_finite_loss (hPre_finite_loss := finite_loss_facts) m)
    (e : ∀ c, Cert.Kernel6Ideal.Hand.Agree m c (W c)) (c : Dev Cert.Kernel6Ideal.nD) : Cert.FfnLast.Reals (W c) := by
  obtain ⟨-, e1, e2, e3, e4, e5, e6, e7, e8, e9⟩ := e c
  obtain ⟨p1, p2, p3, p4, p5, p6, p7, p8, p9⟩ := p c
  refine ⟨?_, ?_, ?_, ?_, ?_, ?_, ?_, ?_, ?_⟩
  · rw [e1]; exact Cert.Pre_finite.isR_of_one finite_loss_facts.bcast_S_S16384x1024 _ p1
  · rw [e2]; exact Cert.Pre_finite.isR_of_one finite_loss_facts.bcast_S_S16384x1024 _ p2
  · rw [e3]; exact Cert.Pre_finite.isR_of_one finite_loss_facts.bcast_S_S16384x2816 _ p3
  · rw [e4]; exact Cert.Pre_finite.isR_of_one finite_loss_facts.bcast_S_S16384x2816 _ p4
  · rw [e5]; exact Cert.Pre_finite.isR_of_one finite_loss_facts.bcast_S_S3x2816 _ p5
  · rw [e6]; exact Cert.Pre_finite.isR_of_one finite_loss_facts.bcast_S_S2816 _ p6
  · rw [e7]; exact Cert.Pre_finite.isR_of_one finite_loss_facts.bcast_S_S2816x1024 _ p7
  · rw [e8]; exact Cert.Pre_finite.isR_of_one finite_loss_facts.bcast_S_S1024 _ p8
  · rw [e9]; exact Cert.Pre_finite.isR_of_one finite_loss_facts.bcast_S_S1024 _ p9

theorem value6 : algebraic_Kernel6Ideal_Reference6Ideal_pre_finite_loss (hKernel6Ideal := Cert.Kernel6Ideal.Gen.facts) (hReference6Ideal := Cert.Reference6Ideal.Gen.facts) (hPre_finite_loss := finite_loss_facts) :=
  fun m ρ m' ρ' p e =>
    have a : ∀ c, Cert.Kernel6Ideal.Hand.Agree m c (StableHlo.launchContents m' c) := fun c =>
      ⟨(e c).1, (e c).2.1, (e c).2.2.1, (e c).2.2.2.1, (e c).2.2.2.2.1, (e c).2.2.2.2.2.1, (e c).2.2.2.2.2.2.1, (e c).2.2.2.2.2.2.2.1, (e c).2.2.2.2.2.2.2.2.1, (e c).2.2.2.2.2.2.2.2.2⟩
    ⟨_, _, _, _, _, _, _, Cert.Kernel6Ideal.Hand.ends_value m ρ (fun c => StableHlo.launchContents m' c) a (reals_of_pre_loss p a),
      (θ_run Cert.Reference6Ideal.defs _ _).mono (fun _ h c => h c) (Cert.Reference6Ideal.Value.run m' ρ')⟩

theorem frame_kernel7 : quiescent_Kernel7 (hKernel7 := Cert.Kernel7.Gen.facts) := fun m ρ _ => Cert.Kernel7.Gen.frame m ρ

theorem frame_ideal7 : quiescent_Kernel7Ideal (hKernel7Ideal := Cert.Kernel7Ideal.Gen.facts) := fun m ρ _ => Cert.Kernel7Ideal.Gen.frame m ρ

theorem frame_reference7 : quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩) (Cert.Reference7Ideal.Value.run m ρ)

theorem frame_kernel8 : quiescent_Kernel8 (hKernel8 := Cert.Kernel8.Gen.facts) := fun m ρ _ => Cert.Kernel8.Gen.frame m ρ

theorem frame_ideal8 : quiescent_Kernel8Ideal (hKernel8Ideal := Cert.Kernel8Ideal.Gen.facts) := fun m ρ _ => Cert.Kernel8Ideal.Gen.frame m ρ

theorem frame_reference8 : quiescent_Reference8Ideal (hReference8Ideal := Cert.Reference8Ideal.Gen.facts) := fun m ρ _ =>
  (θ_run Cert.Reference8Ideal.defs _ _).mono (fun r h => ⟨fun c => (h c).2.2.2.2.2.2.2.2.2, sem_eq_zero_of_no_sems (by decide) r.2⟩) (Cert.Reference8Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.facts, finite_loss_facts,
    frame_kernel, frame_ideal, frame_reference, frame_kernel2, frame_ideal2, frame_reference2,
    frame_kernel3, frame_ideal3, frame_ideal_finite3, frame_reference3, frame_reference_finite3,
    frame_kernel4, frame_ideal4, frame_reference4, frame_kernel5, frame_ideal5, frame_reference5,
    frame_kernel6, frame_ideal6, frame_ideal_finite_loss6, frame_reference6, frame_reference_finite_loss6, frame_kernel7, frame_ideal7, frame_reference7, frame_kernel8, frame_ideal8, frame_reference8,
    trivial, value, trivial, value2, trivial, value3, trivial, value4, trivial, value5, trivial, value6, trivial, Cert.Kernel7Ideal.Hand.value, trivial, Cert.Kernel8Ideal.Hand.value⟩

end Cert.Proof

end
